-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![8, 1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = Layout.block ⟨3, ![1, 1024, 1024]⟩ ⟨3, ![8, 1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S8x1024x64x128 : Shape := ⟨4, ![8, 1024, 64, 128]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S8x1024x64x128 : S_.BroadcastsInDim S8x1024x64x128 (![] : Fin 0 → Fin S8x1024x64x128.rank)
  reducesTo_S8x1024x64x128_S_d0_1_2_3 : S8x1024x64x128.ReducesTo [0, 1, 2, 3] S_

variable [Facts]

def fn {F : FTy → Type} [FloatOps F] (main_arg0 : FVec F S1x1024x1024 .bf16) (main_arg1 : FVec F S1024x1024 .bf16) (main_arg2 : FVec F S8x1024x64x128 .bf16) (main_arg3 : FVec F S8x1024x64x128 .bf16) (main_arg4 : FVec F S1024x1024 .bf16) : IVec S_ 1 :=
  let main_v0 : FVec F S1x1024x1024 .f32 := (extf .f32 · bitsLt_bf16_f32) main_arg0
  let main_v1 : FVec F S1024x1024 .f32 := (extf .f32 · bitsLt_bf16_f32) main_arg1
  let main_v2 : FVec F S8x1024x64x128 .f32 := (extf .f32 · bitsLt_bf16_f32) main_arg2
  let main_v3 : FVec F S1x1024x1024 .f32 := subf main_v0 main_v0
  let main_cst : FVec F S_ .f32 := constant S_ .f32 0x00000000#32
  let main_v4 : FVec F S1x1024x1024 .f32 := broadcastInDim S1x1024x1024 ![] bcast_S_S1x1024x1024 main_cst
  let main_v5 : IVec S1x1024x1024 1 := cmpf .oeq main_v3 main_v4
  let main_c : IVec S_ 1 := constantI S_ 1 1#1
  let main_v6 : IVec S_ 1 := (fun x v => Host.reduce IntOp.andi x v reducesTo_S1x1024x1024_S_d0_1_2 h_S_) main_v5 main_c
  let main_v7 : FVec F S1024x1024 .f32 := subf main_v1 main_v1
  let main_cst_0 : FVec F S_ .f32 := constant S_ .f32 0x00000000#32
  let main_v8 : FVec F S1024x1024 .f32 := broadcastInDim S1024x1024 ![] bcast_S_S1024x1024 main_cst_0
  let main_v9 : IVec S1024x1024 1 := cmpf .oeq main_v7 main_v8
  let main_c_1 : IVec S_ 1 := constantI S_ 1 1#1
  let main_v10 : IVec S_ 1 := (fun x v => Host.reduce IntOp.andi x v reducesTo_S1024x1024_S_d0_1 h_S_) main_v9 main_c_1
  let main_v11 : IVec S_ 1 := andi main_v6 main_v10
  let main_v12 : FVec F S8x1024x64x128 .f32 := subf main_v2 main_v2
  let main_cst_2 : FVec F S_ .f32 := constant S_ .f32 0x00000000#32
  let main_v13 : FVec F S8x1024x64x128 .f32 := broadcastInDim S8x1024x64x128 ![] bcast_S_S8x1024x64x128 main_cst_2
  let main_v14 : IVec S8x1024x64x128 1 := cmpf .oeq main_v12 main_v13
  let main_c_3 : IVec S_ 1 := constantI S_ 1 1#1
  let main_v15 : IVec S_ 1 := (fun x v => Host.reduce IntOp.andi x v reducesTo_S8x1024x64x128_S_d0_1_2_3 h_S_) main_v14 main_c_3
  let main_v16 : IVec S_ 1 := andi main_v11 main_v15
  main_v16
-- ==== Pre_finite_ReferenceIdeal.lean ====
abbrev S8x1024x1024 : Shape := ⟨3, ![8, 1024, 1024]⟩
abbrev S1024x8192 : Shape := ⟨2, ![1024, 8192]⟩
abbrev S8x1024x64x128 : Shape := ⟨4, ![8, 1024, 64, 128]⟩
abbrev S8192x1024 : Shape := ⟨2, ![8192, 1024]⟩
abbrev S_ : Shape := ⟨0, ![]⟩

class Facts : Prop where
  bitsLt_bf16_f32 : FTy.bits .bf16 < FTy.bits .f32
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S8x1024x64x128 : S_.BroadcastsInDim S8x1024x64x128 (![] : Fin 0 → Fin S8x1024x64x128.rank)
  reducesTo_S8x1024x64x128_S_d0_1_2_3 : S8x1024x64x128.ReducesTo [0, 1, 2, 3] S_

variable [Facts]

def fn {F : FTy → Type} [FloatOps F] (main_arg0 : FVec F S8x1024x1024 .bf16) (main_arg1 : FVec F S1024x8192 .bf16) (main_arg2 : FVec F S8x1024x64x128 .bf16) (main_arg3 : FVec F S8x1024x64x128 .bf16) (main_arg4 : FVec F S8192x1024 .bf16) : IVec S_ 1 :=
  let main_v0 : FVec F S8x1024x1024 .f32 := (extf .f32 · bitsLt_bf16_f32) main_arg0
  let main_v1 : FVec F S1024x8192 .f32 := (extf .f32 · bitsLt_bf16_f32) main_arg1
  let main_v2 : FVec F S8x1024x64x128 .f32 := (extf .f32 · bitsLt_bf16_f32) main_arg2
  let main_v3 : FVec F S8x1024x1024 .f32 := subf main_v0 main_v0
  let main_cst : FVec F S_ .f32 := constant S_ .f32 0x00000000#32
  let main_v4 : FVec F S8x1024x1024 .f32 := broadcastInDim S8x1024x1024 ![] bcast_S_S8x1024x1024 main_cst
  let main_v5 : IVec S8x1024x1024 1 := cmpf .oeq main_v3 main_v4
  let main_c : IVec S_ 1 := constantI S_ 1 1#1
  let main_v6 : IVec S_ 1 := (fun x v => Host.reduce IntOp.andi x v reducesTo_S8x1024x1024_S_d0_1_2 h_S_) main_v5 main_c
  let main_v7 : FVec F S1024x8192 .f32 := subf main_v1 main_v1
  let main_cst_0 : FVec F S_ .f32 := constant S_ .f32 0x00000000#32
  let main_v8 : FVec F S1024x8192 .f32 := broadcastInDim S1024x8192 ![] bcast_S_S1024x8192 main_cst_0
  let main_v9 : IVec S1024x8192 1 := cmpf .oeq main_v7 main_v8
  let main_c_1 : IVec S_ 1 := constantI S_ 1 1#1
  let main_v10 : IVec S_ 1 := (fun x v => Host.reduce IntOp.andi x v reducesTo_S1024x8192_S_d0_1 h_S_) main_v9 main_c_1
  let main_v11 : IVec S_ 1 := andi main_v6 main_v10
  let main_v12 : FVec F S8x1024x64x128 .f32 := subf main_v2 main_v2
  let main_cst_2 : FVec F S_ .f32 := constant S_ .f32 0x00000000#32
  let main_v13 : FVec F S8x1024x64x128 .f32 := broadcastInDim S8x1024x64x128 ![] bcast_S_S8x1024x64x128 main_cst_2
  let main_v14 : IVec S8x1024x64x128 1 := cmpf .oeq main_v12 main_v13
  let main_c_3 : IVec S_ 1 := constantI S_ 1 1#1
  let main_v15 : IVec S_ 1 := (fun x v => Host.reduce IntOp.andi x v reducesTo_S8x1024x64x128_S_d0_1_2_3 h_S_) main_v14 main_c_3
  let main_v16 : IVec S_ 1 := andi main_v11 main_v15
  main_v16
-- ==== Kernel.lean ====
abbrev S1x1024x1024 : Shape := ⟨3, ![1, 1024, 1024]⟩
abbrev S1024x1024 : Shape := ⟨2, ![1024, 1024]⟩
abbrev S8x1024x64x128 : Shape := ⟨4, ![8, 1024, 64, 128]⟩
abbrev S10x11 : Shape := ⟨2, ![10, 11]⟩
abbrev S_ : Shape := ⟨0, ![]⟩
abbrev S1x1024x64x128 : Shape := ⟨4, ![1, 1024, 64, 128]⟩
abbrev S1024x64x128 : Shape := ⟨3, ![1024, 64, 128]⟩
abbrev S64x1024x128 : Shape := ⟨3, ![64, 1024, 128]⟩
abbrev S10x1x11x1 : Shape := ⟨4, ![10, 1, 11, 1]⟩
abbrev S10x64x11x64 : Shape := ⟨4, ![10, 64, 11, 64]⟩
abbrev S640x704 : Shape := ⟨2, ![640, 704]⟩
abbrev S2x2048x1024 : Shape := ⟨3, ![2, 2048, 1024]⟩
abbrev S2x8x384x128 : Shape := ⟨4, ![2, 8, 384, 128]⟩
abbrev S2x8x704x128 : Shape := ⟨4, ![2, 8, 704, 128]⟩
abbrev S2 : Shape := ⟨1, ![2]⟩
abbrev S2x34 : Shape := ⟨2, ![2, 34]⟩
abbrev S1x1 : Shape := ⟨2, ![1, 1]⟩
abbrev S1x8x64x128 : Shape := ⟨4, ![1, 8, 64, 128]⟩
abbrev S8x64x128 : Shape := ⟨3, ![8, 64, 128]⟩
abbrev S64x1024 : Shape := ⟨2, ![64, 1024]⟩
abbrev S1 : Shape := ⟨1, ![1]⟩
abbrev S1x2048x1024 : Shape := ⟨3, ![1, 2048, 1024]⟩
abbrev S2048x1024 : Shape := ⟨2, ![2048, 1024]⟩
abbrev S1x1x384x128 : Shape := ⟨4, ![1, 1, 384, 128]⟩
abbrev S1x384x128 : Shape := ⟨3, ![1, 384, 128]⟩
abbrev S384x128 : Shape := ⟨2, ![384, 128]⟩
abbrev S1x1x704x128 : Shape := ⟨4, ![1, 1, 704, 128]⟩
abbrev S1x704x128 : Shape := ⟨3, ![1, 704, 128]⟩
abbrev S704x128 : Shape := ⟨2, ![704, 128]⟩
abbrev S384x384 : Shape := ⟨2, ![384, 384]⟩
abbrev S384 : Shape := ⟨1, ![384]⟩
abbrev S384x1 : Shape := ⟨2, ![384, 1]⟩
abbrev S640x128 : Shape := ⟨2, ![640, 128]⟩
abbrev S640 : Shape := ⟨1, ![640]⟩
abbrev S640x1 : Shape := ⟨2, ![640, 1]⟩
abbrev S1x64x1024 : Shape := ⟨3, ![1, 64, 1024]⟩

abbrev nBuf : Space → Nat
  | .hbm => 39
  | .vmem => 19
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S8x1024x64x128, .bf16⟩
  | .hbm, ⟨3, _⟩ => ⟨S8x1024x64x128, .bf16⟩
  | .hbm, ⟨4, _⟩ => ⟨S1024x1024, .bf16⟩
  | .hbm, ⟨5, _⟩ => ⟨S10x11, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S1024x1024, .bf16⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1x1024x64x128, .bf16⟩
  | .hbm, ⟨22, _⟩ => ⟨S1024x64x128, .bf16⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1x1024x64x128, .bf16⟩
  | .hbm, ⟨32, _⟩ => ⟨S1024x64x128, .bf16⟩
  | .hbm, ⟨33, _⟩ => ⟨S64x1024x128, .bf16⟩
  | .hbm, ⟨34, _⟩ => ⟨S64x1024x128, .bf16⟩
  | .hbm, ⟨35, _⟩ => ⟨S10x1x11x1, .f32⟩
  | .hbm, ⟨36, _⟩ => ⟨S10x64x11x64, .f32⟩
  | .hbm, ⟨37, _⟩ => ⟨S640x704, .f32⟩
  | .hbm, ⟨38, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S640x704, .f32⟩
  | .local _ .vmem, ⟨4, _⟩ => ⟨S1x1024x1024, .f32⟩
  | .local _ .vmem, ⟨5, _⟩ => ⟨S2x2048x1024, .bf16⟩
  | .local _ .vmem, ⟨6, _⟩ => ⟨S2x2048x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S2x8x384x128, .bf16⟩
  | .local _ .vmem, ⟨12, _⟩ => ⟨S2x8x704x128, .bf16⟩
  | .local _ .vmem, ⟨13, _⟩ => ⟨S2x8x384x128, .bf16⟩
  | .local _ .vmem, ⟨14, _⟩ => ⟨S2x8x704x128, .bf16⟩
  | .local _ .vmem, ⟨15, _⟩ => ⟨S2x8x384x128, .bf16⟩
  | .local _ .vmem, ⟨16, _⟩ => ⟨S2x8x704x128, .bf16⟩
  | .local _ .vmem, ⟨17, _⟩ => ⟨S2x8x384x128, .bf16⟩
  | .local _ .vmem, ⟨18, _⟩ => ⟨S2x8x704x128, .bf16⟩
  | _, _ => ⟨S1x1024x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => true
  | ⟨1, _⟩ => true
  | ⟨2, _⟩ => false
  | ⟨3, _⟩ => true
  | _ => false

abbrev dmaSemScoped : Fin 149 → Bool
  | ⟨i, _⟩ => dmaSemScopedAt i

abbrev sig : RefSig :=
  (ofTc nBuf bufTy 4 149 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_c : Ref sig .tc := ⟨.hbm, 13, rfl⟩
abbrev main_call0_v0 : Ref sig .tc := ⟨.hbm, 14, rfl⟩
abbrev main_call0_c_0 : Ref sig .tc := ⟨.hbm, 15, rfl⟩
abbrev main_call0_v1 : Ref sig .tc := ⟨.hbm, 16, rfl⟩
abbrev main_call0_v2 : Ref sig .tc := ⟨.hbm, 17, rfl⟩
abbrev main_call0_c_1 : Ref sig .tc := ⟨.hbm, 18, rfl⟩
abbrev main_call0_c_2 : Ref sig .tc := ⟨.hbm, 19, rfl⟩
abbrev main_call0_c_3 : Ref sig .tc := ⟨.hbm, 20, rfl⟩
abbrev main_call0_v3 : Ref sig .tc := ⟨.hbm, 21, rfl⟩
abbrev main_v6 : Ref sig .tc := ⟨.hbm, 22, rfl⟩
abbrev main_call1_c : Ref sig .tc := ⟨.hbm, 23, rfl⟩
abbrev main_call1_v0 : Ref sig .tc := ⟨.hbm, 24, rfl⟩
abbrev main_call1_c_0 : Ref sig .tc := ⟨.hbm, 25, rfl⟩
abbrev main_call1_v1 : Ref sig .tc := ⟨.hbm, 26, rfl⟩
abbrev main_call1_v2 : Ref sig .tc := ⟨.hbm, 27, rfl⟩
abbrev main_call1_c_1 : Ref sig .tc := ⟨.hbm, 28, rfl⟩
abbrev main_call1_c_2 : Ref sig .tc := ⟨.hbm, 29, rfl⟩
abbrev main_call1_c_3 : Ref sig .tc := ⟨.hbm, 30, rfl⟩
abbrev main_call1_v3 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_scratch10 : Ref sig .tc := ⟨.vmem, 15, rfl⟩
abbrev cc0_scratch11 : Ref sig .tc := ⟨.vmem, 16, rfl⟩
abbrev cc0_scratch12 : Ref sig .tc := ⟨.vmem, 17, rfl⟩
abbrev cc0_scratch13 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 2

abbrev nD : Nat := 8
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_13 : BitVec 32 := 8#32
  let v25 : BitVec 32 := Scalar.muli v2 c8_i32_13
  let c0_i32_20 : BitVec 32 := 0#32
  let c0_i32_21 : BitVec 32 := 0#32
  ![v25.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_22 : BitVec 32 := 8#32
  let v31 : BitVec 32 := Scalar.muli v2 c8_i32_22
  let c192_i32 : BitVec 32 := 192#32
  let c0_i32_28 : BitVec 32 := 0#32
  ![v31.toNat, 192, 0]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_29 : BitVec 32 := 8#32
  let v37 : BitVec 32 := Scalar.muli v2 c8_i32_29
  let c384_i32 : BitVec 32 := 384#32
  let c0_i32_34 : BitVec 32 := 0#32
  ![v37.toNat, 384, 0]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_35 : BitVec 32 := 8#32
  let v43 : BitVec 32 := Scalar.muli v2 c8_i32_35
  let c576_i32 : BitVec 32 := 576#32
  let c0_i32_41 : BitVec 32 := 0#32
  ![v43.toNat, 576, 0]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_42 : BitVec 32 := 8#32
  let v49 : BitVec 32 := Scalar.muli v2 c8_i32_42
  let c768_i32 : BitVec 32 := 768#32
  let c0_i32_47 : BitVec 32 := 0#32
  ![v49.toNat, 768, 0]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_48 : BitVec 32 := 8#32
  let v55 : BitVec 32 := Scalar.muli v2 c8_i32_48
  let c960_i32 : BitVec 32 := 960#32
  let c0_i32_53 : BitVec 32 := 0#32
  ![v55.toNat, 960, 0]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_111 : BitVec 32 := 8#32
  let v103 : BitVec 32 := Scalar.muli v2 c8_i32_111
  let c64_i32_117 : BitVec 32 := 64#32
  let c0_i32_118 : BitVec 32 := 0#32
  ![v103.toNat, 64, 0]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_119 : BitVec 32 := 8#32
  let v109 : BitVec 32 := Scalar.muli v2 c8_i32_119
  let c128_i32_125 : BitVec 32 := 128#32
  let c0_i32_126 : BitVec 32 := 0#32
  ![v109.toNat, 128, 0]
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_127 : BitVec 32 := 8#32
  let v115 : BitVec 32 := Scalar.muli v2 c8_i32_127
  let c256_i32_133 : BitVec 32 := 256#32
  let c0_i32_134 : BitVec 32 := 0#32
  ![v115.toNat, 256, 0]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_135 : BitVec 32 := 8#32
  let v121 : BitVec 32 := Scalar.muli v2 c8_i32_135
  let c320_i32_141 : BitVec 32 := 320#32
  let c0_i32_142 : BitVec 32 := 0#32
  ![v121.toNat, 320, 0]
def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_143 : BitVec 32 := 8#32
  let v127 : BitVec 32 := Scalar.muli v2 c8_i32_143
  let c448_i32 : BitVec 32 := 448#32
  let c0_i32_149 : BitVec 32 := 0#32
  ![v127.toNat, 448, 0]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_150 : BitVec 32 := 8#32
  let v133 : BitVec 32 := Scalar.muli v2 c8_i32_150
  let c512_i32 : BitVec 32 := 512#32
  let c0_i32_156 : BitVec 32 := 0#32
  ![v133.toNat, 512, 0]
def k0_off13 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_157 : BitVec 32 := 8#32
  let v139 : BitVec 32 := Scalar.muli v2 c8_i32_157
  let c640_i32 : BitVec 32 := 640#32
  let c0_i32_163 : BitVec 32 := 0#32
  ![v139.toNat, 640, 0]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_164 : BitVec 32 := 8#32
  let v145 : BitVec 32 := Scalar.muli v2 c8_i32_164
  let c704_i32 : BitVec 32 := 704#32
  let c0_i32_170 : BitVec 32 := 0#32
  ![v145.toNat, 704, 0]
def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_171 : BitVec 32 := 8#32
  let v151 : BitVec 32 := Scalar.muli v2 c8_i32_171
  let c832_i32 : BitVec 32 := 832#32
  let c0_i32_177 : BitVec 32 := 0#32
  ![v151.toNat, 832, 0]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_178 : BitVec 32 := 8#32
  let v157 : BitVec 32 := Scalar.muli v2 c8_i32_178
  let c896_i32 : BitVec 32 := 896#32
  let c0_i32_184 : BitVec 32 := 0#32
  ![v157.toNat, 896, 0]
def k0_dev1 (d0 : Dev nD) : Nat :=
  let c0_i32_275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_274 : BitVec 32 := 1#32
  let v230 : BitVec 32 := Scalar.muli v13 c1_i32_274
  let v231 : BitVec 32 := Scalar.addi c0_i32_275 v230
  v231.toNat
def k0_dev2 (d0 : Dev nD) : Nat :=
  let c0_i32_278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_277 : BitVec 32 := 1#32
  let v232 : BitVec 32 := Scalar.muli v24 c1_i32_277
  let v233 : BitVec 32 := Scalar.addi c0_i32_278 v232
  v233.toNat
def k0_dev3 (d0 : Dev nD) : Nat :=
  let c0_i32_344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_343 : BitVec 32 := 1#32
  let v328 : BitVec 32 := Scalar.muli v24 c1_i32_343
  let v329 : BitVec 32 := Scalar.addi c0_i32_344 v328
  v329.toNat
def k0_dev4 (d0 : Dev nD) : Nat :=
  let c0_i32_354 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_353 : BitVec 32 := 1#32
  let v338 : BitVec 32 := Scalar.muli v13 c1_i32_353
  let v339 : BitVec 32 := Scalar.addi c0_i32_354 v338
  v339.toNat
def k0_off17 (d0 : Dev nD) (c0_i32_631 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v518 : BitVec 32 := Scalar.subi v2 c0_i32_631
  let c1_i32_632 : BitVec 32 := 1#32
  let v519 : BitVec 32 := Scalar.subi v518 c1_i32_632
  let c8_i32_633 : BitVec 32 := 8#32
  let c0_i32_634 : BitVec 32 := 0#32
  let v520 : BitVec 1 := Scalar.cmpi .eq c8_i32_633 c0_i32_634
  let c1_i32_635 : BitVec 32 := 1#32
  let v521 : BitVec 32 := Scalar.select v520 c1_i32_635 c8_i32_633
  let v522 : BitVec 32 := Scalar.remsi v519 v521
  let c0_i32_637 : BitVec 32 := 0#32
  let v524 : BitVec 1 := Scalar.cmpi .slt v522 c0_i32_637
  let c0_i32_638 : BitVec 32 := 0#32
  let v525 : BitVec 1 := Scalar.cmpi .slt v521 c0_i32_638
  let v526 : BitVec 1 := Scalar.xori v524 v525
  let c0_i32_636 : BitVec 32 := 0#32
  let v523 : BitVec 1 := Scalar.cmpi .ne v522 c0_i32_636
  let v527 : BitVec 1 := Scalar.andi v526 v523
  let v528 : BitVec 32 := Scalar.addi v522 v521
  let v529 : BitVec 32 := Scalar.select v527 v528 v522
  let c8_i32_639 : BitVec 32 := 8#32
  let v530 : BitVec 32 := Scalar.muli v529 c8_i32_639
  let c0_i32_646 : BitVec 32 := 0#32
  let c0_i32_647 : BitVec 32 := 0#32
  ![v530.toNat, 0, 0]
def k0_off18 (d0 : Dev nD) (c0_i32_631 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v518 : BitVec 32 := Scalar.subi v2 c0_i32_631
  let c1_i32_632 : BitVec 32 := 1#32
  let v519 : BitVec 32 := Scalar.subi v518 c1_i32_632
  let c8_i32_633 : BitVec 32 := 8#32
  let c0_i32_634 : BitVec 32 := 0#32
  let v520 : BitVec 1 := Scalar.cmpi .eq c8_i32_633 c0_i32_634
  let c1_i32_635 : BitVec 32 := 1#32
  let v521 : BitVec 32 := Scalar.select v520 c1_i32_635 c8_i32_633
  let v522 : BitVec 32 := Scalar.remsi v519 v521
  let c0_i32_637 : BitVec 32 := 0#32
  let v524 : BitVec 1 := Scalar.cmpi .slt v522 c0_i32_637
  let c0_i32_638 : BitVec 32 := 0#32
  let v525 : BitVec 1 := Scalar.cmpi .slt v521 c0_i32_638
  let v526 : BitVec 1 := Scalar.xori v524 v525
  let c0_i32_636 : BitVec 32 := 0#32
  let v523 : BitVec 1 := Scalar.cmpi .ne v522 c0_i32_636
  let v527 : BitVec 1 := Scalar.andi v526 v523
  let v528 : BitVec 32 := Scalar.addi v522 v521
  let v529 : BitVec 32 := Scalar.select v527 v528 v522
  let c8_i32_648 : BitVec 32 := 8#32
  let v536 : BitVec 32 := Scalar.muli v529 c8_i32_648
  let c192_i32_655 : BitVec 32 := 192#32
  let c0_i32_656 : BitVec 32 := 0#32
  ![v536.toNat, 192, 0]
def k0_off19 (d0 : Dev nD) (c0_i32_631 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v518 : BitVec 32 := Scalar.subi v2 c0_i32_631
  let c1_i32_632 : BitVec 32 := 1#32
  let v519 : BitVec 32 := Scalar.subi v518 c1_i32_632
  let c8_i32_633 : BitVec 32 := 8#32
  let c0_i32_634 : BitVec 32 := 0#32
  let v520 : BitVec 1 := Scalar.cmpi .eq c8_i32_633 c0_i32_634
  let c1_i32_635 : BitVec 32 := 1#32
  let v521 : BitVec 32 := Scalar.select v520 c1_i32_635 c8_i32_633
  let v522 : BitVec 32 := Scalar.remsi v519 v521
  let c0_i32_637 : BitVec 32 := 0#32
  let v524 : BitVec 1 := Scalar.cmpi .slt v522 c0_i32_637
  let c0_i32_638 : BitVec 32 := 0#32
  let v525 : BitVec 1 := Scalar.cmpi .slt v521 c0_i32_638
  let v526 : BitVec 1 := Scalar.xori v524 v525
  let c0_i32_636 : BitVec 32 := 0#32
  let v523 : BitVec 1 := Scalar.cmpi .ne v522 c0_i32_636
  let v527 : BitVec 1 := Scalar.andi v526 v523
  let v528 : BitVec 32 := Scalar.addi v522 v521
  let v529 : BitVec 32 := Scalar.select v527 v528 v522
  let c8_i32_657 : BitVec 32 := 8#32
  let v542 : BitVec 32 := Scalar.muli v529 c8_i32_657
  let c384_i32_664 : BitVec 32 := 384#32
  let c0_i32_665 : BitVec 32 := 0#32
  ![v542.toNat, 384, 0]
def k0_off20 (d0 : Dev nD) (c0_i32_631 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v518 : BitVec 32 := Scalar.subi v2 c0_i32_631
  let c1_i32_632 : BitVec 32 := 1#32
  let v519 : BitVec 32 := Scalar.subi v518 c1_i32_632
  let c8_i32_633 : BitVec 32 := 8#32
  let c0_i32_634 : BitVec 32 := 0#32
  let v520 : BitVec 1 := Scalar.cmpi .eq c8_i32_633 c0_i32_634
  let c1_i32_635 : BitVec 32 := 1#32
  let v521 : BitVec 32 := Scalar.select v520 c1_i32_635 c8_i32_633
  let v522 : BitVec 32 := Scalar.remsi v519 v521
  let c0_i32_637 : BitVec 32 := 0#32
  let v524 : BitVec 1 := Scalar.cmpi .slt v522 c0_i32_637
  let c0_i32_638 : BitVec 32 := 0#32
  let v525 : BitVec 1 := Scalar.cmpi .slt v521 c0_i32_638
  let v526 : BitVec 1 := Scalar.xori v524 v525
  let c0_i32_636 : BitVec 32 := 0#32
  let v523 : BitVec 1 := Scalar.cmpi .ne v522 c0_i32_636
  let v527 : BitVec 1 := Scalar.andi v526 v523
  let v528 : BitVec 32 := Scalar.addi v522 v521
  let v529 : BitVec 32 := Scalar.select v527 v528 v522
  let c8_i32_666 : BitVec 32 := 8#32
  let v548 : BitVec 32 := Scalar.muli v529 c8_i32_666
  let c576_i32_673 : BitVec 32 := 576#32
  let c0_i32_674 : BitVec 32 := 0#32
  ![v548.toNat, 576, 0]
def k0_off21 (d0 : Dev nD) (c0_i32_631 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v518 : BitVec 32 := Scalar.subi v2 c0_i32_631
  let c1_i32_632 : BitVec 32 := 1#32
  let v519 : BitVec 32 := Scalar.subi v518 c1_i32_632
  let c8_i32_633 : BitVec 32 := 8#32
  let c0_i32_634 : BitVec 32 := 0#32
  let v520 : BitVec 1 := Scalar.cmpi .eq c8_i32_633 c0_i32_634
  let c1_i32_635 : BitVec 32 := 1#32
  let v521 : BitVec 32 := Scalar.select v520 c1_i32_635 c8_i32_633
  let v522 : BitVec 32 := Scalar.remsi v519 v521
  let c0_i32_637 : BitVec 32 := 0#32
  let v524 : BitVec 1 := Scalar.cmpi .slt v522 c0_i32_637
  let c0_i32_638 : BitVec 32 := 0#32
  let v525 : BitVec 1 := Scalar.cmpi .slt v521 c0_i32_638
  let v526 : BitVec 1 := Scalar.xori v524 v525
  let c0_i32_636 : BitVec 32 := 0#32
  let v523 : BitVec 1 := Scalar.cmpi .ne v522 c0_i32_636
  let v527 : BitVec 1 := Scalar.andi v526 v523
  let v528 : BitVec 32 := Scalar.addi v522 v521
  let v529 : BitVec 32 := Scalar.select v527 v528 v522
  let c8_i32_675 : BitVec 32 := 8#32
  let v554 : BitVec 32 := Scalar.muli v529 c8_i32_675
  let c768_i32_682 : BitVec 32 := 768#32
  let c0_i32_683 : BitVec 32 := 0#32
  ![v554.toNat, 768, 0]
def k0_off22 (d0 : Dev nD) (c0_i32_631 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v518 : BitVec 32 := Scalar.subi v2 c0_i32_631
  let c1_i32_632 : BitVec 32 := 1#32
  let v519 : BitVec 32 := Scalar.subi v518 c1_i32_632
  let c8_i32_633 : BitVec 32 := 8#32
  let c0_i32_634 : BitVec 32 := 0#32
  let v520 : BitVec 1 := Scalar.cmpi .eq c8_i32_633 c0_i32_634
  let c1_i32_635 : BitVec 32 := 1#32
  let v521 : BitVec 32 := Scalar.select v520 c1_i32_635 c8_i32_633
  let v522 : BitVec 32 := Scalar.remsi v519 v521
  let c0_i32_637 : BitVec 32 := 0#32
  let v524 : BitVec 1 := Scalar.cmpi .slt v522 c0_i32_637
  let c0_i32_638 : BitVec 32 := 0#32
  let v525 : BitVec 1 := Scalar.cmpi .slt v521 c0_i32_638
  let v526 : BitVec 1 := Scalar.xori v524 v525
  let c0_i32_636 : BitVec 32 := 0#32
  let v523 : BitVec 1 := Scalar.cmpi .ne v522 c0_i32_636
  let v527 : BitVec 1 := Scalar.andi v526 v523
  let v528 : BitVec 32 := Scalar.addi v522 v521
  let v529 : BitVec 32 := Scalar.select v527 v528 v522
  let c8_i32_684 : BitVec 32 := 8#32
  let v560 : BitVec 32 := Scalar.muli v529 c8_i32_684
  let c960_i32_691 : BitVec 32 := 960#32
  let c0_i32_692 : BitVec 32 := 0#32
  ![v560.toNat, 960, 0]
def k0_off23 (d0 : Dev nD) (c0_i32_631 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v518 : BitVec 32 := Scalar.subi v2 c0_i32_631
  let c1_i32_632 : BitVec 32 := 1#32
  let v519 : BitVec 32 := Scalar.subi v518 c1_i32_632
  let c8_i32_633 : BitVec 32 := 8#32
  let c0_i32_634 : BitVec 32 := 0#32
  let v520 : BitVec 1 := Scalar.cmpi .eq c8_i32_633 c0_i32_634
  let c1_i32_635 : BitVec 32 := 1#32
  let v521 : BitVec 32 := Scalar.select v520 c1_i32_635 c8_i32_633
  let v522 : BitVec 32 := Scalar.remsi v519 v521
  let c0_i32_637 : BitVec 32 := 0#32
  let v524 : BitVec 1 := Scalar.cmpi .slt v522 c0_i32_637
  let c0_i32_638 : BitVec 32 := 0#32
  let v525 : BitVec 1 := Scalar.cmpi .slt v521 c0_i32_638
  let v526 : BitVec 1 := Scalar.xori v524 v525
  let c0_i32_636 : BitVec 32 := 0#32
  let v523 : BitVec 1 := Scalar.cmpi .ne v522 c0_i32_636
  let v527 : BitVec 1 := Scalar.andi v526 v523
  let v528 : BitVec 32 := Scalar.addi v522 v521
  let v529 : BitVec 32 := Scalar.select v527 v528 v522
  let c8_i32_756 : BitVec 32 := 8#32
  let v608 : BitVec 32 := Scalar.muli v529 c8_i32_756
  let c64_i32_763 : BitVec 32 := 64#32
  let c0_i32_764 : BitVec 32 := 0#32
  ![v608.toNat, 64, 0]
def k0_off24 (d0 : Dev nD) (c0_i32_631 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v518 : BitVec 32 := Scalar.subi v2 c0_i32_631
  let c1_i32_632 : BitVec 32 := 1#32
  let v519 : BitVec 32 := Scalar.subi v518 c1_i32_632
  let c8_i32_633 : BitVec 32 := 8#32
  let c0_i32_634 : BitVec 32 := 0#32
  let v520 : BitVec 1 := Scalar.cmpi .eq c8_i32_633 c0_i32_634
  let c1_i32_635 : BitVec 32 := 1#32
  let v521 : BitVec 32 := Scalar.select v520 c1_i32_635 c8_i32_633
  let v522 : BitVec 32 := Scalar.remsi v519 v521
  let c0_i32_637 : BitVec 32 := 0#32
  let v524 : BitVec 1 := Scalar.cmpi .slt v522 c0_i32_637
  let c0_i32_638 : BitVec 32 := 0#32
  let v525 : BitVec 1 := Scalar.cmpi .slt v521 c0_i32_638
  let v526 : BitVec 1 := Scalar.xori v524 v525
  let c0_i32_636 : BitVec 32 := 0#32
  let v523 : BitVec 1 := Scalar.cmpi .ne v522 c0_i32_636
  let v527 : BitVec 1 := Scalar.andi v526 v523
  let v528 : BitVec 32 := Scalar.addi v522 v521
  let v529 : BitVec 32 := Scalar.select v527 v528 v522
  let c8_i32_765 : BitVec 32 := 8#32
  let v614 : BitVec 32 := Scalar.muli v529 c8_i32_765
  let c128_i32_772 : BitVec 32 := 128#32
  let c0_i32_773 : BitVec 32 := 0#32
  ![v614.toNat, 128, 0]
def k0_off25 (d0 : Dev nD) (c0_i32_631 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v518 : BitVec 32 := Scalar.subi v2 c0_i32_631
  let c1_i32_632 : BitVec 32 := 1#32
  let v519 : BitVec 32 := Scalar.subi v518 c1_i32_632
  let c8_i32_633 : BitVec 32 := 8#32
  let c0_i32_634 : BitVec 32 := 0#32
  let v520 : BitVec 1 := Scalar.cmpi .eq c8_i32_633 c0_i32_634
  let c1_i32_635 : BitVec 32 := 1#32
  let v521 : BitVec 32 := Scalar.select v520 c1_i32_635 c8_i32_633
  let v522 : BitVec 32 := Scalar.remsi v519 v521
  let c0_i32_637 : BitVec 32 := 0#32
  let v524 : BitVec 1 := Scalar.cmpi .slt v522 c0_i32_637
  let c0_i32_638 : BitVec 32 := 0#32
  let v525 : BitVec 1 := Scalar.cmpi .slt v521 c0_i32_638
  let v526 : BitVec 1 := Scalar.xori v524 v525
  let c0_i32_636 : BitVec 32 := 0#32
  let v523 : BitVec 1 := Scalar.cmpi .ne v522 c0_i32_636
  let v527 : BitVec 1 := Scalar.andi v526 v523
  let v528 : BitVec 32 := Scalar.addi v522 v521
  let v529 : BitVec 32 := Scalar.select v527 v528 v522
  let c8_i32_774 : BitVec 32 := 8#32
  let v620 : BitVec 32 := Scalar.muli v529 c8_i32_774
  let c256_i32_781 : BitVec 32 := 256#32
  let c0_i32_782 : BitVec 32 := 0#32
  ![v620.toNat, 256, 0]
def k0_off26 (d0 : Dev nD) (c0_i32_631 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v518 : BitVec 32 := Scalar.subi v2 c0_i32_631
  let c1_i32_632 : BitVec 32 := 1#32
  let v519 : BitVec 32 := Scalar.subi v518 c1_i32_632
  let c8_i32_633 : BitVec 32 := 8#32
  let c0_i32_634 : BitVec 32 := 0#32
  let v520 : BitVec 1 := Scalar.cmpi .eq c8_i32_633 c0_i32_634
  let c1_i32_635 : BitVec 32 := 1#32
  let v521 : BitVec 32 := Scalar.select v520 c1_i32_635 c8_i32_633
  let v522 : BitVec 32 := Scalar.remsi v519 v521
  let c0_i32_637 : BitVec 32 := 0#32
  let v524 : BitVec 1 := Scalar.cmpi .slt v522 c0_i32_637
  let c0_i32_638 : BitVec 32 := 0#32
  let v525 : BitVec 1 := Scalar.cmpi .slt v521 c0_i32_638
  let v526 : BitVec 1 := Scalar.xori v524 v525
  let c0_i32_636 : BitVec 32 := 0#32
  let v523 : BitVec 1 := Scalar.cmpi .ne v522 c0_i32_636
  let v527 : BitVec 1 := Scalar.andi v526 v523
  let v528 : BitVec 32 := Scalar.addi v522 v521
  let v529 : BitVec 32 := Scalar.select v527 v528 v522
  let c8_i32_783 : BitVec 32 := 8#32
  let v626 : BitVec 32 := Scalar.muli v529 c8_i32_783
  let c320_i32_790 : BitVec 32 := 320#32
  let c0_i32_791 : BitVec 32 := 0#32
  ![v626.toNat, 320, 0]
def k0_off27 (d0 : Dev nD) (c0_i32_631 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v518 : BitVec 32 := Scalar.subi v2 c0_i32_631
  let c1_i32_632 : BitVec 32 := 1#32
  let v519 : BitVec 32 := Scalar.subi v518 c1_i32_632
  let c8_i32_633 : BitVec 32 := 8#32
  let c0_i32_634 : BitVec 32 := 0#32
  let v520 : BitVec 1 := Scalar.cmpi .eq c8_i32_633 c0_i32_634
  let c1_i32_635 : BitVec 32 := 1#32
  let v521 : BitVec 32 := Scalar.select v520 c1_i32_635 c8_i32_633
  let v522 : BitVec 32 := Scalar.remsi v519 v521
  let c0_i32_637 : BitVec 32 := 0#32
  let v524 : BitVec 1 := Scalar.cmpi .slt v522 c0_i32_637
  let c0_i32_638 : BitVec 32 := 0#32
  let v525 : BitVec 1 := Scalar.cmpi .slt v521 c0_i32_638
  let v526 : BitVec 1 := Scalar.xori v524 v525
  let c0_i32_636 : BitVec 32 := 0#32
  let v523 : BitVec 1 := Scalar.cmpi .ne v522 c0_i32_636
  let v527 : BitVec 1 := Scalar.andi v526 v523
  let v528 : BitVec 32 := Scalar.addi v522 v521
  let v529 : BitVec 32 := Scalar.select v527 v528 v522
  let c8_i32_792 : BitVec 32 := 8#32
  let v632 : BitVec 32 := Scalar.muli v529 c8_i32_792
  let c448_i32_799 : BitVec 32 := 448#32
  let c0_i32_800 : BitVec 32 := 0#32
  ![v632.toNat, 448, 0]
def k0_off28 (d0 : Dev nD) (c0_i32_631 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v518 : BitVec 32 := Scalar.subi v2 c0_i32_631
  let c1_i32_632 : BitVec 32 := 1#32
  let v519 : BitVec 32 := Scalar.subi v518 c1_i32_632
  let c8_i32_633 : BitVec 32 := 8#32
  let c0_i32_634 : BitVec 32 := 0#32
  let v520 : BitVec 1 := Scalar.cmpi .eq c8_i32_633 c0_i32_634
  let c1_i32_635 : BitVec 32 := 1#32
  let v521 : BitVec 32 := Scalar.select v520 c1_i32_635 c8_i32_633
  let v522 : BitVec 32 := Scalar.remsi v519 v521
  let c0_i32_637 : BitVec 32 := 0#32
  let v524 : BitVec 1 := Scalar.cmpi .slt v522 c0_i32_637
  let c0_i32_638 : BitVec 32 := 0#32
  let v525 : BitVec 1 := Scalar.cmpi .slt v521 c0_i32_638
  let v526 : BitVec 1 := Scalar.xori v524 v525
  let c0_i32_636 : BitVec 32 := 0#32
  let v523 : BitVec 1 := Scalar.cmpi .ne v522 c0_i32_636
  let v527 : BitVec 1 := Scalar.andi v526 v523
  let v528 : BitVec 32 := Scalar.addi v522 v521
  let v529 : BitVec 32 := Scalar.select v527 v528 v522
  let c8_i32_801 : BitVec 32 := 8#32
  let v638 : BitVec 32 := Scalar.muli v529 c8_i32_801
  let c512_i32_808 : BitVec 32 := 512#32
  let c0_i32_809 : BitVec 32 := 0#32
  ![v638.toNat, 512, 0]
def k0_off29 (d0 : Dev nD) (c0_i32_631 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v518 : BitVec 32 := Scalar.subi v2 c0_i32_631
  let c1_i32_632 : BitVec 32 := 1#32
  let v519 : BitVec 32 := Scalar.subi v518 c1_i32_632
  let c8_i32_633 : BitVec 32 := 8#32
  let c0_i32_634 : BitVec 32 := 0#32
  let v520 : BitVec 1 := Scalar.cmpi .eq c8_i32_633 c0_i32_634
  let c1_i32_635 : BitVec 32 := 1#32
  let v521 : BitVec 32 := Scalar.select v520 c1_i32_635 c8_i32_633
  let v522 : BitVec 32 := Scalar.remsi v519 v521
  let c0_i32_637 : BitVec 32 := 0#32
  let v524 : BitVec 1 := Scalar.cmpi .slt v522 c0_i32_637
  let c0_i32_638 : BitVec 32 := 0#32
  let v525 : BitVec 1 := Scalar.cmpi .slt v521 c0_i32_638
  let v526 : BitVec 1 := Scalar.xori v524 v525
  let c0_i32_636 : BitVec 32 := 0#32
  let v523 : BitVec 1 := Scalar.cmpi .ne v522 c0_i32_636
  let v527 : BitVec 1 := Scalar.andi v526 v523
  let v528 : BitVec 32 := Scalar.addi v522 v521
  let v529 : BitVec 32 := Scalar.select v527 v528 v522
  let c8_i32_810 : BitVec 32 := 8#32
  let v644 : BitVec 32 := Scalar.muli v529 c8_i32_810
  let c640_i32_817 : BitVec 32 := 640#32
  let c0_i32_818 : BitVec 32 := 0#32
  ![v644.toNat, 640, 0]
def k0_off30 (d0 : Dev nD) (c0_i32_631 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v518 : BitVec 32 := Scalar.subi v2 c0_i32_631
  let c1_i32_632 : BitVec 32 := 1#32
  let v519 : BitVec 32 := Scalar.subi v518 c1_i32_632
  let c8_i32_633 : BitVec 32 := 8#32
  let c0_i32_634 : BitVec 32 := 0#32
  let v520 : BitVec 1 := Scalar.cmpi .eq c8_i32_633 c0_i32_634
  let c1_i32_635 : BitVec 32 := 1#32
  let v521 : BitVec 32 := Scalar.select v520 c1_i32_635 c8_i32_633
  let v522 : BitVec 32 := Scalar.remsi v519 v521
  let c0_i32_637 : BitVec 32 := 0#32
  let v524 : BitVec 1 := Scalar.cmpi .slt v522 c0_i32_637
  let c0_i32_638 : BitVec 32 := 0#32
  let v525 : BitVec 1 := Scalar.cmpi .slt v521 c0_i32_638
  let v526 : BitVec 1 := Scalar.xori v524 v525
  let c0_i32_636 : BitVec 32 := 0#32
  let v523 : BitVec 1 := Scalar.cmpi .ne v522 c0_i32_636
  let v527 : BitVec 1 := Scalar.andi v526 v523
  let v528 : BitVec 32 := Scalar.addi v522 v521
  let v529 : BitVec 32 := Scalar.select v527 v528 v522
  let c8_i32_819 : BitVec 32 := 8#32
  let v650 : BitVec 32 := Scalar.muli v529 c8_i32_819
  let c704_i32_826 : BitVec 32 := 704#32
  let c0_i32_827 : BitVec 32 := 0#32
  ![v650.toNat, 704, 0]
def k0_off31 (d0 : Dev nD) (c0_i32_631 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v518 : BitVec 32 := Scalar.subi v2 c0_i32_631
  let c1_i32_632 : BitVec 32 := 1#32
  let v519 : BitVec 32 := Scalar.subi v518 c1_i32_632
  let c8_i32_633 : BitVec 32 := 8#32
  let c0_i32_634 : BitVec 32 := 0#32
  let v520 : BitVec 1 := Scalar.cmpi .eq c8_i32_633 c0_i32_634
  let c1_i32_635 : BitVec 32 := 1#32
  let v521 : BitVec 32 := Scalar.select v520 c1_i32_635 c8_i32_633
  let v522 : BitVec 32 := Scalar.remsi v519 v521
  let c0_i32_637 : BitVec 32 := 0#32
  let v524 : BitVec 1 := Scalar.cmpi .slt v522 c0_i32_637
  let c0_i32_638 : BitVec 32 := 0#32
  let v525 : BitVec 1 := Scalar.cmpi .slt v521 c0_i32_638
  let v526 : BitVec 1 := Scalar.xori v524 v525
  let c0_i32_636 : BitVec 32 := 0#32
  let v523 : BitVec 1 := Scalar.cmpi .ne v522 c0_i32_636
  let v527 : BitVec 1 := Scalar.andi v526 v523
  let v528 : BitVec 32 := Scalar.addi v522 v521
  let v529 : BitVec 32 := Scalar.select v527 v528 v522
  let c8_i32_828 : BitVec 32 := 8#32
  let v656 : BitVec 32 := Scalar.muli v529 c8_i32_828
  let c832_i32_835 : BitVec 32 := 832#32
  let c0_i32_836 : BitVec 32 := 0#32
  ![v656.toNat, 832, 0]
def k0_off32 (d0 : Dev nD) (c0_i32_631 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v518 : BitVec 32 := Scalar.subi v2 c0_i32_631
  let c1_i32_632 : BitVec 32 := 1#32
  let v519 : BitVec 32 := Scalar.subi v518 c1_i32_632
  let c8_i32_633 : BitVec 32 := 8#32
  let c0_i32_634 : BitVec 32 := 0#32
  let v520 : BitVec 1 := Scalar.cmpi .eq c8_i32_633 c0_i32_634
  let c1_i32_635 : BitVec 32 := 1#32
  let v521 : BitVec 32 := Scalar.select v520 c1_i32_635 c8_i32_633
  let v522 : BitVec 32 := Scalar.remsi v519 v521
  let c0_i32_637 : BitVec 32 := 0#32
  let v524 : BitVec 1 := Scalar.cmpi .slt v522 c0_i32_637
  let c0_i32_638 : BitVec 32 := 0#32
  let v525 : BitVec 1 := Scalar.cmpi .slt v521 c0_i32_638
  let v526 : BitVec 1 := Scalar.xori v524 v525
  let c0_i32_636 : BitVec 32 := 0#32
  let v523 : BitVec 1 := Scalar.cmpi .ne v522 c0_i32_636
  let v527 : BitVec 1 := Scalar.andi v526 v523
  let v528 : BitVec 32 := Scalar.addi v522 v521
  let v529 : BitVec 32 := Scalar.select v527 v528 v522
  let c8_i32_837 : BitVec 32 := 8#32
  let v662 : BitVec 32 := Scalar.muli v529 c8_i32_837
  let c896_i32_844 : BitVec 32 := 896#32
  let c0_i32_845 : BitVec 32 := 0#32
  ![v662.toNat, 896, 0]
def k0_off33 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_945 : BitVec 32 := 1#32
  let v734 : BitVec 32 := Scalar.addi v2 c1_i32_945
  let c8_i32_946 : BitVec 32 := 8#32
  let c0_i32_947 : BitVec 32 := 0#32
  let v735 : BitVec 1 := Scalar.cmpi .eq c8_i32_946 c0_i32_947
  let c1_i32_948 : BitVec 32 := 1#32
  let v736 : BitVec 32 := Scalar.select v735 c1_i32_948 c8_i32_946
  let v737 : BitVec 32 := Scalar.remsi v734 v736
  let c0_i32_950 : BitVec 32 := 0#32
  let v739 : BitVec 1 := Scalar.cmpi .slt v737 c0_i32_950
  let c0_i32_951 : BitVec 32 := 0#32
  let v740 : BitVec 1 := Scalar.cmpi .slt v736 c0_i32_951
  let v741 : BitVec 1 := Scalar.xori v739 v740
  let c0_i32_949 : BitVec 32 := 0#32
  let v738 : BitVec 1 := Scalar.cmpi .ne v737 c0_i32_949
  let v742 : BitVec 1 := Scalar.andi v741 v738
  let v743 : BitVec 32 := Scalar.addi v737 v736
  let v744 : BitVec 32 := Scalar.select v742 v743 v737
  let c8_i32_952 : BitVec 32 := 8#32
  let v745 : BitVec 32 := Scalar.muli v744 c8_i32_952
  let c0_i32_959 : BitVec 32 := 0#32
  let c0_i32_960 : BitVec 32 := 0#32
  ![v745.toNat, 0, 0]
def k0_off34 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_945 : BitVec 32 := 1#32
  let v734 : BitVec 32 := Scalar.addi v2 c1_i32_945
  let c8_i32_946 : BitVec 32 := 8#32
  let c0_i32_947 : BitVec 32 := 0#32
  let v735 : BitVec 1 := Scalar.cmpi .eq c8_i32_946 c0_i32_947
  let c1_i32_948 : BitVec 32 := 1#32
  let v736 : BitVec 32 := Scalar.select v735 c1_i32_948 c8_i32_946
  let v737 : BitVec 32 := Scalar.remsi v734 v736
  let c0_i32_950 : BitVec 32 := 0#32
  let v739 : BitVec 1 := Scalar.cmpi .slt v737 c0_i32_950
  let c0_i32_951 : BitVec 32 := 0#32
  let v740 : BitVec 1 := Scalar.cmpi .slt v736 c0_i32_951
  let v741 : BitVec 1 := Scalar.xori v739 v740
  let c0_i32_949 : BitVec 32 := 0#32
  let v738 : BitVec 1 := Scalar.cmpi .ne v737 c0_i32_949
  let v742 : BitVec 1 := Scalar.andi v741 v738
  let v743 : BitVec 32 := Scalar.addi v737 v736
  let v744 : BitVec 32 := Scalar.select v742 v743 v737
  let c8_i32_961 : BitVec 32 := 8#32
  let v751 : BitVec 32 := Scalar.muli v744 c8_i32_961
  let c192_i32_968 : BitVec 32 := 192#32
  let c0_i32_969 : BitVec 32 := 0#32
  ![v751.toNat, 192, 0]
def k0_off35 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_945 : BitVec 32 := 1#32
  let v734 : BitVec 32 := Scalar.addi v2 c1_i32_945
  let c8_i32_946 : BitVec 32 := 8#32
  let c0_i32_947 : BitVec 32 := 0#32
  let v735 : BitVec 1 := Scalar.cmpi .eq c8_i32_946 c0_i32_947
  let c1_i32_948 : BitVec 32 := 1#32
  let v736 : BitVec 32 := Scalar.select v735 c1_i32_948 c8_i32_946
  let v737 : BitVec 32 := Scalar.remsi v734 v736
  let c0_i32_950 : BitVec 32 := 0#32
  let v739 : BitVec 1 := Scalar.cmpi .slt v737 c0_i32_950
  let c0_i32_951 : BitVec 32 := 0#32
  let v740 : BitVec 1 := Scalar.cmpi .slt v736 c0_i32_951
  let v741 : BitVec 1 := Scalar.xori v739 v740
  let c0_i32_949 : BitVec 32 := 0#32
  let v738 : BitVec 1 := Scalar.cmpi .ne v737 c0_i32_949
  let v742 : BitVec 1 := Scalar.andi v741 v738
  let v743 : BitVec 32 := Scalar.addi v737 v736
  let v744 : BitVec 32 := Scalar.select v742 v743 v737
  let c8_i32_970 : BitVec 32 := 8#32
  let v757 : BitVec 32 := Scalar.muli v744 c8_i32_970
  let c384_i32_977 : BitVec 32 := 384#32
  let c0_i32_978 : BitVec 32 := 0#32
  ![v757.toNat, 384, 0]
def k0_off36 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_945 : BitVec 32 := 1#32
  let v734 : BitVec 32 := Scalar.addi v2 c1_i32_945
  let c8_i32_946 : BitVec 32 := 8#32
  let c0_i32_947 : BitVec 32 := 0#32
  let v735 : BitVec 1 := Scalar.cmpi .eq c8_i32_946 c0_i32_947
  let c1_i32_948 : BitVec 32 := 1#32
  let v736 : BitVec 32 := Scalar.select v735 c1_i32_948 c8_i32_946
  let v737 : BitVec 32 := Scalar.remsi v734 v736
  let c0_i32_950 : BitVec 32 := 0#32
  let v739 : BitVec 1 := Scalar.cmpi .slt v737 c0_i32_950
  let c0_i32_951 : BitVec 32 := 0#32
  let v740 : BitVec 1 := Scalar.cmpi .slt v736 c0_i32_951
  let v741 : BitVec 1 := Scalar.xori v739 v740
  let c0_i32_949 : BitVec 32 := 0#32
  let v738 : BitVec 1 := Scalar.cmpi .ne v737 c0_i32_949
  let v742 : BitVec 1 := Scalar.andi v741 v738
  let v743 : BitVec 32 := Scalar.addi v737 v736
  let v744 : BitVec 32 := Scalar.select v742 v743 v737
  let c8_i32_979 : BitVec 32 := 8#32
  let v763 : BitVec 32 := Scalar.muli v744 c8_i32_979
  let c576_i32_986 : BitVec 32 := 576#32
  let c0_i32_987 : BitVec 32 := 0#32
  ![v763.toNat, 576, 0]
def k0_off37 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_945 : BitVec 32 := 1#32
  let v734 : BitVec 32 := Scalar.addi v2 c1_i32_945
  let c8_i32_946 : BitVec 32 := 8#32
  let c0_i32_947 : BitVec 32 := 0#32
  let v735 : BitVec 1 := Scalar.cmpi .eq c8_i32_946 c0_i32_947
  let c1_i32_948 : BitVec 32 := 1#32
  let v736 : BitVec 32 := Scalar.select v735 c1_i32_948 c8_i32_946
  let v737 : BitVec 32 := Scalar.remsi v734 v736
  let c0_i32_950 : BitVec 32 := 0#32
  let v739 : BitVec 1 := Scalar.cmpi .slt v737 c0_i32_950
  let c0_i32_951 : BitVec 32 := 0#32
  let v740 : BitVec 1 := Scalar.cmpi .slt v736 c0_i32_951
  let v741 : BitVec 1 := Scalar.xori v739 v740
  let c0_i32_949 : BitVec 32 := 0#32
  let v738 : BitVec 1 := Scalar.cmpi .ne v737 c0_i32_949
  let v742 : BitVec 1 := Scalar.andi v741 v738
  let v743 : BitVec 32 := Scalar.addi v737 v736
  let v744 : BitVec 32 := Scalar.select v742 v743 v737
  let c8_i32_988 : BitVec 32 := 8#32
  let v769 : BitVec 32 := Scalar.muli v744 c8_i32_988
  let c768_i32_995 : BitVec 32 := 768#32
  let c0_i32_996 : BitVec 32 := 0#32
  ![v769.toNat, 768, 0]
def k0_off38 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_945 : BitVec 32 := 1#32
  let v734 : BitVec 32 := Scalar.addi v2 c1_i32_945
  let c8_i32_946 : BitVec 32 := 8#32
  let c0_i32_947 : BitVec 32 := 0#32
  let v735 : BitVec 1 := Scalar.cmpi .eq c8_i32_946 c0_i32_947
  let c1_i32_948 : BitVec 32 := 1#32
  let v736 : BitVec 32 := Scalar.select v735 c1_i32_948 c8_i32_946
  let v737 : BitVec 32 := Scalar.remsi v734 v736
  let c0_i32_950 : BitVec 32 := 0#32
  let v739 : BitVec 1 := Scalar.cmpi .slt v737 c0_i32_950
  let c0_i32_951 : BitVec 32 := 0#32
  let v740 : BitVec 1 := Scalar.cmpi .slt v736 c0_i32_951
  let v741 : BitVec 1 := Scalar.xori v739 v740
  let c0_i32_949 : BitVec 32 := 0#32
  let v738 : BitVec 1 := Scalar.cmpi .ne v737 c0_i32_949
  let v742 : BitVec 1 := Scalar.andi v741 v738
  let v743 : BitVec 32 := Scalar.addi v737 v736
  let v744 : BitVec 32 := Scalar.select v742 v743 v737
  let c8_i32_997 : BitVec 32 := 8#32
  let v775 : BitVec 32 := Scalar.muli v744 c8_i32_997
  let c960_i32_1004 : BitVec 32 := 960#32
  let c0_i32_1005 : BitVec 32 := 0#32
  ![v775.toNat, 960, 0]
def k0_off39 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_945 : BitVec 32 := 1#32
  let v734 : BitVec 32 := Scalar.addi v2 c1_i32_945
  let c8_i32_946 : BitVec 32 := 8#32
  let c0_i32_947 : BitVec 32 := 0#32
  let v735 : BitVec 1 := Scalar.cmpi .eq c8_i32_946 c0_i32_947
  let c1_i32_948 : BitVec 32 := 1#32
  let v736 : BitVec 32 := Scalar.select v735 c1_i32_948 c8_i32_946
  let v737 : BitVec 32 := Scalar.remsi v734 v736
  let c0_i32_950 : BitVec 32 := 0#32
  let v739 : BitVec 1 := Scalar.cmpi .slt v737 c0_i32_950
  let c0_i32_951 : BitVec 32 := 0#32
  let v740 : BitVec 1 := Scalar.cmpi .slt v736 c0_i32_951
  let v741 : BitVec 1 := Scalar.xori v739 v740
  let c0_i32_949 : BitVec 32 := 0#32
  let v738 : BitVec 1 := Scalar.cmpi .ne v737 c0_i32_949
  let v742 : BitVec 1 := Scalar.andi v741 v738
  let v743 : BitVec 32 := Scalar.addi v737 v736
  let v744 : BitVec 32 := Scalar.select v742 v743 v737
  let c8_i32_1069 : BitVec 32 := 8#32
  let v823 : BitVec 32 := Scalar.muli v744 c8_i32_1069
  let c64_i32_1076 : BitVec 32 := 64#32
  let c0_i32_1077 : BitVec 32 := 0#32
  ![v823.toNat, 64, 0]
def k0_off40 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_945 : BitVec 32 := 1#32
  let v734 : BitVec 32 := Scalar.addi v2 c1_i32_945
  let c8_i32_946 : BitVec 32 := 8#32
  let c0_i32_947 : BitVec 32 := 0#32
  let v735 : BitVec 1 := Scalar.cmpi .eq c8_i32_946 c0_i32_947
  let c1_i32_948 : BitVec 32 := 1#32
  let v736 : BitVec 32 := Scalar.select v735 c1_i32_948 c8_i32_946
  let v737 : BitVec 32 := Scalar.remsi v734 v736
  let c0_i32_950 : BitVec 32 := 0#32
  let v739 : BitVec 1 := Scalar.cmpi .slt v737 c0_i32_950
  let c0_i32_951 : BitVec 32 := 0#32
  let v740 : BitVec 1 := Scalar.cmpi .slt v736 c0_i32_951
  let v741 : BitVec 1 := Scalar.xori v739 v740
  let c0_i32_949 : BitVec 32 := 0#32
  let v738 : BitVec 1 := Scalar.cmpi .ne v737 c0_i32_949
  let v742 : BitVec 1 := Scalar.andi v741 v738
  let v743 : BitVec 32 := Scalar.addi v737 v736
  let v744 : BitVec 32 := Scalar.select v742 v743 v737
  let c8_i32_1078 : BitVec 32 := 8#32
  let v829 : BitVec 32 := Scalar.muli v744 c8_i32_1078
  let c128_i32_1085 : BitVec 32 := 128#32
  let c0_i32_1086 : BitVec 32 := 0#32
  ![v829.toNat, 128, 0]
def k0_off41 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_945 : BitVec 32 := 1#32
  let v734 : BitVec 32 := Scalar.addi v2 c1_i32_945
  let c8_i32_946 : BitVec 32 := 8#32
  let c0_i32_947 : BitVec 32 := 0#32
  let v735 : BitVec 1 := Scalar.cmpi .eq c8_i32_946 c0_i32_947
  let c1_i32_948 : BitVec 32 := 1#32
  let v736 : BitVec 32 := Scalar.select v735 c1_i32_948 c8_i32_946
  let v737 : BitVec 32 := Scalar.remsi v734 v736
  let c0_i32_950 : BitVec 32 := 0#32
  let v739 : BitVec 1 := Scalar.cmpi .slt v737 c0_i32_950
  let c0_i32_951 : BitVec 32 := 0#32
  let v740 : BitVec 1 := Scalar.cmpi .slt v736 c0_i32_951
  let v741 : BitVec 1 := Scalar.xori v739 v740
  let c0_i32_949 : BitVec 32 := 0#32
  let v738 : BitVec 1 := Scalar.cmpi .ne v737 c0_i32_949
  let v742 : BitVec 1 := Scalar.andi v741 v738
  let v743 : BitVec 32 := Scalar.addi v737 v736
  let v744 : BitVec 32 := Scalar.select v742 v743 v737
  let c8_i32_1087 : BitVec 32 := 8#32
  let v835 : BitVec 32 := Scalar.muli v744 c8_i32_1087
  let c256_i32_1094 : BitVec 32 := 256#32
  let c0_i32_1095 : BitVec 32 := 0#32
  ![v835.toNat, 256, 0]
def k0_off42 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_945 : BitVec 32 := 1#32
  let v734 : BitVec 32 := Scalar.addi v2 c1_i32_945
  let c8_i32_946 : BitVec 32 := 8#32
  let c0_i32_947 : BitVec 32 := 0#32
  let v735 : BitVec 1 := Scalar.cmpi .eq c8_i32_946 c0_i32_947
  let c1_i32_948 : BitVec 32 := 1#32
  let v736 : BitVec 32 := Scalar.select v735 c1_i32_948 c8_i32_946
  let v737 : BitVec 32 := Scalar.remsi v734 v736
  let c0_i32_950 : BitVec 32 := 0#32
  let v739 : BitVec 1 := Scalar.cmpi .slt v737 c0_i32_950
  let c0_i32_951 : BitVec 32 := 0#32
  let v740 : BitVec 1 := Scalar.cmpi .slt v736 c0_i32_951
  let v741 : BitVec 1 := Scalar.xori v739 v740
  let c0_i32_949 : BitVec 32 := 0#32
  let v738 : BitVec 1 := Scalar.cmpi .ne v737 c0_i32_949
  let v742 : BitVec 1 := Scalar.andi v741 v738
  let v743 : BitVec 32 := Scalar.addi v737 v736
  let v744 : BitVec 32 := Scalar.select v742 v743 v737
  let c8_i32_1096 : BitVec 32 := 8#32
  let v841 : BitVec 32 := Scalar.muli v744 c8_i32_1096
  let c320_i32_1103 : BitVec 32 := 320#32
  let c0_i32_1104 : BitVec 32 := 0#32
  ![v841.toNat, 320, 0]
def k0_off43 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_945 : BitVec 32 := 1#32
  let v734 : BitVec 32 := Scalar.addi v2 c1_i32_945
  let c8_i32_946 : BitVec 32 := 8#32
  let c0_i32_947 : BitVec 32 := 0#32
  let v735 : BitVec 1 := Scalar.cmpi .eq c8_i32_946 c0_i32_947
  let c1_i32_948 : BitVec 32 := 1#32
  let v736 : BitVec 32 := Scalar.select v735 c1_i32_948 c8_i32_946
  let v737 : BitVec 32 := Scalar.remsi v734 v736
  let c0_i32_950 : BitVec 32 := 0#32
  let v739 : BitVec 1 := Scalar.cmpi .slt v737 c0_i32_950
  let c0_i32_951 : BitVec 32 := 0#32
  let v740 : BitVec 1 := Scalar.cmpi .slt v736 c0_i32_951
  let v741 : BitVec 1 := Scalar.xori v739 v740
  let c0_i32_949 : BitVec 32 := 0#32
  let v738 : BitVec 1 := Scalar.cmpi .ne v737 c0_i32_949
  let v742 : BitVec 1 := Scalar.andi v741 v738
  let v743 : BitVec 32 := Scalar.addi v737 v736
  let v744 : BitVec 32 := Scalar.select v742 v743 v737
  let c8_i32_1105 : BitVec 32 := 8#32
  let v847 : BitVec 32 := Scalar.muli v744 c8_i32_1105
  let c448_i32_1112 : BitVec 32 := 448#32
  let c0_i32_1113 : BitVec 32 := 0#32
  ![v847.toNat, 448, 0]
def k0_off44 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_945 : BitVec 32 := 1#32
  let v734 : BitVec 32 := Scalar.addi v2 c1_i32_945
  let c8_i32_946 : BitVec 32 := 8#32
  let c0_i32_947 : BitVec 32 := 0#32
  let v735 : BitVec 1 := Scalar.cmpi .eq c8_i32_946 c0_i32_947
  let c1_i32_948 : BitVec 32 := 1#32
  let v736 : BitVec 32 := Scalar.select v735 c1_i32_948 c8_i32_946
  let v737 : BitVec 32 := Scalar.remsi v734 v736
  let c0_i32_950 : BitVec 32 := 0#32
  let v739 : BitVec 1 := Scalar.cmpi .slt v737 c0_i32_950
  let c0_i32_951 : BitVec 32 := 0#32
  let v740 : BitVec 1 := Scalar.cmpi .slt v736 c0_i32_951
  let v741 : BitVec 1 := Scalar.xori v739 v740
  let c0_i32_949 : BitVec 32 := 0#32
  let v738 : BitVec 1 := Scalar.cmpi .ne v737 c0_i32_949
  let v742 : BitVec 1 := Scalar.andi v741 v738
  let v743 : BitVec 32 := Scalar.addi v737 v736
  let v744 : BitVec 32 := Scalar.select v742 v743 v737
  let c8_i32_1114 : BitVec 32 := 8#32
  let v853 : BitVec 32 := Scalar.muli v744 c8_i32_1114
  let c512_i32_1121 : BitVec 32 := 512#32
  let c0_i32_1122 : BitVec 32 := 0#32
  ![v853.toNat, 512, 0]
def k0_off45 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_945 : BitVec 32 := 1#32
  let v734 : BitVec 32 := Scalar.addi v2 c1_i32_945
  let c8_i32_946 : BitVec 32 := 8#32
  let c0_i32_947 : BitVec 32 := 0#32
  let v735 : BitVec 1 := Scalar.cmpi .eq c8_i32_946 c0_i32_947
  let c1_i32_948 : BitVec 32 := 1#32
  let v736 : BitVec 32 := Scalar.select v735 c1_i32_948 c8_i32_946
  let v737 : BitVec 32 := Scalar.remsi v734 v736
  let c0_i32_950 : BitVec 32 := 0#32
  let v739 : BitVec 1 := Scalar.cmpi .slt v737 c0_i32_950
  let c0_i32_951 : BitVec 32 := 0#32
  let v740 : BitVec 1 := Scalar.cmpi .slt v736 c0_i32_951
  let v741 : BitVec 1 := Scalar.xori v739 v740
  let c0_i32_949 : BitVec 32 := 0#32
  let v738 : BitVec 1 := Scalar.cmpi .ne v737 c0_i32_949
  let v742 : BitVec 1 := Scalar.andi v741 v738
  let v743 : BitVec 32 := Scalar.addi v737 v736
  let v744 : BitVec 32 := Scalar.select v742 v743 v737
  let c8_i32_1123 : BitVec 32 := 8#32
  let v859 : BitVec 32 := Scalar.muli v744 c8_i32_1123
  let c640_i32_1130 : BitVec 32 := 640#32
  let c0_i32_1131 : BitVec 32 := 0#32
  ![v859.toNat, 640, 0]
def k0_off46 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_945 : BitVec 32 := 1#32
  let v734 : BitVec 32 := Scalar.addi v2 c1_i32_945
  let c8_i32_946 : BitVec 32 := 8#32
  let c0_i32_947 : BitVec 32 := 0#32
  let v735 : BitVec 1 := Scalar.cmpi .eq c8_i32_946 c0_i32_947
  let c1_i32_948 : BitVec 32 := 1#32
  let v736 : BitVec 32 := Scalar.select v735 c1_i32_948 c8_i32_946
  let v737 : BitVec 32 := Scalar.remsi v734 v736
  let c0_i32_950 : BitVec 32 := 0#32
  let v739 : BitVec 1 := Scalar.cmpi .slt v737 c0_i32_950
  let c0_i32_951 : BitVec 32 := 0#32
  let v740 : BitVec 1 := Scalar.cmpi .slt v736 c0_i32_951
  let v741 : BitVec 1 := Scalar.xori v739 v740
  let c0_i32_949 : BitVec 32 := 0#32
  let v738 : BitVec 1 := Scalar.cmpi .ne v737 c0_i32_949
  let v742 : BitVec 1 := Scalar.andi v741 v738
  let v743 : BitVec 32 := Scalar.addi v737 v736
  let v744 : BitVec 32 := Scalar.select v742 v743 v737
  let c8_i32_1132 : BitVec 32 := 8#32
  let v865 : BitVec 32 := Scalar.muli v744 c8_i32_1132
  let c704_i32_1139 : BitVec 32 := 704#32
  let c0_i32_1140 : BitVec 32 := 0#32
  ![v865.toNat, 704, 0]
def k0_off47 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_945 : BitVec 32 := 1#32
  let v734 : BitVec 32 := Scalar.addi v2 c1_i32_945
  let c8_i32_946 : BitVec 32 := 8#32
  let c0_i32_947 : BitVec 32 := 0#32
  let v735 : BitVec 1 := Scalar.cmpi .eq c8_i32_946 c0_i32_947
  let c1_i32_948 : BitVec 32 := 1#32
  let v736 : BitVec 32 := Scalar.select v735 c1_i32_948 c8_i32_946
  let v737 : BitVec 32 := Scalar.remsi v734 v736
  let c0_i32_950 : BitVec 32 := 0#32
  let v739 : BitVec 1 := Scalar.cmpi .slt v737 c0_i32_950
  let c0_i32_951 : BitVec 32 := 0#32
  let v740 : BitVec 1 := Scalar.cmpi .slt v736 c0_i32_951
  let v741 : BitVec 1 := Scalar.xori v739 v740
  let c0_i32_949 : BitVec 32 := 0#32
  let v738 : BitVec 1 := Scalar.cmpi .ne v737 c0_i32_949
  let v742 : BitVec 1 := Scalar.andi v741 v738
  let v743 : BitVec 32 := Scalar.addi v737 v736
  let v744 : BitVec 32 := Scalar.select v742 v743 v737
  let c8_i32_1141 : BitVec 32 := 8#32
  let v871 : BitVec 32 := Scalar.muli v744 c8_i32_1141
  let c832_i32_1148 : BitVec 32 := 832#32
  let c0_i32_1149 : BitVec 32 := 0#32
  ![v871.toNat, 832, 0]
def k0_off48 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_945 : BitVec 32 := 1#32
  let v734 : BitVec 32 := Scalar.addi v2 c1_i32_945
  let c8_i32_946 : BitVec 32 := 8#32
  let c0_i32_947 : BitVec 32 := 0#32
  let v735 : BitVec 1 := Scalar.cmpi .eq c8_i32_946 c0_i32_947
  let c1_i32_948 : BitVec 32 := 1#32
  let v736 : BitVec 32 := Scalar.select v735 c1_i32_948 c8_i32_946
  let v737 : BitVec 32 := Scalar.remsi v734 v736
  let c0_i32_950 : BitVec 32 := 0#32
  let v739 : BitVec 1 := Scalar.cmpi .slt v737 c0_i32_950
  let c0_i32_951 : BitVec 32 := 0#32
  let v740 : BitVec 1 := Scalar.cmpi .slt v736 c0_i32_951
  let v741 : BitVec 1 := Scalar.xori v739 v740
  let c0_i32_949 : BitVec 32 := 0#32
  let v738 : BitVec 1 := Scalar.cmpi .ne v737 c0_i32_949
  let v742 : BitVec 1 := Scalar.andi v741 v738
  let v743 : BitVec 32 := Scalar.addi v737 v736
  let v744 : BitVec 32 := Scalar.select v742 v743 v737
  let c8_i32_1150 : BitVec 32 := 8#32
  let v877 : BitVec 32 := Scalar.muli v744 c8_i32_1150
  let c896_i32_1157 : BitVec 32 := 896#32
  let c0_i32_1158 : BitVec 32 := 0#32
  ![v877.toNat, 896, 0]
@[reducible] def k0_t1_loop : Scf.Loop 32 :=
  let c0_i32_1269 : BitVec 32 := 0#32
  let c8_i32_1270 : BitVec 32 := 8#32
  let v959 : BitVec 32 := Scalar.addi c0_i32_1269 c8_i32_1270
  let c1_i32_1271 : BitVec 32 := 1#32
  ⟨c0_i32_1269, v959, c1_i32_1271⟩
def k0_off49 (k0_t1 : Fin k0_t1_loop.trips) : Fin 4 → Nat :=
  let c0_5191 : Index := 0#32
  let c0_i32_1269 : BitVec 32 := 0#32
  let c1_i32_1271 : BitVec 32 := 1#32
  let arg29 : BitVec 32 := Scf.iv c0_i32_1269 c1_i32_1271 k0_t1
  let v3584 : Index := Scalar.indexCast arg29
  let c0_5192 : Index := 0#32
  let c0_5193 : Index := 0#32
  ![0, v3584.toNat, 0, 0]
def k0_off50 (k0_t1 : Fin k0_t1_loop.trips) : Fin 4 → Nat :=
  let c0_5197 : Index := 0#32
  let c0_i32_1269 : BitVec 32 := 0#32
  let c1_i32_1271 : BitVec 32 := 1#32
  let arg29 : BitVec 32 := Scf.iv c0_i32_1269 c1_i32_1271 k0_t1
  let v3592 : Index := Scalar.indexCast arg29
  let c0_5198 : Index := 0#32
  let c0_5199 : Index := 0#32
  ![0, v3592.toNat, 0, 0]
def k0_off51 (k0_t1 : Fin k0_t1_loop.trips) : Fin 2 → Nat :=
  let c0_5203 : Index := 0#32
  let c0_i32_1269 : BitVec 32 := 0#32
  let c1_i32_1271 : BitVec 32 := 1#32
  let arg29 : BitVec 32 := Scf.iv c0_i32_1269 c1_i32_1271 k0_t1
  let c128_i32_5190 : BitVec 32 := 128#32
  let v3583 : BitVec 32 := Scalar.muli arg29 c128_i32_5190
  let v3600 : Index := Scalar.indexCast v3583
  ![0, v3600.toNat]
def k0_off52 (k0_t1 : Fin k0_t1_loop.trips) : Fin 2 → Nat :=
  let c384_5213 : Index := 384#32
  let c0_i32_1269 : BitVec 32 := 0#32
  let c1_i32_1271 : BitVec 32 := 1#32
  let arg29 : BitVec 32 := Scf.iv c0_i32_1269 c1_i32_1271 k0_t1
  let c128_i32_5190 : BitVec 32 := 128#32
  let v3583 : BitVec 32 := Scalar.muli arg29 c128_i32_5190
  let v3623 : Index := Scalar.indexCast v3583
  ![384, v3623.toNat]
def k0_dev5 (d0 : Dev nD) : Nat :=
  let c0_i32_1320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1319 : BitVec 32 := 1#32
  let v995 : BitVec 32 := Scalar.muli v13 c1_i32_1319
  let v996 : BitVec 32 := Scalar.addi c0_i32_1320 v995
  v996.toNat
def k0_dev6 (d0 : Dev nD) : Nat :=
  let c0_i32_1328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1327 : BitVec 32 := 1#32
  let v997 : BitVec 32 := Scalar.muli v24 c1_i32_1327
  let v998 : BitVec 32 := Scalar.addi c0_i32_1328 v997
  v998.toNat
def k0_dev7 (d0 : Dev nD) : Nat :=
  let c0_i32_1338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1337 : BitVec 32 := 1#32
  let v1007 : BitVec 32 := Scalar.muli v13 c1_i32_1337
  let v1008 : BitVec 32 := Scalar.addi c0_i32_1338 v1007
  v1008.toNat
@[reducible] def k0_t2_loop : Scf.Loop 32 :=
  let c0_i32_1939 : BitVec 32 := 0#32
  let c8_i32_1940 : BitVec 32 := 8#32
  let v1413 : BitVec 32 := Scalar.addi c0_i32_1939 c8_i32_1940
  let c1_i32_1941 : BitVec 32 := 1#32
  ⟨c0_i32_1939, v1413, c1_i32_1941⟩
def k0_off53 (k0_t2 : Fin k0_t2_loop.trips) : Fin 4 → Nat :=
  let c1_5191 : Index := 1#32
  let c0_i32_1939 : BitVec 32 := 0#32
  let c1_i32_1941 : BitVec 32 := 1#32
  let arg29 : BitVec 32 := Scf.iv c0_i32_1939 c1_i32_1941 k0_t2
  let v3584 : Index := Scalar.indexCast arg29
  let c0_5192 : Index := 0#32
  let c0_5193 : Index := 0#32
  ![1, v3584.toNat, 0, 0]
def k0_off54 (k0_t2 : Fin k0_t2_loop.trips) : Fin 4 → Nat :=
  let c1_5197 : Index := 1#32
  let c0_i32_1939 : BitVec 32 := 0#32
  let c1_i32_1941 : BitVec 32 := 1#32
  let arg29 : BitVec 32 := Scf.iv c0_i32_1939 c1_i32_1941 k0_t2
  let v3592 : Index := Scalar.indexCast arg29
  let c0_5198 : Index := 0#32
  let c0_5199 : Index := 0#32
  ![1, v3592.toNat, 0, 0]
def k0_off55 (k0_t2 : Fin k0_t2_loop.trips) : Fin 2 → Nat :=
  let c0_5203 : Index := 0#32
  let c0_i32_1939 : BitVec 32 := 0#32
  let c1_i32_1941 : BitVec 32 := 1#32
  let arg29 : BitVec 32 := Scf.iv c0_i32_1939 c1_i32_1941 k0_t2
  let c128_i32_5190 : BitVec 32 := 128#32
  let v3583 : BitVec 32 := Scalar.muli arg29 c128_i32_5190
  let v3600 : Index := Scalar.indexCast v3583
  ![0, v3600.toNat]
def k0_off56 (k0_t2 : Fin k0_t2_loop.trips) : Fin 2 → Nat :=
  let c384_5213 : Index := 384#32
  let c0_i32_1939 : BitVec 32 := 0#32
  let c1_i32_1941 : BitVec 32 := 1#32
  let arg29 : BitVec 32 := Scf.iv c0_i32_1939 c1_i32_1941 k0_t2
  let c128_i32_5190 : BitVec 32 := 128#32
  let v3583 : BitVec 32 := Scalar.muli arg29 c128_i32_5190
  let v3623 : Index := Scalar.indexCast v3583
  ![384, v3623.toNat]
def k0_off57 (d0 : Dev nD) (c1_i32_2222 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1591 : BitVec 32 := Scalar.addi v2 c1_i32_2222
  let c1_i32_2223 : BitVec 32 := 1#32
  let v1592 : BitVec 32 := Scalar.addi v1591 c1_i32_2223
  let c8_i32_2224 : BitVec 32 := 8#32
  let c0_i32_2225 : BitVec 32 := 0#32
  let v1593 : BitVec 1 := Scalar.cmpi .eq c8_i32_2224 c0_i32_2225
  let c1_i32_2226 : BitVec 32 := 1#32
  let v1594 : BitVec 32 := Scalar.select v1593 c1_i32_2226 c8_i32_2224
  let v1595 : BitVec 32 := Scalar.remsi v1592 v1594
  let c0_i32_2228 : BitVec 32 := 0#32
  let v1597 : BitVec 1 := Scalar.cmpi .slt v1595 c0_i32_2228
  let c0_i32_2229 : BitVec 32 := 0#32
  let v1598 : BitVec 1 := Scalar.cmpi .slt v1594 c0_i32_2229
  let v1599 : BitVec 1 := Scalar.xori v1597 v1598
  let c0_i32_2227 : BitVec 32 := 0#32
  let v1596 : BitVec 1 := Scalar.cmpi .ne v1595 c0_i32_2227
  let v1600 : BitVec 1 := Scalar.andi v1599 v1596
  let v1601 : BitVec 32 := Scalar.addi v1595 v1594
  let v1602 : BitVec 32 := Scalar.select v1600 v1601 v1595
  let c8_i32_2230 : BitVec 32 := 8#32
  let v1603 : BitVec 32 := Scalar.muli v1602 c8_i32_2230
  let c0_i32_2237 : BitVec 32 := 0#32
  let c0_i32_2238 : BitVec 32 := 0#32
  ![v1603.toNat, 0, 0]
def k0_off58 (d0 : Dev nD) (c1_i32_2222 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1591 : BitVec 32 := Scalar.addi v2 c1_i32_2222
  let c1_i32_2223 : BitVec 32 := 1#32
  let v1592 : BitVec 32 := Scalar.addi v1591 c1_i32_2223
  let c8_i32_2224 : BitVec 32 := 8#32
  let c0_i32_2225 : BitVec 32 := 0#32
  let v1593 : BitVec 1 := Scalar.cmpi .eq c8_i32_2224 c0_i32_2225
  let c1_i32_2226 : BitVec 32 := 1#32
  let v1594 : BitVec 32 := Scalar.select v1593 c1_i32_2226 c8_i32_2224
  let v1595 : BitVec 32 := Scalar.remsi v1592 v1594
  let c0_i32_2228 : BitVec 32 := 0#32
  let v1597 : BitVec 1 := Scalar.cmpi .slt v1595 c0_i32_2228
  let c0_i32_2229 : BitVec 32 := 0#32
  let v1598 : BitVec 1 := Scalar.cmpi .slt v1594 c0_i32_2229
  let v1599 : BitVec 1 := Scalar.xori v1597 v1598
  let c0_i32_2227 : BitVec 32 := 0#32
  let v1596 : BitVec 1 := Scalar.cmpi .ne v1595 c0_i32_2227
  let v1600 : BitVec 1 := Scalar.andi v1599 v1596
  let v1601 : BitVec 32 := Scalar.addi v1595 v1594
  let v1602 : BitVec 32 := Scalar.select v1600 v1601 v1595
  let c8_i32_2239 : BitVec 32 := 8#32
  let v1609 : BitVec 32 := Scalar.muli v1602 c8_i32_2239
  let c192_i32_2246 : BitVec 32 := 192#32
  let c0_i32_2247 : BitVec 32 := 0#32
  ![v1609.toNat, 192, 0]
def k0_off59 (d0 : Dev nD) (c1_i32_2222 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1591 : BitVec 32 := Scalar.addi v2 c1_i32_2222
  let c1_i32_2223 : BitVec 32 := 1#32
  let v1592 : BitVec 32 := Scalar.addi v1591 c1_i32_2223
  let c8_i32_2224 : BitVec 32 := 8#32
  let c0_i32_2225 : BitVec 32 := 0#32
  let v1593 : BitVec 1 := Scalar.cmpi .eq c8_i32_2224 c0_i32_2225
  let c1_i32_2226 : BitVec 32 := 1#32
  let v1594 : BitVec 32 := Scalar.select v1593 c1_i32_2226 c8_i32_2224
  let v1595 : BitVec 32 := Scalar.remsi v1592 v1594
  let c0_i32_2228 : BitVec 32 := 0#32
  let v1597 : BitVec 1 := Scalar.cmpi .slt v1595 c0_i32_2228
  let c0_i32_2229 : BitVec 32 := 0#32
  let v1598 : BitVec 1 := Scalar.cmpi .slt v1594 c0_i32_2229
  let v1599 : BitVec 1 := Scalar.xori v1597 v1598
  let c0_i32_2227 : BitVec 32 := 0#32
  let v1596 : BitVec 1 := Scalar.cmpi .ne v1595 c0_i32_2227
  let v1600 : BitVec 1 := Scalar.andi v1599 v1596
  let v1601 : BitVec 32 := Scalar.addi v1595 v1594
  let v1602 : BitVec 32 := Scalar.select v1600 v1601 v1595
  let c8_i32_2248 : BitVec 32 := 8#32
  let v1615 : BitVec 32 := Scalar.muli v1602 c8_i32_2248
  let c384_i32_2255 : BitVec 32 := 384#32
  let c0_i32_2256 : BitVec 32 := 0#32
  ![v1615.toNat, 384, 0]
def k0_off60 (d0 : Dev nD) (c1_i32_2222 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1591 : BitVec 32 := Scalar.addi v2 c1_i32_2222
  let c1_i32_2223 : BitVec 32 := 1#32
  let v1592 : BitVec 32 := Scalar.addi v1591 c1_i32_2223
  let c8_i32_2224 : BitVec 32 := 8#32
  let c0_i32_2225 : BitVec 32 := 0#32
  let v1593 : BitVec 1 := Scalar.cmpi .eq c8_i32_2224 c0_i32_2225
  let c1_i32_2226 : BitVec 32 := 1#32
  let v1594 : BitVec 32 := Scalar.select v1593 c1_i32_2226 c8_i32_2224
  let v1595 : BitVec 32 := Scalar.remsi v1592 v1594
  let c0_i32_2228 : BitVec 32 := 0#32
  let v1597 : BitVec 1 := Scalar.cmpi .slt v1595 c0_i32_2228
  let c0_i32_2229 : BitVec 32 := 0#32
  let v1598 : BitVec 1 := Scalar.cmpi .slt v1594 c0_i32_2229
  let v1599 : BitVec 1 := Scalar.xori v1597 v1598
  let c0_i32_2227 : BitVec 32 := 0#32
  let v1596 : BitVec 1 := Scalar.cmpi .ne v1595 c0_i32_2227
  let v1600 : BitVec 1 := Scalar.andi v1599 v1596
  let v1601 : BitVec 32 := Scalar.addi v1595 v1594
  let v1602 : BitVec 32 := Scalar.select v1600 v1601 v1595
  let c8_i32_2257 : BitVec 32 := 8#32
  let v1621 : BitVec 32 := Scalar.muli v1602 c8_i32_2257
  let c576_i32_2264 : BitVec 32 := 576#32
  let c0_i32_2265 : BitVec 32 := 0#32
  ![v1621.toNat, 576, 0]
def k0_off61 (d0 : Dev nD) (c1_i32_2222 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1591 : BitVec 32 := Scalar.addi v2 c1_i32_2222
  let c1_i32_2223 : BitVec 32 := 1#32
  let v1592 : BitVec 32 := Scalar.addi v1591 c1_i32_2223
  let c8_i32_2224 : BitVec 32 := 8#32
  let c0_i32_2225 : BitVec 32 := 0#32
  let v1593 : BitVec 1 := Scalar.cmpi .eq c8_i32_2224 c0_i32_2225
  let c1_i32_2226 : BitVec 32 := 1#32
  let v1594 : BitVec 32 := Scalar.select v1593 c1_i32_2226 c8_i32_2224
  let v1595 : BitVec 32 := Scalar.remsi v1592 v1594
  let c0_i32_2228 : BitVec 32 := 0#32
  let v1597 : BitVec 1 := Scalar.cmpi .slt v1595 c0_i32_2228
  let c0_i32_2229 : BitVec 32 := 0#32
  let v1598 : BitVec 1 := Scalar.cmpi .slt v1594 c0_i32_2229
  let v1599 : BitVec 1 := Scalar.xori v1597 v1598
  let c0_i32_2227 : BitVec 32 := 0#32
  let v1596 : BitVec 1 := Scalar.cmpi .ne v1595 c0_i32_2227
  let v1600 : BitVec 1 := Scalar.andi v1599 v1596
  let v1601 : BitVec 32 := Scalar.addi v1595 v1594
  let v1602 : BitVec 32 := Scalar.select v1600 v1601 v1595
  let c8_i32_2266 : BitVec 32 := 8#32
  let v1627 : BitVec 32 := Scalar.muli v1602 c8_i32_2266
  let c768_i32_2273 : BitVec 32 := 768#32
  let c0_i32_2274 : BitVec 32 := 0#32
  ![v1627.toNat, 768, 0]
def k0_off62 (d0 : Dev nD) (c1_i32_2222 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1591 : BitVec 32 := Scalar.addi v2 c1_i32_2222
  let c1_i32_2223 : BitVec 32 := 1#32
  let v1592 : BitVec 32 := Scalar.addi v1591 c1_i32_2223
  let c8_i32_2224 : BitVec 32 := 8#32
  let c0_i32_2225 : BitVec 32 := 0#32
  let v1593 : BitVec 1 := Scalar.cmpi .eq c8_i32_2224 c0_i32_2225
  let c1_i32_2226 : BitVec 32 := 1#32
  let v1594 : BitVec 32 := Scalar.select v1593 c1_i32_2226 c8_i32_2224
  let v1595 : BitVec 32 := Scalar.remsi v1592 v1594
  let c0_i32_2228 : BitVec 32 := 0#32
  let v1597 : BitVec 1 := Scalar.cmpi .slt v1595 c0_i32_2228
  let c0_i32_2229 : BitVec 32 := 0#32
  let v1598 : BitVec 1 := Scalar.cmpi .slt v1594 c0_i32_2229
  let v1599 : BitVec 1 := Scalar.xori v1597 v1598
  let c0_i32_2227 : BitVec 32 := 0#32
  let v1596 : BitVec 1 := Scalar.cmpi .ne v1595 c0_i32_2227
  let v1600 : BitVec 1 := Scalar.andi v1599 v1596
  let v1601 : BitVec 32 := Scalar.addi v1595 v1594
  let v1602 : BitVec 32 := Scalar.select v1600 v1601 v1595
  let c8_i32_2275 : BitVec 32 := 8#32
  let v1633 : BitVec 32 := Scalar.muli v1602 c8_i32_2275
  let c960_i32_2282 : BitVec 32 := 960#32
  let c0_i32_2283 : BitVec 32 := 0#32
  ![v1633.toNat, 960, 0]
def k0_off63 (d0 : Dev nD) (c1_i32_2222 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1591 : BitVec 32 := Scalar.addi v2 c1_i32_2222
  let c1_i32_2223 : BitVec 32 := 1#32
  let v1592 : BitVec 32 := Scalar.addi v1591 c1_i32_2223
  let c8_i32_2224 : BitVec 32 := 8#32
  let c0_i32_2225 : BitVec 32 := 0#32
  let v1593 : BitVec 1 := Scalar.cmpi .eq c8_i32_2224 c0_i32_2225
  let c1_i32_2226 : BitVec 32 := 1#32
  let v1594 : BitVec 32 := Scalar.select v1593 c1_i32_2226 c8_i32_2224
  let v1595 : BitVec 32 := Scalar.remsi v1592 v1594
  let c0_i32_2228 : BitVec 32 := 0#32
  let v1597 : BitVec 1 := Scalar.cmpi .slt v1595 c0_i32_2228
  let c0_i32_2229 : BitVec 32 := 0#32
  let v1598 : BitVec 1 := Scalar.cmpi .slt v1594 c0_i32_2229
  let v1599 : BitVec 1 := Scalar.xori v1597 v1598
  let c0_i32_2227 : BitVec 32 := 0#32
  let v1596 : BitVec 1 := Scalar.cmpi .ne v1595 c0_i32_2227
  let v1600 : BitVec 1 := Scalar.andi v1599 v1596
  let v1601 : BitVec 32 := Scalar.addi v1595 v1594
  let v1602 : BitVec 32 := Scalar.select v1600 v1601 v1595
  let c8_i32_2347 : BitVec 32 := 8#32
  let v1681 : BitVec 32 := Scalar.muli v1602 c8_i32_2347
  let c64_i32_2354 : BitVec 32 := 64#32
  let c0_i32_2355 : BitVec 32 := 0#32
  ![v1681.toNat, 64, 0]
def k0_off64 (d0 : Dev nD) (c1_i32_2222 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1591 : BitVec 32 := Scalar.addi v2 c1_i32_2222
  let c1_i32_2223 : BitVec 32 := 1#32
  let v1592 : BitVec 32 := Scalar.addi v1591 c1_i32_2223
  let c8_i32_2224 : BitVec 32 := 8#32
  let c0_i32_2225 : BitVec 32 := 0#32
  let v1593 : BitVec 1 := Scalar.cmpi .eq c8_i32_2224 c0_i32_2225
  let c1_i32_2226 : BitVec 32 := 1#32
  let v1594 : BitVec 32 := Scalar.select v1593 c1_i32_2226 c8_i32_2224
  let v1595 : BitVec 32 := Scalar.remsi v1592 v1594
  let c0_i32_2228 : BitVec 32 := 0#32
  let v1597 : BitVec 1 := Scalar.cmpi .slt v1595 c0_i32_2228
  let c0_i32_2229 : BitVec 32 := 0#32
  let v1598 : BitVec 1 := Scalar.cmpi .slt v1594 c0_i32_2229
  let v1599 : BitVec 1 := Scalar.xori v1597 v1598
  let c0_i32_2227 : BitVec 32 := 0#32
  let v1596 : BitVec 1 := Scalar.cmpi .ne v1595 c0_i32_2227
  let v1600 : BitVec 1 := Scalar.andi v1599 v1596
  let v1601 : BitVec 32 := Scalar.addi v1595 v1594
  let v1602 : BitVec 32 := Scalar.select v1600 v1601 v1595
  let c8_i32_2356 : BitVec 32 := 8#32
  let v1687 : BitVec 32 := Scalar.muli v1602 c8_i32_2356
  let c128_i32_2363 : BitVec 32 := 128#32
  let c0_i32_2364 : BitVec 32 := 0#32
  ![v1687.toNat, 128, 0]
def k0_off65 (d0 : Dev nD) (c1_i32_2222 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1591 : BitVec 32 := Scalar.addi v2 c1_i32_2222
  let c1_i32_2223 : BitVec 32 := 1#32
  let v1592 : BitVec 32 := Scalar.addi v1591 c1_i32_2223
  let c8_i32_2224 : BitVec 32 := 8#32
  let c0_i32_2225 : BitVec 32 := 0#32
  let v1593 : BitVec 1 := Scalar.cmpi .eq c8_i32_2224 c0_i32_2225
  let c1_i32_2226 : BitVec 32 := 1#32
  let v1594 : BitVec 32 := Scalar.select v1593 c1_i32_2226 c8_i32_2224
  let v1595 : BitVec 32 := Scalar.remsi v1592 v1594
  let c0_i32_2228 : BitVec 32 := 0#32
  let v1597 : BitVec 1 := Scalar.cmpi .slt v1595 c0_i32_2228
  let c0_i32_2229 : BitVec 32 := 0#32
  let v1598 : BitVec 1 := Scalar.cmpi .slt v1594 c0_i32_2229
  let v1599 : BitVec 1 := Scalar.xori v1597 v1598
  let c0_i32_2227 : BitVec 32 := 0#32
  let v1596 : BitVec 1 := Scalar.cmpi .ne v1595 c0_i32_2227
  let v1600 : BitVec 1 := Scalar.andi v1599 v1596
  let v1601 : BitVec 32 := Scalar.addi v1595 v1594
  let v1602 : BitVec 32 := Scalar.select v1600 v1601 v1595
  let c8_i32_2365 : BitVec 32 := 8#32
  let v1693 : BitVec 32 := Scalar.muli v1602 c8_i32_2365
  let c256_i32_2372 : BitVec 32 := 256#32
  let c0_i32_2373 : BitVec 32 := 0#32
  ![v1693.toNat, 256, 0]
def k0_off66 (d0 : Dev nD) (c1_i32_2222 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1591 : BitVec 32 := Scalar.addi v2 c1_i32_2222
  let c1_i32_2223 : BitVec 32 := 1#32
  let v1592 : BitVec 32 := Scalar.addi v1591 c1_i32_2223
  let c8_i32_2224 : BitVec 32 := 8#32
  let c0_i32_2225 : BitVec 32 := 0#32
  let v1593 : BitVec 1 := Scalar.cmpi .eq c8_i32_2224 c0_i32_2225
  let c1_i32_2226 : BitVec 32 := 1#32
  let v1594 : BitVec 32 := Scalar.select v1593 c1_i32_2226 c8_i32_2224
  let v1595 : BitVec 32 := Scalar.remsi v1592 v1594
  let c0_i32_2228 : BitVec 32 := 0#32
  let v1597 : BitVec 1 := Scalar.cmpi .slt v1595 c0_i32_2228
  let c0_i32_2229 : BitVec 32 := 0#32
  let v1598 : BitVec 1 := Scalar.cmpi .slt v1594 c0_i32_2229
  let v1599 : BitVec 1 := Scalar.xori v1597 v1598
  let c0_i32_2227 : BitVec 32 := 0#32
  let v1596 : BitVec 1 := Scalar.cmpi .ne v1595 c0_i32_2227
  let v1600 : BitVec 1 := Scalar.andi v1599 v1596
  let v1601 : BitVec 32 := Scalar.addi v1595 v1594
  let v1602 : BitVec 32 := Scalar.select v1600 v1601 v1595
  let c8_i32_2374 : BitVec 32 := 8#32
  let v1699 : BitVec 32 := Scalar.muli v1602 c8_i32_2374
  let c320_i32_2381 : BitVec 32 := 320#32
  let c0_i32_2382 : BitVec 32 := 0#32
  ![v1699.toNat, 320, 0]
def k0_off67 (d0 : Dev nD) (c1_i32_2222 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1591 : BitVec 32 := Scalar.addi v2 c1_i32_2222
  let c1_i32_2223 : BitVec 32 := 1#32
  let v1592 : BitVec 32 := Scalar.addi v1591 c1_i32_2223
  let c8_i32_2224 : BitVec 32 := 8#32
  let c0_i32_2225 : BitVec 32 := 0#32
  let v1593 : BitVec 1 := Scalar.cmpi .eq c8_i32_2224 c0_i32_2225
  let c1_i32_2226 : BitVec 32 := 1#32
  let v1594 : BitVec 32 := Scalar.select v1593 c1_i32_2226 c8_i32_2224
  let v1595 : BitVec 32 := Scalar.remsi v1592 v1594
  let c0_i32_2228 : BitVec 32 := 0#32
  let v1597 : BitVec 1 := Scalar.cmpi .slt v1595 c0_i32_2228
  let c0_i32_2229 : BitVec 32 := 0#32
  let v1598 : BitVec 1 := Scalar.cmpi .slt v1594 c0_i32_2229
  let v1599 : BitVec 1 := Scalar.xori v1597 v1598
  let c0_i32_2227 : BitVec 32 := 0#32
  let v1596 : BitVec 1 := Scalar.cmpi .ne v1595 c0_i32_2227
  let v1600 : BitVec 1 := Scalar.andi v1599 v1596
  let v1601 : BitVec 32 := Scalar.addi v1595 v1594
  let v1602 : BitVec 32 := Scalar.select v1600 v1601 v1595
  let c8_i32_2383 : BitVec 32 := 8#32
  let v1705 : BitVec 32 := Scalar.muli v1602 c8_i32_2383
  let c448_i32_2390 : BitVec 32 := 448#32
  let c0_i32_2391 : BitVec 32 := 0#32
  ![v1705.toNat, 448, 0]
def k0_off68 (d0 : Dev nD) (c1_i32_2222 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1591 : BitVec 32 := Scalar.addi v2 c1_i32_2222
  let c1_i32_2223 : BitVec 32 := 1#32
  let v1592 : BitVec 32 := Scalar.addi v1591 c1_i32_2223
  let c8_i32_2224 : BitVec 32 := 8#32
  let c0_i32_2225 : BitVec 32 := 0#32
  let v1593 : BitVec 1 := Scalar.cmpi .eq c8_i32_2224 c0_i32_2225
  let c1_i32_2226 : BitVec 32 := 1#32
  let v1594 : BitVec 32 := Scalar.select v1593 c1_i32_2226 c8_i32_2224
  let v1595 : BitVec 32 := Scalar.remsi v1592 v1594
  let c0_i32_2228 : BitVec 32 := 0#32
  let v1597 : BitVec 1 := Scalar.cmpi .slt v1595 c0_i32_2228
  let c0_i32_2229 : BitVec 32 := 0#32
  let v1598 : BitVec 1 := Scalar.cmpi .slt v1594 c0_i32_2229
  let v1599 : BitVec 1 := Scalar.xori v1597 v1598
  let c0_i32_2227 : BitVec 32 := 0#32
  let v1596 : BitVec 1 := Scalar.cmpi .ne v1595 c0_i32_2227
  let v1600 : BitVec 1 := Scalar.andi v1599 v1596
  let v1601 : BitVec 32 := Scalar.addi v1595 v1594
  let v1602 : BitVec 32 := Scalar.select v1600 v1601 v1595
  let c8_i32_2392 : BitVec 32 := 8#32
  let v1711 : BitVec 32 := Scalar.muli v1602 c8_i32_2392
  let c512_i32_2399 : BitVec 32 := 512#32
  let c0_i32_2400 : BitVec 32 := 0#32
  ![v1711.toNat, 512, 0]
def k0_off69 (d0 : Dev nD) (c1_i32_2222 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1591 : BitVec 32 := Scalar.addi v2 c1_i32_2222
  let c1_i32_2223 : BitVec 32 := 1#32
  let v1592 : BitVec 32 := Scalar.addi v1591 c1_i32_2223
  let c8_i32_2224 : BitVec 32 := 8#32
  let c0_i32_2225 : BitVec 32 := 0#32
  let v1593 : BitVec 1 := Scalar.cmpi .eq c8_i32_2224 c0_i32_2225
  let c1_i32_2226 : BitVec 32 := 1#32
  let v1594 : BitVec 32 := Scalar.select v1593 c1_i32_2226 c8_i32_2224
  let v1595 : BitVec 32 := Scalar.remsi v1592 v1594
  let c0_i32_2228 : BitVec 32 := 0#32
  let v1597 : BitVec 1 := Scalar.cmpi .slt v1595 c0_i32_2228
  let c0_i32_2229 : BitVec 32 := 0#32
  let v1598 : BitVec 1 := Scalar.cmpi .slt v1594 c0_i32_2229
  let v1599 : BitVec 1 := Scalar.xori v1597 v1598
  let c0_i32_2227 : BitVec 32 := 0#32
  let v1596 : BitVec 1 := Scalar.cmpi .ne v1595 c0_i32_2227
  let v1600 : BitVec 1 := Scalar.andi v1599 v1596
  let v1601 : BitVec 32 := Scalar.addi v1595 v1594
  let v1602 : BitVec 32 := Scalar.select v1600 v1601 v1595
  let c8_i32_2401 : BitVec 32 := 8#32
  let v1717 : BitVec 32 := Scalar.muli v1602 c8_i32_2401
  let c640_i32_2408 : BitVec 32 := 640#32
  let c0_i32_2409 : BitVec 32 := 0#32
  ![v1717.toNat, 640, 0]
def k0_off70 (d0 : Dev nD) (c1_i32_2222 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1591 : BitVec 32 := Scalar.addi v2 c1_i32_2222
  let c1_i32_2223 : BitVec 32 := 1#32
  let v1592 : BitVec 32 := Scalar.addi v1591 c1_i32_2223
  let c8_i32_2224 : BitVec 32 := 8#32
  let c0_i32_2225 : BitVec 32 := 0#32
  let v1593 : BitVec 1 := Scalar.cmpi .eq c8_i32_2224 c0_i32_2225
  let c1_i32_2226 : BitVec 32 := 1#32
  let v1594 : BitVec 32 := Scalar.select v1593 c1_i32_2226 c8_i32_2224
  let v1595 : BitVec 32 := Scalar.remsi v1592 v1594
  let c0_i32_2228 : BitVec 32 := 0#32
  let v1597 : BitVec 1 := Scalar.cmpi .slt v1595 c0_i32_2228
  let c0_i32_2229 : BitVec 32 := 0#32
  let v1598 : BitVec 1 := Scalar.cmpi .slt v1594 c0_i32_2229
  let v1599 : BitVec 1 := Scalar.xori v1597 v1598
  let c0_i32_2227 : BitVec 32 := 0#32
  let v1596 : BitVec 1 := Scalar.cmpi .ne v1595 c0_i32_2227
  let v1600 : BitVec 1 := Scalar.andi v1599 v1596
  let v1601 : BitVec 32 := Scalar.addi v1595 v1594
  let v1602 : BitVec 32 := Scalar.select v1600 v1601 v1595
  let c8_i32_2410 : BitVec 32 := 8#32
  let v1723 : BitVec 32 := Scalar.muli v1602 c8_i32_2410
  let c704_i32_2417 : BitVec 32 := 704#32
  let c0_i32_2418 : BitVec 32 := 0#32
  ![v1723.toNat, 704, 0]
def k0_off71 (d0 : Dev nD) (c1_i32_2222 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1591 : BitVec 32 := Scalar.addi v2 c1_i32_2222
  let c1_i32_2223 : BitVec 32 := 1#32
  let v1592 : BitVec 32 := Scalar.addi v1591 c1_i32_2223
  let c8_i32_2224 : BitVec 32 := 8#32
  let c0_i32_2225 : BitVec 32 := 0#32
  let v1593 : BitVec 1 := Scalar.cmpi .eq c8_i32_2224 c0_i32_2225
  let c1_i32_2226 : BitVec 32 := 1#32
  let v1594 : BitVec 32 := Scalar.select v1593 c1_i32_2226 c8_i32_2224
  let v1595 : BitVec 32 := Scalar.remsi v1592 v1594
  let c0_i32_2228 : BitVec 32 := 0#32
  let v1597 : BitVec 1 := Scalar.cmpi .slt v1595 c0_i32_2228
  let c0_i32_2229 : BitVec 32 := 0#32
  let v1598 : BitVec 1 := Scalar.cmpi .slt v1594 c0_i32_2229
  let v1599 : BitVec 1 := Scalar.xori v1597 v1598
  let c0_i32_2227 : BitVec 32 := 0#32
  let v1596 : BitVec 1 := Scalar.cmpi .ne v1595 c0_i32_2227
  let v1600 : BitVec 1 := Scalar.andi v1599 v1596
  let v1601 : BitVec 32 := Scalar.addi v1595 v1594
  let v1602 : BitVec 32 := Scalar.select v1600 v1601 v1595
  let c8_i32_2419 : BitVec 32 := 8#32
  let v1729 : BitVec 32 := Scalar.muli v1602 c8_i32_2419
  let c832_i32_2426 : BitVec 32 := 832#32
  let c0_i32_2427 : BitVec 32 := 0#32
  ![v1729.toNat, 832, 0]
def k0_off72 (d0 : Dev nD) (c1_i32_2222 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1591 : BitVec 32 := Scalar.addi v2 c1_i32_2222
  let c1_i32_2223 : BitVec 32 := 1#32
  let v1592 : BitVec 32 := Scalar.addi v1591 c1_i32_2223
  let c8_i32_2224 : BitVec 32 := 8#32
  let c0_i32_2225 : BitVec 32 := 0#32
  let v1593 : BitVec 1 := Scalar.cmpi .eq c8_i32_2224 c0_i32_2225
  let c1_i32_2226 : BitVec 32 := 1#32
  let v1594 : BitVec 32 := Scalar.select v1593 c1_i32_2226 c8_i32_2224
  let v1595 : BitVec 32 := Scalar.remsi v1592 v1594
  let c0_i32_2228 : BitVec 32 := 0#32
  let v1597 : BitVec 1 := Scalar.cmpi .slt v1595 c0_i32_2228
  let c0_i32_2229 : BitVec 32 := 0#32
  let v1598 : BitVec 1 := Scalar.cmpi .slt v1594 c0_i32_2229
  let v1599 : BitVec 1 := Scalar.xori v1597 v1598
  let c0_i32_2227 : BitVec 32 := 0#32
  let v1596 : BitVec 1 := Scalar.cmpi .ne v1595 c0_i32_2227
  let v1600 : BitVec 1 := Scalar.andi v1599 v1596
  let v1601 : BitVec 32 := Scalar.addi v1595 v1594
  let v1602 : BitVec 32 := Scalar.select v1600 v1601 v1595
  let c8_i32_2428 : BitVec 32 := 8#32
  let v1735 : BitVec 32 := Scalar.muli v1602 c8_i32_2428
  let c896_i32_2435 : BitVec 32 := 896#32
  let c0_i32_2436 : BitVec 32 := 0#32
  ![v1735.toNat, 896, 0]
@[reducible] def k0_t3_loop : Scf.Loop 32 :=
  let c0_i32_2547 : BitVec 32 := 0#32
  let c8_i32_2548 : BitVec 32 := 8#32
  let v1817 : BitVec 32 := Scalar.addi c0_i32_2547 c8_i32_2548
  let c1_i32_2549 : BitVec 32 := 1#32
  ⟨c0_i32_2547, v1817, c1_i32_2549⟩
def k0_off73 (k0_t3 : Fin k0_t3_loop.trips) : Fin 4 → Nat :=
  let c1_5191 : Index := 1#32
  let c0_i32_2547 : BitVec 32 := 0#32
  let c1_i32_2549 : BitVec 32 := 1#32
  let arg29 : BitVec 32 := Scf.iv c0_i32_2547 c1_i32_2549 k0_t3
  let v3584 : Index := Scalar.indexCast arg29
  let c0_5192 : Index := 0#32
  let c0_5193 : Index := 0#32
  ![1, v3584.toNat, 0, 0]
def k0_off74 (k0_t3 : Fin k0_t3_loop.trips) : Fin 4 → Nat :=
  let c1_5197 : Index := 1#32
  let c0_i32_2547 : BitVec 32 := 0#32
  let c1_i32_2549 : BitVec 32 := 1#32
  let arg29 : BitVec 32 := Scf.iv c0_i32_2547 c1_i32_2549 k0_t3
  let v3592 : Index := Scalar.indexCast arg29
  let c0_5198 : Index := 0#32
  let c0_5199 : Index := 0#32
  ![1, v3592.toNat, 0, 0]
def k0_off75 (k0_t3 : Fin k0_t3_loop.trips) : Fin 2 → Nat :=
  let c0_5203 : Index := 0#32
  let c0_i32_2547 : BitVec 32 := 0#32
  let c1_i32_2549 : BitVec 32 := 1#32
  let arg29 : BitVec 32 := Scf.iv c0_i32_2547 c1_i32_2549 k0_t3
  let c128_i32_5190 : BitVec 32 := 128#32
  let v3583 : BitVec 32 := Scalar.muli arg29 c128_i32_5190
  let v3600 : Index := Scalar.indexCast v3583
  ![0, v3600.toNat]
def k0_off76 (k0_t3 : Fin k0_t3_loop.trips) : Fin 2 → Nat :=
  let c384_5213 : Index := 384#32
  let c0_i32_2547 : BitVec 32 := 0#32
  let c1_i32_2549 : BitVec 32 := 1#32
  let arg29 : BitVec 32 := Scf.iv c0_i32_2547 c1_i32_2549 k0_t3
  let c128_i32_5190 : BitVec 32 := 128#32
  let v3583 : BitVec 32 := Scalar.muli arg29 c128_i32_5190
  let v3623 : Index := Scalar.indexCast v3583
  ![384, v3623.toNat]
def k0_dev8 (d0 : Dev nD) : Nat :=
  let c0_i32_2598 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2597 : BitVec 32 := 1#32
  let v1853 : BitVec 32 := Scalar.muli v13 c1_i32_2597
  let v1854 : BitVec 32 := Scalar.addi c0_i32_2598 v1853
  v1854.toNat
def k0_dev9 (d0 : Dev nD) : Nat :=
  let c0_i32_2601 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2600 : BitVec 32 := 1#32
  let v1855 : BitVec 32 := Scalar.muli v24 c1_i32_2600
  let v1856 : BitVec 32 := Scalar.addi c0_i32_2601 v1855
  v1856.toNat
def k0_dev10 (d0 : Dev nD) : Nat :=
  let c0_i32_2609 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2608 : BitVec 32 := 1#32
  let v1857 : BitVec 32 := Scalar.muli v24 c1_i32_2608
  let v1858 : BitVec 32 := Scalar.addi c0_i32_2609 v1857
  v1858.toNat
def k0_dev11 (d0 : Dev nD) : Nat :=
  let c0_i32_2621 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2620 : BitVec 32 := 1#32
  let v1867 : BitVec 32 := Scalar.muli v13 c1_i32_2620
  let v1868 : BitVec 32 := Scalar.addi c0_i32_2621 v1867
  v1868.toNat
@[reducible] def k0_t4_loop : Scf.Loop 32 :=
  let c0_i32_3223 : BitVec 32 := 0#32
  let c8_i32_3224 : BitVec 32 := 8#32
  let v2273 : BitVec 32 := Scalar.addi c0_i32_3223 c8_i32_3224
  let c1_i32_3225 : BitVec 32 := 1#32
  ⟨c0_i32_3223, v2273, c1_i32_3225⟩
def k0_off77 (k0_t4 : Fin k0_t4_loop.trips) : Fin 4 → Nat :=
  let c0_5191 : Index := 0#32
  let c0_i32_3223 : BitVec 32 := 0#32
  let c1_i32_3225 : BitVec 32 := 1#32
  let arg29 : BitVec 32 := Scf.iv c0_i32_3223 c1_i32_3225 k0_t4
  let v3584 : Index := Scalar.indexCast arg29
  let c0_5192 : Index := 0#32
  let c0_5193 : Index := 0#32
  ![0, v3584.toNat, 0, 0]
def k0_off78 (k0_t4 : Fin k0_t4_loop.trips) : Fin 4 → Nat :=
  let c0_5197 : Index := 0#32
  let c0_i32_3223 : BitVec 32 := 0#32
  let c1_i32_3225 : BitVec 32 := 1#32
  let arg29 : BitVec 32 := Scf.iv c0_i32_3223 c1_i32_3225 k0_t4
  let v3592 : Index := Scalar.indexCast arg29
  let c0_5198 : Index := 0#32
  let c0_5199 : Index := 0#32
  ![0, v3592.toNat, 0, 0]
def k0_off79 (k0_t4 : Fin k0_t4_loop.trips) : Fin 2 → Nat :=
  let c0_5203 : Index := 0#32
  let c0_i32_3223 : BitVec 32 := 0#32
  let c1_i32_3225 : BitVec 32 := 1#32
  let arg29 : BitVec 32 := Scf.iv c0_i32_3223 c1_i32_3225 k0_t4
  let c128_i32_5190 : BitVec 32 := 128#32
  let v3583 : BitVec 32 := Scalar.muli arg29 c128_i32_5190
  let v3600 : Index := Scalar.indexCast v3583
  ![0, v3600.toNat]
def k0_off80 (k0_t4 : Fin k0_t4_loop.trips) : Fin 2 → Nat :=
  let c384_5213 : Index := 384#32
  let c0_i32_3223 : BitVec 32 := 0#32
  let c1_i32_3225 : BitVec 32 := 1#32
  let arg29 : BitVec 32 := Scf.iv c0_i32_3223 c1_i32_3225 k0_t4
  let c128_i32_5190 : BitVec 32 := 128#32
  let v3583 : BitVec 32 := Scalar.muli arg29 c128_i32_5190
  let v3623 : Index := Scalar.indexCast v3583
  ![384, v3623.toNat]
@[reducible] def k0_t5_loop : Scf.Loop 32 :=
  let c0_i32_3831 : BitVec 32 := 0#32
  let c8_i32_3832 : BitVec 32 := 8#32
  let v2677 : BitVec 32 := Scalar.addi c0_i32_3831 c8_i32_3832
  let c1_i32_3833 : BitVec 32 := 1#32
  ⟨c0_i32_3831, v2677, c1_i32_3833⟩
def k0_off81 (k0_t5 : Fin k0_t5_loop.trips) : Fin 4 → Nat :=
  let c0_5191 : Index := 0#32
  let c0_i32_3831 : BitVec 32 := 0#32
  let c1_i32_3833 : BitVec 32 := 1#32
  let arg29 : BitVec 32 := Scf.iv c0_i32_3831 c1_i32_3833 k0_t5
  let v3584 : Index := Scalar.indexCast arg29
  let c0_5192 : Index := 0#32
  let c0_5193 : Index := 0#32
  ![0, v3584.toNat, 0, 0]
def k0_off82 (k0_t5 : Fin k0_t5_loop.trips) : Fin 4 → Nat :=
  let c0_5197 : Index := 0#32
  let c0_i32_3831 : BitVec 32 := 0#32
  let c1_i32_3833 : BitVec 32 := 1#32
  let arg29 : BitVec 32 := Scf.iv c0_i32_3831 c1_i32_3833 k0_t5
  let v3592 : Index := Scalar.indexCast arg29
  let c0_5198 : Index := 0#32
  let c0_5199 : Index := 0#32
  ![0, v3592.toNat, 0, 0]
def k0_off83 (k0_t5 : Fin k0_t5_loop.trips) : Fin 2 → Nat :=
  let c0_5203 : Index := 0#32
  let c0_i32_3831 : BitVec 32 := 0#32
  let c1_i32_3833 : BitVec 32 := 1#32
  let arg29 : BitVec 32 := Scf.iv c0_i32_3831 c1_i32_3833 k0_t5
  let c128_i32_5190 : BitVec 32 := 128#32
  let v3583 : BitVec 32 := Scalar.muli arg29 c128_i32_5190
  let v3600 : Index := Scalar.indexCast v3583
  ![0, v3600.toNat]
def k0_off84 (k0_t5 : Fin k0_t5_loop.trips) : Fin 2 → Nat :=
  let c384_5213 : Index := 384#32
  let c0_i32_3831 : BitVec 32 := 0#32
  let c1_i32_3833 : BitVec 32 := 1#32
  let arg29 : BitVec 32 := Scf.iv c0_i32_3831 c1_i32_3833 k0_t5
  let c128_i32_5190 : BitVec 32 := 128#32
  let v3583 : BitVec 32 := Scalar.muli arg29 c128_i32_5190
  let v3623 : Index := Scalar.indexCast v3583
  ![384, v3623.toNat]
def k0_dev12 (d0 : Dev nD) : Nat :=
  let c0_i32_3882 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3881 : BitVec 32 := 1#32
  let v2713 : BitVec 32 := Scalar.muli v13 c1_i32_3881
  let v2714 : BitVec 32 := Scalar.addi c0_i32_3882 v2713
  v2714.toNat
def k0_dev13 (d0 : Dev nD) : Nat :=
  let c0_i32_3890 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3889 : BitVec 32 := 1#32
  let v2715 : BitVec 32 := Scalar.muli v24 c1_i32_3889
  let v2716 : BitVec 32 := Scalar.addi c0_i32_3890 v2715
  v2716.toNat
@[reducible] def k0_t6_loop : Scf.Loop 32 :=
  let c0_i32_4492 : BitVec 32 := 0#32
  let c8_i32_4493 : BitVec 32 := 8#32
  let v3121 : BitVec 32 := Scalar.addi c0_i32_4492 c8_i32_4493
  let c1_i32_4494 : BitVec 32 := 1#32
  ⟨c0_i32_4492, v3121, c1_i32_4494⟩
def k0_off85 (k0_t6 : Fin k0_t6_loop.trips) : Fin 4 → Nat :=
  let c1_5191 : Index := 1#32
  let c0_i32_4492 : BitVec 32 := 0#32
  let c1_i32_4494 : BitVec 32 := 1#32
  let arg29 : BitVec 32 := Scf.iv c0_i32_4492 c1_i32_4494 k0_t6
  let v3584 : Index := Scalar.indexCast arg29
  let c0_5192 : Index := 0#32
  let c0_5193 : Index := 0#32
  ![1, v3584.toNat, 0, 0]
def k0_off86 (k0_t6 : Fin k0_t6_loop.trips) : Fin 4 → Nat :=
  let c1_5197 : Index := 1#32
  let c0_i32_4492 : BitVec 32 := 0#32
  let c1_i32_4494 : BitVec 32 := 1#32
  let arg29 : BitVec 32 := Scf.iv c0_i32_4492 c1_i32_4494 k0_t6
  let v3592 : Index := Scalar.indexCast arg29
  let c0_5198 : Index := 0#32
  let c0_5199 : Index := 0#32
  ![1, v3592.toNat, 0, 0]
def k0_off87 (k0_t6 : Fin k0_t6_loop.trips) : Fin 2 → Nat :=
  let c0_5203 : Index := 0#32
  let c0_i32_4492 : BitVec 32 := 0#32
  let c1_i32_4494 : BitVec 32 := 1#32
  let arg29 : BitVec 32 := Scf.iv c0_i32_4492 c1_i32_4494 k0_t6
  let c128_i32_5190 : BitVec 32 := 128#32
  let v3583 : BitVec 32 := Scalar.muli arg29 c128_i32_5190
  let v3600 : Index := Scalar.indexCast v3583
  ![0, v3600.toNat]
def k0_off88 (k0_t6 : Fin k0_t6_loop.trips) : Fin 2 → Nat :=
  let c384_5213 : Index := 384#32
  let c0_i32_4492 : BitVec 32 := 0#32
  let c1_i32_4494 : BitVec 32 := 1#32
  let arg29 : BitVec 32 := Scf.iv c0_i32_4492 c1_i32_4494 k0_t6
  let c128_i32_5190 : BitVec 32 := 128#32
  let v3583 : BitVec 32 := Scalar.muli arg29 c128_i32_5190
  let v3623 : Index := Scalar.indexCast v3583
  ![384, v3623.toNat]
@[reducible] def k0_t7_loop : Scf.Loop 32 :=
  let c0_i32_4786 : BitVec 32 := 0#32
  let c8_i32_4787 : BitVec 32 := 8#32
  let v3309 : BitVec 32 := Scalar.addi c0_i32_4786 c8_i32_4787
  let c1_i32_4788 : BitVec 32 := 1#32
  ⟨c0_i32_4786, v3309, c1_i32_4788⟩
def k0_off89 (k0_t7 : Fin k0_t7_loop.trips) : Fin 4 → Nat :=
  let c1_5191 : Index := 1#32
  let c0_i32_4786 : BitVec 32 := 0#32
  let c1_i32_4788 : BitVec 32 := 1#32
  let arg29 : BitVec 32 := Scf.iv c0_i32_4786 c1_i32_4788 k0_t7
  let v3584 : Index := Scalar.indexCast arg29
  let c0_5192 : Index := 0#32
  let c0_5193 : Index := 0#32
  ![1, v3584.toNat, 0, 0]
def k0_off90 (k0_t7 : Fin k0_t7_loop.trips) : Fin 4 → Nat :=
  let c1_5197 : Index := 1#32
  let c0_i32_4786 : BitVec 32 := 0#32
  let c1_i32_4788 : BitVec 32 := 1#32
  let arg29 : BitVec 32 := Scf.iv c0_i32_4786 c1_i32_4788 k0_t7
  let v3592 : Index := Scalar.indexCast arg29
  let c0_5198 : Index := 0#32
  let c0_5199 : Index := 0#32
  ![1, v3592.toNat, 0, 0]
def k0_off91 (k0_t7 : Fin k0_t7_loop.trips) : Fin 2 → Nat :=
  let c0_5203 : Index := 0#32
  let c0_i32_4786 : BitVec 32 := 0#32
  let c1_i32_4788 : BitVec 32 := 1#32
  let arg29 : BitVec 32 := Scf.iv c0_i32_4786 c1_i32_4788 k0_t7
  let c128_i32_5190 : BitVec 32 := 128#32
  let v3583 : BitVec 32 := Scalar.muli arg29 c128_i32_5190
  let v3600 : Index := Scalar.indexCast v3583
  ![0, v3600.toNat]
def k0_off92 (k0_t7 : Fin k0_t7_loop.trips) : Fin 2 → Nat :=
  let c384_5213 : Index := 384#32
  let c0_i32_4786 : BitVec 32 := 0#32
  let c1_i32_4788 : BitVec 32 := 1#32
  let arg29 : BitVec 32 := Scf.iv c0_i32_4786 c1_i32_4788 k0_t7
  let c128_i32_5190 : BitVec 32 := 128#32
  let v3583 : BitVec 32 := Scalar.muli arg29 c128_i32_5190
  let v3623 : Index := Scalar.indexCast v3583
  ![384, v3623.toNat]
@[reducible] def k0_t8_loop : Scf.Loop 32 :=
  let c0_i32_5099 : BitVec 32 := 0#32
  let c8_i32_5100 : BitVec 32 := 8#32
  let v3511 : BitVec 32 := Scalar.addi c0_i32_5099 c8_i32_5100
  let c1_i32_5101 : BitVec 32 := 1#32
  ⟨c0_i32_5099, v3511, c1_i32_5101⟩
def k0_off93 (k0_t8 : Fin k0_t8_loop.trips) : Fin 4 → Nat :=
  let c0_5191 : Index := 0#32
  let c0_i32_5099 : BitVec 32 := 0#32
  let c1_i32_5101 : BitVec 32 := 1#32
  let arg29 : BitVec 32 := Scf.iv c0_i32_5099 c1_i32_5101 k0_t8
  let v3584 : Index := Scalar.indexCast arg29
  let c0_5192 : Index := 0#32
  let c0_5193 : Index := 0#32
  ![0, v3584.toNat, 0, 0]
def k0_off94 (k0_t8 : Fin k0_t8_loop.trips) : Fin 4 → Nat :=
  let c0_5197 : Index := 0#32
  let c0_i32_5099 : BitVec 32 := 0#32
  let c1_i32_5101 : BitVec 32 := 1#32
  let arg29 : BitVec 32 := Scf.iv c0_i32_5099 c1_i32_5101 k0_t8
  let v3592 : Index := Scalar.indexCast arg29
  let c0_5198 : Index := 0#32
  let c0_5199 : Index := 0#32
  ![0, v3592.toNat, 0, 0]
def k0_off95 (k0_t8 : Fin k0_t8_loop.trips) : Fin 2 → Nat :=
  let c0_5203 : Index := 0#32
  let c0_i32_5099 : BitVec 32 := 0#32
  let c1_i32_5101 : BitVec 32 := 1#32
  let arg29 : BitVec 32 := Scf.iv c0_i32_5099 c1_i32_5101 k0_t8
  let c128_i32_5190 : BitVec 32 := 128#32
  let v3583 : BitVec 32 := Scalar.muli arg29 c128_i32_5190
  let v3600 : Index := Scalar.indexCast v3583
  ![0, v3600.toNat]
def k0_off96 (k0_t8 : Fin k0_t8_loop.trips) : Fin 2 → Nat :=
  let c384_5213 : Index := 384#32
  let c0_i32_5099 : BitVec 32 := 0#32
  let c1_i32_5101 : BitVec 32 := 1#32
  let arg29 : BitVec 32 := Scf.iv c0_i32_5099 c1_i32_5101 k0_t8
  let c128_i32_5190 : BitVec 32 := 128#32
  let v3583 : BitVec 32 := Scalar.muli arg29 c128_i32_5190
  let v3623 : Index := Scalar.indexCast v3583
  ![384, v3623.toNat]
def k0_dev14 (d0 : Dev nD) : Nat :=
  let c0_i32_5192_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5191_r0 : BitVec 32 := 1#32
  let v3584_r0 : BitVec 32 := Scalar.muli v13 c1_i32_5191_r0
  let v3585_r0 : BitVec 32 := Scalar.addi c0_i32_5192_r0 v3584_r0
  v3585_r0.toNat
def k0_dev15 (d0 : Dev nD) : Nat :=
  let c0_i32_5195_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5194_r0 : BitVec 32 := 1#32
  let v3586_r0 : BitVec 32 := Scalar.muli v24 c1_i32_5194_r0
  let v3587_r0 : BitVec 32 := Scalar.addi c0_i32_5195_r0 v3586_r0
  v3587_r0.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S640x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S8x1024x1024 : Shape := ⟨3, ![8, 1024, 1024]⟩
abbrev S1024x8192 : Shape := ⟨2, ![1024, 8192]⟩
abbrev S8x1024x64x128 : Shape := ⟨4, ![8, 1024, 64, 128]⟩
abbrev S8192x1024 : Shape := ⟨2, ![8192, 1024]⟩
abbrev S8x1024x8192 : Shape := ⟨3, ![8, 1024, 8192]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S8x64x1024x1024 : Shape := ⟨4, ![8, 64, 1024, 1024]⟩
abbrev S1x1x1024x1024 : Shape := ⟨4, ![1, 1, 1024, 1024]⟩
abbrev S8x64x1024 : Shape := ⟨3, ![8, 64, 1024]⟩
abbrev S8x64x1024x1 : Shape := ⟨4, ![8, 64, 1024, 1]⟩
abbrev S1x1x1024x1 : Shape := ⟨4, ![1, 1, 1024, 1]⟩
abbrev S8x64x128x1024 : Shape := ⟨4, ![8, 64, 128, 1024]⟩

abbrev nBuf : Space → Nat
  | .hbm => 128
  | .vmem => 0
  | .smem => 0
  | _ => 0

abbrev bufTy : (tb : Table) → Fin (tcTables nBuf tb) → BufTy
  | .hbm, ⟨0, _⟩ => ⟨S8x1024x1024, .bf16⟩
  | .hbm, ⟨1, _⟩ => ⟨S1024x8192, .bf16⟩
  | .hbm, ⟨2, _⟩ => ⟨S8x1024x64x128, .bf16⟩
  | .hbm, ⟨3, _⟩ => ⟨S8x1024x64x128, .bf16⟩
  | .hbm, ⟨4, _⟩ => ⟨S8192x1024, .bf16⟩
  | .hbm, ⟨5, _⟩ => ⟨S8x1024x8192, .f32⟩
  | .hbm, ⟨6, _⟩ => ⟨S8x1024x8192, .bf16⟩
  | .hbm, ⟨7, _⟩ => ⟨S8x1024x64x128, .bf16⟩
  | .hbm, ⟨8, _⟩ => ⟨S1024, .i32⟩
  | .hbm, ⟨9, _⟩ => ⟨S_, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S1024, .i1⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S1024x1, .i32⟩
  | .hbm, ⟨28, _⟩ => ⟨S1024, .i32⟩
  | .hbm, ⟨29, _⟩ => ⟨S_, .i32⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1024, .i32⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S1024, .i32⟩
  | .hbm, ⟨38, _⟩ => ⟨S1024, .i32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S1024, .i1⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S1024, .i32⟩
  | .hbm, ⟨47, _⟩ => ⟨S1x1024, .i32⟩
  | .hbm, ⟨48, _⟩ => ⟨S1024x1024, .i32⟩
  | .hbm, ⟨49, _⟩ => ⟨S1024x1024, .i32⟩
  | .hbm, ⟨50, _⟩ => ⟨S1024x1024, .i1⟩
  | .hbm, ⟨51, _⟩ => ⟨S_, .i32⟩
  | .hbm, ⟨52, _⟩ => ⟨S1x1024, .i32⟩
  | .hbm, ⟨53, _⟩ => ⟨S1x1024, .i1⟩
  | .hbm, ⟨54, _⟩ => ⟨S1024x1024, .i1⟩
  | .hbm, ⟨55, _⟩ => ⟨S1024x1024, .i1⟩
  | .hbm, ⟨56, _⟩ => ⟨S1024x1024, .i32⟩
  | .hbm, ⟨57, _⟩ => ⟨S1024x1024, .i32⟩
  | .hbm, ⟨58, _⟩ => ⟨S1024x1024, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S1024x1024, .i32⟩
  | .hbm, ⟨66, _⟩ => ⟨S1024x1024, .i32⟩
  | .hbm, ⟨67, _⟩ => ⟨S_, .i32⟩
  | .hbm, ⟨68, _⟩ => ⟨S1024x1024, .i32⟩
  | .hbm, ⟨69, _⟩ => ⟨S1024x1024, .i1⟩
  | .hbm, ⟨70, _⟩ => ⟨S_, .i32⟩
  | .hbm, ⟨71, _⟩ => ⟨S1024x1024, .i32⟩
  | .hbm, ⟨72, _⟩ => ⟨S1024x1024, .i1⟩
  | .hbm, ⟨73, _⟩ => ⟨S_, .i32⟩
  | .hbm, ⟨74, _⟩ => ⟨S_, .i1⟩
  | .hbm, ⟨75, _⟩ => ⟨S1024x1024, .i1⟩
  | .hbm, ⟨76, _⟩ => ⟨S1024x1024, .i1⟩
  | .hbm, ⟨77, _⟩ => ⟨S1024x1024, .i1⟩
  | .hbm, ⟨78, _⟩ => ⟨S1024x1024, .i32⟩
  | .hbm, ⟨79, _⟩ => ⟨S1024x1024, .i32⟩
  | .hbm, ⟨80, _⟩ => ⟨S1024x1024, .i32⟩
  | .hbm, ⟨81, _⟩ => ⟨S_, .i32⟩
  | .hbm, ⟨82, _⟩ => ⟨S1024x1024, .i32⟩
  | .hbm, ⟨83, _⟩ => ⟨S1024x1024, .i1⟩
  | .hbm, ⟨84, _⟩ => ⟨S1024x1024, .i1⟩
  | .hbm, ⟨85, _⟩ => ⟨S8x64x1024x1024, .f32⟩
  | .hbm, ⟨86, _⟩ => ⟨S8x64x1024x1024, .bf16⟩
  | .hbm, ⟨87, _⟩ => ⟨S8x64x1024x1024, .f32⟩
  | .hbm, ⟨88, _⟩ => ⟨S_, .f32⟩
  | .hbm, ⟨89, _⟩ => ⟨S8x64x1024x1024, .f32⟩
  | .hbm, ⟨90, _⟩ => ⟨S8x64x1024x1024, .f32⟩
  | .hbm, ⟨91, _⟩ => ⟨S1x1x1024x1024, .i1⟩
  | .hbm, ⟨92, _⟩ => ⟨S_, .f32⟩
  | .hbm, ⟨93, _⟩ => ⟨S_, .f32⟩
  | .hbm, ⟨94, _⟩ => ⟨S8x64x1024x1024, .i1⟩
  | .hbm, ⟨95, _⟩ => ⟨S8x64x1024x1024, .f32⟩
  | .hbm, ⟨96, _⟩ => ⟨S8x64x1024x1024, .f32⟩
  | .hbm, ⟨97, _⟩ => ⟨S_, .f32⟩
  | .hbm, ⟨98, _⟩ => ⟨S8x64x1024, .f32⟩
  | .hbm, ⟨99, _⟩ => ⟨S8x64x1024x1, .f32⟩
  | .hbm, ⟨100, _⟩ => ⟨S8x64x1024x1024, .f32⟩
  | .hbm, ⟨101, _⟩ => ⟨S8x64x1024x1024, .f32⟩
  | .hbm, ⟨102, _⟩ => ⟨S8x64x1024x1024, .f32⟩
  | .hbm, ⟨103, _⟩ => ⟨S_, .i1⟩
  | .hbm, ⟨104, _⟩ => ⟨S1024, .i1⟩
  | .hbm, ⟨105, _⟩ => ⟨S1x1x1024x1, .i1⟩
  | .hbm, ⟨106, _⟩ => ⟨S_, .f32⟩
  | .hbm, ⟨107, _⟩ => ⟨S8x64x1024, .f32⟩
  | .hbm, ⟨108, _⟩ => ⟨S8x64x1024x1, .f32⟩
  | .hbm, ⟨109, _⟩ => ⟨S_, .f32⟩
  | .hbm, ⟨110, _⟩ => ⟨S_, .f32⟩
  | .hbm, ⟨111, _⟩ => ⟨S8x64x1024x1, .i1⟩
  | .hbm, ⟨112, _⟩ => ⟨S8x64x1024x1, .f32⟩
  | .hbm, ⟨113, _⟩ => ⟨S8x64x1024x1, .f32⟩
  | .hbm, ⟨114, _⟩ => ⟨S8x64x1024x1024, .f32⟩
  | .hbm, ⟨115, _⟩ => ⟨S8x64x1024x1024, .f32⟩
  | .hbm, ⟨116, _⟩ => ⟨S1x1x1024x1, .i1⟩
  | .hbm, ⟨117, _⟩ => ⟨S_, .f32⟩
  | .hbm, ⟨118, _⟩ => ⟨S_, .f32⟩
  | .hbm, ⟨119, _⟩ => ⟨S8x64x1024x1024, .i1⟩
  | .hbm, ⟨120, _⟩ => ⟨S8x64x1024x1024, .f32⟩
  | .hbm, ⟨121, _⟩ => ⟨S8x64x1024x1024, .f32⟩
  | .hbm, ⟨122, _⟩ => ⟨S8x1024x64x128, .f32⟩
  | .hbm, ⟨123, _⟩ => ⟨S8x64x128x1024, .f32⟩
  | .hbm, ⟨124, _⟩ => ⟨S8x1024x64x128, .f32⟩
  | .hbm, ⟨125, _⟩ => ⟨S8x1024x8192, .f32⟩
  | .hbm, ⟨126, _⟩ => ⟨S8192x1024, .f32⟩
  | .hbm, ⟨127, _⟩ => ⟨S8x1024x1024, .f32⟩
  | _, _ => ⟨S8x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v19 : Ref sig .tc := ⟨.hbm, 80, rfl⟩
abbrev main_c_3 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_4 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v29 : Ref sig .tc := ⟨.hbm, 96, rfl⟩
abbrev main_cst_5 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_c_6 : Ref sig .tc := ⟨.hbm, 103, rfl⟩
abbrev main_v35 : Ref sig .tc := ⟨.hbm, 104, rfl⟩
abbrev main_v36 : Ref sig .tc := ⟨.hbm, 105, rfl⟩
abbrev main_cst_7 : Ref sig .tc := ⟨.hbm, 106, rfl⟩
abbrev main_v37 : Ref sig .tc := ⟨.hbm, 107, rfl⟩
abbrev main_v38 : Ref sig .tc := ⟨.hbm, 108, rfl⟩
abbrev main_cst_8 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_cst_9 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Prog.lean ====
/- The kernel's body in its own words: the copies a group's keys and values arrive by, the remote copies round
   the ring, one group's computation, and the sequence of them a device runs. -/
module

public import proofs.«01_k».proof.Proof.Gen.KernelIdeal

@[expose] public section

noncomputable section

namespace Cert.KernelIdeal.Body

open Idealize.ShloMosaic Idealize.SL.Sem Cert.KernelIdeal Cert.KernelIdeal.Gen

variable {F : FTy → Type} [FloatOps F] [Named F]

/-- A program of the body. -/
abbrev BProg (F : FTy → Type) [FloatOps F] [Named F] (α : Type) := Prog (TpuEff nD τ sig (Elt F) Λ₀ .tc) α

/-! ## Runs of local copies -/

/-- One local copy: eight heads of one band of 64 keys or values into its place in a slot. -/
structure Copy where
  src : Memref sig .tc .hbm S8x64x128 .bf16
  dst : Memref sig .tc .vmem S8x64x128 .bf16
  sem : DmaSem sig
  hsrc : src.view.WordExact
  hdst : dst.view.WordExact

/-- Start one copy. -/
def Copy.start (c : Copy) : TpuEff nD τ sig (Elt F) Λ₀ .tc PUnit :=
  .enqueueDma c.src (.here c.dst) (.dma c.sem) c.hsrc c.hdst ⟨Or.inl rfl, trivial⟩

/-- Wait for one copy. -/
def Copy.await (c : Copy) : TpuEff nD τ sig (Elt F) Λ₀ .tc PUnit :=
  .waitDma2 c.sem c.src c.dst c.hsrc c.hdst

/-- Start the copies of a list in order. -/
def startAll : List Copy → BProg F PUnit
  | [] => .ret ⟨⟩
  | c :: cs => .op c.start fun _ => startAll cs

/-- Wait for the copies of a list in order. -/
def waitAll : List Copy → BProg F PUnit
  | [] => .ret ⟨⟩
  | c :: cs => .op c.await fun _ => waitAll cs

/-- Where a band's rows of the group's heads start in the keys (or the values), the words they start on. -/
structure Bands where
  off : Fin 16 → Fin 3 → Nat
  inb : ∀ b a, off b a + S8x64x128.size a ≤ S64x1024x128.size a
  words : ∀ b, (Rect.unit (s := S64x1024x128) (off b) S8x64x128.size (inb b)).WholeWords (EltTy.packing .bf16)

/-- The bands a query row of the first kind attends to. -/
def band0 : Fin 6 → Fin 16 := ![0, 3, 6, 9, 12, 15]
/-- The bands the other rows look at (some of them masked). -/
def band12 : Fin 11 → Fin 16 := ![0, 1, 2, 4, 5, 7, 8, 10, 11, 13, 14]

theorem inb34 (slot : Fin 2) {j : Nat} (h : j < 34) : ∀ a, ![slot.val, j] a + S1x1.size a ≤ S2x34.size a := by
  have := slot.isLt
  intro a; fin_cases a <;> simp <;> omega

theorem inb384 (slot : Fin 2) (i : Fin 6) : ∀ a, ![slot.val, 0, 64 * i.val, 0] a + S1x8x64x128.size a ≤ S2x8x384x128.size a := by
  have := slot.isLt; have := i.isLt
  intro a; fin_cases a <;> simp <;> omega

theorem inb704 (slot : Fin 2) (i : Fin 11) : ∀ a, ![slot.val, 0, 64 * i.val, 0] a + S1x8x64x128.size a ≤ S2x8x704x128.size a := by
  have := slot.isLt; have := i.isLt
  intro a; fin_cases a <;> simp <;> omega

theorem words384 : ∀ (slot : Fin 2) (i : Fin 6), (Rect.unit (s := S2x8x384x128) ![slot.val, 0, 64 * i.val, 0] S1x8x64x128.size
    (inb384 slot i)).WholeWords (EltTy.packing .bf16) := by decide +kernel

theorem words704 : ∀ (slot : Fin 2) (i : Fin 11), (Rect.unit (s := S2x8x704x128) ![slot.val, 0, 64 * i.val, 0] S1x8x64x128.size
    (inb704 slot i)).WholeWords (EltTy.packing .bf16) := by decide +kernel

/-- The semaphore of copy `j` of a slot. -/
def kvSem (sems : DmaSems sig S2x34) (slot : Fin 2) (j : Nat) (h : j < 34) : DmaSem sig :=
  ((sems.slice (Rect.unit (s := S2x34) ![slot.val, j] S1x1.size (inb34 slot h))).squeeze S_ squeezes_S1x1_S_).sem

/-- Copy `i` of the bands of the first kind. -/
def copy0 (src : Memref sig .tc .hbm S64x1024x128 .bf16) (hs : src.IsWhole) (dst : Memref sig .tc .vmem S2x8x384x128 .bf16)
    (hd : dst.IsWhole) (sems : DmaSems sig S2x34) (base : Nat) (hb : base + 6 ≤ 34) (slot : Fin 2) (B : Bands) (i : Fin 6) : Copy where
  src := src.slice (Rect.unit (s := S64x1024x128) (B.off (band0 i)) S8x64x128.size (B.inb (band0 i))) (fun _ => rfl)
  dst := (dst.slice (Rect.unit (s := S2x8x384x128) ![slot.val, 0, 64 * i.val, 0] S1x8x64x128.size (inb384 slot i)) (fun _ => rfl)).squeeze
    S8x64x128 squeezes_S1x8x64x128_S8x64x128
  sem := kvSem sems slot (base + i.val) (by have := i.isLt; omega)
  hsrc := hs.wordExact_slice rfl _ (B.words _)
  hdst := (hd.wordExact_slice rfl _ (words384 slot i)).reshape _ _

/-- Copy `i` of the other rows' bands. -/
def copy12 (src : Memref sig .tc .hbm S64x1024x128 .bf16) (hs : src.IsWhole) (dst : Memref sig .tc .vmem S2x8x704x128 .bf16)
    (hd : dst.IsWhole) (sems : DmaSems sig S2x34) (base : Nat) (hb : base + 11 ≤ 34) (slot : Fin 2) (B : Bands) (i : Fin 11) : Copy where
  src := src.slice (Rect.unit (s := S64x1024x128) (B.off (band12 i)) S8x64x128.size (B.inb (band12 i))) (fun _ => rfl)
  dst := (dst.slice (Rect.unit (s := S2x8x704x128) ![slot.val, 0, 64 * i.val, 0] S1x8x64x128.size (inb704 slot i)) (fun _ => rfl)).squeeze
    S8x64x128 squeezes_S1x8x64x128_S8x64x128
  sem := kvSem sems slot (base + i.val) (by have := i.isLt; omega)
  hsrc := hs.wordExact_slice rfl _ (B.words _)
  hdst := (hd.wordExact_slice rfl _ (words704 slot i)).reshape _ _

/-- The transposed keys and values. -/
abbrev kt : Memref sig .tc .hbm S64x1024x128 .bf16 := Memref.whole main_v8
abbrev vt : Memref sig .tc .hbm S64x1024x128 .bf16 := Memref.whole main_v9

/-- One direction's buffers for keys and values, and the semaphores of its copies. -/
structure Kv where
  k0 : Memref sig .tc .vmem S2x8x384x128 .bf16
  k12 : Memref sig .tc .vmem S2x8x704x128 .bf16
  v0 : Memref sig .tc .vmem S2x8x384x128 .bf16
  v12 : Memref sig .tc .vmem S2x8x704x128 .bf16
  hk0 : k0.IsWhole
  hk12 : k12.IsWhole
  hv0 : v0.IsWhole
  hv12 : v12.IsWhole
  sems : DmaSems sig S2x34

/-- The right-going ring's. -/
def kvCw : Kv := ⟨Memref.whole cc0_scratch6, Memref.whole cc0_scratch7, Memref.whole cc0_scratch8, Memref.whole cc0_scratch9,
  Memref.isWhole_whole _, Memref.isWhole_whole _, Memref.isWhole_whole _, Memref.isWhole_whole _, cc0_scratch18⟩
/-- The left-going ring's. -/
def kvCcw : Kv := ⟨Memref.whole cc0_scratch10, Memref.whole cc0_scratch11, Memref.whole cc0_scratch12, Memref.whole cc0_scratch13,
  Memref.isWhole_whole _, Memref.isWhole_whole _, Memref.isWhole_whole _, Memref.isWhole_whole _, cc0_scratch19⟩

/-- The 34 copies of one group's keys and values into slot `slot`. -/
def copies (K : Kv) (slot : Fin 2) (B : Bands) : List Copy :=
  List.ofFn (copy0 kt (Memref.isWhole_whole _) K.k0 K.hk0 K.sems 0 (by decide) slot B)
    ++ (List.ofFn (copy0 vt (Memref.isWhole_whole _) K.v0 K.hv0 K.sems 6 (by decide) slot B)
    ++ (List.ofFn (copy12 kt (Memref.isWhole_whole _) K.k12 K.hk12 K.sems 12 (by decide) slot B)
    ++ List.ofFn (copy12 vt (Memref.isWhole_whole _) K.v12 K.hv12 K.sems 23 (by decide) slot B)))

/-- The bands of the device's own group. -/
def bandsOwn (d : Dev nD) : Bands where
  off := ![k0_off1 d, k0_off7 d, k0_off8 d, k0_off2 d, k0_off9 d, k0_off10 d, k0_off3 d, k0_off11 d, k0_off12 d, k0_off4 d, k0_off13 d,
    k0_off14 d, k0_off5 d, k0_off15 d, k0_off16 d, k0_off6 d]
  inb := by revert d; decide +kernel
  words := by revert d; decide +kernel

/-- The bands of the group `w + 1` before the device's own. -/
def bandsCw (d : Dev nD) (w : Fin 4) : Bands where
  off := ![k0_off17 d (BitVec.ofNat 32 w.val), k0_off23 d (BitVec.ofNat 32 w.val), k0_off24 d (BitVec.ofNat 32 w.val),
    k0_off18 d (BitVec.ofNat 32 w.val), k0_off25 d (BitVec.ofNat 32 w.val), k0_off26 d (BitVec.ofNat 32 w.val),
    k0_off19 d (BitVec.ofNat 32 w.val), k0_off27 d (BitVec.ofNat 32 w.val), k0_off28 d (BitVec.ofNat 32 w.val),
    k0_off20 d (BitVec.ofNat 32 w.val), k0_off29 d (BitVec.ofNat 32 w.val), k0_off30 d (BitVec.ofNat 32 w.val),
    k0_off21 d (BitVec.ofNat 32 w.val), k0_off31 d (BitVec.ofNat 32 w.val), k0_off32 d (BitVec.ofNat 32 w.val),
    k0_off22 d (BitVec.ofNat 32 w.val)]
  inb := by revert d w; decide +kernel
  words := by revert d w; decide +kernel

/-- The bands of the group after the device's own. -/
def bandsNext (d : Dev nD) : Bands where
  off := ![k0_off33 d, k0_off39 d, k0_off40 d, k0_off34 d, k0_off41 d, k0_off42 d, k0_off35 d, k0_off43 d, k0_off44 d, k0_off36 d,
    k0_off45 d, k0_off46 d, k0_off37 d, k0_off47 d, k0_off48 d, k0_off38 d]
  inb := by revert d; decide +kernel
  words := by revert d; decide +kernel

/-- The bands of the group `w + 2` after the device's own. -/
def bandsCcw (d : Dev nD) (w : Fin 2) : Bands where
  off := ![k0_off57 d (BitVec.ofNat 32 (1 + w.val)), k0_off63 d (BitVec.ofNat 32 (1 + w.val)), k0_off64 d (BitVec.ofNat 32 (1 + w.val)),
    k0_off58 d (BitVec.ofNat 32 (1 + w.val)), k0_off65 d (BitVec.ofNat 32 (1 + w.val)), k0_off66 d (BitVec.ofNat 32 (1 + w.val)),
    k0_off59 d (BitVec.ofNat 32 (1 + w.val)), k0_off67 d (BitVec.ofNat 32 (1 + w.val)), k0_off68 d (BitVec.ofNat 32 (1 + w.val)),
    k0_off60 d (BitVec.ofNat 32 (1 + w.val)), k0_off69 d (BitVec.ofNat 32 (1 + w.val)), k0_off70 d (BitVec.ofNat 32 (1 + w.val)),
    k0_off61 d (BitVec.ofNat 32 (1 + w.val)), k0_off71 d (BitVec.ofNat 32 (1 + w.val)), k0_off72 d (BitVec.ofNat 32 (1 + w.val)),
    k0_off62 d (BitVec.ofNat 32 (1 + w.val))]
  inb := by revert d w; decide +kernel
  words := by revert d w; decide +kernel

/-! ## The ring -/

/-- The device before and the device after. -/
abbrev left (d : Dev nD) : Dev nD := ⟨k0_dev1 d, k0_dev1_lt d⟩
abbrev right (d : Dev nD) : Dev nD := ⟨k0_dev2 d, k0_dev2_lt d⟩

/-- The two slots of weights of the right-going ring, and of the left-going ring. -/
abbrev cwM : Memref sig .tc .vmem S2x2048x1024 .bf16 := Memref.whole cc0_scratch0
abbrev ccwM : Memref sig .tc .vmem S2x2048x1024 .bf16 := Memref.whole cc0_scratch1

theorem inbSlot (slot : Fin 2) : ∀ a, ![slot.val, 0, 0] a + S1x2048x1024.size a ≤ S2x2048x1024.size a := by
  have := slot.isLt
  intro a; fin_cases a <;> simp <;> omega

theorem wordsSlot : ∀ slot : Fin 2, (Rect.unit (s := S2x2048x1024) ![slot.val, 0, 0] S1x2048x1024.size
    (inbSlot slot)).WholeWords (EltTy.packing .bf16) := by decide +kernel

/-- A slot of weights. -/
def slotM (a : Memref sig .tc .vmem S2x2048x1024 .bf16) (slot : Fin 2) : Memref sig .tc .vmem S2048x1024 .bf16 :=
  (a.slice (Rect.unit (s := S2x2048x1024) ![slot.val, 0, 0] S1x2048x1024.size (inbSlot slot)) (fun _ => rfl)).squeeze
    S2048x1024 squeezes_S1x2048x1024_S2048x1024

theorem slotM_exact (a : Memref sig .tc .vmem S2x2048x1024 .bf16) (ha : a.IsWhole) (slot : Fin 2) : (slotM a slot).view.WordExact :=
  (ha.wordExact_slice rfl _ (wordsSlot slot)).reshape _ _

theorem inbS2 (slot : Fin 2) : ∀ a, ![slot.val] a + S1.size a ≤ S2.size a := by
  have := slot.isLt
  intro a; fin_cases a; simp; omega

/-- A slot's semaphore. -/
def sem2 (a : DmaSems sig S2) (slot : Fin 2) : DmaSem sig :=
  ((a.slice (Rect.unit (s := S2) ![slot.val] S1.size (inbS2 slot))).squeeze S_ squeezes_S1_S_).sem

/-- A remote copy of slot `s` of `a` into slot `t` of `b` of device `dev`. -/
def ringStart (dev : Dev nD) (a : Memref sig .tc .vmem S2x2048x1024 .bf16) (ha : a.IsWhole) (s : Fin 2)
    (b : Memref sig .tc .vmem S2x2048x1024 .bf16) (hb : b.IsWhole) (t : Fin 2) (send recv : DmaSem sig) :
    TpuEff nD τ sig (Elt F) Λ₀ .tc PUnit :=
  .enqueueDma (slotM a s) (.remote (Dev.tc dev) (slotM b t) (.dma send)) (.dma recv) (slotM_exact a ha s) (slotM_exact b hb t)
    ⟨⟨rfl, Or.inl rfl⟩, trivial⟩

/-- The wait for a remote copy: its outgoing side, then the incoming one. -/
def ringWait (a : Memref sig .tc .vmem S2x2048x1024 .bf16) (ha : a.IsWhole) (s : Fin 2)
    (b : Memref sig .tc .vmem S2x2048x1024 .bf16) (hb : b.IsWhole) (t : Fin 2) (send recv : DmaSem sig) : BProg F PUnit :=
  .op (.waitDma2 send (slotM b t) (slotM a s) (slotM_exact b hb t) (slotM_exact a ha s)) fun _ =>
  .op (.waitDma2 recv (slotM a s) (slotM b t) (slotM_exact a ha s) (slotM_exact b hb t)) fun _ => .ret ⟨⟩

/-! ## One group's computation -/

abbrev xpM : Memref sig .tc .vmem S1024x1024 .bf16 := Memref.whole cc0_scratch2
abbrev accM : Memref sig .tc .vmem S1024x1024 .f32 := Memref.whole cc0_scratch3
abbrev qM : Memref sig .tc .vmem S1024x1024 .bf16 := Memref.whole cc0_scratch4
abbrev ctxM : Memref sig .tc .vmem S1024x1024 .bf16 := Memref.whole cc0_scratch5

/-- A whole load of a square array. -/
def loadSq {e : EltTy} (a : Memref sig .tc .vmem S1024x1024 e) : TpuEff nD τ sig (Elt F) Λ₀ .tc (Vec F S1024x1024 e) :=
  .load a (Rect.unit (s := S1024x1024) ![0, 0] S1024x1024.size inb_S1024x1024_S1024x1024_0_0).toLoadRect (View.loadsAt_vmem h_S1024x1024)

/-- A whole store of a square bf16 array. -/
def storeSq (a : Memref sig .tc .vmem S1024x1024 .bf16) (ha : a.IsWhole) (v : FVec F S1024x1024 .bf16) :
    TpuEff nD τ sig (Elt F) Λ₀ .tc PUnit :=
  .store a (Rect.unit (s := S1024x1024) ![0, 0] S1024x1024.size inb_S1024x1024_S1024x1024_0_0) v Finset.univ
    (View.stores_vmem h_S1024x1024 (ha.storeExact_slice rfl _ packedbf16_S1024x1024_S1024x1024_0_0) (fun _ => rfl)) (.inl rfl)

/-- A whole store of the accumulator. -/
def storeAcc (v : FVec F S1024x1024 .f32) : TpuEff nD τ sig (Elt F) Λ₀ .tc PUnit :=
  .store accM (Rect.unit (s := S1024x1024) ![0, 0] S1024x1024.size inb_S1024x1024_S1024x1024_0_0) v Finset.univ
    (View.stores_vmem_bits_univ h_S1024x1024 rfl) (.inl rfl)

theorem inbHalf (slot half : Fin 2) : ∀ a, ![slot.val, 1024 * half.val, 0] a + S1x1024x1024.size a ≤ S2x2048x1024.size a := by
  have := slot.isLt; have := half.isLt
  intro a; fin_cases a <;> simp <;> omega

theorem packedHalf : ∀ slot half : Fin 2, (Rect.unit (s := S2x2048x1024) ![slot.val, 1024 * half.val, 0] S1x1024x1024.size
    (inbHalf slot half)).PackedRows (EltTy.packing .bf16) := by decide +kernel

/-- Half of a slot: the query weights (0) or the output weights (1). -/
def loadHalf (a : Memref sig .tc .vmem S2x2048x1024 .bf16) (slot half : Fin 2) :
    TpuEff nD τ sig (Elt F) Λ₀ .tc (Vec F S1x1024x1024 .bf16) :=
  .load a (Rect.unit (s := S2x2048x1024) ![slot.val, 1024 * half.val, 0] S1x1024x1024.size (inbHalf slot half)).toLoadRect
    (View.loadsAt_vmem h_S1x1024x1024)

/-- The store of half of a slot. -/
def storeHalf (a : Memref sig .tc .vmem S2x2048x1024 .bf16) (ha : a.IsWhole) (slot half : Fin 2) (v : FVec F S1x1024x1024 .bf16) :
    TpuEff nD τ sig (Elt F) Λ₀ .tc PUnit :=
  .store a (Rect.unit (s := S2x2048x1024) ![slot.val, 1024 * half.val, 0] S1x1024x1024.size (inbHalf slot half)) v Finset.univ
    (View.stores_vmem h_S1x1024x1024 (ha.storeExact_slice rfl _ (packedHalf slot half)) (fun _ => rfl)) (.inl rfl)

/-- The queries of a group. -/
def qOf (xp : FVec F S1024x1024 .bf16) (w : Vec F S1x1024x1024 .bf16) : FVec F S1024x1024 .bf16 :=
  shapeCast S1024x1024 (truncf .bf16 (matmul dot_S1024x1024_S1024x1024_S1024x1024_1_0_0_1_n_n none xp
    (shapeCast S1024x1024 w shapeCasts_S1x1024x1024_S1024x1024 : FVec F S1024x1024 .bf16) (constant S1024x1024 .f32 0x00000000#32)) bitsLt_bf16_f32)
    shapeCasts_S1024x1024_S1024x1024

/-- What a group adds to the accumulator. -/
def accOf (acc : FVec F S1024x1024 .f32) (ctx : FVec F S1024x1024 .bf16) (w : Vec F S1x1024x1024 .bf16) : FVec F S1024x1024 .f32 :=
  shapeCast S1024x1024 (addf acc (matmul dot_S1024x1024_S1024x1024_S1024x1024_1_0_0_1_n_n none ctx
    (shapeCast S1024x1024 w shapeCasts_S1x1024x1024_S1024x1024 : FVec F S1024x1024 .bf16) (constant S1024x1024 .f32 0x00000000#32)))
    shapeCasts_S1024x1024_S1024x1024

/-- Attention of the rows of the first kind. -/
def ctx0Of (k v : Vec F S1x1x384x128 .bf16) (q : Vec F S384x128 .bf16) : FVec F S384x128 .bf16 :=
  let k' : FVec F S384x128 .bf16 := shapeCast S384x128 (shapeCast S1x384x128 k shapeCasts_S1x1x384x128_S1x384x128 : FVec F S1x384x128 .bf16)
    shapeCasts_S1x384x128_S384x128
  let v' : FVec F S384x128 .bf16 := shapeCast S384x128 (shapeCast S1x384x128 v shapeCasts_S1x1x384x128_S1x384x128 : FVec F S1x384x128 .bf16)
    shapeCasts_S1x384x128_S384x128
  let w : FVec F S384x384 .f32 := exp (mulf (matmul dot_S384x128_S384x128_S384x384_1_1_0_0_n_n none q k' (constant S384x384 .f32 0x00000000#32))
    (broadcast S384x384 (Scalar.ofBits .f32 0x3DB504F3#32)))
  let r : FVec F S384x1 .f32 := divf (broadcast S384x1 (Scalar.ofBits .f32 0x3F800000#32))
    (shapeCast S384x1 (multiReduction .add [1] S384 w 0x00000000#32 reduces_S384x384_S384 (.inl rfl) rfl) shapeCasts_S384_S384x1)
  shapeCast S384x128 (truncf .bf16 (mulf (matmul dot_S384x384_S384x128_S384x128_1_0_0_1_n_n none (truncf .bf16 w bitsLt_bf16_f32) v'
    (constant S384x128 .f32 0x00000000#32)) (broadcastTo S384x128 r broadcasts_S384x1_S384x128)) bitsLt_bf16_f32) shapeCasts_S384x128_S384x128

/-- Attention of the other rows, under the mask. -/
def ctx12Of (k v : Vec F S1x1x704x128 .bf16) (b : Vec F S640x704 .f32) (q : Vec F S640x128 .bf16) : FVec F S640x128 .bf16 :=
  let k' : FVec F S704x128 .bf16 := shapeCast S704x128 (shapeCast S1x704x128 k shapeCasts_S1x1x704x128_S1x704x128 : FVec F S1x704x128 .bf16)
    shapeCasts_S1x704x128_S704x128
  let v' : FVec F S704x128 .bf16 := shapeCast S704x128 (shapeCast S1x704x128 v shapeCasts_S1x1x704x128_S1x704x128 : FVec F S1x704x128 .bf16)
    shapeCasts_S1x704x128_S704x128
  let bias : FVec F S640x704 .f32 := mulf (shapeCast S640x704 b shapeCasts_S640x704_S640x704)
    (broadcast S640x704 (Named.named κ "mask" 0xCE6E6B28#32))
  let w : FVec F S640x704 .f32 := exp (addf (mulf (matmul dot_S640x128_S704x128_S640x704_1_1_0_0_n_n none q k'
    (constant S640x704 .f32 0x00000000#32)) (broadcast S640x704 (Scalar.ofBits .f32 0x3DB504F3#32))) bias)
  let r : FVec F S640x1 .f32 := divf (broadcast S640x1 (Scalar.ofBits .f32 0x3F800000#32))
    (shapeCast S640x1 (multiReduction .add [1] S640 w 0x00000000#32 reduces_S640x704_S640 (.inl rfl) rfl) shapeCasts_S640_S640x1)
  shapeCast S640x128 (truncf .bf16 (mulf (matmul dot_S640x704_S704x128_S640x128_1_0_0_1_n_n none (truncf .bf16 w bitsLt_bf16_f32) v'
    (constant S640x128 .f32 0x00000000#32)) (broadcastTo S640x128 r broadcasts_S640x1_S640x128)) bitsLt_bf16_f32) shapeCasts_S640x128_S640x128

/-- The head's number, as the loop counts. -/
abbrev headWord (t : Fin k0_t1_loop.trips) : BitVec 32 := Scf.iv 0#32 1#32 t

/-- Where a head's keys or values start in a slot; where its columns start, for the two kinds of rows. -/
def offKv (slot : Fin 2) (t : Fin k0_t1_loop.trips) : Fin 4 → Nat := ![slot.val, (Scalar.indexCast (headWord t)).toNat, 0, 0]
def offQ (row : Nat) (t : Fin k0_t1_loop.trips) : Fin 2 → Nat := ![row, (Scalar.indexCast (Scalar.muli (headWord t) 128#32)).toNat]

theorem offKv_eq : ∀ (slot : Fin 2) (t : Fin k0_t1_loop.trips), offKv slot t = ![slot.val, t.val, 0, 0] := by decide +kernel
theorem offQ0_eq : ∀ t : Fin k0_t1_loop.trips, offQ 0 t = ![0, 128 * t.val] := by decide +kernel
theorem offQ384_eq : ∀ t : Fin k0_t1_loop.trips, offQ 384 t = ![384, 128 * t.val] := by decide +kernel

theorem inbKv0 : ∀ (slot : Fin 2) (t : Fin k0_t1_loop.trips) a, offKv slot t a + S1x1x384x128.size a ≤ S2x8x384x128.size a := by decide +kernel
theorem inbKv12 : ∀ (slot : Fin 2) (t : Fin k0_t1_loop.trips) a, offKv slot t a + S1x1x704x128.size a ≤ S2x8x704x128.size a := by decide +kernel

/-- One head. -/
def head (K : Kv) (slot : Fin 2) (m12 : Memref sig .tc .vmem S640x704 .f32) (t : Fin k0_t1_loop.trips) : BProg F PUnit := do
  let k0 : Vec F S1x1x384x128 .bf16 ← Prog.lift (.load K.k0 (Rect.unit (s := S2x8x384x128) (offKv slot t) S1x1x384x128.size (inbKv0 slot t)).toLoadRect
    (View.loadsAt_vmem h_S1x1x384x128))
  let v0 : Vec F S1x1x384x128 .bf16 ← Prog.lift (.load K.v0 (Rect.unit (s := S2x8x384x128) (offKv slot t) S1x1x384x128.size (inbKv0 slot t)).toLoadRect
    (View.loadsAt_vmem h_S1x1x384x128))
  let k12 : Vec F S1x1x704x128 .bf16 ← Prog.lift (.load K.k12 (Rect.unit (s := S2x8x704x128) (offKv slot t) S1x1x704x128.size (inbKv12 slot t)).toLoadRect
    (View.loadsAt_vmem h_S1x1x704x128))
  let v12 : Vec F S1x1x704x128 .bf16 ← Prog.lift (.load K.v12 (Rect.unit (s := S2x8x704x128) (offKv slot t) S1x1x704x128.size (inbKv12 slot t)).toLoadRect
    (View.loadsAt_vmem h_S1x1x704x128))
  let q0 : Vec F S384x128 .bf16 ← Prog.lift (.load qM (Rect.unit (s := S1024x1024) (offQ 0 t) S384x128.size (k0_off51_inb t)).toLoadRect
    (View.loadsAt_vmem h_S384x128))
  let _ : Vec F S384x128 .bf16 ← Prog.lift (.load ctxM (Rect.unit (s := S1024x1024) (offQ 0 t) S384x128.size (k0_off51_inb t)).toLoadRect
    (View.loadsAt_vmem h_S384x128))
  Prog.lift (.store ctxM (Rect.unit (s := S1024x1024) (offQ 0 t) S384x128.size (k0_off51_inb t)) (ctx0Of k0 v0 q0) Finset.univ
    (View.stores_vmem h_S384x128 ((Memref.isWhole_whole _).storeExact_slice rfl _ (k0_off51_packedbf16 t)) (fun _ => rfl)) (.inl rfl))
  let b : Vec F S640x704 .f32 ← Prog.lift (.load m12 (Rect.unit (s := S640x704) ![0, 0] S640x704.size inb_S640x704_S640x704_0_0).toLoadRect
    (View.loadsAt_vmem h_S640x704))
  let q1 : Vec F S640x128 .bf16 ← Prog.lift (.load qM (Rect.unit (s := S1024x1024) (offQ 384 t) S640x128.size (k0_off52_inb t)).toLoadRect
    (View.loadsAt_vmem h_S640x128))
  let _ : Vec F S640x128 .bf16 ← Prog.lift (.load ctxM (Rect.unit (s := S1024x1024) (offQ 384 t) S640x128.size (k0_off52_inb t)).toLoadRect
    (View.loadsAt_vmem h_S640x128))
  Prog.lift (.store ctxM (Rect.unit (s := S1024x1024) (offQ 384 t) S640x128.size (k0_off52_inb t)) (ctx12Of k12 v12 b q1) Finset.univ
    (View.stores_vmem h_S640x128 ((Memref.isWhole_whole _).storeExact_slice rfl _ (k0_off52_packedbf16 t)) (fun _ => rfl)) (.inl rfl))

/-- One group's queries from its weights in slot `slot` of `a`; the output weights are handed on. -/
def groupHead (a : Memref sig .tc .vmem S2x2048x1024 .bf16) (slot : Fin 2) : BProg F (Vec F S1x1024x1024 .bf16) := do
  let wq ← Prog.lift (loadHalf a slot 0)
  let wo ← Prog.lift (loadHalf a slot 1)
  let xp ← Prog.lift (loadSq xpM)
  let _ ← Prog.lift (loadSq qM)
  Prog.lift (storeSq qM (Memref.isWhole_whole _) (qOf xp wq))
  pure wo

/-- The heads. -/
def heads (K : Kv) (slot : Fin 2) (m12 : Memref sig .tc .vmem S640x704 .f32) : BProg F PUnit :=
  Scf.Loop.for k0_t1_loop k0_t1_ok ⟨⟩ fun t _ => head K slot m12 t

/-- One group's share of the result. -/
def groupTail (wo : Vec F S1x1024x1024 .bf16) : BProg F PUnit := do
  let acc ← Prog.lift (loadSq accM)
  let ctx ← Prog.lift (loadSq ctxM)
  let _ ← Prog.lift (loadSq accM)
  Prog.lift (storeAcc (accOf acc ctx wo))

/-- One group. -/
def group (a : Memref sig .tc .vmem S2x2048x1024 .bf16) (slot : Fin 2) (K : Kv) (m12 : Memref sig .tc .vmem S640x704 .f32) : BProg F PUnit := do
  let wo ← groupHead a slot
  heads K slot m12
  groupTail wo

/-! ## Before and after the ring -/

/-- The device's own weights into slot 0 of the right-going ring, and the accumulator to zero. -/
def fill (wq wo : Memref sig .tc .vmem S1024x1024 .bf16) : BProg F PUnit := do
  let q ← Prog.lift (loadSq wq)
  let _ ← Prog.lift (loadHalf cwM 0 0)
  Prog.lift (storeHalf cwM (Memref.isWhole_whole _) 0 0 (shapeCast S1x1024x1024 (shapeCast S1024x1024 q shapeCasts_S1024x1024_S1024x1024 : FVec F S1024x1024 .bf16)
    shapeCasts_S1024x1024_S1x1024x1024))
  let o ← Prog.lift (loadSq wo)
  let _ ← Prog.lift (loadHalf cwM 0 1)
  Prog.lift (storeHalf cwM (Memref.isWhole_whole _) 0 1 (shapeCast S1x1024x1024 (shapeCast S1024x1024 o shapeCasts_S1024x1024_S1024x1024 : FVec F S1024x1024 .bf16)
    shapeCasts_S1024x1024_S1x1024x1024))
  let _ ← Prog.lift (loadSq accM)
  Prog.lift (storeAcc (shapeCast S1024x1024 (broadcast S1024x1024 (Scalar.ofBits .f32 0x00000000#32)) shapeCasts_S1024x1024_S1024x1024))

/-- Which band of 64 rows goes where. -/
def bandPerm : Fin 16 → Fin 16 := ![0, 3, 6, 9, 12, 15, 1, 4, 7, 10, 13, 2, 5, 8, 11, 14]

theorem inbBand (i : Fin 16) : ∀ a, ![64 * i.val, 0] a + S64x1024.size a ≤ S1024x1024.size a := by
  have := i.isLt
  intro a; fin_cases a <;> simp <;> omega

theorem inbBandOut (i : Fin 16) : ∀ a, ![0, 64 * i.val, 0] a + S1x64x1024.size a ≤ S1x1024x1024.size a := by
  have := i.isLt
  intro a; fin_cases a <;> simp <;> omega

theorem packedBand : ∀ i : Fin 16, (Rect.unit (s := S1024x1024) ![64 * i.val, 0] S64x1024.size (inbBand i)).PackedRows (EltTy.packing .bf16) := by
  decide +kernel

/-- One band of rows of `x` into its place. -/
def bandIn (x : Memref sig .tc .vmem S1024x1024 .bf16) (i : Fin 16) : BProg F PUnit := do
  let v : Vec F S64x1024 .bf16 ← Prog.lift (.load x (Rect.unit (s := S1024x1024) ![64 * (bandPerm i).val, 0] S64x1024.size (inbBand _)).toLoadRect
    (View.loadsAt_vmem h_S64x1024))
  let _ : Vec F S64x1024 .bf16 ← Prog.lift (.load xpM (Rect.unit (s := S1024x1024) ![64 * i.val, 0] S64x1024.size (inbBand i)).toLoadRect
    (View.loadsAt_vmem h_S64x1024))
  Prog.lift (.store xpM (Rect.unit (s := S1024x1024) ![64 * i.val, 0] S64x1024.size (inbBand i))
    (shapeCast S64x1024 (shapeCast S64x1024 v shapeCasts_S64x1024_S64x1024 : FVec F S64x1024 .bf16) shapeCasts_S64x1024_S64x1024) Finset.univ
    (View.stores_vmem h_S64x1024 ((Memref.isWhole_whole _).storeExact_slice rfl _ (packedBand i)) (fun _ => rfl)) (.inl rfl))

/-- One band of rows of the result back. -/
def bandOut (out : Memref sig .tc .vmem S1x1024x1024 .f32) (i : Fin 16) : BProg F PUnit := do
  let v : Vec F S64x1024 .f32 ← Prog.lift (.load accM (Rect.unit (s := S1024x1024) ![64 * i.val, 0] S64x1024.size (inbBand i)).toLoadRect
    (View.loadsAt_vmem h_S64x1024))
  let _ : Vec F S1x64x1024 .f32 ← Prog.lift (.load out (Rect.unit (s := S1x1024x1024) ![0, 64 * (bandPerm i).val, 0] S1x64x1024.size (inbBandOut _)).toLoadRect
    (View.loadsAt_vmem h_S1x64x1024))
  Prog.lift (.store out (Rect.unit (s := S1x1024x1024) ![0, 64 * (bandPerm i).val, 0] S1x64x1024.size (inbBandOut _))
    (shapeCast S1x64x1024 v shapeCasts_S64x1024_S1x64x1024) Finset.univ (View.stores_vmem_bits_univ h_S1x64x1024 rfl) (.inl rfl))

/-- Programs one after the other. -/
def seqAll : List (BProg F PUnit) → BProg F PUnit
  | [] => .ret ⟨⟩
  | p :: ps => p >>= fun _ => seqAll ps

/-- The runtime's barrier, the credits, the exit barrier. -/
abbrev barrierS : Sem sig := (SemArray.scalar (sig.barrier 0 rfl) : Sems sig S_).sem
abbrev creditCwS : Sem sig := cc0_scratch20.sem
abbrev creditCcwS : Sem sig := cc0_scratch21.sem
abbrev exitS : Sem sig := cc0_scoped0.sem

/-- Start the copy of slot `s` to the device after, and to the device before. -/
def sendCw (d : Dev nD) (s : Fin 2) : TpuEff nD τ sig (Elt F) Λ₀ .tc PUnit :=
  ringStart (right d) cwM (Memref.isWhole_whole _) s cwM (Memref.isWhole_whole _) (1 - s) (sem2 cc0_scratch14 s) (sem2 cc0_scratch15 (1 - s))
def sendCcw (d : Dev nD) (a : Memref sig .tc .vmem S2x2048x1024 .bf16) (ha : a.IsWhole) (s : Fin 2) : TpuEff nD τ sig (Elt F) Λ₀ .tc PUnit :=
  ringStart (left d) a ha s ccwM (Memref.isWhole_whole _) (1 - s) (sem2 cc0_scratch16 s) (sem2 cc0_scratch17 (1 - s))
/-- Wait for them. -/
def waitCw (s : Fin 2) : BProg F PUnit :=
  ringWait cwM (Memref.isWhole_whole _) s cwM (Memref.isWhole_whole _) (1 - s) (sem2 cc0_scratch14 s) (sem2 cc0_scratch15 (1 - s))
def waitCcw (a : Memref sig .tc .vmem S2x2048x1024 .bf16) (ha : a.IsWhole) (s : Fin 2) : BProg F PUnit :=
  ringWait a ha s ccwM (Memref.isWhole_whole _) (1 - s) (sem2 cc0_scratch16 s) (sem2 cc0_scratch17 (1 - s))

section
variable (x wq wo : Memref sig .tc .vmem S1024x1024 .bf16) (m12 : Memref sig .tc .vmem S640x704 .f32) (out : Memref sig .tc .vmem S1x1024x1024 .f32)

/-- Up to the ring's first step. -/
def begin (d : Dev nD) : BProg F PUnit := do
  startAll (copies kvCw 0 (bandsOwn d))
  semSignalWord (left d) barrierS 1#32
  semSignalWord (right d) barrierS 1#32
  semWaitWord barrierS 2#32
  fill wq wo
  seqAll (List.ofFn (bandIn x))

/-- Step 0: the device's own group. -/
def step0 (d : Dev nD) : BProg F PUnit := do
  Prog.lift (sendCw d 0)
  Prog.lift (sendCcw d cwM (Memref.isWhole_whole _) 0)
  waitAll (copies kvCw 0 (bandsOwn d))
  startAll (copies kvCw 1 (bandsCw d 0))
  startAll (copies kvCcw 1 (bandsNext d))
  group cwM 0 kvCw m12
  waitCw 0
  waitCcw cwM (Memref.isWhole_whole _) 0
  semSignalWord (left d) creditCwS 1#32

/-- Step 1. -/
def step1 (d : Dev nD) : BProg F PUnit := do
  semWaitWord creditCwS 1#32
  Prog.lift (sendCw d 1)
  Prog.lift (sendCcw d ccwM (Memref.isWhole_whole _) 1)
  waitAll (copies kvCw 1 (bandsCw d 0))
  startAll (copies kvCw 0 (bandsCw d 1))
  group cwM 1 kvCw m12
  waitAll (copies kvCcw 1 (bandsNext d))
  startAll (copies kvCcw 0 (bandsCcw d 0))
  group ccwM 1 kvCcw m12
  waitCw 1
  waitCcw ccwM (Memref.isWhole_whole _) 1
  semSignalWord (left d) creditCwS 1#32
  semSignalWord (right d) creditCcwS 1#32

/-- Step 2. -/
def step2 (d : Dev nD) : BProg F PUnit := do
  semWaitWord creditCwS 1#32
  Prog.lift (sendCw d 0)
  semWaitWord creditCcwS 1#32
  Prog.lift (sendCcw d ccwM (Memref.isWhole_whole _) 0)
  waitAll (copies kvCw 0 (bandsCw d 1))
  startAll (copies kvCw 1 (bandsCw d 2))
  group cwM 0 kvCw m12
  waitAll (copies kvCcw 0 (bandsCcw d 0))
  startAll (copies kvCcw 1 (bandsCcw d 1))
  group ccwM 0 kvCcw m12
  waitCw 0
  waitCcw ccwM (Memref.isWhole_whole _) 0
  semSignalWord (left d) creditCwS 1#32

/-- Step 3. -/
def step3 (d : Dev nD) : BProg F PUnit := do
  semWaitWord creditCwS 1#32
  Prog.lift (sendCw d 1)
  waitAll (copies kvCw 1 (bandsCw d 2))
  startAll (copies kvCw 0 (bandsCw d 3))
  group cwM 1 kvCw m12
  waitAll (copies kvCcw 1 (bandsCcw d 1))
  group ccwM 1 kvCcw m12
  waitCw 1

/-- Step 4 and the end. -/
def step4 (d : Dev nD) : BProg F PUnit := do
  waitAll (copies kvCw 0 (bandsCw d 3))
  group cwM 0 kvCw m12
  seqAll (List.ofFn (bandOut out))
  semSignalWord (left d) exitS 1#32
  semSignalWord (right d) exitS 1#32
  semWaitWord exitS 2#32

/-- The whole body. -/
def body : BProg F PUnit := do
  let d ← Prog.lift .deviceId
  begin x wq wo d
  step0 m12 d
  step1 m12 d
  step2 m12 d
  step3 m12 d
  step4 m12 out d
end

end Cert.KernelIdeal.Body
-- ==== Proof.Setup.lean ====
/-
The algebra of the proof: the pipeline's rounds, the ring's rounds, and the counters of local copies. What a device
still has to signal is a list, each entry at the height at which it is waited for.
-/
module

public import proofs.«01_k».proof.Proof.Prog
public import Idealize.ShloMosaic.Lib.Pipeline.Launch
public import Idealize.ShloMosaic.Lib.Pipeline.Kit
public import Idealize.ShloMosaic.Lib.Tactic

@[expose] public section

noncomputable section

namespace Cert.KernelIdeal.Body

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F] [Named F]

abbrev UB : Type := URounds (GSem nD τ sig) Bool
abbrev UU : Type := UR sig nD τ × (UB × Counters)

/-- The machine with this algebra. -/
abbrev MM (F : FTy → Type) := MT nD τ sig ℕ (Elt F) ℕ UU ℕ

local notation "𝕄" => MM F

abbrev EP : Emb (UR sig nD τ) (MM F) := embL
abbrev EB : UEmb UB (MM F) := (UEmb.inl.trans UEmb.inr).trans uEmb
abbrev ER : Emb UB (MM F) := (EB (F := F)).toEmb
abbrev EC : UEmb Counters (MM F) := countersEmb

abbrev 𝒱₀ : Variants := Variants.none

/-- The weakest precondition of a part of the body on device `c`. -/
abbrev Wp (defs : Defs nD τ sig (Elt F) Λ₀) (c : Dev nD) {α : Type} (p : BProg F α) (Q : α → sProp 𝕄) : sProp 𝕄 :=
  wp frame (wpE defs 𝒱₀ (c : Thread nD τ) none) Set.univ p Q

/-! ## What is owed -/

/-- What a list of dues comes to. -/
def owe : List (GSem nD τ sig × ℕ × ℕ) → CellTallies nD τ sig ℕ
  | [] => 0
  | x :: l => owe l + tallyAt x.1 x.2.1 x.2.2

/-- The heights: an index is its own. -/
def L (g : GSem nD τ sig) : Finset ℕ := if g.1.2 = .tc then Finset.range 32 else ∅
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 32 := if_pos rfl

theorem owe_pos {l : List (GSem nD τ sig × ℕ × ℕ)} {g : GSem nD τ sig} {i : ℕ} (h : 0 < owe l g i) :
    ∃ x ∈ l, x.1 = g ∧ x.2.1 = i := by
  induction l with
  | nil => exact absurd h (by simp [owe])
  | cons x l ih =>
    unfold owe at h
    rw [Pi.add_apply, Finsupp.add_apply, tallyAt_apply] at h
    by_cases hx : g = x.1 ∧ i = x.2.1
    · exact ⟨x, List.mem_cons_self, hx.1.symm, hx.2.symm⟩
    · rw [if_neg hx, Nat.add_zero] at h
      obtain ⟨y, hy, e⟩ := ih h
      exact ⟨y, List.mem_cons_of_mem _ hy, e⟩

/-- A wait below everything owed is allowed. -/
theorem mayWait_owe (c : Dev nD) (sm : SemLoc sig) (i : ℕ) (l : List (GSem nD τ sig × ℕ × ℕ)) (hi : i < 32)
    (h : ∀ x ∈ l, x.1.1.2 = .tc ∧ i < x.2.1 ∧ x.2.1 < 32) :
    (levAts L lv : sProp 𝕄) ⊢ MayWait (c : Thread nD τ) sm i (owe l) :=
  MayOwe.of_cut (L := L) (lev := lv) i
    (fun p hp => by rw [Finset.mem_singleton.mp hp, L_tc]; exact Finset.mem_range.mpr hi)
    (fun g u hg => by
      obtain ⟨x, hx, rfl, rfl⟩ := owe_pos hg
      unfold L; rw [if_pos (h x hx).1]; exact Finset.mem_range.mpr (h x hx).2.2)
    (fun p hp => by rw [Finset.mem_singleton.mp hp]; exact Nat.le_refl _)
    (fun g u hg => by obtain ⟨x, hx, rfl, rfl⟩ := owe_pos hg; exact (h x hx).2.1)

/-- What device `c` owes, whatever it has waited for. -/
def Owes (c : Dev nD) (l : List (GSem nD τ sig × ℕ × ℕ)) : sProp 𝕄 := iprop(∃ W, owes (c : Thread nD τ) (owe l) W)

end Cert.KernelIdeal.Body
-- ==== Proof.Copies.lean ====
/-
Lists of local copies: started one after the other and waited for one after the other, each on a semaphore of its own.
-/
module

public import proofs.«01_k».proof.Proof.Setup
public import Idealize.ShloMosaic.Lib.Pipeline.BigSepL

@[expose] public section

noncomputable section

namespace Cert.KernelIdeal.Body

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Transfers

variable {F : FTy → Type} [FloatOps F] [Named F]

local notation "𝕄" => MM F

/-- A copy on device `c`: the share of its source that it reads, what the source holds. -/
structure Plan (F : FTy → Type) (c : Dev nD) where
  copy : Copy
  q : PosShare TreeShare
  fs : Buf (Elt F) (copy.src.view.loc (c : Thread nD τ))

variable {c : Dev nD}

/-- The share of the source. -/
def Plan.source (p : Plan F c) : sProp 𝕄 := p.copy.src.view.loc (c : Thread nD τ) ↦{p.q} p.fs
/-- The destination with contents unknown. -/
def Plan.room (p : Plan F c) : sProp 𝕄 := iprop(∃ fd, p.copy.dst.view.loc (c : Thread nD τ) ↦[p.copy.dst.view.set]{fullShare} fd)
/-- The destination reading as the source. -/
def Plan.landed (p : Plan F c) : sProp 𝕄 :=
  iprop(∃ f, ⌜p.copy.dst.view.read (Elt F) f = p.copy.src.view.read (Elt F) p.fs⌝
    ∗ (p.copy.dst.view.loc (c : Thread nD τ) ↦[p.copy.dst.view.set]{fullShare} f))
/-- The semaphore at zero. -/
def Plan.idle (p : Plan F c) : sProp 𝕄 := semVal ((c : Thread nD τ), .dma p.copy.sem) 0

def Plan.ready (p : Plan F c) : sProp 𝕄 := iprop(p.source ∗ p.room ∗ p.idle)
def Plan.done (p : Plan F c) : sProp 𝕄 := iprop(p.source ∗ p.landed ∗ p.idle)
/-- The copy under way: what it will deliver, and the part of the source share outside what it reads. -/
def Plan.flying (p : Plan F c) : sProp 𝕄 :=
  iprop(Flight EC (c : Thread nD τ) (.dma p.copy.sem) 0 p.copy.dst.view.dmaCredit
      iprop(p.landed ∗ (p.copy.src.view.loc (c : Thread nD τ) ↦[p.copy.src.view.set]{p.q} p.fs))
    ∗ (p.copy.src.view.loc (c : Thread nD τ) ↦[Finset.univ \ p.copy.src.view.set]{p.q} p.fs))

theorem credit_pos (m : Copy) : 0 < m.dst.view.dmaCredit := View.dmaCredit_pos _ (by decide)

variable (defs : Defs nD τ sig (Elt F) Λ₀)

theorem start_spec (p : Plan F c) {α : Type} (k : PUnit → BProg F α) (Q : α → sProp 𝕄) :
    p.ready ⊢ iprop((p.flying -∗ Wp defs c (k ⟨⟩) Q) -∗ Wp defs c (.op p.copy.start k) Q) := by
  unfold Plan.ready Plan.source Plan.room Plan.idle Plan.flying Plan.landed
  iintro ⟨Hs, ⟨%fd, Hd⟩, Hv⟩ Hk
  ihave Hs2 := (pointsTo_split_subset (Finset.subset_univ p.copy.src.view.set)).1 $$ Hs
  icases Hs2 with ⟨Hs, Hr⟩
  iapply (wp_dmaLocal EC 𝒱₀ (c : Thread nD τ) none (src := p.copy.src) (dst := p.copy.dst) (via := .same) 0 p.copy.dst.view.dmaCredit rfl
    (credit_pos _) (Finset.Subset.refl _)) $$ [Hs Hd Hv]
  · isplitl [Hs]; · iexact Hs
    isplitl [Hd]; · iexact Hd
    iexact Hv
  iintro Hf
  iapply Hk
  isplitl [Hf]
  · iapply (Flight_mono EC (c : Thread nD τ) ?_) $$ Hf
    refine sep_mono_left ?_
    iintro H
    iexists View.write (Elt F) p.copy.dst.view fd (ReadAs.same.apply (View.read (Elt F) p.copy.src.view p.fs)) Finset.univ
    isplitr
    · ipureintro; exact View.read_write_univ _ _
    iexact H
  iexact Hr

theorem await_spec (p : Plan F c) (l : List (GSem nD τ sig × ℕ × ℕ)) (hl : ∀ x ∈ l, x.1.1.2 = .tc ∧ 0 < x.2.1 ∧ x.2.1 < 32)
    {α : Type} (k : PUnit → BProg F α) (Q : α → sProp 𝕄) :
    iprop(p.flying ∗ Owes c l ∗ levAts L lv)
      ⊢ iprop((iprop(p.done ∗ Owes c l) -∗ Wp defs c (k ⟨⟩) Q) -∗ Wp defs c (.op p.copy.await k) Q) := by
  unfold Plan.done Plan.source Plan.idle Plan.flying Plan.landed Owes
  iintro ⟨⟨Hf, Hr⟩, ⟨%W, HO⟩, Hlev⟩ Hk
  iapply (wp_waitLocalO EC 𝒱₀ (c : Thread nD τ) none (srcw := p.copy.src) (dstw := p.copy.dst) (hsrc := p.copy.hsrc) (hdst := p.copy.hdst)
      (k := k) 0 rfl) $$ [Hf HO Hlev]
  · isplitl [Hf]; · iexact Hf
    isplitl [HO]; · iexact HO
    iapply (mayWait_owe c _ 0 l (by decide) hl); iexact Hlev
  iintro ⟨⟨Hd, Hs⟩, Hv, HO⟩
  iapply Hk
  isplitr [HO]
  · isplitl [Hs Hr]
    · iapply (pointsTo_split_subset (Finset.subset_univ p.copy.src.view.set)).2
      isplitl [Hs]; · iexact Hs
      iexact Hr
    isplitl [Hd]; · iexact Hd
    iexact Hv
  iexists _; iexact HO

theorem startAll_spec (ps : List (Plan F c)) {α : Type} (k : PUnit → BProg F α) (Q : α → sProp 𝕄) :
    bigSepL ps Plan.ready ⊢ iprop((bigSepL ps Plan.flying -∗ Wp defs c (k ⟨⟩) Q) -∗ Wp defs c (startAll (ps.map Plan.copy) >>= k) Q) := by
  induction ps with
  | nil => iintro H Hk; iapply Hk; iexact H
  | cons p ps ih =>
    rw [bigSepL_cons', bigSepL_cons']
    iintro ⟨Hp, H⟩ Hk
    iapply (start_spec defs p (fun _ => startAll (ps.map Plan.copy) >>= k) Q) $$ Hp
    iintro Hp
    iapply ih $$ H
    iintro H
    iapply Hk
    isplitl [Hp]; · iexact Hp
    iexact H

theorem waitAll_spec (ps : List (Plan F c)) (l : List (GSem nD τ sig × ℕ × ℕ)) (hl : ∀ x ∈ l, x.1.1.2 = .tc ∧ 0 < x.2.1 ∧ x.2.1 < 32)
    {α : Type} (k : PUnit → BProg F α) (Q : α → sProp 𝕄) :
    iprop(bigSepL ps Plan.flying ∗ Owes c l ∗ levAts L lv)
      ⊢ iprop((iprop(bigSepL ps Plan.done ∗ Owes c l) -∗ Wp defs c (k ⟨⟩) Q) -∗ Wp defs c (waitAll (ps.map Plan.copy) >>= k) Q) := by
  induction ps with
  | nil =>
    iintro ⟨H, HO, Hlev⟩ Hk
    iapply Hk
    isplitl [H]; · iexact H
    iexact HO
  | cons p ps ih =>
    rw [bigSepL_cons', bigSepL_cons']
    iintro ⟨⟨Hp, H⟩, HO, #Hlev⟩ Hk
    iapply (await_spec defs p l hl (fun _ => waitAll (ps.map Plan.copy) >>= k) Q) $$ [Hp HO]
    · isplitl [Hp]; · iexact Hp
      isplitl [HO]; · iexact HO
      iexact Hlev
    iintro ⟨Hp, HO⟩
    iapply ih $$ [H HO]
    · isplitl [H]; · iexact H
      isplitl [HO]; · iexact HO
      iexact Hlev
    iintro ⟨H, HO⟩
    iapply Hk
    isplitr [HO]
    · isplitl [Hp]; · iexact Hp
      iexact H
    iexact HO

end Cert.KernelIdeal.Body
-- ==== Proof.Part.lean ====
/-
Part of a buffer, held by what a memref reads at some of its indices: splitting, joining, loads and stores.
-/
module

public import proofs.«01_k».proof.Proof.Setup

@[expose] public section

noncomputable section

namespace Cert.KernelIdeal.Body

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode

variable {F : FTy → Type} [FloatOps F] [Named F]

local notation "𝕄" => MM F

variable {sp : Space} {s : Shape} {e : EltTy} (c : Dev nD) (m : Memref sig .tc sp s e)

/-- The elements under the indices `S`, at share `q`, reading as `w`. -/
def Part (S : Finset s.Idx) (q : PosShare TreeShare) (w : s.Idx → Elt F e) : sProp 𝕄 :=
  iprop(∃ f, ⌜∀ x ∈ S, m.view.read (Elt F) f x = w x⌝ ∗ (m.view.loc (c : Thread nD τ) ↦[m.view.setOn S]{q} f))

/-- The same with contents unknown. -/
def Room (S : Finset s.Idx) : sProp 𝕄 := iprop(∃ w : s.Idx → Elt F e, Part c m S fullShare w)

instance part_storable (S : Finset s.Idx) (q : PosShare TreeShare) (w : s.Idx → Elt F e) :
    BI.Storable (upEmb : UEmb _ 𝕄) (Part c m S q w) := by unfold Part; infer_instance
instance room_storable (S : Finset s.Idx) : BI.Storable (upEmb : UEmb _ 𝕄) (Room (F := F) c m S) := by unfold Room; infer_instance

variable {c m} {S : Finset s.Idx} {q : PosShare TreeShare} {w w' : s.Idx → Elt F e}

theorem part_room : Part c m S fullShare w ⊢ Room (F := F) c m S := by
  unfold Room
  iintro H
  iexists w
  iexact H

theorem part_congr (h : ∀ x ∈ S, w x = w' x) : Part c m S q w ⊢ Part c m S q w' := by
  unfold Part
  iintro ⟨%f, %hf, H⟩
  iexists f
  isplitr
  · ipureintro; intro x hx; rw [hf x hx, h x hx]
  iexact H

theorem cast_eq_of {A B : Type} (h : A = B) {a b : A} (e : _root_.cast h a = _root_.cast h b) : a = b := by
  subst h; exact e

/-- A memref's elements under pairwise disjoint sets of indices are pairwise disjoint. -/
theorem setOn_disjoint {T : Type} {I : Finset T} {K : T → Finset s.Idx} (h : ∀ t ∈ I, ∀ t' ∈ I, t ≠ t' → Disjoint (K t) (K t')) :
    ∀ t ∈ I, ∀ t' ∈ I, t ≠ t' → Disjoint (m.view.setOn (K t)) (m.view.setOn (K t')) :=
  fun t ht t' ht' hn => (Finset.disjoint_map _).mpr (h t ht t' ht' hn)

/-- Contents that read the same are the same. -/
theorem read_inj {f g : m.view.ty.Contents (Elt F)} (h : ∀ x ∈ S, m.view.read (Elt F) f x = m.view.read (Elt F) g x) :
    ∀ i ∈ m.view.setOn S, f i = g i := by
  intro i hi
  obtain ⟨x, hx, rfl⟩ := Finset.mem_map.mp hi
  have := h x hx
  rw [View.read_apply, View.read_apply] at this
  exact cast_eq_of _ this

theorem part_of {f : m.view.ty.Contents (Elt F)} (h : ∀ x ∈ S, m.view.read (Elt F) f x = w x) :
    (m.view.loc (c : Thread nD τ) ↦[m.view.setOn S]{q} f : sProp 𝕄) ⊢ Part c m S q w := by
  unfold Part
  iintro H
  iexists f
  isplitr
  · ipureintro; exact h
  iexact H

theorem part_split (q : PosShare TreeShare) : Part c m S q w ⊢ iprop(Part c m S q.left w ∗ Part c m S q.right w) := by
  unfold Part
  iintro ⟨%f, %hf, H⟩
  ihave H2 := (pointsTo_share (PosShare.mem_left_op_right q)).1 $$ H
  icases H2 with ⟨H1, H2⟩
  isplitl [H1]
  · iexists f; isplitr
    · ipureintro; exact hf
    iexact H1
  · iexists f; isplitr
    · ipureintro; exact hf
    iexact H2

theorem part_join (q : PosShare TreeShare) : iprop(Part c m S q.left w ∗ Part c m S q.right w) ⊢ Part c m S q w := by
  unfold Part
  iintro ⟨⟨%f, %hf, H1⟩, ⟨%g, %hg, H2⟩⟩
  iexists f
  isplitr
  · ipureintro; exact hf
  iapply (pointsTo_share (PosShare.mem_left_op_right q)).2
  isplitl [H1]; · iexact H1
  iapply (Entails.of_eq (pointsTo_congr (read_inj (m := m) (S := S) (f := g) (g := f) fun x hx => by rw [hg x hx, hf x hx]))) $$ H2

theorem part_biUnion {T : Type} [DecidableEq T] (I : Finset T) (K : T → Finset s.Idx)
    (h : ∀ t ∈ I, ∀ t' ∈ I, t ≠ t' → Disjoint (K t) (K t')) (hS : I.biUnion K = S) :
    Part c m S q w ⊢ bigSep I fun t => Part c m (K t) q w := by
  subst hS
  have hset : m.view.setOn (I.biUnion K) = I.biUnion fun t => m.view.setOn (K t) := by
    unfold View.setOn; ext i; simp only [Finset.mem_map, Finset.mem_biUnion]; tauto
  conv_lhs => unfold Part
  iintro ⟨%f, %hf, H⟩
  rw [hset]
  ihave H := (Entails.of_eq (pointsTo_biUnion (ℓ := m.view.loc (c : Thread nD τ)) I (fun t => m.view.setOn (K t)) (setOn_disjoint h))) $$ H
  have hb : (bigSep I fun t => (m.view.loc (c : Thread nD τ) ↦[m.view.setOn (K t)]{q} f : sProp 𝕄)) ⊢ bigSep I fun t => Part c m (K t) q w :=
    bigSep_mono fun t ht => part_of (m := m) fun x hx => hf x (Finset.mem_biUnion.mpr ⟨t, ht, hx⟩)
  iapply hb
  iexact H

theorem part_biUnion_join {T : Type} [DecidableEq T] (I : Finset T) (K : T → Finset s.Idx)
    (h : ∀ t ∈ I, ∀ t' ∈ I, t ≠ t' → Disjoint (K t) (K t')) (hS : I.biUnion K = S) (b₀ : m.view.ty.Contents (Elt F)) :
    (bigSep I fun t => Part c m (K t) q w) ⊢ Part c m S q w := by
  subst hS
  have hset : m.view.setOn (I.biUnion K) = I.biUnion fun t => m.view.setOn (K t) := by
    unfold View.setOn; ext i; simp only [Finset.mem_map, Finset.mem_biUnion]; tauto
  have hw : ∀ t ∈ I, Part c m (K t) q w ⊢ (m.view.loc (c : Thread nD τ) ↦[m.view.setOn (K t)]{q} (m.view.write (Elt F) b₀ w Finset.univ) : sProp 𝕄) := fun t _ => by
    unfold Part
    iintro ⟨%f, %hf, H⟩
    iapply (Entails.of_eq (pointsTo_congr (read_inj (m := m) (S := K t) fun x hx => by rw [hf x hx, View.read_write_univ]))) $$ H
  refine (bigSep_mono hw).trans ?_
  refine (Entails.of_eq (pointsTo_biUnion (ℓ := m.view.loc (c : Thread nD τ)) I (fun t => m.view.setOn (K t)) (setOn_disjoint h)).symm).trans ?_
  rw [← hset]
  exact part_of fun x _ => by rw [View.read_write_univ]

/-- Joining parts of unknown contents. -/
theorem room_biUnion_join {T : Type} [DecidableEq T] (I : Finset T) (K : T → Finset s.Idx)
    (h : ∀ t ∈ I, ∀ t' ∈ I, t ≠ t' → Disjoint (K t) (K t')) (hS : I.biUnion K = S) (b₀ : m.view.ty.Contents (Elt F)) :
    (bigSep I fun t => Room (F := F) c m (K t)) ⊢ Room (F := F) c m S := by
  subst hS
  have hset : m.view.setOn (I.biUnion K) = I.biUnion fun t => m.view.setOn (K t) := by
    unfold View.setOn; ext i; simp only [Finset.mem_map, Finset.mem_biUnion]; tauto
  have hw : ∀ t ∈ I, Room (F := F) c m (K t) ⊢ iprop(∃ f, m.view.loc (c : Thread nD τ) ↦[m.view.setOn (K t)]{fullShare} f) := fun t _ => by
    unfold Room Part
    iintro ⟨%w, %f, -, H⟩
    iexists f; iexact H
  refine (bigSep_mono hw).trans ?_
  haveI : Nonempty (m.view.ty.Contents (Elt F)) := ⟨b₀⟩
  show (bigSep I fun t => iprop(∃ f, m.view.loc (c : Thread nD τ) ↦[m.view.setOn (K t)]{fullShare} f)) ⊢ _
  iintro H
  ihave H := (BI.bigSep_exists_pi I fun t f => (m.view.loc (c : Thread nD τ) ↦[m.view.setOn (K t)]{fullShare} f : sProp 𝕄)) $$ H
  icases H with ⟨%fs, H⟩
  ihave H := (pointsTo_biUnion_join I (fun t => m.view.setOn (K t)) fs b₀ (setOn_disjoint h)) $$ H
  icases H with ⟨%g, -, H⟩
  unfold Room
  iexists m.view.read (Elt F) g
  iapply (part_of (m := m) fun _ _ => rfl)
  rw [hset]; iexact H

/-- A whole buffer is all of its memref. -/
theorem part_whole (b : Ref sig .tc) (f : b.ty.Contents (Elt F)) (q : PosShare TreeShare) :
    (((c : Thread nD τ).loc b) ↦{q} f : sProp 𝕄) ⊢ Part c (Memref.whole b) Finset.univ q f := by
  refine .trans (Entails.of_eq ?_) (part_of (m := Memref.whole b) (f := f) fun _ _ => ?_)
  · rw [View.setOn_univ, View.set_whole]
  · rfl

theorem whole_part (b : Ref sig .tc) (f : b.ty.Contents (Elt F)) (q : PosShare TreeShare) :
    Part c (Memref.whole b) Finset.univ q f ⊢ (((c : Thread nD τ).loc b) ↦{q} f : sProp 𝕄) := by
  unfold Part
  iintro ⟨%g, %hg, H⟩
  rw [View.setOn_univ, View.set_whole, show g = f from funext fun x => hg x (Finset.mem_univ _)]
  iexact H

variable (defs : Defs nD τ sig (Elt F) Λ₀)

/-- A load. -/
theorem load_part {cs : CoreSpace} {m : Memref sig .tc cs s e} {r : Rect s} {hl : m.view.LoadsAt r.toLoadRect} (hS : r.set ⊆ S)
    {α : Type} (k : (r.toLoadRect.shape.Idx → Elt F e) → BProg F α) (Q : α → sProp 𝕄) :
    Part c m S q w ⊢ iprop((Part c m S q w -∗ Wp defs c (k fun x => w (r.emb x)) Q) -∗ Wp defs c (.op (.load m r.toLoadRect hl) k) Q) := by
  conv_lhs => unfold Part
  iintro ⟨%f, %hf, H⟩ Hk
  iapply (wp_load 𝒱₀ (c : Thread nD τ) none Set.univ (m := m) (r := r.toLoadRect) (hl := hl) (k := k) (S := m.view.setOn S) (f := f)
    (Finset.map_subset_map.mpr hS)) $$ H
  iintro H
  have : m.view.readAt (Elt F) r.toLoadRect f = fun x => w (r.emb x) :=
    funext fun x => hf _ (hS (by rw [← Rect.map_emb_univ]; exact Finset.mem_map_of_mem _ (Finset.mem_univ x)))
  rw [this]
  iapply Hk
  iapply (part_of hf); iexact H

/-- A store. -/
theorem store_part {cs : CoreSpace} {m : Memref sig .tc cs s e} {r : Rect s} {v : r.shape.Idx → Elt F e}
    {hx : (m.access r).Stores Finset.univ} {hm : Finset.univ = Finset.univ ∨ ∀ a, r.stride a = 1} (hS : r.set ⊆ S)
    (hin : ∀ x, w' (r.emb x) = v x) (hout : ∀ x ∈ S, x ∉ r.set → w' x = w x)
    {α : Type} (k : PUnit → BProg F α) (Q : α → sProp 𝕄) :
    Part c m S fullShare w
      ⊢ iprop((Part c m S fullShare w' -∗ Wp defs c (k ⟨⟩) Q) -∗ Wp defs c (.op (.store m r v Finset.univ hx hm) k) Q) := by
  conv_lhs => unfold Part
  iintro ⟨%f, %hf, H⟩ Hk
  iapply (wp_store 𝒱₀ (c : Thread nD τ) none Set.univ (m := m) (r := r) (w := v) (Mk := Finset.univ) (hx := hx) (hm := hm)
    (S := m.view.setOn S) (f := f) (by rw [View.setOn_univ, View.set_slice]; exact Finset.map_subset_map.mpr hS)) $$ H
  iintro H
  iapply Hk
  iapply (part_of (m := m) (f := (m.view.slice r).write (Elt F) f v Finset.univ) fun x hx => ?_) $$ H
  by_cases hr : x ∈ r.set
  · rw [← Rect.map_emb_univ] at hr
    obtain ⟨y, -, rfl⟩ := Finset.mem_map.mp hr
    rw [View.read_slice_write_emb _ _ _ (Finset.mem_univ y), hin]
  · rw [View.read_slice_write_of_not_mem _ _ _ _ (by rw [Rect.map_emb_univ]; exact hr), hf x hx, hout x hx hr]

end Cert.KernelIdeal.Body
-- ==== Proof.Geometry.lean ====
/-
The bands of keys and values: where they lie in a slot, and what the slot holds once they have landed.
-/
module

public import proofs.«01_k».proof.Proof.Copies
public import proofs.«01_k».proof.Proof.Part
public import Idealize.ShloMosaic.Lib.ValueIdxCore
public import Idealize.ShloMosaic.Lib.ValueLayout

@[expose] public section

noncomputable section

namespace Cert.KernelIdeal.Body

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Transfers Idealize.ShloMosaic.ValueIdx

variable {F : FTy → Type} [FloatOps F] [Named F]

local notation "𝕄" => MM F

/-- Two slots of `n` bands. -/
abbrev Sn (n : Nat) : Shape := ⟨4, ![2, 8, 64 * n, 128]⟩

variable {n : Nat}

theorem inbN (slot : Fin 2) (i : Fin n) : ∀ a, ![slot.val, 0, 64 * i.val, 0] a + S1x8x64x128.size a ≤ (Sn n).size a := by
  have := slot.isLt; have := i.isLt
  intro a; fin_cases a <;> simp <;> omega

/-- Where band `i` of a slot lies. -/
abbrev bandRect (slot : Fin 2) (i : Fin n) : Rect (Sn n) := Rect.unit ![slot.val, 0, 64 * i.val, 0] S1x8x64x128.size (inbN slot i)

/-- The indices of a slot. -/
def slotSet (n : Nat) (slot : Fin 2) : Finset (Sn n).Idx := Finset.univ.filter fun x => (x 0).val = slot.val

theorem mem_slotSet {slot : Fin 2} {x : (Sn n).Idx} : x ∈ slotSet n slot ↔ (x 0).val = slot.val := by simp [slotSet]

theorem mem_bandRect {slot : Fin 2} {i : Fin n} {x : (Sn n).Idx} :
    x ∈ (bandRect slot i).set ↔ (x 0).val = slot.val ∧ (x 2).val / 64 = i.val := by
  have h1 : (x 1).val < 8 := (x 1).isLt
  have h3 : (x 3).val < 128 := (x 3).isLt
  rw [Rect.mem_set_unit]
  constructor
  · intro h
    have h0 := h 0; have h2 := h 2
    simp at h0 h2
    omega
  · intro h a
    fin_cases a <;> simp <;> omega

theorem bands_disjoint (slot : Fin 2) : ∀ i ∈ (Finset.univ : Finset (Fin n)), ∀ j ∈ (Finset.univ : Finset (Fin n)), i ≠ j →
    Disjoint (bandRect slot i).set (bandRect slot j).set := by
  intro i _ j _ hij
  rw [Finset.disjoint_left]
  intro x hx hy
  rw [mem_bandRect] at hx hy
  exact hij (Fin.ext (hx.2.symm.trans hy.2))

theorem bands_union (slot : Fin 2) : (Finset.univ : Finset (Fin n)).biUnion (fun i => (bandRect slot i).set) = slotSet n slot := by
  ext x
  have h2 : (x 2).val < 64 * n := (x 2).isLt
  simp only [Finset.mem_biUnion, Finset.mem_univ, true_and, mem_bandRect, mem_slotSet]
  constructor
  · rintro ⟨i, h, -⟩; exact h
  · intro h; exact ⟨⟨(x 2).val / 64, by omega⟩, h, rfl⟩

/-- What a slot is to hold of group `g`: its heads' rows of `T`, band after band. -/
def kvW (n : Nat) (band : Fin n → Fin 16) (T : S64x1024x128.Idx → Elt F .bf16) (g : Dev nD) : (Sn n).Idx → Elt F .bf16 := fun x =>
  T (ix3 (n0 := 64) (n1 := 1024) (n2 := 128) ⟨8 * g.val + (x 1).val, by have h : (x 1).val < 8 := (x 1).isLt; have hg : g.val < 8 := g.isLt; omega⟩
    ⟨64 * (band ⟨(x 2).val / 64, by have h : (x 2).val < 64 * n := (x 2).isLt; omega⟩).val + (x 2).val % 64, by
      have := (band ⟨(x 2).val / 64, by have h : (x 2).val < 64 * n := (x 2).isLt; omega⟩).isLt; omega⟩ (x 3))

/-- The bands are those of group `g`. -/
def Bands.For (B : Bands) (g : Dev nD) : Prop := ∀ b : Fin 16, B.off b = ![8 * g.val, 64 * b.val, 0]

/-- One band's rows, as the copy reads them, are what the slot is to hold there. -/
theorem kvW_band (band : Fin n → Fin 16) (T : S64x1024x128.Idx → Elt F .bf16) {g : Dev nD} {B : Bands} (hB : B.For g) (slot : Fin 2) (i : Fin n)
    (h : S8x64x128.numel = S1x8x64x128.numel) (y : S8x64x128.Idx) :
    kvW n band T g ((bandRect slot i).emb (Shape.reshapeEquiv h y))
      = T ((Rect.unit (s := S64x1024x128) (B.off (band i)) S8x64x128.size (B.inb (band i))).emb y) := by
  obtain ⟨a, b, c, rfl⟩ : ∃ (a : Fin 8) (b : Fin 64) (c : Fin 128), y = ix3 a b c := ⟨y 0, y 1, y 2, eq_ix3 y⟩
  rw [reshapeEquiv_ix3_1abc]
  have hb := b.isLt
  have hi : (64 * i.val + b.val) / 64 = i.val := by omega
  have h0 := hB (band i)
  refine congrArg T (funext fun d => ?_)
  match d with
  | ⟨0, _⟩ => exact Fin.ext (by show 8 * g.val + (0 + 1 * a.val) = B.off (band i) 0 + 1 * a.val; rw [h0]; simp)
  | ⟨1, _⟩ =>
    refine Fin.ext ?_
    show 64 * (band ⟨(64 * i.val + 1 * b.val) / 64, _⟩).val + (64 * i.val + 1 * b.val) % 64 = B.off (band i) 1 + 1 * b.val
    have e : (⟨(64 * i.val + 1 * b.val) / 64, by have := i.isLt; omega⟩ : Fin n) = i := Fin.ext (by show (64 * i.val + 1 * b.val) / 64 = i.val; omega)
    rw [h0, e]
    simp
  | ⟨2, _⟩ => exact Fin.ext (by show 0 + 1 * c.val = B.off (band i) 2 + 1 * c.val; rw [h0]; simp)

/-! ## A slice, squeezed -/

section
variable {sp : Space} {s s₀ s' : Shape} {e : EltTy} {c : Dev nD} (m : Memref sig .tc sp s e) (r : Rect s) (hr : ∀ a, r.stride a = 1)
  (hs : s₀ = r.shape) (hq : r.shape.Squeezes s')

theorem squeezed_set : ((m.slice r hr).squeeze s' hq).view.set = m.view.setOn r.set := by
  rw [Memref.set_view_squeeze]
  exact View.set_slice _ _

theorem squeezed_room : Room (F := F) c m r.set
    ⊢ iprop(∃ fd, ((m.slice r hr).squeeze s' hq).view.loc (c : Thread nD τ) ↦[((m.slice r hr).squeeze s' hq).view.set]{fullShare} fd) := by
  unfold Room Part
  iintro ⟨%w, %f, -, H⟩
  iexists f
  rw [squeezed_set]
  iexact H

theorem squeezed_part {q : PosShare TreeShare} {w : s.Idx → Elt F e} {g : s'.Idx → Elt F e} (h : ∀ y, w (r.emb (Shape.reshapeEquiv hq.numel_eq y)) = g y) :
    iprop(∃ f, ⌜((m.slice r hr).squeeze s' hq).view.read (Elt F) f = g⌝
      ∗ (((m.slice r hr).squeeze s' hq).view.loc (c : Thread nD τ) ↦[((m.slice r hr).squeeze s' hq).view.set]{q} f)) ⊢ Part c m r.set q w := by
  iintro ⟨%f, %hf, H⟩
  rw [squeezed_set]
  iapply (part_of (m := m) (f := f) fun x hx => ?_) $$ H
  rw [← Rect.map_emb_univ] at hx
  obtain ⟨z, -, rfl⟩ := Finset.mem_map.mp hx
  obtain ⟨y, rfl⟩ := (Shape.reshapeEquiv hq.numel_eq).surjective z
  rw [h, ← hf]
  rfl

theorem part_squeezed {q : PosShare TreeShare} {w : s.Idx → Elt F e} {g : s'.Idx → Elt F e} (h : ∀ y, w (r.emb (Shape.reshapeEquiv hq.numel_eq y)) = g y) :
    Part c m r.set q w ⊢ iprop(∃ f, ⌜((m.slice r hr).squeeze s' hq).view.read (Elt F) f = g⌝
      ∗ (((m.slice r hr).squeeze s' hq).view.loc (c : Thread nD τ) ↦[((m.slice r hr).squeeze s' hq).view.set]{q} f)) := by
  unfold Part
  iintro ⟨%f, %hf, H⟩
  iexists f
  rw [squeezed_set]
  isplitr
  · ipureintro
    funext y
    rw [← h y, ← hf _ (by rw [← Rect.map_emb_univ]; exact Finset.mem_map_of_mem _ (Finset.mem_univ _))]
    rfl
  iexact H
end

end Cert.KernelIdeal.Body
-- ==== Proof.Kv.lean ====
/-
The copies that fetch one group's keys and values into a slot.
-/
module

public import proofs.«01_k».proof.Proof.Geometry

@[expose] public section

noncomputable section

namespace Cert.KernelIdeal.Body

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Transfers Idealize.ShloMosaic.ValueIdx

variable {F : FTy → Type} [FloatOps F] [Named F]

local notation "𝕄" => MM F

theorem bigSepL_ofFn {I : Type} {n : Nat} (f : Fin n → I) (Φ : I → sProp 𝕄) :
    bigSepL (List.ofFn f) Φ = bigSep Finset.univ fun i => Φ (f i) := by
  rw [List.ofFn_eq_map, bigSepL_map, bigSep_univ_eq_bigSepL (List.finRange n) (by ext i; simp) (List.nodup_finRange n)]

variable {n : Nat} {c : Dev nD}

/-- The copies of `n` bands of one array into one slot. -/
structure Quarter (n : Nat) where
  band : Fin n → Fin 16
  src : Memref sig .tc .hbm S64x1024x128 .bf16
  dst : Memref sig .tc .vmem (Sn n) .bf16
  sem : Fin n → DmaSem sig
  slot : Fin 2
  hs : src.IsWhole
  hd : dst.IsWhole
  words : ∀ i, (bandRect (n := n) slot i).WholeWords (EltTy.packing .bf16)

/-- Its copies. -/
def Quarter.copy (Z : Quarter n) (B : Bands) (i : Fin n) : Copy where
  src := Z.src.slice (Rect.unit (s := S64x1024x128) (B.off (Z.band i)) S8x64x128.size (B.inb (Z.band i))) (fun _ => rfl)
  dst := (Z.dst.slice (bandRect Z.slot i) (fun _ => rfl)).squeeze S8x64x128 squeezes_S1x8x64x128_S8x64x128
  sem := Z.sem i
  hsrc := Z.hs.wordExact_slice rfl _ (B.words _)
  hdst := (Z.hd.wordExact_slice rfl _ (Z.words i)).reshape _ _

/-- Its copies on device `c`, each reading a share of its own of what the array holds. -/
def Quarter.plan (Z : Quarter n) (B : Bands) (q : PosShare TreeShare) (f : Buf (Elt F) (Z.src.view.loc (c : Thread nD τ))) (i : Fin n) : Plan F c where
  copy := Z.copy B i
  q := shareTok q n i
  fs := f

/-- Its semaphores at zero. -/
def Quarter.sems (Z : Quarter n) (c : Dev nD) : sProp 𝕄 := bigSep Finset.univ fun i => semVal ((c : Thread nD τ), .dma (Z.sem i)) 0
/-- A share of the array. -/
def Quarter.source (Z : Quarter n) (q : PosShare TreeShare) (f : Buf (Elt F) (Z.src.view.loc (c : Thread nD τ))) : sProp 𝕄 :=
  Z.src.view.loc (c : Thread nD τ) ↦{q} f
/-- The slot with contents unknown, the semaphores at zero. -/
def Quarter.idle (Z : Quarter n) (c : Dev nD) : sProp 𝕄 := iprop(Room c Z.dst (slotSet n Z.slot) ∗ Z.sems c)
/-- The slot holding the bands of `g`. -/
def Quarter.holds (Z : Quarter n) (T : S64x1024x128.Idx → Elt F .bf16) (g c : Dev nD) : sProp 𝕄 :=
  iprop(Part c Z.dst (slotSet n Z.slot) fullShare (kvW n Z.band T g) ∗ Z.sems c)

theorem Quarter.holds_idle (Z : Quarter n) (T : S64x1024x128.Idx → Elt F .bf16) (g : Dev nD) : Z.holds T g c ⊢ Z.idle c := by
  unfold holds idle
  exact sep_mono_left part_room

theorem Quarter.start (Z : Quarter n) (B : Bands) (q : PosShare TreeShare) (f : Buf (Elt F) (Z.src.view.loc (c : Thread nD τ))) :
    iprop(Z.idle c ∗ Z.source q f)
      ⊢ iprop(bigSepL (List.ofFn (Z.plan B q f)) Plan.ready ∗ Z.source (shareDrop q n) f) := by
  rw [bigSepL_ofFn]
  unfold idle sems source Room Plan.ready
  rw [bigSep_sep', bigSep_sep']
  iintro ⟨⟨⟨%w, Hr⟩, Hv⟩, Hs⟩
  ihave H2 := (pointsTo_toks_split (ℓ := Z.src.view.loc (c : Thread nD τ)) (S := Finset.univ) (f := f) q n) $$ Hs
  icases H2 with ⟨Hd, Ht⟩
  isplitr [Hd]
  · isplitl [Ht]; · iexact Ht
    isplitl [Hr]
    · ihave H := (part_biUnion (c := c) (m := Z.dst) (q := fullShare) (w := w) Finset.univ (fun i => (bandRect (n := n) Z.slot i).set)
        (bands_disjoint Z.slot) (bands_union Z.slot)) $$ Hr
      have hb : (bigSep Finset.univ fun i => Part c Z.dst (bandRect (n := n) Z.slot i).set fullShare w)
          ⊢ (bigSep Finset.univ fun i => (Z.plan B q f i).room : sProp 𝕄) :=
        bigSep_mono fun i _ => part_room.trans (squeezed_room (m := Z.dst) (r := bandRect Z.slot i) (fun _ => rfl) squeezes_S1x8x64x128_S8x64x128)
      iapply hb
      iexact H
    · iexact Hv
  · iexact Hd

theorem Quarter.finish (Z : Quarter n) {B : Bands} {g : Dev nD} (hB : B.For g) (q : PosShare TreeShare)
    (f : Buf (Elt F) (Z.src.view.loc (c : Thread nD τ))) (b₀ : Z.dst.view.ty.Contents (Elt F)) :
    iprop(bigSepL (List.ofFn (Z.plan B q f)) Plan.done ∗ Z.source (shareDrop q n) f)
      ⊢ iprop(Z.holds (Z.src.view.read (Elt F) f) g c ∗ Z.source q f) := by
  rw [bigSepL_ofFn]
  unfold holds sems source Plan.done
  rw [bigSep_sep', bigSep_sep']
  iintro ⟨⟨Ht, Hr, Hv⟩, Hd⟩
  isplitr [Hd Ht]
  · isplitl [Hr]
    · iapply (part_biUnion_join (c := c) (m := Z.dst) (q := fullShare) (w := kvW n Z.band (Z.src.view.read (Elt F) f) g) Finset.univ (fun i => (bandRect (n := n) Z.slot i).set)
        (bands_disjoint Z.slot) (bands_union Z.slot) b₀)
      have hb : (bigSep Finset.univ fun i => (Z.plan B q f i).landed : sProp 𝕄)
          ⊢ bigSep Finset.univ fun i => Part c Z.dst (bandRect (n := n) Z.slot i).set fullShare (kvW n Z.band (Z.src.view.read (Elt F) f) g) :=
        bigSep_mono fun i _ => squeezed_part (m := Z.dst) (r := bandRect Z.slot i) (fun _ => rfl) squeezes_S1x8x64x128_S8x64x128
          fun y => kvW_band Z.band _ hB Z.slot i _ y
      iapply hb
      iexact Hr
    · iexact Hv
  · iapply (pointsTo_toks_join (ℓ := Z.src.view.loc (c : Thread nD τ)) (S := Finset.univ) (f := f) q n)
    isplitl [Hd]; · iexact Hd
    iexact Ht

/-! ## All four quarters -/

def Kv.zk0 (K : Kv) (slot : Fin 2) : Quarter 6 := ⟨band0, kt, K.k0, fun i => kvSem K.sems slot (0 + i.val) (by have := i.isLt; omega), slot,
  Memref.isWhole_whole _, K.hk0, words384 slot⟩
def Kv.zv0 (K : Kv) (slot : Fin 2) : Quarter 6 := ⟨band0, vt, K.v0, fun i => kvSem K.sems slot (6 + i.val) (by have := i.isLt; omega), slot,
  Memref.isWhole_whole _, K.hv0, words384 slot⟩
def Kv.zk12 (K : Kv) (slot : Fin 2) : Quarter 11 := ⟨band12, kt, K.k12, fun i => kvSem K.sems slot (12 + i.val) (by have := i.isLt; omega), slot,
  Memref.isWhole_whole _, K.hk12, words704 slot⟩
def Kv.zv12 (K : Kv) (slot : Fin 2) : Quarter 11 := ⟨band12, vt, K.v12, fun i => kvSem K.sems slot (23 + i.val) (by have := i.isLt; omega), slot,
  Memref.isWhole_whole _, K.hv12, words704 slot⟩

theorem copies_eq (K : Kv) (slot : Fin 2) (B : Bands) :
    copies K slot B = List.ofFn ((K.zk0 slot).copy B) ++ (List.ofFn ((K.zv0 slot).copy B)
      ++ (List.ofFn ((K.zk12 slot).copy B) ++ List.ofFn ((K.zv12 slot).copy B))) := rfl

/-- A slot with contents unknown, its semaphores at zero. -/
def kvIdle (K : Kv) (slot : Fin 2) (c : Dev nD) : sProp 𝕄 :=
  iprop((K.zk0 slot).idle c ∗ (K.zv0 slot).idle c ∗ (K.zk12 slot).idle c ∗ (K.zv12 slot).idle c)

/-- A slot holding group `g`. -/
def kvHolds (K : Kv) (slot : Fin 2) (KT VT : S64x1024x128.Idx → Elt F .bf16) (g c : Dev nD) : sProp 𝕄 :=
  iprop((K.zk0 slot).holds KT g c ∗ (K.zv0 slot).holds VT g c ∗ (K.zk12 slot).holds KT g c ∗ (K.zv12 slot).holds VT g c)

theorem kvHolds_idle (K : Kv) (slot : Fin 2) (KT VT : S64x1024x128.Idx → Elt F .bf16) (g : Dev nD) : kvHolds K slot KT VT g c ⊢ kvIdle K slot c :=
  BIClass.sep_mono ((K.zk0 slot).holds_idle _ _) (BIClass.sep_mono ((K.zv0 slot).holds_idle _ _)
    (BIClass.sep_mono ((K.zk12 slot).holds_idle _ _) ((K.zv12 slot).holds_idle _ _)))

/-- One direction's share of the keys and of the values. -/
def kvSource (q : PosShare TreeShare) (KT VT : S64x1024x128.Idx → Elt F .bf16) (c : Dev nD) : sProp 𝕄 :=
  iprop((((c : Thread nD τ).loc main_v8) ↦{q} KT) ∗ (((c : Thread nD τ).loc main_v9) ↦{q} VT))

/-- The plans of a slot's copies. -/
def kvPlans (K : Kv) (slot : Fin 2) (B : Bands) (q : PosShare TreeShare) (KT VT : S64x1024x128.Idx → Elt F .bf16) (c : Dev nD) : List (Plan F c) :=
  List.ofFn ((K.zk0 slot).plan B q.left KT) ++ (List.ofFn ((K.zv0 slot).plan B q.left VT)
    ++ (List.ofFn ((K.zk12 slot).plan B q.right KT) ++ List.ofFn ((K.zv12 slot).plan B q.right VT)))

theorem kvPlans_copy (K : Kv) (slot : Fin 2) (B : Bands) (q : PosShare TreeShare) (KT VT : S64x1024x128.Idx → Elt F .bf16) :
    (kvPlans K slot B q KT VT c).map Plan.copy = copies K slot B := by
  rw [copies_eq]
  simp only [kvPlans, List.map_append, List.map_ofFn]
  rfl

/-- The four quarters' shares. -/
def kvShares (K : Kv) (slot : Fin 2) (q1 q2 : PosShare TreeShare) (KT VT : S64x1024x128.Idx → Elt F .bf16) (c : Dev nD) : sProp 𝕄 :=
  iprop((K.zk0 slot).source (c := c) q1 KT ∗ (K.zv0 slot).source (c := c) q1 VT
    ∗ (K.zk12 slot).source (c := c) q2 KT ∗ (K.zv12 slot).source (c := c) q2 VT)

theorem kv_split (K : Kv) (slot : Fin 2) (q : PosShare TreeShare) (KT VT : S64x1024x128.Idx → Elt F .bf16) :
    kvSource q KT VT c ⊢ kvShares K slot q.left q.right KT VT c := by
  show _ ⊢ iprop((((c : Thread nD τ).loc main_v8) ↦{q.left} KT) ∗ (((c : Thread nD τ).loc main_v9) ↦{q.left} VT)
    ∗ (((c : Thread nD τ).loc main_v8) ↦{q.right} KT) ∗ (((c : Thread nD τ).loc main_v9) ↦{q.right} VT))
  unfold kvSource
  iintro ⟨HK, HV⟩
  ihave HK := (pointsTo_share (PosShare.mem_left_op_right q)).1 $$ HK
  ihave HV := (pointsTo_share (PosShare.mem_left_op_right q)).1 $$ HV
  icases HK with ⟨K1, K2⟩
  icases HV with ⟨V1, V2⟩
  isplitl [K1]; · iexact K1
  isplitl [V1]; · iexact V1
  isplitl [K2]; · iexact K2
  iexact V2

theorem kv_join (K : Kv) (slot : Fin 2) (q : PosShare TreeShare) (KT VT : S64x1024x128.Idx → Elt F .bf16) :
    kvShares K slot q.left q.right KT VT c ⊢ kvSource q KT VT c := by
  show iprop((((c : Thread nD τ).loc main_v8) ↦{q.left} KT) ∗ (((c : Thread nD τ).loc main_v9) ↦{q.left} VT)
    ∗ (((c : Thread nD τ).loc main_v8) ↦{q.right} KT) ∗ (((c : Thread nD τ).loc main_v9) ↦{q.right} VT)) ⊢ _
  unfold kvSource
  iintro ⟨K1, V1, K2, V2⟩
  isplitl [K1 K2]
  · iapply (pointsTo_share (PosShare.mem_left_op_right q)).2
    isplitl [K1]; · iexact K1
    iexact K2
  · iapply (pointsTo_share (PosShare.mem_left_op_right q)).2
    isplitl [V1]; · iexact V1
    iexact V2

/-- A slot's copies under way. -/
def kvFlying (K : Kv) (slot : Fin 2) (B : Bands) (q : PosShare TreeShare) (KT VT : S64x1024x128.Idx → Elt F .bf16) (c : Dev nD) : sProp 𝕄 :=
  iprop(bigSepL (kvPlans K slot B q KT VT c) Plan.flying ∗ kvShares K slot (shareDrop q.left 6) (shareDrop q.right 11) KT VT c)

variable (defs : Defs nD τ sig (Elt F) Λ₀)

theorem kv_start (K : Kv) (slot : Fin 2) (B : Bands) (q : PosShare TreeShare) (KT VT : S64x1024x128.Idx → Elt F .bf16)
    {α : Type} (k : PUnit → BProg F α) (Q : α → sProp 𝕄) :
    iprop(kvIdle K slot c ∗ kvSource q KT VT c)
      ⊢ iprop((kvFlying K slot B q KT VT c -∗ Wp defs c (k ⟨⟩) Q) -∗ Wp defs c (startAll (copies K slot B) >>= k) Q) := by
  unfold kvIdle kvFlying
  iintro ⟨⟨H1, H2, H3, H4⟩, H⟩ Hk
  ihave H := (kv_split K slot q KT VT) $$ H
  unfold kvShares
  icases H with ⟨K1, V1, K2, V2⟩
  ihave H1 := ((K.zk0 slot).start B q.left KT) $$ [H1 K1]
  · isplitl [H1]; · iexact H1
    iexact K1
  ihave H2 := ((K.zv0 slot).start B q.left VT) $$ [H2 V1]
  · isplitl [H2]; · iexact H2
    iexact V1
  ihave H3 := ((K.zk12 slot).start B q.right KT) $$ [H3 K2]
  · isplitl [H3]; · iexact H3
    iexact K2
  ihave H4 := ((K.zv12 slot).start B q.right VT) $$ [H4 V2]
  · isplitl [H4]; · iexact H4
    iexact V2
  icases H1 with ⟨H1, D1⟩
  icases H2 with ⟨H2, D2⟩
  icases H3 with ⟨H3, D3⟩
  icases H4 with ⟨H4, D4⟩
  rw [← kvPlans_copy K slot B q KT VT]
  iapply (startAll_spec defs (kvPlans K slot B q KT VT c) k Q) $$ [H1 H2 H3 H4]
  · unfold kvPlans
    rw [bigSepL_append, bigSepL_append, bigSepL_append]
    isplitl [H1]; · iexact H1
    isplitl [H2]; · iexact H2
    isplitl [H3]; · iexact H3
    iexact H4
  iintro H
  iapply Hk
  isplitl [H]; · iexact H
  isplitl [D1]; · iexact D1
  isplitl [D2]; · iexact D2
  isplitl [D3]; · iexact D3
  iexact D4

theorem kv_wait (K : Kv) (slot : Fin 2) {B : Bands} {g : Dev nD} (hB : B.For g) (q : PosShare TreeShare) (KT VT : S64x1024x128.Idx → Elt F .bf16)
    (b1 : K.k0.view.ty.Contents (Elt F)) (b2 : K.v0.view.ty.Contents (Elt F)) (b3 : K.k12.view.ty.Contents (Elt F)) (b4 : K.v12.view.ty.Contents (Elt F))
    (l : List (GSem nD τ sig × ℕ × ℕ)) (hl : ∀ x ∈ l, x.1.1.2 = .tc ∧ 0 < x.2.1 ∧ x.2.1 < 32)
    {α : Type} (k : PUnit → BProg F α) (Q : α → sProp 𝕄) :
    iprop(kvFlying K slot B q KT VT c ∗ Owes c l ∗ levAts L lv)
      ⊢ iprop((iprop(kvHolds K slot KT VT g c ∗ kvSource q KT VT c ∗ Owes c l) -∗ Wp defs c (k ⟨⟩) Q)
        -∗ Wp defs c (waitAll (copies K slot B) >>= k) Q) := by
  unfold kvHolds kvFlying kvShares
  rw [← kvPlans_copy K slot B q KT VT]
  iintro ⟨⟨H, D1, D2, D3, D4⟩, HO, #Hlev⟩ Hk
  iapply (waitAll_spec defs (kvPlans K slot B q KT VT c) l hl k Q) $$ [H HO]
  · isplitl [H]; · iexact H
    isplitl [HO]; · iexact HO
    iexact Hlev
  unfold kvPlans
  rw [bigSepL_append, bigSepL_append, bigSepL_append]
  iintro ⟨⟨H1, H2, H3, H4⟩, HO⟩
  ihave H1 := ((K.zk0 slot).finish hB q.left KT b1) $$ [H1 D1]
  · isplitl [H1]; · iexact H1
    iexact D1
  ihave H2 := ((K.zv0 slot).finish hB q.left VT b2) $$ [H2 D2]
  · isplitl [H2]; · iexact H2
    iexact D2
  ihave H3 := ((K.zk12 slot).finish hB q.right KT b3) $$ [H3 D3]
  · isplitl [H3]; · iexact H3
    iexact D3
  ihave H4 := ((K.zv12 slot).finish hB q.right VT b4) $$ [H4 D4]
  · isplitl [H4]; · iexact H4
    iexact D4
  icases H1 with ⟨H1, K1⟩
  icases H2 with ⟨H2, V1⟩
  icases H3 with ⟨H3, K2⟩
  icases H4 with ⟨H4, V2⟩
  iapply Hk
  isplitl [H1 H2 H3 H4]
  · isplitl [H1]; · iexact H1
    isplitl [H2]; · iexact H2
    isplitl [H3]; · iexact H3
    iexact H4
  isplitr [HO]
  · iapply (kv_join K slot q KT VT)
    unfold kvShares
    isplitl [K1]; · iexact K1
    isplitl [V1]; · iexact V1
    isplitl [K2]; · iexact K2
    iexact V2
  iexact HO

/-! ## Whose bands the copies fetch -/

theorem own_for : ∀ d : Dev nD, (bandsOwn d).For d := by unfold Bands.For; decide +kernel
theorem cw_for : ∀ (d : Dev nD) (w : Fin 4), (bandsCw d w).For (⟨(d.val + 7 - w.val) % 8, Nat.mod_lt _ (by decide)⟩ : Fin 8) := by
  unfold Bands.For; decide +kernel
theorem next_for : ∀ d : Dev nD, (bandsNext d).For (⟨(d.val + 1) % 8, Nat.mod_lt _ (by decide)⟩ : Fin 8) := by unfold Bands.For; decide +kernel
theorem ccw_for : ∀ (d : Dev nD) (w : Fin 2), (bandsCcw d w).For (⟨(d.val + 2 + w.val) % 8, Nat.mod_lt _ (by decide)⟩ : Fin 8) := by
  unfold Bands.For; decide +kernel

end Cert.KernelIdeal.Body
-- ==== Proof.Compute.lean ====
/-
What one group computes, as a function of what the buffers hold, and that the program computes it.
-/
module

public import proofs.«01_k».proof.Proof.Kv
public import Idealize.ShloMosaic.Lib.Scf

@[expose] public section

noncomputable section

namespace Cert.KernelIdeal.Body

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.ValueIdx

variable {F : FTy → Type} [FloatOps F] [Named F]

local notation "𝕄" => MM F

/-! ## Rectangles -/

/-- A rectangle that is the whole shape. -/
theorem emb_zero {s : Shape} {off : Fin s.rank → Nat} (h : ∀ a, off a + s.size a ≤ s.size a) (y : s.Idx) :
    (Rect.unit (s := s) off s.size h).emb y = y := by
  funext a
  have := h a
  refine Fin.ext ?_
  show off a + 1 * (y a).val = (y a).val
  omega

theorem mem_zero {s : Shape} {off : Fin s.rank → Nat} (h : ∀ a, off a + s.size a ≤ s.size a) (x : s.Idx) :
    x ∈ (Rect.unit (s := s) off s.size h).set := by
  rw [← Rect.map_emb_univ]
  exact Finset.mem_map.mpr ⟨x, Finset.mem_univ _, emb_zero h x⟩

/-- The rows that half a slot of weights holds. -/
def wts (Wq Wo : S1024x1024.Idx → Elt F .bf16) : S2x2048x1024.Idx → Elt F .bf16 := fun x =>
  if h : (x 1).val < 1024 then Wq (ix2 (n0 := 1024) (n1 := 1024) ⟨(x 1).val, h⟩ (x 2))
  else Wo (ix2 (n0 := 1024) (n1 := 1024) ⟨(x 1).val - 1024, by have h2 : (x 1).val < 2048 := (x 1).isLt; omega⟩ (x 2))

/-- A square array with a unit axis in front. -/
def lift1 {e : EltTy} (W : S1024x1024.Idx → Elt F e) : S1x1024x1024.Idx → Elt F e := fun x => W (ix2 (n0 := 1024) (n1 := 1024) (x 1) (x 2))

theorem wts_half0 (Wq Wo : S1024x1024.Idx → Elt F .bf16) (slot : Fin 2) :
    (fun x => wts Wq Wo ((Rect.unit (s := S2x2048x1024) ![slot.val, 1024 * (0 : Fin 2).val, 0] S1x1024x1024.size (inbHalf slot 0)).emb x)) = lift1 Wq := by
  funext x
  have h1 : (x 1).val < 1024 := (x 1).isLt
  have e : ((Rect.unit (s := S2x2048x1024) ![slot.val, 1024 * (0 : Fin 2).val, 0] S1x1024x1024.size (inbHalf slot 0)).emb x 1).val = (x 1).val := by
    show 1024 * 0 + 1 * (x 1).val = (x 1).val; omega
  have e2 : ((Rect.unit (s := S2x2048x1024) ![slot.val, 1024 * (0 : Fin 2).val, 0] S1x1024x1024.size (inbHalf slot 0)).emb x 2).val = (x 2).val := by
    show 0 + 1 * (x 2).val = (x 2).val; omega
  unfold wts lift1
  rw [dif_pos (by rw [e]; exact h1)]
  refine congrArg Wq (funext fun d => ?_)
  match d with
  | ⟨0, _⟩ => exact Fin.ext e
  | ⟨1, _⟩ => exact Fin.ext e2

theorem wts_half1 (Wq Wo : S1024x1024.Idx → Elt F .bf16) (slot : Fin 2) :
    (fun x => wts Wq Wo ((Rect.unit (s := S2x2048x1024) ![slot.val, 1024 * (1 : Fin 2).val, 0] S1x1024x1024.size (inbHalf slot 1)).emb x)) = lift1 Wo := by
  funext x
  have e : ((Rect.unit (s := S2x2048x1024) ![slot.val, 1024 * (1 : Fin 2).val, 0] S1x1024x1024.size (inbHalf slot 1)).emb x 1).val = 1024 + (x 1).val := by
    show 1024 * 1 + 1 * (x 1).val = 1024 + (x 1).val; omega
  have e2 : ((Rect.unit (s := S2x2048x1024) ![slot.val, 1024 * (1 : Fin 2).val, 0] S1x1024x1024.size (inbHalf slot 1)).emb x 2).val = (x 2).val := by
    show 0 + 1 * (x 2).val = (x 2).val; omega
  unfold wts lift1
  rw [dif_neg (by rw [e]; omega)]
  refine congrArg Wo (funext fun d => ?_)
  match d with
  | ⟨0, _⟩ => exact Fin.ext (by show _ - 1024 = (x 1).val; rw [e]; omega)
  | ⟨1, _⟩ => exact Fin.ext e2

/-- The indices of a slot of weights. -/
def wSet (slot : Fin 2) : Finset S2x2048x1024.Idx := Finset.univ.filter fun x => (x 0).val = slot.val

theorem mem_wSet {slot : Fin 2} {x : S2x2048x1024.Idx} : x ∈ wSet slot ↔ (x 0).val = slot.val := by simp [wSet]

theorem half_subset (slot half : Fin 2) :
    (Rect.unit (s := S2x2048x1024) ![slot.val, 1024 * half.val, 0] S1x1024x1024.size (inbHalf slot half)).set ⊆ wSet slot := by
  intro x hx
  rw [Rect.mem_set_unit] at hx
  have h0 := hx 0
  rw [mem_wSet]
  simp at h0
  omega

/-! ## Values -/

/-- One head's rows of a group, band after band. -/
def headK (n : Nat) (band : Fin n → Fin 16) (T : S64x1024x128.Idx → Elt F .bf16) (g : Dev nD) (t : Fin 8) :
    (⟨4, ![1, 1, 64 * n, 128]⟩ : Shape).Idx → Elt F .bf16 := fun x =>
  T (ix3 (n0 := 64) (n1 := 1024) (n2 := 128) ⟨8 * g.val + t.val, by have := t.isLt; have hg : g.val < 8 := g.isLt; omega⟩
    ⟨64 * (band ⟨(x 2).val / 64, by have h : (x 2).val < 64 * n := (x 2).isLt; omega⟩).val + (x 2).val % 64, by
      have := (band ⟨(x 2).val / 64, by have h : (x 2).val < 64 * n := (x 2).isLt; omega⟩).isLt; omega⟩ (x 3))

theorem kvW_head {n : Nat} (band : Fin n → Fin 16) (T : S64x1024x128.Idx → Elt F .bf16) (g : Dev nD) (t : Fin 8)
    (x : (Sn n).Idx) (y : (⟨4, ![1, 1, 64 * n, 128]⟩ : Shape).Idx) (h1 : (x 1).val = t.val) (h2 : (x 2).val = (y 2).val) (h3 : (x 3).val = (y 3).val) :
    kvW n band T g x = headK n band T g t y := by
  unfold kvW headK
  have e : (⟨(x 2).val / 64, by have h : (x 2).val < 64 * n := (x 2).isLt; omega⟩ : Fin n)
      = ⟨(y 2).val / 64, by have h : (y 2).val < 64 * n := (y 2).isLt; omega⟩ := Fin.ext (by show (x 2).val / 64 = (y 2).val / 64; rw [h2])
  refine congrArg T (funext fun d => ?_)
  match d with
  | ⟨0, _⟩ => exact Fin.ext (by show 8 * g.val + (x 1).val = 8 * g.val + t.val; rw [h1])
  | ⟨1, _⟩ => exact Fin.ext (by show 64 * (band _).val + (x 2).val % 64 = 64 * (band _).val + (y 2).val % 64; rw [e, h2])
  | ⟨2, _⟩ => exact Fin.ext h3

/-- One head's columns of the rows of the first kind, and of the other rows. -/
def qRows0 (q : S1024x1024.Idx → Elt F .bf16) (t : Fin 8) : S384x128.Idx → Elt F .bf16 := fun y =>
  q (ix2 (n0 := 1024) (n1 := 1024) ⟨(y 0).val, by have h : (y 0).val < 384 := (y 0).isLt; omega⟩
    ⟨128 * t.val + (y 1).val, by have h : (y 1).val < 128 := (y 1).isLt; have := t.isLt; omega⟩)
def qRows1 (q : S1024x1024.Idx → Elt F .bf16) (t : Fin 8) : S640x128.Idx → Elt F .bf16 := fun y =>
  q (ix2 (n0 := 1024) (n1 := 1024) ⟨384 + (y 0).val, by have h : (y 0).val < 640 := (y 0).isLt; omega⟩
    ⟨128 * t.val + (y 1).val, by have h : (y 1).val < 128 := (y 1).isLt; have := t.isLt; omega⟩)

/-- One head's attention, for the two kinds of rows. -/
def att0 (KT VT : S64x1024x128.Idx → Elt F .bf16) (g : Dev nD) (q : S1024x1024.Idx → Elt F .bf16) (t : Fin 8) : S384x128.Idx → Elt F .bf16 :=
  ctx0Of (headK 6 band0 KT g t) (headK 6 band0 VT g t) (qRows0 q t)
def att1 (KT VT : S64x1024x128.Idx → Elt F .bf16) (g : Dev nD) (b : S640x704.Idx → Elt F .f32) (q : S1024x1024.Idx → Elt F .bf16) (t : Fin 8) :
    S640x128.Idx → Elt F .bf16 :=
  ctx12Of (headK 11 band12 KT g t) (headK 11 band12 VT g t) b (qRows1 q t)

/-- All heads' attention. -/
def ctxAll (KT VT : S64x1024x128.Idx → Elt F .bf16) (g : Dev nD) (b : S640x704.Idx → Elt F .f32) (q : S1024x1024.Idx → Elt F .bf16) :
    S1024x1024.Idx → Elt F .bf16 := fun x =>
  if h : (x 0).val < 384 then att0 KT VT g q ⟨(x 1).val / 128, by have h : (x 1).val < 1024 := (x 1).isLt; omega⟩
    (ix2 (n0 := 384) (n1 := 128) ⟨(x 0).val, h⟩ ⟨(x 1).val % 128, Nat.mod_lt _ (by decide)⟩)
  else att1 KT VT g b q ⟨(x 1).val / 128, by have h : (x 1).val < 1024 := (x 1).isLt; omega⟩
    (ix2 (n0 := 640) (n1 := 128) ⟨(x 0).val - 384, by have h : (x 0).val < 1024 := (x 0).isLt; omega⟩ ⟨(x 1).val % 128, Nat.mod_lt _ (by decide)⟩)

theorem ctxAll_row0 (KT VT : S64x1024x128.Idx → Elt F .bf16) (g : Dev nD) (b : S640x704.Idx → Elt F .f32) (q : S1024x1024.Idx → Elt F .bf16)
    (x : S1024x1024.Idx) (t : Fin 8) (y : S384x128.Idx) (h0 : (x 0).val = (y 0).val) (h1 : (x 1).val = 128 * t.val + (y 1).val) :
    ctxAll KT VT g b q x = att0 KT VT g q t y := by
  have hy0 : (y 0).val < 384 := (y 0).isLt
  have hy1 : (y 1).val < 128 := (y 1).isLt
  unfold ctxAll
  rw [dif_pos (by omega)]
  have e : (⟨(x 1).val / 128, by have h : (x 1).val < 1024 := (x 1).isLt; omega⟩ : Fin 8) = t := Fin.ext (by show (x 1).val / 128 = t.val; omega)
  rw [e]
  refine congrArg (att0 KT VT g q t) (funext fun d => ?_)
  match d with
  | ⟨0, _⟩ => exact Fin.ext h0
  | ⟨1, _⟩ => exact Fin.ext (by show (x 1).val % 128 = (y 1).val; omega)

theorem ctxAll_row1 (KT VT : S64x1024x128.Idx → Elt F .bf16) (g : Dev nD) (b : S640x704.Idx → Elt F .f32) (q : S1024x1024.Idx → Elt F .bf16)
    (x : S1024x1024.Idx) (t : Fin 8) (y : S640x128.Idx) (h0 : (x 0).val = 384 + (y 0).val) (h1 : (x 1).val = 128 * t.val + (y 1).val) :
    ctxAll KT VT g b q x = att1 KT VT g b q t y := by
  have hy1 : (y 1).val < 128 := (y 1).isLt
  unfold ctxAll
  rw [dif_neg (by omega)]
  have e : (⟨(x 1).val / 128, by have h : (x 1).val < 1024 := (x 1).isLt; omega⟩ : Fin 8) = t := Fin.ext (by show (x 1).val / 128 = t.val; omega)
  rw [e]
  refine congrArg (att1 KT VT g b q t) (funext fun d => ?_)
  match d with
  | ⟨0, _⟩ => exact Fin.ext (by show (x 0).val - 384 = (y 0).val; omega)
  | ⟨1, _⟩ => exact Fin.ext (by show (x 1).val % 128 = (y 1).val; omega)

/-- The accumulator after one more group. -/
def accNext (X : S1024x1024.Idx → Elt F .bf16) (b : S640x704.Idx → Elt F .f32) (KT VT : S64x1024x128.Idx → Elt F .bf16) (g : Dev nD)
    (Wq Wo : S1024x1024.Idx → Elt F .bf16) (A : S1024x1024.Idx → Elt F .f32) : S1024x1024.Idx → Elt F .f32 :=
  accOf A (ctxAll KT VT g b (qOf X (lift1 Wq))) (lift1 Wo)

variable {c : Dev nD} (defs : Defs nD τ sig (Elt F) Λ₀)

/-! ## Whole loads and stores -/

section
variable {e : EltTy} {a : Memref sig .tc .vmem S1024x1024 e} {q : PosShare TreeShare} {w : S1024x1024.Idx → Elt F e}
  {α : Type}

theorem loadSq_spec (k : Vec F S1024x1024 e → BProg F α) (Q : α → sProp 𝕄) :
    Part c a Finset.univ q w ⊢ iprop((Part c a Finset.univ q w -∗ Wp defs c (k w) Q) -∗ Wp defs c (.op (loadSq a) k) Q) := by
  have h := load_part (c := c) (m := a) (S := Finset.univ) (q := q) (w := w) defs
    (r := Rect.unit (s := S1024x1024) ![0, 0] S1024x1024.size inb_S1024x1024_S1024x1024_0_0) (hl := View.loadsAt_vmem h_S1024x1024)
    (Finset.subset_univ _) k Q
  have e : (fun x => w ((Rect.unit (s := S1024x1024) ![0, 0] S1024x1024.size inb_S1024x1024_S1024x1024_0_0).emb x)) = w :=
    funext fun x => by rw [emb_zero]
  rw [e] at h
  exact h

theorem loadSq_room (k : Vec F S1024x1024 e → BProg F α) (Q : α → sProp 𝕄) :
    Room c a Finset.univ ⊢ iprop((∀ v, Room c a Finset.univ -∗ Wp defs c (k v) Q) -∗ Wp defs c (.op (loadSq a) k) Q) := by
  conv_lhs => unfold Room
  iintro ⟨%w, H⟩ Hk
  iapply (loadSq_spec defs k Q) $$ H
  iintro H
  iapply Hk $$ %w
  iapply part_room; iexact H

theorem storeSq_spec {a : Memref sig .tc .vmem S1024x1024 .bf16} (ha : a.IsWhole) (v : FVec F S1024x1024 .bf16) (k : PUnit → BProg F α) (Q : α → sProp 𝕄) :
    Room c a Finset.univ ⊢ iprop((Part c a Finset.univ fullShare v -∗ Wp defs c (k ⟨⟩) Q) -∗ Wp defs c (.op (storeSq a ha v) k) Q) := by
  conv_lhs => unfold Room
  iintro ⟨%w, H⟩
  iapply (store_part (c := c) (m := a) (S := Finset.univ) (w := w) (w' := v) defs (Finset.subset_univ _) (fun x => by rw [emb_zero])
    (fun x _ hx => (hx (mem_zero _ x)).elim) k Q) $$ H

theorem storeAcc_spec (v w : FVec F S1024x1024 .f32) (k : PUnit → BProg F α) (Q : α → sProp 𝕄) :
    Part c accM Finset.univ fullShare w
      ⊢ iprop((Part c accM Finset.univ fullShare v -∗ Wp defs c (k ⟨⟩) Q) -∗ Wp defs c (.op (storeAcc v) k) Q) :=
  store_part (c := c) (m := accM) (S := Finset.univ) (w := w) (w' := v) defs (Finset.subset_univ _) (fun x => by rw [emb_zero])
    (fun x _ hx => (hx (mem_zero _ x)).elim) k Q

end

/-! ## A head -/

theorem emb_q0 (t : Fin k0_t1_loop.trips) (y : S384x128.Idx) :
    ((Rect.unit (s := S1024x1024) (offQ 0 t) S384x128.size (k0_off51_inb t)).emb y 0).val = (y 0).val
      ∧ ((Rect.unit (s := S1024x1024) (offQ 0 t) S384x128.size (k0_off51_inb t)).emb y 1).val = 128 * t.val + (y 1).val := by
  constructor
  · show offQ 0 t 0 + 1 * (y 0).val = _; rw [congrFun (offQ0_eq t) 0]; simp
  · show offQ 0 t 1 + 1 * (y 1).val = _; rw [congrFun (offQ0_eq t) 1]; simp

theorem emb_q1 (t : Fin k0_t1_loop.trips) (y : S640x128.Idx) :
    ((Rect.unit (s := S1024x1024) (offQ 384 t) S640x128.size (k0_off52_inb t)).emb y 0).val = 384 + (y 0).val
      ∧ ((Rect.unit (s := S1024x1024) (offQ 384 t) S640x128.size (k0_off52_inb t)).emb y 1).val = 128 * t.val + (y 1).val := by
  constructor
  · show offQ 384 t 0 + 1 * (y 0).val = _; rw [congrFun (offQ384_eq t) 0]; simp
  · show offQ 384 t 1 + 1 * (y 1).val = _; rw [congrFun (offQ384_eq t) 1]; simp

theorem mem_q0 (t : Fin k0_t1_loop.trips) (x : S1024x1024.Idx) :
    x ∈ (Rect.unit (s := S1024x1024) (offQ 0 t) S384x128.size (k0_off51_inb t)).set ↔ (x 0).val < 384 ∧ (x 1).val / 128 = t.val := by
  refine Iff.trans Rect.mem_set_unit ?_
  show (∀ a, offQ 0 t a ≤ (x a).val ∧ (x a).val < offQ 0 t a + S384x128.size a) ↔ _
  rw [offQ0_eq]
  constructor
  · intro h; have h0 := h 0; have h1 := h 1; simp at h0 h1; omega
  · intro h a; fin_cases a <;> simp <;> omega

theorem mem_q1 (t : Fin k0_t1_loop.trips) (x : S1024x1024.Idx) :
    x ∈ (Rect.unit (s := S1024x1024) (offQ 384 t) S640x128.size (k0_off52_inb t)).set ↔ 384 ≤ (x 0).val ∧ (x 1).val / 128 = t.val := by
  have h0 : (x 0).val < 1024 := (x 0).isLt
  refine Iff.trans Rect.mem_set_unit ?_
  show (∀ a, offQ 384 t a ≤ (x a).val ∧ (x a).val < offQ 384 t a + S640x128.size a) ↔ _
  rw [offQ384_eq]
  constructor
  · intro h; have h0 := h 0; have h1 := h 1; simp at h0 h1; omega
  · intro h a; fin_cases a <;> simp <;> omega

theorem kv0_subset (slot : Fin 2) (t : Fin k0_t1_loop.trips) :
    (Rect.unit (s := S2x8x384x128) (offKv slot t) S1x1x384x128.size (inbKv0 slot t)).set ⊆ slotSet 6 slot := by
  intro x hx
  rw [Rect.mem_set_unit, offKv_eq] at hx
  have h0 := hx 0
  rw [mem_slotSet]
  simp at h0
  omega

theorem kv12_subset (slot : Fin 2) (t : Fin k0_t1_loop.trips) :
    (Rect.unit (s := S2x8x704x128) (offKv slot t) S1x1x704x128.size (inbKv12 slot t)).set ⊆ slotSet 11 slot := by
  intro x hx
  rw [Rect.mem_set_unit, offKv_eq] at hx
  have h0 := hx 0
  rw [mem_slotSet]
  simp at h0
  omega

theorem kv0_value (T : S64x1024x128.Idx → Elt F .bf16) (g : Dev nD) (slot : Fin 2) (t : Fin k0_t1_loop.trips) :
    (fun y => kvW 6 band0 T g ((Rect.unit (s := S2x8x384x128) (offKv slot t) S1x1x384x128.size (inbKv0 slot t)).emb y)) = headK 6 band0 T g t := by
  funext y
  have hy : (y 1).val < 1 := (y 1).isLt
  refine kvW_head band0 T g t _ y ?_ ?_ ?_
  · show offKv slot t 1 + 1 * (y 1).val = t.val; rw [congrFun (offKv_eq slot t) 1]; simp; omega
  · show offKv slot t 2 + 1 * (y 2).val = _; rw [congrFun (offKv_eq slot t) 2]; simp
  · show offKv slot t 3 + 1 * (y 3).val = _; rw [congrFun (offKv_eq slot t) 3]; simp

theorem kv12_value (T : S64x1024x128.Idx → Elt F .bf16) (g : Dev nD) (slot : Fin 2) (t : Fin k0_t1_loop.trips) :
    (fun y => kvW 11 band12 T g ((Rect.unit (s := S2x8x704x128) (offKv slot t) S1x1x704x128.size (inbKv12 slot t)).emb y)) = headK 11 band12 T g t := by
  funext y
  have hy : (y 1).val < 1 := (y 1).isLt
  refine kvW_head band12 T g t _ y ?_ ?_ ?_
  · show offKv slot t 1 + 1 * (y 1).val = t.val; rw [congrFun (offKv_eq slot t) 1]; simp; omega
  · show offKv slot t 2 + 1 * (y 2).val = _; rw [congrFun (offKv_eq slot t) 2]; simp
  · show offKv slot t 3 + 1 * (y 3).val = _; rw [congrFun (offKv_eq slot t) 3]; simp

theorem q0_value (q : S1024x1024.Idx → Elt F .bf16) (t : Fin k0_t1_loop.trips) :
    (fun y => q ((Rect.unit (s := S1024x1024) (offQ 0 t) S384x128.size (k0_off51_inb t)).emb y)) = qRows0 q t := by
  funext y
  refine congrArg q (funext fun d => ?_)
  match d with
  | ⟨0, _⟩ => exact Fin.ext (emb_q0 t y).1
  | ⟨1, _⟩ => exact Fin.ext (emb_q0 t y).2

theorem q1_value (q : S1024x1024.Idx → Elt F .bf16) (t : Fin k0_t1_loop.trips) :
    (fun y => q ((Rect.unit (s := S1024x1024) (offQ 384 t) S640x128.size (k0_off52_inb t)).emb y)) = qRows1 q t := by
  funext y
  refine congrArg q (funext fun d => ?_)
  match d with
  | ⟨0, _⟩ => exact Fin.ext (emb_q1 t y).1
  | ⟨1, _⟩ => exact Fin.ext (emb_q1 t y).2

/-- What a head reads: a slot of keys and values, the mask, the queries. -/
def headReads (K : Kv) (slot : Fin 2) (m12 : Memref sig .tc .vmem S640x704 .f32) (KT VT : S64x1024x128.Idx → Elt F .bf16) (g : Dev nD)
    (b : S640x704.Idx → Elt F .f32) (q : S1024x1024.Idx → Elt F .bf16) (c : Dev nD) : sProp 𝕄 :=
  iprop(kvHolds K slot KT VT g c ∗ Part c m12 Finset.univ fullShare b ∗ Part c qM Finset.univ fullShare q)

theorem kvHolds_eq (K : Kv) (slot : Fin 2) (KT VT : S64x1024x128.Idx → Elt F .bf16) (g : Dev nD) :
    kvHolds K slot KT VT g c = iprop((Part c K.k0 (slotSet 6 slot) fullShare (kvW 6 band0 KT g) ∗ (K.zk0 slot).sems c)
      ∗ (Part c K.v0 (slotSet 6 slot) fullShare (kvW 6 band0 VT g) ∗ (K.zv0 slot).sems c)
      ∗ (Part c K.k12 (slotSet 11 slot) fullShare (kvW 11 band12 KT g) ∗ (K.zk12 slot).sems c)
      ∗ (Part c K.v12 (slotSet 11 slot) fullShare (kvW 11 band12 VT g) ∗ (K.zv12 slot).sems c)) := rfl

theorem head_spec (K : Kv) (slot : Fin 2) (m12 : Memref sig .tc .vmem S640x704 .f32) (KT VT : S64x1024x128.Idx → Elt F .bf16) (g : Dev nD)
    (b : S640x704.Idx → Elt F .f32) (q w : S1024x1024.Idx → Elt F .bf16) (t : Fin k0_t1_loop.trips)
    {α : Type} (k : PUnit → BProg F α) (Q : α → sProp 𝕄) :
    iprop(headReads K slot m12 KT VT g b q c ∗ Part c ctxM Finset.univ fullShare w)
      ⊢ iprop((iprop(headReads K slot m12 KT VT g b q c
          ∗ Part c ctxM Finset.univ fullShare (fun x => if (x 1).val / 128 = t.val then ctxAll KT VT g b q x else w x)) -∗ Wp defs c (k ⟨⟩) Q)
        -∗ Wp defs c (head K slot m12 t >>= k) Q) := by
  unfold headReads
  rw [kvHolds_eq]
  iintro ⟨⟨⟨⟨K0, S1⟩, ⟨V0, S2⟩, ⟨K1, S3⟩, ⟨V1, S4⟩⟩, Hb, Hq⟩, Hc⟩ Hk
  iapply (load_part (m := K.k0) defs (kv0_subset slot t) _ Q) $$ K0
  iintro K0
  iapply (load_part (m := K.v0) defs (kv0_subset slot t) _ Q) $$ V0
  iintro V0
  iapply (load_part (m := K.k12) defs (kv12_subset slot t) _ Q) $$ K1
  iintro K1
  iapply (load_part (m := K.v12) defs (kv12_subset slot t) _ Q) $$ V1
  iintro V1
  iapply (load_part (m := qM) defs (Finset.subset_univ _) _ Q) $$ Hq
  iintro Hq
  iapply (load_part (m := ctxM) defs (Finset.subset_univ _) _ Q) $$ Hc
  iintro Hc
  iapply (store_part (m := ctxM) (w' := fun x => if (x 0).val < 384 ∧ (x 1).val / 128 = t.val then ctxAll KT VT g b q x else w x) defs
    (Finset.subset_univ _) ?_ ?_ _ Q) $$ Hc
  · intro y
    have h0 : (y 0).val < 384 := (y 0).isLt
    have h1 : (y 1).val < 128 := (y 1).isLt
    have he := emb_q0 t y
    show (if _ then _ else _) = _
    rw [if_pos ⟨by rw [he.1]; exact h0, by rw [he.2]; omega⟩, ctxAll_row0 KT VT g b q _ t y he.1 he.2]
    refine congrFun (?_ : att0 KT VT g q t = ctx0Of _ _ _) y
    unfold att0
    rw [← kv0_value KT g slot t, ← kv0_value VT g slot t, ← q0_value q t]
  · intro x _ hx
    rw [mem_q0] at hx
    exact if_neg hx
  iintro Hc
  iapply (load_part (m := m12) defs (Finset.subset_univ _) _ Q) $$ Hb
  iintro Hb
  iapply (load_part (m := qM) defs (Finset.subset_univ _) _ Q) $$ Hq
  iintro Hq
  iapply (load_part (m := ctxM) defs (Finset.subset_univ _) _ Q) $$ Hc
  iintro Hc
  iapply (store_part (m := ctxM) (w' := fun x => if (x 1).val / 128 = t.val then ctxAll KT VT g b q x else w x) defs
    (Finset.subset_univ _) ?_ ?_ _ Q) $$ Hc
  · intro y
    have h1 : (y 1).val < 128 := (y 1).isLt
    have he := emb_q1 t y
    show (if _ then _ else _) = _
    rw [if_pos (by rw [he.2]; omega), ctxAll_row1 KT VT g b q _ t y he.1 he.2]
    refine congrFun (?_ : att1 KT VT g b q t = ctx12Of _ _ _ _) y
    unfold att1
    rw [← kv12_value KT g slot t, ← kv12_value VT g slot t, ← q1_value q t]
    have e : (fun x => b ((Rect.unit (s := S640x704) ![0, 0] S640x704.size inb_S640x704_S640x704_0_0).emb x)) = b :=
      funext fun x => by rw [emb_zero]
    conv_lhs => rw [← e]
  · intro x _ hx
    rw [mem_q1] at hx
    show (if _ then _ else _) = if _ then _ else _
    by_cases h : (x 1).val / 128 = t.val
    · rw [if_pos h, if_pos ⟨by omega, h⟩]
    · rw [if_neg h, if_neg fun h' => h h'.2]
  iintro Hc
  iapply Hk
  isplitr [Hc]
  · isplitl [K0 V0 K1 V1 S1 S2 S3 S4]
    · isplitl [K0 S1]
      · isplitl [K0]; · iexact K0
        iexact S1
      isplitl [V0 S2]
      · isplitl [V0]; · iexact V0
        iexact S2
      isplitl [K1 S3]
      · isplitl [K1]; · iexact K1
        iexact S3
      · isplitl [V1]; · iexact V1
        iexact S4
    isplitl [Hb]; · iexact Hb
    iexact Hq
  · iexact Hc

end Cert.KernelIdeal.Body
-- ==== Proof.Group.lean ====
/-
The parts of the body that compute: a group, the filling of the first slot, the bands of rows in and out.
-/
module

public import proofs.«01_k».proof.Proof.Compute

@[expose] public section

noncomputable section

namespace Cert.KernelIdeal.Body

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.ValueIdx

variable {F : FTy → Type} [FloatOps F] [Named F]

local notation "𝕄" => MM F

variable {c : Dev nD} (defs : Defs nD τ sig (Elt F) Λ₀)

/-! ## A group -/

theorem wp_end (Q : PUnit → sProp 𝕄) : Q ⟨⟩ ⊢ Wp defs c (pure ⟨⟩) Q := by
  unfold Wp
  rw [Prog.pure_eq_ret, wp_ret]
  iintro H
  imodintro
  iexact H

theorem trips_eq : k0_t1_loop.trips = 8 := by decide +kernel

theorem heads_spec (K : Kv) (slot : Fin 2) (m12 : Memref sig .tc .vmem S640x704 .f32) (KT VT : S64x1024x128.Idx → Elt F .bf16) (g : Dev nD)
    (b : S640x704.Idx → Elt F .f32) (q : S1024x1024.Idx → Elt F .bf16) {α : Type} (k : PUnit → BProg F α) (Q : α → sProp 𝕄) :
    iprop(headReads K slot m12 KT VT g b q c ∗ Room c ctxM Finset.univ)
      ⊢ iprop((iprop(headReads K slot m12 KT VT g b q c ∗ Part c ctxM Finset.univ fullShare (ctxAll KT VT g b q)) -∗ Wp defs c (k ⟨⟩) Q)
        -∗ Wp defs c (heads K slot m12 >>= k) Q) := by
  let I : Nat → PUnit → sProp 𝕄 := fun j _ => iprop(∃ w, ⌜∀ x : S1024x1024.Idx, (x 1).val < 128 * j → w x = ctxAll KT VT g b q x⌝
    ∗ headReads K slot m12 KT VT g b q c ∗ Part c ctxM Finset.univ fullShare w)
  have hbody : ∀ (t : Fin k0_t1_loop.trips) (u : PUnit), I t.val u ⊢ Wp defs c (head K slot m12 t) (I (t.val + 1)) := by
    intro t u
    rw [← Prog.bind_pure (head K slot m12 t)]
    show iprop(∃ w, _) ⊢ _
    iintro ⟨%w, %hw, H⟩
    iapply (head_spec defs K slot m12 KT VT g b q w t pure (I (t.val + 1))) $$ H
    iintro ⟨H, Hc⟩
    iapply (wp_end defs (I (t.val + 1)))
    iexists (fun x : S1024x1024.Idx => if (x 1).val / 128 = t.val then ctxAll KT VT g b q x else w x)
    isplitr
    · ipureintro
      intro x hx
      show (if _ then _ else _) = _
      by_cases h : (x 1).val / 128 = t.val
      · rw [if_pos h]
      · rw [if_neg h]; exact hw x (by omega)
    isplitl [H]; · iexact H
    iexact Hc
  conv_lhs => unfold Room
  iintro ⟨H, ⟨%w, Hc⟩⟩ Hk
  iapply (Scf.wp_for_bind _ _ _ _ _ _ k0_t1_ok ⟨⟩ (fun t _ => head K slot m12 t) I hbody (kk := k) (Q := Q)) $$ [H Hc]
  · iexists w
    isplitr
    · ipureintro; intro x hx; omega
    isplitl [H]; · iexact H
    iexact Hc
  iintro %u
  iintro ⟨%w, %hw, H, Hc⟩
  iapply Hk
  isplitl [H]; · iexact H
  iapply (part_congr fun x _ => hw x (by
    have h : (x 1).val < 1024 := (x 1).isLt
    have ht : Scf.trips 0#32 (Scalar.addi 0#32 8#32) 1#32 = 8 := trips_eq
    rw [ht]; exact h)) $$ Hc

/-- What the groups' computations work in: the inputs' rows, the mask, the accumulator, room for queries and attention. -/
def Work (m12 : Memref sig .tc .vmem S640x704 .f32) (X : S1024x1024.Idx → Elt F .bf16) (b : S640x704.Idx → Elt F .f32)
    (A : S1024x1024.Idx → Elt F .f32) (c : Dev nD) : sProp 𝕄 :=
  iprop(Part c xpM Finset.univ fullShare X ∗ Part c m12 Finset.univ fullShare b ∗ Part c accM Finset.univ fullShare A
    ∗ Room c qM Finset.univ ∗ Room c ctxM Finset.univ)

theorem group_spec (a : Memref sig .tc .vmem S2x2048x1024 .bf16) (slot : Fin 2) (qa : PosShare TreeShare) (K : Kv)
    (m12 : Memref sig .tc .vmem S640x704 .f32) (X : S1024x1024.Idx → Elt F .bf16) (b : S640x704.Idx → Elt F .f32)
    (KT VT : S64x1024x128.Idx → Elt F .bf16) (g : Dev nD) (Wq Wo : S1024x1024.Idx → Elt F .bf16) (A : S1024x1024.Idx → Elt F .f32)
    {α : Type} (k : PUnit → BProg F α) (Q : α → sProp 𝕄) :
    iprop(Part c a (wSet slot) qa (wts Wq Wo) ∗ kvHolds K slot KT VT g c ∗ Work m12 X b A c)
      ⊢ iprop((iprop(Part c a (wSet slot) qa (wts Wq Wo) ∗ kvHolds K slot KT VT g c ∗ Work m12 X b (accNext X b KT VT g Wq Wo A) c) -∗ Wp defs c (k ⟨⟩) Q)
        -∗ Wp defs c (group a slot K m12 >>= k) Q) := by
  have e0 := wts_half0 Wq Wo slot
  have e1 := wts_half1 Wq Wo slot
  have ep : (group a slot K m12 >>= k) = (.op (loadHalf a slot 0) fun wq => .op (loadHalf a slot 1) fun wo => .op (loadSq xpM) fun xp =>
      .op (loadSq qM) fun _ => .op (storeSq qM (Memref.isWhole_whole _) (qOf xp wq)) fun _ => heads K slot m12 >>= fun _ =>
      .op (loadSq accM) fun acc => .op (loadSq ctxM) fun ctx => .op (loadSq accM) fun _ => .op (storeAcc (accOf acc ctx wo)) k) := by
    simp only [group, groupHead, groupTail, bind_assoc, pure_bind, Prog.bind_lift, Prog.bind_op, Prog.lift]
    rfl
  rw [ep]
  unfold Work
  iintro ⟨Ha, Hkv, Hx, Hb, HA, Hq, Hc⟩ Hk
  have hl0 := fun k => load_part (c := c) (m := a) (q := qa) (w := wts Wq Wo) defs (hl := View.loadsAt_vmem h_S1x1024x1024) (half_subset slot 0) k Q
  have hl1 := fun k => load_part (c := c) (m := a) (q := qa) (w := wts Wq Wo) defs (hl := View.loadsAt_vmem h_S1x1024x1024) (half_subset slot 1) k Q
  simp only [e0] at hl0
  simp only [e1] at hl1
  iapply (hl0 _) $$ Ha
  iintro Ha
  iapply (hl1 _) $$ Ha
  iintro Ha
  iapply (loadSq_spec defs _ Q) $$ Hx
  iintro Hx
  iapply (loadSq_room defs _ Q) $$ Hq
  iintro %_ Hq
  iapply (storeSq_spec defs (Memref.isWhole_whole _) _ _ Q) $$ Hq
  iintro Hq
  iapply (heads_spec defs K slot m12 KT VT g b (qOf X (lift1 Wq)) _ Q) $$ [Hkv Hb Hq Hc]
  · unfold headReads
    isplitr [Hc]
    · isplitl [Hkv]; · iexact Hkv
      isplitl [Hb]; · iexact Hb
      iexact Hq
    · iexact Hc
  unfold headReads
  iintro ⟨⟨Hkv, Hb, Hq⟩, Hc⟩
  iapply (loadSq_spec defs _ Q) $$ HA
  iintro HA
  iapply (loadSq_spec defs _ Q) $$ Hc
  iintro Hc
  iapply (loadSq_spec defs _ Q) $$ HA
  iintro HA
  iapply (storeAcc_spec defs _ _ _ Q) $$ HA
  iintro HA
  iapply Hk
  isplitl [Ha]; · iexact Ha
  isplitl [Hkv]; · iexact Hkv
  isplitl [Hx]; · iexact Hx
  isplitl [Hb]; · iexact Hb
  isplitl [HA]; · iexact HA
  isplitl [Hq]
  · iapply part_room; iexact Hq
  · iapply part_room; iexact Hc

/-! ## Programs one after the other -/

theorem seqAll_spec {n : Nat} (p : Fin n → BProg F PUnit) (I : Nat → sProp 𝕄)
    (h : ∀ (i : Fin n) {α : Type} (k : PUnit → BProg F α) (Q : α → sProp 𝕄), I i.val ⊢ iprop((I (i.val + 1) -∗ Wp defs c (k ⟨⟩) Q) -∗ Wp defs c (p i >>= k) Q))
    {α : Type} (k : PUnit → BProg F α) (Q : α → sProp 𝕄) :
    I 0 ⊢ iprop((I n -∗ Wp defs c (k ⟨⟩) Q) -∗ Wp defs c (seqAll (List.ofFn p) >>= k) Q) := by
  induction n generalizing I with
  | zero => rw [List.ofFn_zero]; iintro H Hk; iapply Hk; iexact H
  | succ n ih =>
    rw [List.ofFn_succ]
    have e : (seqAll (p 0 :: List.ofFn fun i => p i.succ) >>= k) = (p 0 >>= fun _ => seqAll (List.ofFn fun i => p i.succ) >>= k) :=
      Prog.bind_assoc _ _ _
    rw [e]
    have h0 : I 0 ⊢ iprop((I (0 + 1) -∗ Wp defs c (seqAll (List.ofFn fun i => p i.succ) >>= k) Q)
        -∗ Wp defs c (p 0 >>= fun _ => seqAll (List.ofFn fun i => p i.succ) >>= k) Q) :=
      h (0 : Fin (n + 1)) (fun _ => seqAll (List.ofFn fun i => p i.succ) >>= k) Q
    iintro H Hk
    iapply h0 $$ H
    iintro H
    iapply (ih (fun i => p i.succ) (fun j => I (j + 1)) (fun i => h i.succ)) $$ H
    iexact Hk

/-! ## The first slot and the accumulator -/

/-- The accumulator at the start. -/
def acc0 : FVec F S1024x1024 .f32 := broadcast S1024x1024 (Scalar.ofBits .f32 0x00000000#32)

theorem lift1_cast (W : FVec F S1024x1024 .bf16) :
    shapeCast S1x1024x1024 (shapeCast S1024x1024 W shapeCasts_S1024x1024_S1024x1024 : FVec F S1024x1024 .bf16) shapeCasts_S1024x1024_S1x1024x1024
      = lift1 (F := F) (e := .bf16) W := by
  rw [shapeCast_self]
  funext j
  refine (shapeCast_addUnit_apply (![1024, 1024]) W _ j).trans (congrArg W (funext fun d => ?_))
  match d with
  | ⟨0, _⟩ => rfl
  | ⟨1, _⟩ => rfl

theorem mem_half (slot half : Fin 2) (x : S2x2048x1024.Idx) :
    x ∈ (Rect.unit (s := S2x2048x1024) ![slot.val, 1024 * half.val, 0] S1x1024x1024.size (inbHalf slot half)).set
      ↔ (x 0).val = slot.val ∧ (x 1).val / 1024 = half.val := by
  have h2 : (x 2).val < 1024 := (x 2).isLt
  rw [Rect.mem_set_unit]
  constructor
  · intro h; have h0 := h 0; have h1 := h 1; simp at h0 h1; omega
  · intro h a; fin_cases a <;> simp <;> omega

theorem fill_spec (wq wo : Memref sig .tc .vmem S1024x1024 .bf16) (q : PosShare TreeShare) (Wq Wo : S1024x1024.Idx → Elt F .bf16)
    {α : Type} (k : PUnit → BProg F α) (Q : α → sProp 𝕄) :
    iprop(Part c wq Finset.univ q Wq ∗ Part c wo Finset.univ q Wo ∗ Room c cwM (wSet 0) ∗ Room c accM Finset.univ)
      ⊢ iprop((iprop(Part c wq Finset.univ q Wq ∗ Part c wo Finset.univ q Wo ∗ Part c cwM (wSet 0) fullShare (wts Wq Wo)
          ∗ Part c accM Finset.univ fullShare acc0) -∗ Wp defs c (k ⟨⟩) Q) -∗ Wp defs c (fill wq wo >>= k) Q) := by
  have e0 := wts_half0 Wq Wo 0
  have e1 := wts_half1 Wq Wo 0
  unfold Room
  iintro ⟨Hq, Ho, ⟨%w, Hc⟩, ⟨%A, HA⟩⟩ Hk
  iapply (loadSq_spec defs _ Q) $$ Hq
  iintro Hq
  iapply (load_part (m := cwM) defs (half_subset 0 0) _ Q) $$ Hc
  iintro Hc
  iapply (store_part (m := cwM) (w' := fun x => if (x 1).val / 1024 = 0 then wts Wq Wo x else w x) defs (half_subset 0 0) ?_ ?_ _ Q) $$ Hc
  · intro y
    have h1 : (y 1).val < 1024 := (y 1).isLt
    show (if _ then _ else _) = _
    rw [if_pos (by show (1024 * 0 + 1 * (y 1).val) / 1024 = 0; omega), lift1_cast]
    exact congrFun e0 y
  · intro x hx hn
    rw [mem_half] at hn
    rw [mem_wSet] at hx
    exact if_neg fun h => hn ⟨hx, h⟩
  iintro Hc
  iapply (loadSq_spec defs _ Q) $$ Ho
  iintro Ho
  iapply (load_part (m := cwM) defs (half_subset 0 1) _ Q) $$ Hc
  iintro Hc
  iapply (store_part (m := cwM) (w' := wts Wq Wo) defs (half_subset 0 1) ?_ ?_ _ Q) $$ Hc
  · intro y
    rw [lift1_cast]
    exact congrFun e1 y
  · intro x hx hn
    have h1 : (x 1).val < 2048 := (x 1).isLt
    rw [mem_half] at hn
    rw [mem_wSet] at hx
    have : ((1 : Fin 2).val) = 1 := rfl
    exact (if_pos (by by_contra h; exact hn ⟨hx, by omega⟩)).symm
  iintro Hc
  iapply (loadSq_spec defs _ Q) $$ HA
  iintro HA
  iapply (storeAcc_spec defs _ _ _ Q) $$ HA
  iintro HA
  iapply Hk
  isplitl [Hq]; · iexact Hq
  isplitl [Ho]; · iexact Ho
  isplitl [Hc]; · iexact Hc
  rw [shapeCast_self]
  iexact HA

/-! ## The bands of rows -/

/-- The rows in the order of their bands. -/
def xpOf (X : S1024x1024.Idx → Elt F .bf16) : S1024x1024.Idx → Elt F .bf16 := fun x =>
  X (ix2 (n0 := 1024) (n1 := 1024) ⟨64 * (bandPerm ⟨(x 0).val / 64, by have h : (x 0).val < 1024 := (x 0).isLt; omega⟩).val + (x 0).val % 64, by
    have := (bandPerm ⟨(x 0).val / 64, by have h : (x 0).val < 1024 := (x 0).isLt; omega⟩).isLt; omega⟩ (x 1))

theorem mem_band (i : Fin 16) (x : S1024x1024.Idx) :
    x ∈ (Rect.unit (s := S1024x1024) ![64 * i.val, 0] S64x1024.size (inbBand i)).set ↔ (x 0).val / 64 = i.val := by
  have h1 : (x 1).val < 1024 := (x 1).isLt
  rw [Rect.mem_set_unit]
  constructor
  · intro h; have h0 := h 0; simp at h0; omega
  · intro h a; fin_cases a <;> simp <;> omega

theorem bandIn_spec (x : Memref sig .tc .vmem S1024x1024 .bf16) (q : PosShare TreeShare) (X : S1024x1024.Idx → Elt F .bf16)
    {α : Type} (k : PUnit → BProg F α) (Q : α → sProp 𝕄) :
    iprop(Part c x Finset.univ q X ∗ Room c xpM Finset.univ)
      ⊢ iprop((iprop(Part c x Finset.univ q X ∗ Part c xpM Finset.univ fullShare (xpOf X)) -∗ Wp defs c (k ⟨⟩) Q)
        -∗ Wp defs c (seqAll (List.ofFn (bandIn x)) >>= k) Q) := by
  have h := seqAll_spec (c := c) defs (bandIn x) (fun j => iprop(Part c x Finset.univ q X
    ∗ ∃ w, ⌜∀ y : S1024x1024.Idx, (y 0).val < 64 * j → w y = xpOf X y⌝ ∗ Part c xpM Finset.univ fullShare w)) (by
      intro i α k Q
      iintro ⟨Hx, ⟨%w, %hw, Hp⟩⟩ Hk
      iapply (load_part (m := x) defs (Finset.subset_univ _) _ Q) $$ Hx
      iintro Hx
      iapply (load_part (m := xpM) defs (Finset.subset_univ _) _ Q) $$ Hp
      iintro Hp
      iapply (store_part (m := xpM) (w' := fun y => if (y 0).val / 64 = i.val then xpOf X y else w y) defs (Finset.subset_univ _) ?_ ?_ _ Q) $$ Hp
      · intro y
        have h0 : (y 0).val < 64 := (y 0).isLt
        have hi : (64 * i.val + 1 * (y 0).val) / 64 = i.val := by omega
        show (if _ then _ else _) = _
        refine (if_pos hi).trans ?_
        rw [shapeCast_self, shapeCast_self]
        refine congrArg X (funext fun d => ?_)
        match d with
        | ⟨0, _⟩ =>
          refine Fin.ext ?_
          show 64 * (bandPerm ⟨(64 * i.val + 1 * (y 0).val) / 64, _⟩).val + (64 * i.val + 1 * (y 0).val) % 64 = 64 * (bandPerm i).val + 1 * (y 0).val
          have e : (⟨(64 * i.val + 1 * (y 0).val) / 64, by have := i.isLt; omega⟩ : Fin 16) = i := Fin.ext hi
          rw [e]
          omega
        | ⟨1, _⟩ => exact Fin.ext (by show 0 + 1 * (y 1).val = 0 + 1 * (y 1).val; rfl)
      · intro y _ hy
        rw [mem_band] at hy
        exact if_neg hy
      iintro Hp
      iapply Hk
      isplitl [Hx]; · iexact Hx
      iexists (fun y : S1024x1024.Idx => if (y 0).val / 64 = i.val then xpOf X y else w y)
      isplitr
      · ipureintro
        intro y hy
        show (if _ then _ else _) = _
        by_cases h : (y 0).val / 64 = i.val
        · rw [if_pos h]
        · rw [if_neg h]; exact hw y (by omega)
      iexact Hp) k Q
  conv_lhs => unfold Room
  iintro ⟨Hx, ⟨%w, Hp⟩⟩ Hk
  iapply h $$ [Hx Hp]
  · isplitl [Hx]; · iexact Hx
    iexists w
    isplitr
    · ipureintro; intro y hy; omega
    iexact Hp
  iintro ⟨Hx, ⟨%w, %hw, Hp⟩⟩
  iapply Hk
  isplitl [Hx]; · iexact Hx
  iapply (part_congr fun y _ => hw y (by have h : (y 0).val < 1024 := (y 0).isLt; omega)) $$ Hp

/-- Where each band came from. -/
def bandInv : Fin 16 → Fin 16 := ![0, 6, 11, 1, 7, 12, 2, 8, 13, 3, 9, 14, 4, 10, 15, 5]

theorem bandInv_perm : ∀ i, bandInv (bandPerm i) = i := by decide
theorem bandPerm_inv : ∀ i, bandPerm (bandInv i) = i := by decide

/-- The rows back in their order. -/
def outOf (A : S1024x1024.Idx → Elt F .f32) : S1x1024x1024.Idx → Elt F .f32 := fun x =>
  A (ix2 (n0 := 1024) (n1 := 1024) ⟨64 * (bandInv ⟨(x 1).val / 64, by have h : (x 1).val < 1024 := (x 1).isLt; omega⟩).val + (x 1).val % 64, by
    have := (bandInv ⟨(x 1).val / 64, by have h : (x 1).val < 1024 := (x 1).isLt; omega⟩).isLt; omega⟩ (x 2))

theorem mem_bandOut (i : Fin 16) (x : S1x1024x1024.Idx) :
    x ∈ (Rect.unit (s := S1x1024x1024) ![0, 64 * i.val, 0] S1x64x1024.size (inbBandOut i)).set ↔ (x 1).val / 64 = i.val := by
  have h0 : (x 0).val < 1 := (x 0).isLt
  have h1 : (x 2).val < 1024 := (x 2).isLt
  rw [Rect.mem_set_unit]
  constructor
  · intro h; have h0 := h 1; simp at h0; omega
  · intro h a; fin_cases a <;> simp <;> omega

theorem bandOut_spec (out : Memref sig .tc .vmem S1x1024x1024 .f32) (A : S1024x1024.Idx → Elt F .f32)
    {α : Type} (k : PUnit → BProg F α) (Q : α → sProp 𝕄) :
    iprop(Part c accM Finset.univ fullShare A ∗ Room c out Finset.univ)
      ⊢ iprop((iprop(Part c accM Finset.univ fullShare A ∗ Part c out Finset.univ fullShare (outOf A)) -∗ Wp defs c (k ⟨⟩) Q)
        -∗ Wp defs c (seqAll (List.ofFn (bandOut out)) >>= k) Q) := by
  have h := seqAll_spec (c := c) defs (bandOut out) (fun j => iprop(Part c accM Finset.univ fullShare A
    ∗ ∃ w, ⌜∀ (y : S1x1024x1024.Idx) (i : Fin 16), i.val < j → (y 1).val / 64 = (bandPerm i).val → w y = outOf A y⌝ ∗ Part c out Finset.univ fullShare w)) (by
      intro i α k Q
      iintro ⟨Hx, ⟨%w, %hw, Hp⟩⟩ Hk
      iapply (load_part (m := accM) defs (Finset.subset_univ _) _ Q) $$ Hx
      iintro Hx
      iapply (load_part (m := out) defs (Finset.subset_univ _) _ Q) $$ Hp
      iintro Hp
      iapply (store_part (m := out) (w' := fun y => if (y 1).val / 64 = (bandPerm i).val then outOf A y else w y) defs (Finset.subset_univ _) ?_ ?_ _ Q) $$ Hp
      · intro y
        have h0 : (y 1).val < 64 := (y 1).isLt
        have hi : (64 * (bandPerm i).val + 1 * (y 1).val) / 64 = (bandPerm i).val := by omega
        show (if _ then _ else _) = _
        refine (if_pos hi).trans ?_
        refine Eq.trans ?_ (shapeCast_addUnit_apply (![64, 1024]) _ _ y).symm
        refine congrArg A (funext fun d => ?_)
        match d with
        | ⟨0, _⟩ =>
          refine Fin.ext ?_
          show 64 * (bandInv ⟨(64 * (bandPerm i).val + 1 * (y 1).val) / 64, _⟩).val + (64 * (bandPerm i).val + 1 * (y 1).val) % 64 = 64 * i.val + 1 * (y 1).val
          have e : (⟨(64 * (bandPerm i).val + 1 * (y 1).val) / 64, by have := (bandPerm i).isLt; omega⟩ : Fin 16) = bandPerm i := Fin.ext hi
          rw [e, bandInv_perm]
          omega
        | ⟨1, _⟩ => exact Fin.ext (by show 0 + 1 * (y 2).val = 0 + 1 * (y 2).val; rfl)
      · intro y _ hy
        rw [mem_bandOut] at hy
        exact if_neg hy
      iintro Hp
      iapply Hk
      isplitl [Hx]; · iexact Hx
      iexists (fun y : S1x1024x1024.Idx => if (y 1).val / 64 = (bandPerm i).val then outOf A y else w y)
      isplitr
      · ipureintro
        intro y i' hi' hy
        show (if _ then _ else _) = _
        by_cases h : (y 1).val / 64 = (bandPerm i).val
        · rw [if_pos h]
        · rw [if_neg h]
          refine hw y i' ?_ hy
          rcases Nat.lt_succ_iff_lt_or_eq.mp hi' with h' | h'
          · exact h'
          · exact (h (by rw [hy, Fin.ext h'])).elim
      iexact Hp) k Q
  conv_lhs => unfold Room
  iintro ⟨Hx, ⟨%w, Hp⟩⟩ Hk
  iapply h $$ [Hx Hp]
  · isplitl [Hx]; · iexact Hx
    iexists w
    isplitr
    · ipureintro; intro y i hy; omega
    iexact Hp
  iintro ⟨Hx, ⟨%w, %hw, Hp⟩⟩
  iapply Hk
  isplitl [Hx]; · iexact Hx
  iapply (part_congr fun y _ => hw y (bandInv ⟨(y 1).val / 64, by have h : (y 1).val < 1024 := (y 1).isLt; omega⟩)
    (bandInv _).isLt (by rw [bandPerm_inv])) $$ Hp

end Cert.KernelIdeal.Body
-- ==== Proof.Protocol.lean ====
/-
The ring's protocol: which cells the devices talk over, what is paid into each in each round, and what comes with the
payment. Rank `i` of `csem` numbers a device's twelve cells.
-/
module

public import proofs.«01_k».proof.Proof.Group

@[expose] public section

noncomputable section

namespace Cert.KernelIdeal.Body

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F] [Named F]

local notation "𝕄" => MM F

/-! ## The devices around the ring -/

/-- Whose weights the right-going ring's copy of step `s` brings from: `s` devices back. -/
def back (c : Dev nD) (s : ℕ) : Dev nD := (⟨(c.val + 8 - s % 8) % 8, Nat.mod_lt _ (by decide)⟩ : Fin 8)
/-- `s` devices on. -/
def fwd (c : Dev nD) (s : ℕ) : Dev nD := (⟨(c.val + s) % 8, Nat.mod_lt _ (by decide)⟩ : Fin 8)

theorem left_eq : ∀ c : Dev nD, left c = back c 1 := by decide +kernel
theorem right_eq : ∀ c : Dev nD, right c = fwd c 1 := by decide +kernel
theorem left_right : ∀ c : Dev nD, left (right c) = c := by decide +kernel
theorem right_left : ∀ c : Dev nD, right (left c) = c := by decide +kernel
theorem back_zero : ∀ c : Dev nD, back c 0 = c := by decide +kernel
theorem fwd_zero : ∀ c : Dev nD, fwd c 0 = c := by decide +kernel
theorem back_right (c : Dev nD) (s : ℕ) (h : s < 7) : back (right c) (s + 1) = back c s := by
  have hc : c.val < 8 := c.isLt
  rw [right_eq]
  refine Fin.ext ?_
  show ((c.val + 1) % 8 + 8 - (s + 1) % 8) % 8 = (c.val + 8 - s % 8) % 8
  omega
theorem fwd_left (c : Dev nD) (s : ℕ) (h : s < 7) : fwd (left c) (s + 1) = fwd c s := by
  have hc : c.val < 8 := c.isLt
  rw [left_eq]
  refine Fin.ext ?_
  show ((c.val + 8 - 1 % 8) % 8 + (s + 1)) % 8 = (c.val + s) % 8
  omega

/-- The device before, as a permutation. -/
def ring : Dev nD ≃ Dev nD := ⟨left, right, right_left, left_right⟩

/-! ## The cells -/

/-- A device's cells: the barrier, the exit barrier, the outgoing sides (two slots, right then left), the incoming sides
    (likewise), the two credits. -/
def csem : Fin 12 → SemLoc sig :=
  ![.reg barrierS, .reg exitS, .dma (sem2 cc0_scratch14 0), .dma (sem2 cc0_scratch14 1), .dma (sem2 cc0_scratch16 0), .dma (sem2 cc0_scratch16 1),
    .dma (sem2 cc0_scratch15 0), .dma (sem2 cc0_scratch15 1), .dma (sem2 cc0_scratch17 0), .dma (sem2 cc0_scratch17 1),
    .reg creditCwS, .reg creditCcwS]

def cell (c : Dev nD) (i : Fin 12) : GSem nD τ sig := ((c : Thread nD τ), csem i)

theorem csem_inj : Function.Injective csem := by
  have h : ∀ i j, csem i = csem j → i = j := by decide +kernel
  exact fun i j e => h i j e

/-- Which of the twelve a semaphore is. -/
def rank (sm : SemLoc sig) : Option (Fin 12) := (List.finRange 12).find? fun i => decide (csem i = sm)

theorem rank_csem : ∀ i, rank (csem i) = some i := by decide +kernel

/-! ## The schedule -/

/-- What a remote copy is credited. -/
def N : ℕ := (slotM cwM 0).view.amount (SemLoc.dma (sem2 cc0_scratch15 0))
theorem N_pos : 0 < N := by decide +kernel

/-- How many rounds a cell sees. -/
def rounds : Fin 12 → ℕ := ![1, 1, 2, 2, 2, 1, 2, 2, 1, 2, 3, 1]
/-- Who pays: the two barriers are paid from both sides. -/
def payers : Fin 12 → Finset Bool := ![Finset.univ, Finset.univ, {false}, {false}, {false}, {false}, {false}, {false}, {false}, {false}, {false}, {false}]
/-- How much. -/
def units : Fin 12 → ℕ := ![1, 1, N, N, N, N, N, N, N, N, 1, 1]

theorem units_pos (i : Fin 12) : 0 < units i := by
  fin_cases i <;> first | exact Nat.one_pos | exact N_pos

/-- The arrays the run is about: every device's blocks and staged arrays. -/
structure Data (F : FTy → Type) [FloatOps F] where
  (x wq wo : Dev nD → S1024x1024.Idx → Elt F .bf16)
  (b : Dev nD → S640x704.Idx → Elt F .f32)
  (kt vt : Dev nD → S64x1024x128.Idx → Elt F .bf16)

variable (D : Data F)

/-- A device's weights. -/
def Data.w (g : Dev nD) : S2x2048x1024.Idx → Elt F .bf16 := wts (D.wq g) (D.wo g)

/-- The share of a slot the outgoing copy reads through. -/
def shareOf (ccw : Bool) (s : ℕ) : PosShare TreeShare := if ccw = true ∧ s = 0 then fullShare.right.left else fullShare.left

/-- A slot of the right-going ring, of the left-going ring, as the outgoing copy of step `s` has it. -/
def sentCw (c : Dev nD) (s : ℕ) (slot : Fin 2) : sProp 𝕄 := Part c cwM (wSet slot) fullShare.left (D.w (back c s))
def sentCcw0 (c : Dev nD) : sProp 𝕄 := Part c cwM (wSet 0) fullShare.right.left (D.w (fwd c 0))
def sentCcw (c : Dev nD) (s : ℕ) (slot : Fin 2) : sProp 𝕄 := Part c ccwM (wSet slot) fullShare.left (D.w (fwd c s))
/-- What the copy of step `s` brings: the weights, and the round of the sender's credit. -/
def gotCw (c : Dev nD) (s : ℕ) (slot : Fin 2) : sProp 𝕄 :=
  iprop(Part c cwM (wSet slot) fullShare (D.w (back c (s + 1))) ∗ reached ER (cell (left c) 10) s)
def gotCcw (c : Dev nD) (s : ℕ) (slot : Fin 2) : sProp 𝕄 := Part c ccwM (wSet slot) fullShare (D.w (fwd c (s + 1)))

/-- A device's cells are begun. -/
def begunAt (c : Dev nD) : sProp 𝕄 := bigSep Finset.univ fun i : Fin 12 => reached ER (cell c i) 0

instance begunAt_persistent (c : Dev nD) : BI.Persistent (begunAt (F := F) c) := by unfold begunAt; infer_instance

theorem begunAt_cell (c : Dev nD) (i : Fin 12) : begunAt (F := F) c ⊢ reached ER (cell c i) 0 := by
  unfold begunAt
  exact bigSep_elim (Finset.mem_univ i)

/-- A device's cells, and its two neighbours', are begun. -/
def Near (c : Dev nD) : sProp 𝕄 := iprop(begunAt c ∗ begunAt (left c) ∗ begunAt (right c))

instance near_persistent (c : Dev nD) : BI.Persistent (Near (F := F) c) := by unfold Near; infer_instance

theorem near_own (c : Dev nD) (i : Fin 12) : Near (F := F) c ⊢ reached ER (cell c i) 0 := by
  unfold Near
  iintro ⟨H, -, -⟩
  iapply (begunAt_cell c i)
  iexact H
theorem near_left (c : Dev nD) (i : Fin 12) : Near (F := F) c ⊢ reached ER (cell (left c) i) 0 := by
  unfold Near
  iintro ⟨-, H, -⟩
  iapply (begunAt_cell (left c) i)
  iexact H
theorem near_right (c : Dev nD) (i : Fin 12) : Near (F := F) c ⊢ reached ER (cell (right c) i) 0 := by
  unfold Near
  iintro ⟨-, -, H⟩
  iapply (begunAt_cell (right c) i)
  iexact H

/-- What a payment carries. -/
def pay (c : Dev nD) (i : Fin 12) (r : ℕ) (d : Bool) : sProp 𝕄 :=
  match i, r, d with
  | 0, 0, false => iprop(Room (right c) cwM (wSet 1) ∗ begunAt (right c))
  | 0, 0, true => iprop((Room (left c) ccwM (wSet 0) ∗ Room (left c) ccwM (wSet 1)) ∗ begunAt (left c))
  | 2, 0, false => sentCw D c 0 0
  | 2, 1, false => sentCw D c 2 0
  | 3, 0, false => sentCw D c 1 1
  | 3, 1, false => sentCw D c 3 1
  | 4, 0, false => sentCcw0 D c
  | 4, 1, false => sentCcw D c 2 0
  | 5, 0, false => sentCcw D c 1 1
  | 7, 0, false => gotCw D c 0 1
  | 6, 0, false => gotCw D c 1 0
  | 7, 1, false => gotCw D c 2 1
  | 6, 1, false => gotCw D c 3 0
  | 9, 0, false => gotCcw D c 0 1
  | 8, 0, false => gotCcw D c 1 0
  | 9, 1, false => gotCcw D c 2 1
  | 10, 0, false => Room (right c) cwM (wSet 0)
  | 10, 1, false => iprop(Room (right c) cwM (wSet 1) ∗ reached ER (cell (right c) 7) 1)
  | 10, 2, false => iprop(Room (right c) cwM (wSet 0) ∗ reached ER (cell (right c) 6) 1)
  | 11, 0, false => iprop(Room (left c) ccwM (wSet 1) ∗ reached ER (cell (left c) 9) 1)
  | _, _, _ => iprop(emp)

instance pay_storable (c : Dev nD) (i : Fin 12) (r : ℕ) (d : Bool) : BI.Storable (upEmb : UEmb _ 𝕄) (pay D c i r d) := by
  unfold pay sentCw sentCcw0 sentCcw gotCw gotCcw begunAt
  split <;> infer_instance

/-- The schedule. -/
def ringRd : Rounds.Schedule (GSem nD τ sig) Bool 𝕄 where
  duties g r := match rank g.2 with
    | some i => if g.1.2 = .tc ∧ r < rounds i then payers i else ∅
    | none => ∅
  unitless _ := False
  amount g _ _ := match rank g.2 with
    | some i => units i
    | none => 1
  payload g r d := match rank g.2 with
    | some i => pay D g.1.1 i r d
    | none => iprop(emp)
  amount_pos g _ _ _ := by
    split
    · exact units_pos _
    · exact Nat.one_pos

instance ringRd_payload_storable (g : GSem nD τ sig) (r : ℕ) (d : Bool) :
    BI.Storable (upEmb : UEmb _ 𝕄) ((ringRd D).payload g r d) := by
  dsimp only [ringRd]
  split <;> infer_instance

variable (c : Dev nD) (i : Fin 12)

theorem duties_cell (r : ℕ) : (ringRd D).duties (cell c i) r = if r < rounds i then payers i else ∅ := by
  show (match rank (csem i) with
    | some i => if (cell c i).1.2 = Proc.tc ∧ r < rounds i then payers i else ∅
    | none => ∅) = _
  rw [rank_csem]
  by_cases h : r < rounds i
  · exact (if_pos ⟨rfl, h⟩).trans (if_pos h).symm
  · exact (if_neg fun h' => h h'.2).trans (if_neg h).symm

theorem duties_later (r : ℕ) (h : rounds i ≤ r) : (ringRd D).duties (cell c i) r = ∅ := by
  rw [duties_cell, if_neg (by omega)]

theorem amount_cell (r : ℕ) (d : Bool) : (ringRd D).amount (cell c i) r d = units i := by
  show (match rank (csem i) with
    | some i => units i
    | none => 1) = _
  rw [rank_csem]

theorem payload_cell (r : ℕ) (d : Bool) : (ringRd D).payload (cell c i) r d = pay D c i r d := by
  show (match rank (csem i) with
    | some i => pay D c i r d
    | none => iprop(emp)) = _
  rw [rank_csem]

theorem expect_cell {r : ℕ} (h : r < rounds i) : (ringRd D).expect (cell c i) r = (payers i).card * units i := by
  unfold Schedule.expect Schedule.amountOf
  rw [duties_cell, if_pos h, Finset.sum_congr rfl fun d _ => amount_cell D c i r d, Finset.sum_const, smul_eq_mul]

/-- All that a round brings. -/
def paid (r : ℕ) : sProp 𝕄 := bigSep (payers i) fun d => pay D c i r d

theorem rest_cell {r : ℕ} (h : r < rounds i) :
    bigSep ((ringRd D).duties (cell c i) r \ ∅) (fun d => (ringRd D).payload (cell c i) r d) = paid D c i r := by
  rw [Finset.sdiff_empty, duties_cell, if_pos h]
  exact congrArg _ (funext fun d => payload_cell D c i r d)

theorem paid_one {r : ℕ} (h : payers i = {false}) : paid D c i r = pay D c i r false := by
  unfold paid; rw [h, bigSep_singleton]

theorem paid_two {r : ℕ} (h : payers i = Finset.univ) : paid D c i r ⊢ iprop(pay D c i r false ∗ pay D c i r true) := by
  unfold paid
  rw [h, bigSep_univ_eq_bigSepL [false, true] (by decide) (by decide), bigSepL_cons_cons, bigSepL_singleton]
  exact Entails.refl _

/-! ## What every device has at hand -/

/-- Every cell's invariant. -/
def invs (K : Dev nD × Fin 12 → ℕ) : sProp 𝕄 :=
  bigSep Finset.univ fun ci : Dev nD × Fin 12 => cellInv ER (ringRd D) (K ci) (cell ci.1 ci.2)
/-- Every barrier begun. -/
def begun : sProp 𝕄 := bigSep Finset.univ fun g : Dev nD => reached ER (cell g 0) 0

/-- The records: invariants, beginnings, heights. -/
def Rec (K : Dev nD × Fin 12 → ℕ) : sProp 𝕄 := iprop(invs D K ∗ begun ∗ levAts L lv)

instance rec_persistent (K : Dev nD × Fin 12 → ℕ) : BI.Persistent (Rec D K) := by unfold Rec invs begun; infer_instance

theorem rec_inv (K : Dev nD × Fin 12 → ℕ) : Rec D K ⊢ cellInv ER (ringRd D) (K (c, i)) (cell c i) := by
  unfold Rec invs
  have h : (bigSep Finset.univ fun ci : Dev nD × Fin 12 => (cellInv ER (ringRd D) (K ci) (cell ci.1 ci.2) : sProp 𝕄))
      ⊢ cellInv ER (ringRd D) (K (c, i)) (cell c i) := bigSep_elim (Finset.mem_univ (c, i))
  iintro ⟨H, -, -⟩
  iapply h
  iexact H

theorem rec_begun (K : Dev nD × Fin 12 → ℕ) : Rec D K ⊢ reached ER (cell c 0) 0 := by
  unfold Rec begun
  have h : (bigSep Finset.univ fun g : Dev nD => (reached ER (cell g 0) 0 : sProp 𝕄))
      ⊢ reached ER (cell c 0) 0 := bigSep_elim (Finset.mem_univ c)
  iintro ⟨-, H, -⟩
  iapply h
  iexact H

theorem rec_lev (K : Dev nD × Fin 12 → ℕ) : Rec D K ⊢ levAts L lv := by
  unfold Rec
  iintro ⟨-, -, H⟩
  iexact H

/-! ## What a device has still to pay -/

/-- All it pays to others, in the order it does, each at the height it is waited for. -/
def dues : List (GSem nD τ sig × ℕ × ℕ) :=
  [(cell (left c) 0, 1, 1), (cell (right c) 0, 1, 1),
   (cell (right c) 7, 2, N), (cell (left c) 9, 2, N), (cell (left c) 10, 3, 1),
   (cell (right c) 6, 4, N), (cell (left c) 8, 4, N), (cell (left c) 10, 5, 1), (cell (right c) 11, 5, 1),
   (cell (right c) 7, 6, N), (cell (left c) 9, 6, N), (cell (left c) 10, 7, 1),
   (cell (right c) 6, 8, N),
   (cell (left c) 1, 20, 1), (cell (right c) 1, 20, 1)]

def heights : List ℕ := [1, 1, 2, 2, 3, 4, 4, 5, 5, 6, 6, 7, 8, 20, 20]

theorem dues_above (k ι : ℕ) (h : ∀ t ∈ heights.drop k, ι < t) : ∀ x ∈ (dues c).drop k, x.1.1.2 = Proc.tc ∧ ι < x.2.1 ∧ x.2.1 < 32 := by
  intro x hx
  have hm : x.2.1 ∈ heights.drop k := by
    have e : (dues c).map (fun x => x.2.1) = heights := rfl
    rw [← e, ← List.map_drop]
    exact List.mem_map_of_mem hx
  have hh : ∀ t ∈ heights, t < 32 := by decide
  refine ⟨?_, h _ hm, hh _ (List.mem_of_mem_drop hm)⟩
  have hx' := List.mem_of_mem_drop hx
  simp only [dues, List.mem_cons, List.not_mem_nil, or_false] at hx'
  rcases hx' with e | e | e | e | e | e | e | e | e | e | e | e | e | e | e <;> rw [e] <;> rfl

theorem dues_low (k : ℕ) : ∀ x ∈ (dues c).drop k, x.1.1.2 = Proc.tc ∧ 0 < x.2.1 ∧ x.2.1 < 32 :=
  dues_above c k 0 fun t ht => by
    have hh : ∀ t ∈ heights, 0 < t := by decide
    exact hh _ (List.mem_of_mem_drop ht)

/-- Once the first `k` are paid, a wait lower than the rest is allowed. -/
theorem rec_wait (K : Dev nD × Fin 12 → ℕ) (k ι : ℕ) (sm : SemLoc sig) (hι : ι < 32) (h : ∀ t ∈ heights.drop k, ι < t) :
    Rec D K ⊢ MayWait (c : Thread nD τ) sm ι (owe ((dues c).drop k)) := by
  exact (rec_lev D K).trans (mayWait_owe c sm ι _ hι (dues_above c k ι h))

end Cert.KernelIdeal.Body
-- ==== Proof.Ring.lean ====
/-
The ring's actions: a signal, a wait for one, a remote copy and the wait for it.
-/
module

public import proofs.«01_k».proof.Proof.Protocol

@[expose] public section

noncomputable section

namespace Cert.KernelIdeal.Body

open Idealize.ShloMosaic Idealize.SL.Sem Cert.KernelIdeal Cert.KernelIdeal.Gen
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F] [Named F]

local notation "𝕄" => MM F

/-! ## A slot as a copy sees it -/

abbrev slotRect (slot : Fin 2) : Rect S2x2048x1024 := Rect.unit (s := S2x2048x1024) ![slot.val, 0, 0] S1x2048x1024.size (inbSlot slot)

theorem slot_set (slot : Fin 2) : (slotRect slot).set = wSet slot := by
  ext x
  rw [mem_wSet]
  refine Iff.trans Rect.mem_set_unit ⟨fun h => ?_, fun h a => ?_⟩
  · have h0 := h 0
    simp at h0
    omega
  · have h1 : (x 1).val < 2048 := (x 1).isLt
    have h2 : (x 2).val < 1024 := (x 2).isLt
    match a with
    | ⟨0, _⟩ => exact ⟨le_of_eq h.symm, by show (x 0).val < slot.val + 1; omega⟩
    | ⟨1, _⟩ => exact ⟨Nat.zero_le _, by show (x 1).val < 0 + 2048; omega⟩
    | ⟨2, _⟩ => exact ⟨Nat.zero_le _, by show (x 2).val < 0 + 1024; omega⟩

/-- A device's weights without the axis of slots. -/
def Data.flat (D : Data F) (g : Dev nD) : S2048x1024.Idx → Elt F .bf16 := fun y => D.w g (ix3 (n0 := 2) (n1 := 2048) (n2 := 1024) 0 (y 0) (y 1))

theorem flat_eq (D : Data F) (g : Dev nD) (slot : Fin 2) (h : S2048x1024.numel = S1x2048x1024.numel) (y : S2048x1024.Idx) :
    D.w g ((slotRect slot).emb (Shape.reshapeEquiv h y)) = D.flat g y := by
  obtain ⟨a, b, rfl⟩ : ∃ (a : Fin 2048) (b : Fin 1024), y = ix2 a b := ⟨y 0, y 1, eq_ix2 y⟩
  rw [reshapeEquiv_ix2_1ab]
  have e1 : ((slotRect slot).emb (ix3 ⟨0, Nat.one_pos⟩ a b) 1).val = a.val := by show 0 + 1 * a.val = a.val; omega
  have e2 : ((slotRect slot).emb (ix3 ⟨0, Nat.one_pos⟩ a b) 2).val = b.val := by show 0 + 1 * b.val = b.val; omega
  unfold Data.flat Data.w wts
  by_cases h1 : a.val < 1024
  · rw [dif_pos (by rw [e1]; exact h1), dif_pos (show (ix3 (n0 := 2) (n1 := 2048) (n2 := 1024) 0 a b 1).val < 1024 from h1)]
    refine congrArg (D.wq g) (funext fun d => ?_)
    match d with
    | ⟨0, _⟩ => exact Fin.ext e1
    | ⟨1, _⟩ => exact Fin.ext e2
  · rw [dif_neg (by rw [e1]; exact h1), dif_neg (show ¬ (ix3 (n0 := 2) (n1 := 2048) (n2 := 1024) 0 a b 1).val < 1024 from h1)]
    refine congrArg (D.wo g) (funext fun d => ?_)
    match d with
    | ⟨0, _⟩ => exact Fin.ext (by show _ - 1024 = a.val - 1024; rw [e1])
    | ⟨1, _⟩ => exact Fin.ext e2

section
variable {c : Dev nD} (a : Memref sig .tc .vmem S2x2048x1024 .bf16) (slot : Fin 2)

theorem slot_out (D : Data F) (g : Dev nD) (q : PosShare TreeShare) : Part c a (wSet slot) q (D.w g)
    ⊢ iprop(∃ f, ⌜(slotM a slot).view.read (Elt F) f = D.flat g⌝ ∗ ((slotM a slot).view.loc (c : Thread nD τ) ↦[(slotM a slot).view.set]{q} f)) := by
  rw [← slot_set]
  exact part_squeezed a (slotRect slot) _ squeezes_S1x2048x1024_S2048x1024 (flat_eq D g slot _)

theorem slot_in (D : Data F) (g : Dev nD) (q : PosShare TreeShare) :
    iprop(∃ f, ⌜(slotM a slot).view.read (Elt F) f = D.flat g⌝ ∗ ((slotM a slot).view.loc (c : Thread nD τ) ↦[(slotM a slot).view.set]{q} f))
      ⊢ Part c a (wSet slot) q (D.w g) := by
  rw [← slot_set]
  exact squeezed_part a (slotRect slot) _ squeezes_S1x2048x1024_S2048x1024 (flat_eq D g slot _)

theorem slot_room : Room (F := F) c a (wSet slot)
    ⊢ iprop(∃ fd, (slotM a slot).view.loc (c : Thread nD τ) ↦[(slotM a slot).view.set]{fullShare} fd) := by
  rw [← slot_set]
  exact squeezed_room a (slotRect slot) _ squeezes_S1x2048x1024_S2048x1024
end

theorem slot_credit (a : Memref sig .tc .vmem S2x2048x1024 .bf16) (slot : Fin 2) : (slotM a slot).view.dmaCredit = N := rfl

/-! ## The actions -/

variable (defs : Defs nD τ sig (Elt F) Λ₀) (D : Data F) (K : Dev nD × Fin 12 → ℕ) {c : Dev nD} {α : Type}

/-- What `c` owes after its first `n` payments. -/
abbrev Due (c : Dev nD) (n : ℕ) : sProp 𝕄 := Owes c ((dues c).drop n)

/-- A position, at the head of a round. -/
abbrev At (c : Dev nD) (i : Fin 12) (r : ℕ) : sProp 𝕄 := atPos ER (cell c i) r ∅ 0
abbrev Tok (c : Dev nD) (i : Fin 12) (r : ℕ) (d : Bool) : sProp 𝕄 := dutyTok ER (cell c i) r d
abbrev Past (c : Dev nD) (i : Fin 12) (r : ℕ) : sProp 𝕄 := reached ER (cell c i) r
abbrev Cred (c : Dev nD) (i : Fin 12) (ι n : ℕ) : sProp 𝕄 := cred (tallyAt (cell c i) ι n)

theorem signal_spec (dst : Dev nD) (i : Fin 12) {sm : Sem sig} (hs : csem i = .reg sm) (hu : units i = 1) (r : ℕ) (d : Bool)
    (hr : r < rounds i) (hd : d ∈ payers i) (ι n n' : ℕ) (hl : (dues c).drop n = (cell dst i, ι, 1) :: (dues c).drop n')
    (P : sProp 𝕄) (hP : pay D dst i r d = P) (k : PUnit → BProg F α) (Q : α → sProp 𝕄) :
    iprop(Rec D K ∗ Due c n ∗ Tok dst i r d ∗ Past dst i r ∗ P)
      ⊢ iprop((Due c n' -∗ Wp defs c (k ⟨⟩) Q) -∗ Wp defs c (semSignalWord dst sm 1#32 >>= k) Q) := by
  subst hP
  have hc : cell dst i = ((dst : Thread nD τ), .reg sm) := by unfold cell; rw [hs]
  have hd' : d ∈ (ringRd D).duties ((dst : Thread nD τ), .reg sm) r := by
    rw [← hc, duties_cell, if_pos hr]; exact hd
  have ha : (ringRd D).amount ((dst : Thread nD τ), .reg sm) r d = 1 := by
    rw [← hc, amount_cell, hu]
  have hp : pay D dst i r d = (ringRd D).payload ((dst : Thread nD τ), .reg sm) r d := by rw [← hc, payload_cell]
  unfold Due Owes
  rw [hl, hp]
  unfold Tok Past
  iintro ⟨#HR, ⟨%W, HO⟩, HT, #HP, Hp⟩ Hk
  ihave #HI := (rec_inv D dst i K) $$ HR
  rw [hc]
  iapply (Rounds.wp_signal 𝒱₀ ER (ringRd D) (c : Thread nD τ) none (dst := (dst : Thread nD τ)) (κ := K (dst, i)) (k := k)
      hd' ha ι (owe ((dues c).drop n')) rfl) $$ [HO HT Hp]
  · isplitr; · iexact HI
    isplitl [HO]; · iexact HO
    isplitl [HT]; · iexact HT
    isplitl [Hp]; · iexact Hp
    iexact HP
  iintro HO
  iapply Hk
  iexists W
  iexact HO

theorem wait_spec (i : Fin 12) {sm : Sem sig} (hs : csem i = .reg sm) (r ι n : ℕ) (w : BitVec 32) (N' : ℕ) (hw : w.toInt = (N' : ℤ))
    (hr : r < rounds i) (hN : N' = (payers i).card * units i) (hι : ι < 32) (h : ∀ t ∈ heights.drop n, ι < t)
    (k : PUnit → BProg F α) (Q : α → sProp 𝕄) :
    iprop(Rec D K ∗ Due c n ∗ Cred c i ι N' ∗ At c i r)
      ⊢ iprop((iprop(Due c n ∗ At c i (r + 1) ∗ Past c i (r + 1) ∗ paid D c i r) -∗ Wp defs c (k ⟨⟩) Q)
        -∗ Wp defs c (semWaitWord sm w >>= k) Q) := by
  have hc : cell c i = ((c : Thread nD τ), .reg sm) := by unfold cell; rw [hs]
  have hrest := rest_cell D c i hr
  have hex : 0 + N' = (ringRd D).expect ((c : Thread nD τ), .reg sm) r := by
    rw [← hc, expect_cell D c i hr, Nat.zero_add, hN]
  have ep : (semWaitWord (Val := Elt F) (Λ := Λ₀) (τ := τ) (nD := nD) (p := .tc) sm w >>= k) = .op (.semWait sm (N' : ℤ)) k := by
    rw [← hw]; rfl
  rw [← hrest, ep]
  unfold Due Owes At Past Cred
  iintro ⟨#HR, ⟨%W, HO⟩, HC, HA⟩ Hk
  ihave #HI := (rec_inv D c i K) $$ HR
  rw [hc]
  iapply (Rounds.wp_wait_rest_token 𝒱₀ ER (ringRd D) (c : Thread nD τ) none (κ := K (c, i)) (k := k) (w := .semWait sm (N' : ℤ)) (sm := .reg sm) (k' := N')
      (wpE_semWait_eq 𝒱₀ (c : Thread nD τ) none Set.univ) (Set.mem_univ _) ι (O := owe ((dues c).drop n)) (W := W) (R := r) (m := 0) (T := ∅)
      hex) $$ [HO HC HA]
  · isplitr; · iexact HI
    isplitl [HC]; · iexact HC
    isplitl [HO]; · iexact HO
    isplitr
    · iapply (rec_wait D c K n ι (.reg sm) hι h); iexact HR
    iexact HA
  iintro ⟨HO, HA, HP, Hp⟩
  iapply Hk
  isplitl [HO]
  · iexists _; iexact HO
  isplitl [HA]; · iexact HA
  isplitl [HP]; · iexact HP
  iexact Hp

section
variable (a b : Memref sig .tc .vmem S2x2048x1024 .bf16) (ha : a.IsWhole) (hb : b.IsWhole) (s t : Fin 2)

theorem ringStart_spec (dev : Dev nD) (send recv : DmaSem sig) (i j : Fin 12) (hi : csem i = .dma send) (hj : csem j = .dma recv)
    (hui : units i = N) (huj : units j = N) (hpi : payers i = {false}) (hpj : payers j = {false}) (ri rj : ℕ) (hri : ri < rounds i) (hrj : rj < rounds j)
    (ι n n' : ℕ) (hl : (dues c).drop n = (cell dev j, ι, N) :: (dues c).drop n') (g : Dev nD) (q : PosShare TreeShare) (E : sProp 𝕄)
    (h₁ : Part c a (wSet s) q (D.w g) ⊢ pay D c i ri false) (h₂ : iprop(Part dev b (wSet t) fullShare (D.w g) ∗ E) ⊢ pay D dev j rj false)
    (k : PUnit → BProg F α) (Q : α → sProp 𝕄) :
    iprop(Rec D K ∗ Due c n ∗ Part c a (wSet s) q (D.w g) ∗ Room dev b (wSet t) ∗ E
        ∗ Tok c i ri false ∗ Past c i ri ∗ Tok dev j rj false ∗ Past dev j rj)
      ⊢ iprop((iprop(Due c n' ∗ Cred c i 0 N) -∗ Wp defs c (k ⟨⟩) Q)
        -∗ Wp defs c (Prog.lift (ringStart dev a ha s b hb t send recv) >>= k) Q) := by
  have hci : cell c i = ((c : Thread nD τ), .dma send) := by unfold cell; rw [hi]
  have hcj : cell dev j = ((dev : Thread nD τ), .dma recv) := by unfold cell; rw [hj]
  have hd₁ : false ∈ (ringRd D).duties ((c : Thread nD τ), .dma send) ri := by
    rw [← hci, duties_cell, if_pos hri, hpi]; exact Finset.mem_singleton_self _
  have hd₂ : false ∈ (ringRd D).duties ((dev : Thread nD τ), .dma recv) rj := by
    rw [← hcj, duties_cell, if_pos hrj, hpj]; exact Finset.mem_singleton_self _
  have hk₁ : (ringRd D).amount ((c : Thread nD τ), .dma send) ri false = N := by rw [← hci, amount_cell, hui]
  have hk₂ : (ringRd D).amount ((dev : Thread nD τ), .dma recv) rj false = N := by rw [← hcj, amount_cell, huj]
  rw [← payload_cell, hci] at h₁
  rw [← payload_cell, hcj] at h₂
  unfold Due Owes Tok Past Cred
  rw [hl]
  iintro ⟨#HR, ⟨%W, HO⟩, Hs, Hd, HE, HTi, #HPi, HTj, #HPj⟩ Hk
  ihave #HIi := (rec_inv D c i K) $$ HR
  ihave #HIj := (rec_inv D dev j K) $$ HR
  rw [hci, hcj]
  ihave Hs := (slot_out a s D g q) $$ Hs
  icases Hs with ⟨%fs, %hfs, Hs⟩
  ihave Hd := (slot_room b t) $$ Hd
  icases Hd with ⟨%fd, Hd⟩
  have hp₁ : ((slotM a s).view.loc (c : Thread nD τ) ↦[(slotM a s).view.set]{q} fs) ⊢ (ringRd D).payload ((c : Thread nD τ), .dma send) ri false := by
    refine BIBase.Entails.trans ?_ h₁
    refine BIBase.Entails.trans ?_ (slot_in a s D g q)
    iintro H
    iexists fs
    isplitr
    · ipureintro; exact hfs
    iexact H
  have hp₂ : iprop(((slotM b t).view.loc (dev : Thread nD τ) ↦[(slotM b t).view.set]{fullShare}
        ((slotM b t).view.write (Elt F) fd ((slotM a s).view.read (Elt F) fs) Finset.univ)) ∗ E)
      ⊢ (ringRd D).payload ((dev : Thread nD τ), .dma recv) rj false := by
    refine BIBase.Entails.trans ?_ h₂
    refine BIClass.sep_mono ?_ (Entails.refl _)
    refine BIBase.Entails.trans ?_ (slot_in b t D g fullShare)
    iintro H
    iexists ((slotM b t).view.write (Elt F) fd ((slotM a s).view.read (Elt F) fs) Finset.univ)
    isplitr
    · ipureintro; exact (View.read_write_univ _ _).trans hfs
    iexact H
  iapply (Rounds.wp_send_pointsTo_with 𝒱₀ ER (ringRd D) (c : Thread nD τ) none (c' := (dev : Thread nD τ)) (src := slotM a s) (dst := slotM b t)
      (κ₁ := K (c, i)) (κ₂ := K (dev, j)) (fd := fd) (fs := fs) (q := q) (F := E) (k := k) hd₁ hd₂ ι 0 N rfl hk₁ hk₂
      (owe ((dues c).drop n')) rfl (W := W) hp₁ hp₂) $$ [Hs Hd HE HO HTi HTj]
  · isplitr; · iexact HIi
    isplitr; · iexact HIj
    isplitl [Hs]; · iexact Hs
    isplitl [Hd HE]
    · isplitl [Hd]; · iexact Hd
      iexact HE
    isplitl [HO]; · iexact HO
    isplitl [HTi]; · iexact HTi
    isplitr; · iexact HPi
    isplitl [HTj]; · iexact HTj
    iexact HPj
  iintro ⟨HC, HO⟩
  iapply Hk
  isplitl [HO]
  · iexists W; iexact HO
  iexact HC

theorem dmaWait_spec (sm : DmaSem sig) (i : Fin 12) (hi : csem i = .dma sm) (hui : units i = N) (hpi : payers i = {false}) (r : ℕ) (hr : r < rounds i)
    (ι n : ℕ) (hι : ι < 32) (h : ∀ t ∈ heights.drop n, ι < t) (k : PUnit → BProg F α) (Q : α → sProp 𝕄) :
    iprop(Rec D K ∗ Due c n ∗ Cred c i ι N ∗ At c i r)
      ⊢ iprop((iprop(Due c n ∗ At c i (r + 1) ∗ Past c i (r + 1) ∗ pay D c i r false) -∗ Wp defs c (k ⟨⟩) Q)
        -∗ Wp defs c (.op (.waitDma2 sm (slotM a s) (slotM b t) (slotM_exact a ha s) (slotM_exact b hb t)) k) Q) := by
  have hc : cell c i = ((c : Thread nD τ), .dma sm) := by unfold cell; rw [hi]
  have hrest := rest_cell D c i hr
  rw [paid_one D c i hpi] at hrest
  have hex : 0 + N = (ringRd D).expect ((c : Thread nD τ), .dma sm) r := by
    rw [← hc, expect_cell D c i hr, hui, hpi, Finset.card_singleton, Nat.one_mul, Nat.zero_add]
  have hw : ∀ K : PUnit → sProp 𝕄, wpE defs 𝒱₀ (c : Thread nD τ) none Set.univ
        (.waitDma2 sm (slotM a s) (slotM b t) (slotM_exact a ha s) (slotM_exact b hb t)) K
      = waitSpec (c : Thread nD τ) Set.univ (.dma sm) N K := fun K => by
    rw [← slot_credit b t]
    exact wpE_waitDma2_eq 𝒱₀ (c : Thread nD τ) none Set.univ K
  rw [← hrest]
  unfold Due Owes At Past Cred
  iintro ⟨#HR, ⟨%W, HO⟩, HC, HA⟩ Hk
  ihave #HI := (rec_inv D c i K) $$ HR
  rw [hc]
  iapply (Rounds.wp_wait_rest_token 𝒱₀ ER (ringRd D) (c : Thread nD τ) none (κ := K (c, i)) (k := k)
      (w := .waitDma2 sm (slotM a s) (slotM b t) (slotM_exact a ha s) (slotM_exact b hb t)) (sm := .dma sm) (k' := N)
      hw (Set.mem_univ _) ι (O := owe ((dues c).drop n)) (W := W) (R := r) (m := 0) (T := ∅)
      hex) $$ [HO HC HA]
  · isplitr; · iexact HI
    isplitl [HC]; · iexact HC
    isplitl [HO]; · iexact HO
    isplitr
    · iapply (rec_wait D c K n ι (.dma sm) hι h); iexact HR
    iexact HA
  iintro ⟨HO, HA, HP, Hp⟩
  iapply Hk
  isplitl [HO]
  · iexists _; iexact HO
  isplitl [HA]; · iexact HA
  isplitl [HP]; · iexact HP
  iexact Hp

theorem ringWait_spec (send recv : DmaSem sig) (i j : Fin 12) (hi : csem i = .dma send) (hj : csem j = .dma recv)
    (hui : units i = N) (huj : units j = N) (hpi : payers i = {false}) (hpj : payers j = {false}) (ri rj : ℕ) (hri : ri < rounds i) (hrj : rj < rounds j)
    (ι n : ℕ) (hι : ι < 32) (h : ∀ t ∈ heights.drop n, ι < t) (k : PUnit → BProg F α) (Q : α → sProp 𝕄) :
    iprop(Rec D K ∗ Due c n ∗ Cred c i 0 N ∗ Cred c j ι N ∗ At c i ri ∗ At c j rj)
      ⊢ iprop((iprop(Due c n ∗ At c i (ri + 1) ∗ Past c i (ri + 1) ∗ pay D c i ri false
            ∗ At c j (rj + 1) ∗ Past c j (rj + 1) ∗ pay D c j rj false) -∗ Wp defs c (k ⟨⟩) Q)
        -∗ Wp defs c (ringWait a ha s b hb t send recv >>= k) Q) := by
  have ep : (ringWait (F := F) a ha s b hb t send recv >>= k)
      = .op (.waitDma2 send (slotM b t) (slotM a s) (slotM_exact b hb t) (slotM_exact a ha s)) fun _ =>
        .op (.waitDma2 recv (slotM a s) (slotM b t) (slotM_exact a ha s) (slotM_exact b hb t)) k := rfl
  have hlow : ∀ t ∈ heights.drop n, 0 < t := fun t ht => by
    have hh : ∀ t ∈ heights, 0 < t := by decide
    exact hh _ (List.mem_of_mem_drop ht)
  rw [ep]
  iintro ⟨#HR, HO, HCi, HCj, HAi, HAj⟩ Hk
  iapply (dmaWait_spec defs D K b a hb ha t s send i hi hui hpi ri hri 0 n (by decide) hlow _ Q) $$ [HO HCi HAi]
  · isplitr; · iexact HR
    isplitl [HO]; · iexact HO
    isplitl [HCi]; · iexact HCi
    iexact HAi
  iintro ⟨HO, HAi, HPi, Hpi⟩
  iapply (dmaWait_spec defs D K a b ha hb s t recv j hj huj hpj rj hrj ι n hι h k Q) $$ [HO HCj HAj]
  · isplitr; · iexact HR
    isplitl [HO]; · iexact HO
    isplitl [HCj]; · iexact HCj
    iexact HAj
  iintro ⟨HO, HAj, HPj, Hpj⟩
  iapply Hk
  isplitl [HO]; · iexact HO
  isplitl [HAi]; · iexact HAi
  isplitl [HPi]; · iexact HPi
  isplitl [Hpi]; · iexact Hpi
  isplitl [HAj]; · iexact HAj
  isplitl [HPj]; · iexact HPj
  iexact Hpj
end

end Cert.KernelIdeal.Body
-- ==== Proof.Acts.lean ====
/-
The ring's actions as the body takes them: the copies to either side, their waits, the credits, and the copies of keys
and values with a group's computation, all over one set of data.
-/
module

public import proofs.«01_k».proof.Proof.Ring

@[expose] public section

noncomputable section

namespace Cert.KernelIdeal.Body

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F] [Named F]

local notation "𝕄" => MM F

variable (defs : Defs nD τ sig (Elt F) Λ₀) (D : Data F) (K : Dev nD × Fin 12 → ℕ) {c : Dev nD} {α : Type}

/-! ## Copies around the ring -/

section
variable (s t : Fin 2) (ht : 1 - s = t)
include ht

/-- The right-going copy of step `σ`. -/
theorem sendCw_spec (σ : ℕ) (hσ : σ < 7) (i j : Fin 12) (hi : csem i = .dma (sem2 cc0_scratch14 s)) (hj : csem j = .dma (sem2 cc0_scratch15 t))
    (hui : units i = N) (huj : units j = N) (hpi : payers i = {false}) (hpj : payers j = {false}) (ri rj : ℕ) (hri : ri < rounds i) (hrj : rj < rounds j)
    (ι n n' : ℕ) (hl : (dues c).drop n = (cell (right c) j, ι, N) :: (dues c).drop n')
    (h₁ : pay D c i ri false = sentCw D c σ s) (h₂ : pay D (right c) j rj false = gotCw D (right c) σ t)
    (k : PUnit → BProg F α) (Q : α → sProp 𝕄) :
    iprop(Rec D K ∗ Due c n ∗ Part c cwM (wSet s) fullShare.left (D.w (back c σ)) ∗ Room (right c) cwM (wSet t) ∗ Past c 10 σ
        ∗ Tok c i ri false ∗ Past c i ri ∗ Tok (right c) j rj false ∗ Past (right c) j rj)
      ⊢ iprop((iprop(Due c n' ∗ Cred c i 0 N) -∗ Wp defs c (k ⟨⟩) Q)
        -∗ Wp defs c (Prog.lift (sendCw c s) >>= k) Q) := by
  subst ht
  exact ringStart_spec defs D K cwM cwM _ _ s (1 - s) (right c) _ _ i j hi hj hui huj hpi hpj ri rj hri hrj ι n n' hl (back c σ) _ (Past c 10 σ)
    (Entails.of_eq h₁.symm) (by
      rw [h₂]; unfold gotCw; rw [back_right c σ hσ, left_right]) k Q

/-- The left-going copy of step `σ`. -/
theorem sendCcw_spec (a : Memref sig .tc .vmem S2x2048x1024 .bf16) (ha : a.IsWhole) (q : PosShare TreeShare)
    (σ : ℕ) (hσ : σ < 7) (i j : Fin 12) (hi : csem i = .dma (sem2 cc0_scratch16 s)) (hj : csem j = .dma (sem2 cc0_scratch17 t))
    (hui : units i = N) (huj : units j = N) (hpi : payers i = {false}) (hpj : payers j = {false}) (ri rj : ℕ) (hri : ri < rounds i) (hrj : rj < rounds j)
    (ι n n' : ℕ) (hl : (dues c).drop n = (cell (left c) j, ι, N) :: (dues c).drop n')
    (h₁ : pay D c i ri false = Part c a (wSet s) q (D.w (fwd c σ))) (h₂ : pay D (left c) j rj false = gotCcw D (left c) σ t)
    (k : PUnit → BProg F α) (Q : α → sProp 𝕄) :
    iprop(Rec D K ∗ Due c n ∗ Part c a (wSet s) q (D.w (fwd c σ)) ∗ Room (left c) ccwM (wSet t)
        ∗ Tok c i ri false ∗ Past c i ri ∗ Tok (left c) j rj false ∗ Past (left c) j rj)
      ⊢ iprop((iprop(Due c n' ∗ Cred c i 0 N) -∗ Wp defs c (k ⟨⟩) Q)
        -∗ Wp defs c (Prog.lift (sendCcw c a ha s) >>= k) Q) := by
  subst ht
  have h := ringStart_spec defs D K a ccwM ha (Memref.isWhole_whole _) s (1 - s) (left c) _ _ i j hi hj hui huj hpi hpj ri rj hri hrj ι n n' hl (fwd c σ) q iprop(emp)
    (Entails.of_eq h₁.symm) (by
      rw [h₂]; unfold gotCcw; rw [fwd_left c σ hσ]; iintro ⟨H, -⟩; iexact H) k Q
  iintro ⟨#HR, HO, Hs, Hd, HTi, #HPi, HTj, #HPj⟩ Hk
  iapply h $$ [HO Hs Hd HTi HTj]
  · isplitr; · iexact HR
    isplitl [HO]; · iexact HO
    isplitl [Hs]; · iexact Hs
    isplitl [Hd]; · iexact Hd
    isplitr; · iempintro
    isplitl [HTi]; · iexact HTi
    isplitr; · iexact HPi
    isplitl [HTj]; · iexact HTj
    iexact HPj
  iexact Hk

theorem waitCw_spec (i j : Fin 12) (hi : csem i = .dma (sem2 cc0_scratch14 s)) (hj : csem j = .dma (sem2 cc0_scratch15 t))
    (hui : units i = N) (huj : units j = N) (hpi : payers i = {false}) (hpj : payers j = {false}) (ri rj : ℕ) (hri : ri < rounds i) (hrj : rj < rounds j)
    (ι n : ℕ) (hι : ι < 32) (h : ∀ t ∈ heights.drop n, ι < t) (P R : sProp 𝕄) (h₁ : pay D c i ri false = P) (h₂ : pay D c j rj false = R)
    (k : PUnit → BProg F α) (Q : α → sProp 𝕄) :
    iprop(Rec D K ∗ Due c n ∗ Cred c i 0 N ∗ Cred c j ι N ∗ At c i ri ∗ At c j rj)
      ⊢ iprop((iprop(Due c n ∗ At c i (ri + 1) ∗ Past c i (ri + 1) ∗ P ∗ At c j (rj + 1) ∗ Past c j (rj + 1) ∗ R) -∗ Wp defs c (k ⟨⟩) Q)
        -∗ Wp defs c (waitCw s >>= k) Q) := by
  subst ht h₁ h₂
  exact ringWait_spec defs D K cwM cwM _ _ s (1 - s) _ _ i j hi hj hui huj hpi hpj ri rj hri hrj ι n hι h k Q

theorem waitCcw_spec (a : Memref sig .tc .vmem S2x2048x1024 .bf16) (ha : a.IsWhole)
    (i j : Fin 12) (hi : csem i = .dma (sem2 cc0_scratch16 s)) (hj : csem j = .dma (sem2 cc0_scratch17 t))
    (hui : units i = N) (huj : units j = N) (hpi : payers i = {false}) (hpj : payers j = {false}) (ri rj : ℕ) (hri : ri < rounds i) (hrj : rj < rounds j)
    (ι n : ℕ) (hι : ι < 32) (h : ∀ t ∈ heights.drop n, ι < t) (P R : sProp 𝕄) (h₁ : pay D c i ri false = P) (h₂ : pay D c j rj false = R)
    (k : PUnit → BProg F α) (Q : α → sProp 𝕄) :
    iprop(Rec D K ∗ Due c n ∗ Cred c i 0 N ∗ Cred c j ι N ∗ At c i ri ∗ At c j rj)
      ⊢ iprop((iprop(Due c n ∗ At c i (ri + 1) ∗ Past c i (ri + 1) ∗ P ∗ At c j (rj + 1) ∗ Past c j (rj + 1) ∗ R) -∗ Wp defs c (k ⟨⟩) Q)
        -∗ Wp defs c (waitCcw a ha s >>= k) Q) := by
  subst ht h₁ h₂
  exact ringWait_spec defs D K a ccwM ha (Memref.isWhole_whole _) s (1 - s) _ _ i j hi hj hui huj hpi hpj ri rj hri hrj ι n hι h k Q
end

/-- A wait for a credit. -/
theorem credit_spec (i : Fin 12) {sm : Sem sig} (hs : csem i = .reg sm) (hu : units i = 1) (hp : payers i = {false}) (r ι n : ℕ)
    (hr : r < rounds i) (hι : ι < 32) (h : ∀ t ∈ heights.drop n, ι < t) (P : sProp 𝕄) (h₁ : pay D c i r false = P)
    (k : PUnit → BProg F α) (Q : α → sProp 𝕄) :
    iprop(Rec D K ∗ Due c n ∗ Cred c i ι 1 ∗ At c i r)
      ⊢ iprop((iprop(Due c n ∗ At c i (r + 1) ∗ Past c i (r + 1) ∗ P) -∗ Wp defs c (k ⟨⟩) Q)
        -∗ Wp defs c (semWaitWord sm 1#32 >>= k) Q) := by
  have h' := wait_spec (c := c) defs D K i hs r ι n 1#32 1 rfl hr (by rw [hp, hu]; rfl) hι h k Q
  rw [paid_one D c i hp, h₁] at h'
  exact h'

/-! ## Keys, values and a group -/

/-- A slot idle, being filled, filled with group `g`; the staged keys and values, at a share. -/
abbrev Idle (Z : Kv) (slot : Fin 2) (c : Dev nD) : sProp 𝕄 := kvIdle Z slot c
abbrev Fly (Z : Kv) (slot : Fin 2) (B : Bands) (q : PosShare TreeShare) (c : Dev nD) : sProp 𝕄 := kvFlying Z slot B q (D.kt c) (D.vt c) c
abbrev Held (Z : Kv) (slot : Fin 2) (g c : Dev nD) : sProp 𝕄 := kvHolds Z slot (D.kt c) (D.vt c) g c
abbrev Src (q : PosShare TreeShare) (c : Dev nD) : sProp 𝕄 := kvSource q (D.kt c) (D.vt c) c
abbrev Wk (m12 : Memref sig .tc .vmem S640x704 .f32) (A : S1024x1024.Idx → Elt F .f32) (c : Dev nD) : sProp 𝕄 := Work m12 (xpOf (D.x c)) (D.b c) A c

/-- The accumulator of device `c` after group `g`. -/
def Data.next (c g : Dev nD) (A : S1024x1024.Idx → Elt F .f32) : S1024x1024.Idx → Elt F .f32 :=
  accNext (xpOf (D.x c)) (D.b c) (D.kt c) (D.vt c) g (D.wq g) (D.wo g) A

theorem own_back : ∀ d : Dev nD, (bandsOwn d).For (back d 0) := by unfold Bands.For; decide +kernel
theorem cw_back : ∀ (d : Dev nD) (w : Fin 4), (bandsCw d w).For (back d (w.val + 1)) := by unfold Bands.For; decide +kernel
theorem next_fwd : ∀ d : Dev nD, (bandsNext d).For (fwd d 1) := by unfold Bands.For; decide +kernel
theorem ccw_fwd : ∀ (d : Dev nD) (w : Fin 2), (bandsCcw d w).For (fwd d (w.val + 2)) := by unfold Bands.For; decide +kernel

theorem take_spec (Z : Kv) (slot : Fin 2) {B : Bands} {g : Dev nD} (hB : B.For g) (q : PosShare TreeShare) (n : ℕ) (k : PUnit → BProg F α) (Q : α → sProp 𝕄) :
    iprop(Rec D K ∗ Due c n ∗ Fly D Z slot B q c)
      ⊢ iprop((iprop(Due c n ∗ Held D Z slot g c ∗ Src D q c) -∗ Wp defs c (k ⟨⟩) Q)
        -∗ Wp defs c (waitAll (copies Z slot B) >>= k) Q) := by
  iintro ⟨#HR, HO, HF⟩ Hk
  ihave #HL := (rec_lev D K) $$ HR
  iapply (kv_wait defs Z slot hB q (D.kt c) (D.vt c) (fun _ => default) (fun _ => default) (fun _ => default) (fun _ => default)
    ((dues c).drop n) (dues_low c n) k Q) $$ [HO HF]
  · isplitl [HF]; · iexact HF
    isplitl [HO]; · iexact HO
    iexact HL
  iintro ⟨H, HS, HO⟩
  iapply Hk
  isplitl [HO]; · iexact HO
  isplitl [H]; · iexact H
  iexact HS

theorem grp_spec (a : Memref sig .tc .vmem S2x2048x1024 .bf16) (slot : Fin 2) (qa : PosShare TreeShare) (Z : Kv)
    (m12 : Memref sig .tc .vmem S640x704 .f32) (g : Dev nD) (A : S1024x1024.Idx → Elt F .f32) (k : PUnit → BProg F α) (Q : α → sProp 𝕄) :
    iprop(Part c a (wSet slot) qa (D.w g) ∗ Held D Z slot g c ∗ Wk D m12 A c)
      ⊢ iprop((iprop(Part c a (wSet slot) qa (D.w g) ∗ Idle Z slot c ∗ Wk D m12 (D.next c g A) c) -∗ Wp defs c (k ⟨⟩) Q)
        -∗ Wp defs c (group a slot Z m12 >>= k) Q) := by
  have h : iprop(Part c a (wSet slot) qa (D.w g) ∗ Held D Z slot g c ∗ Wk D m12 A c)
      ⊢ iprop((iprop(Part c a (wSet slot) qa (D.w g) ∗ Held D Z slot g c ∗ Wk D m12 (D.next c g A) c) -∗ Wp defs c (k ⟨⟩) Q)
        -∗ Wp defs c (group a slot Z m12 >>= k) Q) :=
    group_spec defs a slot qa Z m12 (xpOf (D.x c)) (D.b c) (D.kt c) (D.vt c) g (D.wq g) (D.wo g) A k Q
  iintro H Hk
  iapply h $$ H
  iintro ⟨Ha, Hh, HW⟩
  ihave Hh := (kvHolds_idle Z slot (D.kt c) (D.vt c) g) $$ Hh
  iapply Hk
  isplitl [Ha]; · iexact Ha
  isplitl [Hh]; · iexact Hh
  iexact HW

end Cert.KernelIdeal.Body
-- ==== Proof.Steps.lean ====
/-
The body's steps, one after the other: what each takes and what it leaves.
-/
module

public import proofs.«01_k».proof.Proof.Acts

@[expose] public section

noncomputable section

namespace Cert.KernelIdeal.Body

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F] [Named F]

local notation "𝕄" => MM F

variable (defs : Defs nD τ sig (Elt F) Λ₀) (D : Data F) (K : Dev nD × Fin 12 → ℕ) (c : Dev nD) {α : Type}

/-- A device's room, handed to the device before: the one after has it. -/
theorem room_right (a : Memref sig .tc .vmem S2x2048x1024 .bf16) (s : Fin 2) : Room (F := F) c a (wSet s) ⊢ Room (right (left c)) a (wSet s) := by
  rw [right_left]
theorem room_left (a : Memref sig .tc .vmem S2x2048x1024 .bf16) (s : Fin 2) : Room (F := F) c a (wSet s) ⊢ Room (left (right c)) a (wSet s) := by
  rw [left_right]
theorem begun_right : begunAt (F := F) c ⊢ begunAt (right (left c)) := by rw [right_left]
theorem begun_left : begunAt (F := F) c ⊢ begunAt (left (right c)) := by rw [left_right]
theorem past_right (i : Fin 12) (r : ℕ) : (Past c i r : sProp 𝕄) ⊢ Past (right (left c)) i r := by rw [right_left]
theorem past_left (i : Fin 12) (r : ℕ) : (Past c i r : sProp 𝕄) ⊢ Past (left (right c)) i r := by rw [left_right]

theorem zero_fwd : D.w (back c 0) = D.w (fwd c 0) := by rw [back_zero, fwd_zero]

/-! ## What the accumulator comes to -/

def Data.A1 : S1024x1024.Idx → Elt F .f32 := D.next c (back c 0) acc0
def Data.A2 : S1024x1024.Idx → Elt F .f32 := D.next c (back c 1) (D.A1 c)
def Data.A3 : S1024x1024.Idx → Elt F .f32 := D.next c (fwd c 1) (D.A2 c)
def Data.A4 : S1024x1024.Idx → Elt F .f32 := D.next c (back c 2) (D.A3 c)
def Data.A5 : S1024x1024.Idx → Elt F .f32 := D.next c (fwd c 2) (D.A4 c)
def Data.A6 : S1024x1024.Idx → Elt F .f32 := D.next c (back c 3) (D.A5 c)
def Data.A7 : S1024x1024.Idx → Elt F .f32 := D.next c (fwd c 3) (D.A6 c)
def Data.A8 : S1024x1024.Idx → Elt F .f32 := D.next c (back c 4) (D.A7 c)

variable (x wq wo : Memref sig .tc .vmem S1024x1024 .bf16) (m12 : Memref sig .tc .vmem S640x704 .f32) (out : Memref sig .tc .vmem S1x1024x1024 .f32)

/-! ## The steps -/

instance exit_persistent (d : Bool) : BI.Persistent (pay D c 1 0 d) := by
  cases d <;> exact (inferInstance : BI.Persistent (iprop(emp) : sProp 𝕄))
theorem nothing_paid (d : Bool) : Rec D K ⊢ pay D c 1 0 d := by
  cases d <;> (show Rec D K ⊢ iprop(emp); iintro -; iempintro)
theorem bar_true : pay D c 0 0 true ⊢ iprop((Room (left c) ccwM (wSet 0) ∗ Room (left c) ccwM (wSet 1)) ∗ begunAt (left c)) := BIBase.Entails.refl
theorem bar_false : pay D c 0 0 false ⊢ iprop(Room (right c) cwM (wSet 1) ∗ begunAt (right c)) := BIBase.Entails.refl
theorem own_zero : Part c cwM (wSet 0) fullShare (wts (D.wq c) (D.wo c)) ⊢ Part c cwM (wSet 0) fullShare (D.w (back c 0)) := by
  rw [back_zero]; exact BIBase.Entails.refl

/-- Up to the first step: the neighbours give room, the weights and the inputs are placed. -/
theorem begin_spec (k : PUnit → BProg F α) (Q : α → sProp 𝕄) :
    iprop(Rec D K ∗ begunAt c ∗ Due c 0 ∗ Part c x Finset.univ fullShare (D.x c) ∗ Part c wq Finset.univ fullShare (D.wq c)
        ∗ Part c wo Finset.univ fullShare (D.wo c) ∗ Idle kvCw 0 c ∗ Src D fullShare.left c ∗ Room c cwM (wSet 0)
        ∗ Room c cwM (wSet 1) ∗ Room c ccwM (wSet 0) ∗ Room c ccwM (wSet 1) ∗ Room c accM Finset.univ ∗ Room c xpM Finset.univ
        ∗ Tok (left c) 0 0 false ∗ Tok (right c) 0 0 true ∗ Cred c 0 1 2 ∗ At c 0 0)
      ⊢ iprop((iprop(Due c 2 ∗ Part c x Finset.univ fullShare (D.x c) ∗ Part c wq Finset.univ fullShare (D.wq c)
        ∗ Part c wo Finset.univ fullShare (D.wo c) ∗ Fly D kvCw 0 (bandsOwn c) fullShare.left c
        ∗ Part c cwM (wSet 0) fullShare (D.w (back c 0)) ∗ Part c accM Finset.univ fullShare acc0
        ∗ Part c xpM Finset.univ fullShare (xpOf (D.x c)) ∗ Room (right c) cwM (wSet 1) ∗ Room (left c) ccwM (wSet 0)
        ∗ Room (left c) ccwM (wSet 1) ∗ At c 0 1 ∗ Near c)
          -∗ Wp defs c (k ⟨⟩) Q) -∗ Wp defs c (begin x wq wo c >>= k) Q) := by
  simp only [begin, bind_assoc]
  iintro ⟨#HR, #HB, HO, Hx, Hq, Ho, HI, HS, Hr0, Hr1, Hl0, Hl1, Ha, Hp, Ht1, Ht2, HC, HA⟩ Hk
  iapply (kv_start defs kvCw 0 (bandsOwn c) fullShare.left (D.kt c) (D.vt c) _ Q) $$ [HI HS]
  · isplitl [HI]; · iexact HI
    iexact HS
  iintro HF
  ihave #HP1 := (rec_begun D (left c) K) $$ HR
  ihave #HP2 := (rec_begun D (right c) K) $$ HR
  ihave Hr1 := (room_right c cwM 1) $$ Hr1
  ihave #HBr := (begun_right c) $$ HB
  ihave #HBl := (begun_left c) $$ HB
  ihave Hpay : iprop(Room (right (left c)) cwM (wSet 1) ∗ begunAt (right (left c))) $$ [Hr1]
  · isplitl [Hr1]; · iexact Hr1
    iexact HBr
  iapply (signal_spec defs D K (left c) 0 (sm := barrierS) rfl rfl 0 false (by decide) (by decide) 1 0 1 rfl iprop(Room (right (left c)) cwM (wSet 1) ∗ begunAt (right (left c))) rfl _ Q) $$ [HO Ht1 Hpay]
  · isplitr; · iexact HR
    isplitl [HO]; · iexact HO
    isplitl [Ht1]; · iexact Ht1
    isplitr; · iexact HP1
    iexact Hpay
  iintro HO
  ihave Hl0 := (room_left c ccwM 0) $$ Hl0
  ihave Hl1 := (room_left c ccwM 1) $$ Hl1
  ihave Hpay : iprop((Room (left (right c)) ccwM (wSet 0) ∗ Room (left (right c)) ccwM (wSet 1)) ∗ begunAt (left (right c))) $$ [Hl0 Hl1]
  · isplitl [Hl0 Hl1]
    · isplitl [Hl0]; · iexact Hl0
      iexact Hl1
    iexact HBl
  iapply (signal_spec defs D K (right c) 0 (sm := barrierS) rfl rfl 0 true (by decide) (by decide) 1 1 2 rfl iprop((Room (left (right c)) ccwM (wSet 0) ∗ Room (left (right c)) ccwM (wSet 1)) ∗ begunAt (left (right c))) rfl _ Q) $$ [HO Ht2 Hpay]
  · isplitr; · iexact HR
    isplitl [HO]; · iexact HO
    isplitl [Ht2]; · iexact Ht2
    isplitr; · iexact HP2
    iexact Hpay
  iintro HO
  iapply (wait_spec defs D K 0 (sm := barrierS) rfl 0 1 2 2#32 2 rfl (by decide) rfl (by decide) (by decide) _ Q) $$ [HO HC HA]
  · isplitr; · iexact HR
    isplitl [HO]; · iexact HO
    isplitl [HC]; · iexact HC
    iexact HA
  iintro ⟨HO, HA, -, Hb⟩
  ihave Hb := (paid_two D c 0 rfl) $$ Hb
  icases Hb with ⟨Hn1, Hm⟩
  ihave Hm := (bar_true D c) $$ Hm
  icases Hm with ⟨⟨Hm0, Hm1⟩, #HNl⟩
  ihave Hn1 := (bar_false D c) $$ Hn1
  icases Hn1 with ⟨Hn1, #HNr⟩
  iapply (fill_spec defs wq wo fullShare (D.wq c) (D.wo c) _ Q) $$ [Hq Ho Hr0 Ha]
  · isplitl [Hq]; · iexact Hq
    isplitl [Ho]; · iexact Ho
    isplitl [Hr0]; · iexact Hr0
    iexact Ha
  iintro ⟨Hq, Ho, Hr0, Ha⟩
  ihave Hr0 := (own_zero D c) $$ Hr0
  iapply (bandIn_spec defs x fullShare (D.x c) _ Q) $$ [Hx Hp]
  · isplitl [Hx]; · iexact Hx
    iexact Hp
  iintro ⟨Hx, Hp⟩
  iapply Hk
  isplitl [HO]; · iexact HO
  isplitl [Hx]; · iexact Hx
  isplitl [Hq]; · iexact Hq
  isplitl [Ho]; · iexact Ho
  isplitl [HF]; · iexact HF
  isplitl [Hr0]; · iexact Hr0
  isplitl [Ha]; · iexact Ha
  isplitl [Hp]; · iexact Hp
  isplitl [Hn1]; · iexact Hn1
  isplitl [Hm0]; · iexact Hm0
  isplitl [Hm1]; · iexact Hm1
  isplitl [HA]; · iexact HA
  unfold Near
  isplitr; · iexact HB
  isplitr; · iexact HNl
  iexact HNr

/-- Step 0. -/
theorem step0_spec (k : PUnit → BProg F α) (Q : α → sProp 𝕄) :
    iprop(Rec D K ∗ Near c ∗ Due c 2 ∗ Part c cwM (wSet 0) fullShare (D.w (back c 0)) ∗ Room (right c) cwM (wSet 1)
        ∗ Room (left c) ccwM (wSet 1) ∗ Fly D kvCw 0 (bandsOwn c) fullShare.left c ∗ Idle kvCw 1 c ∗ Idle kvCcw 1 c
        ∗ Src D fullShare.right c ∗ Wk D m12 acc0 c ∗ Tok c 2 0 false ∗ Tok (right c) 7 0 false ∗ Tok c 4 0 false
        ∗ Tok (left c) 9 0 false ∗ Tok (left c) 10 0 false ∗ At c 2 0 ∗ At c 7 0 ∗ At c 4 0 ∗ At c 9 0 ∗ Cred c 7 2 N
        ∗ Cred c 9 2 N)
      ⊢ iprop((iprop(Due c 5 ∗ Part c cwM (wSet 1) fullShare (D.w (back c 1)) ∗ Part c ccwM (wSet 1) fullShare (D.w (fwd c 1)) ∗ Idle kvCw 0 c
        ∗ Fly D kvCw 1 (bandsCw c 0) fullShare.left c ∗ Fly D kvCcw 1 (bandsNext c) fullShare.right c ∗ Wk D m12 (D.A1 c) c
        ∗ At c 2 1 ∗ Past c 2 1 ∗ At c 7 1 ∗ Past c 7 1 ∗ At c 4 1 ∗ Past c 4 1 ∗ At c 9 1 ∗ Past c 9 1)
          -∗ Wp defs c (k ⟨⟩) Q) -∗ Wp defs c (step0 m12 c >>= k) Q) := by
  simp only [step0, bind_assoc]
  iintro ⟨#HR, #HN, HO, Hr, Hn, Hm, HF, HI1, HJ1, HS2, HW, T2, T7, T4, T9, T10, A2, A7, A4, A9, C7, C9⟩ Hk
  ihave #B2 := (near_own c 2) $$ HN
  ihave #B4 := (near_own c 4) $$ HN
  ihave #B10 := (near_own c 10) $$ HN
  ihave #B7 := (near_right c 7) $$ HN
  ihave #B9 := (near_left c 9) $$ HN
  ihave #B10l := (near_left c 10) $$ HN
  ihave Hr := (part_split (c := c) (m := cwM) (S := wSet 0) (w := (D.w (back c 0))) fullShare) $$ Hr
  icases Hr with ⟨Ha, Hr⟩
  ihave Hr := (part_split (c := c) (m := cwM) (S := wSet 0) (w := (D.w (back c 0))) fullShare.right) $$ Hr
  icases Hr with ⟨Hb, Hd⟩
  ihave Hb := (Entails.of_eq (congrArg (Part c cwM (wSet 0) fullShare.right.left) (zero_fwd D c))) $$ Hb
  iapply (sendCw_spec defs D K 0 1 rfl 0 (by decide) 2 7 rfl rfl rfl rfl rfl rfl 0 0 (by decide) (by decide) 2 2 3 rfl rfl rfl _ Q) $$ [HO Ha Hn T2 T7]
  · isplitr; · iexact HR
    isplitl [HO]; · iexact HO
    isplitl [Ha]; · iexact Ha
    isplitl [Hn]; · iexact Hn
    isplitr; · iexact B10
    isplitl [T2]; · iexact T2
    isplitr; · iexact B2
    isplitl [T7]; · iexact T7
    iexact B7
  iintro ⟨HO, C2⟩
  iapply (sendCcw_spec defs D K 0 1 rfl cwM (Memref.isWhole_whole _) fullShare.right.left 0 (by decide) 4 9 rfl rfl rfl rfl rfl rfl 0 0 (by decide) (by decide) 2 3 4 rfl rfl rfl _ Q) $$ [HO Hb Hm T4 T9]
  · isplitr; · iexact HR
    isplitl [HO]; · iexact HO
    isplitl [Hb]; · iexact Hb
    isplitl [Hm]; · iexact Hm
    isplitl [T4]; · iexact T4
    isplitr; · iexact B4
    isplitl [T9]; · iexact T9
    iexact B9
  iintro ⟨HO, C4⟩
  iapply (take_spec defs D K kvCw 0 (own_back c) fullShare.left 4 _ Q) $$ [HO HF]
  · isplitr; · iexact HR
    isplitl [HO]; · iexact HO
    iexact HF
  iintro ⟨HO, HH, HS⟩
  iapply (kv_start defs kvCw 1 (bandsCw c 0) fullShare.left (D.kt c) (D.vt c) _ Q) $$ [HI1 HS]
  · isplitl [HI1]; · iexact HI1
    iexact HS
  iintro HF
  iapply (kv_start defs kvCcw 1 (bandsNext c) fullShare.right (D.kt c) (D.vt c) _ Q) $$ [HJ1 HS2]
  · isplitl [HJ1]; · iexact HJ1
    iexact HS2
  iintro HG
  iapply (grp_spec defs D cwM 0 fullShare.right.right kvCw m12 (back c 0) acc0 _ Q) $$ [Hd HH HW]
  · isplitl [Hd]; · iexact Hd
    isplitl [HH]; · iexact HH
    iexact HW
  iintro ⟨Hd, HI0, HW⟩
  iapply (waitCw_spec defs D K 0 1 rfl 2 7 rfl rfl rfl rfl rfl rfl 0 0 (by decide) (by decide) 2 4 (by decide) (by decide) (sentCw D c 0 0) (gotCw D c 0 1) rfl rfl _ Q) $$ [HO C2 C7 A2 A7]
  · isplitr; · iexact HR
    isplitl [HO]; · iexact HO
    isplitl [C2]; · iexact C2
    isplitl [C7]; · iexact C7
    isplitl [A2]; · iexact A2
    iexact A7
  iintro ⟨HO, A2, P2, Ha, A7, P7, Hg⟩
  unfold sentCw gotCw
  icases Hg with ⟨Hr1, -⟩
  iapply (waitCcw_spec defs D K 0 1 rfl cwM (Memref.isWhole_whole _) 4 9 rfl rfl rfl rfl rfl rfl 0 0 (by decide) (by decide) 2 4 (by decide) (by decide) (sentCcw0 D c) (gotCcw D c 0 1) rfl rfl _ Q) $$ [HO C4 C9 A4 A9]
  · isplitr; · iexact HR
    isplitl [HO]; · iexact HO
    isplitl [C4]; · iexact C4
    isplitl [C9]; · iexact C9
    isplitl [A4]; · iexact A4
    iexact A9
  iintro ⟨HO, A4, P4, Hb, A9, P9, Hl1⟩
  unfold sentCcw0 gotCcw
  ihave Hb := (Entails.of_eq (congrArg (Part c cwM (wSet 0) fullShare.right.left) (zero_fwd D c).symm)) $$ Hb
  ihave Hb := (part_join (c := c) (m := cwM) (S := wSet 0) (w := (D.w (back c 0))) fullShare.right) $$ [Hb Hd]
  · isplitl [Hb]; · iexact Hb
    iexact Hd
  ihave Ha := (part_join (c := c) (m := cwM) (S := wSet 0) (w := (D.w (back c 0))) fullShare) $$ [Ha Hb]
  · isplitl [Ha]; · iexact Ha
    iexact Hb
  ihave Ha := part_room $$ Ha
  ihave Hpay := (room_right c cwM 0) $$ Ha
  iapply (signal_spec defs D K (left c) 10 (sm := creditCwS) rfl rfl 0 false (by decide) (by decide) 3 4 5 rfl (Room (right (left c)) cwM (wSet 0)) rfl _ Q) $$ [HO T10 Hpay]
  · isplitr; · iexact HR
    isplitl [HO]; · iexact HO
    isplitl [T10]; · iexact T10
    isplitr; · iexact B10l
    iexact Hpay
  iintro HO
  iapply Hk
  isplitl [HO]; · iexact HO
  isplitl [Hr1]; · iexact Hr1
  isplitl [Hl1]; · iexact Hl1
  isplitl [HI0]; · iexact HI0
  isplitl [HF]; · iexact HF
  isplitl [HG]; · iexact HG
  isplitl [HW]; · iexact HW
  isplitl [A2]; · iexact A2
  isplitl [P2]; · iexact P2
  isplitl [A7]; · iexact A7
  isplitl [P7]; · iexact P7
  isplitl [A4]; · iexact A4
  isplitl [P4]; · iexact P4
  isplitl [A9]; · iexact A9
  iexact P9

/-- Step 1. -/
theorem step1_spec (k : PUnit → BProg F α) (Q : α → sProp 𝕄) :
    iprop(Rec D K ∗ Near c ∗ Due c 5 ∗ Part c cwM (wSet 1) fullShare (D.w (back c 1)) ∗ Part c ccwM (wSet 1) fullShare (D.w (fwd c 1))
        ∗ Room (left c) ccwM (wSet 0) ∗ Idle kvCw 0 c ∗ Fly D kvCw 1 (bandsCw c 0) fullShare.left c
        ∗ Fly D kvCcw 1 (bandsNext c) fullShare.right c ∗ Idle kvCcw 0 c ∗ Wk D m12 (D.A1 c) c ∗ Tok c 3 0 false
        ∗ Tok (right c) 6 0 false ∗ Tok c 5 0 false ∗ Tok (left c) 8 0 false ∗ Tok (left c) 10 1 false ∗ Tok (right c) 11 0 false
        ∗ At c 10 0 ∗ At c 3 0 ∗ At c 6 0 ∗ At c 5 0 ∗ At c 8 0 ∗ Past c 7 1 ∗ Past c 9 1 ∗ Cred c 10 3 1 ∗ Cred c 6 4 N
        ∗ Cred c 8 4 N)
      ⊢ iprop((iprop(Due c 9 ∗ Part c cwM (wSet 0) fullShare (D.w (back c 2)) ∗ Part c ccwM (wSet 0) fullShare (D.w (fwd c 2)) ∗ Idle kvCw 1 c
        ∗ Fly D kvCw 0 (bandsCw c 1) fullShare.left c ∗ Fly D kvCcw 0 (bandsCcw c 0) fullShare.right c ∗ Idle kvCcw 1 c
        ∗ Wk D m12 (D.A3 c) c ∗ At c 10 1 ∗ At c 3 1 ∗ Past c 3 1 ∗ At c 6 1 ∗ Past c 6 1 ∗ At c 5 1 ∗ At c 8 1)
          -∗ Wp defs c (k ⟨⟩) Q) -∗ Wp defs c (step1 m12 c >>= k) Q) := by
  simp only [step1, bind_assoc]
  iintro ⟨#HR, #HN, HO, Hr, Hl, Hm, HI0, HF, HG, HJ0, HW, T3, T6, T5, T8, T10, T11, A10, A3, A6, A5, A8, P7, P9, C10, C6, C8⟩ Hk
  ihave #B3 := (near_own c 3) $$ HN
  ihave #B5 := (near_own c 5) $$ HN
  ihave #B6 := (near_right c 6) $$ HN
  ihave #B8 := (near_left c 8) $$ HN
  ihave #B11 := (near_right c 11) $$ HN
  iapply (credit_spec defs D K 10 (sm := creditCwS) rfl rfl rfl 0 3 5 (by decide) (by decide) (by decide) (Room (right c) cwM (wSet 0)) rfl _ Q) $$ [HO C10 A10]
  · isplitr; · iexact HR
    isplitl [HO]; · iexact HO
    isplitl [C10]; · iexact C10
    iexact A10
  iintro ⟨HO, A10, #P10, Hn⟩
  ihave Hr := (part_split (c := c) (m := cwM) (S := wSet 1) (w := (D.w (back c 1))) fullShare) $$ Hr
  icases Hr with ⟨Ha, Hd⟩
  ihave Hl := (part_split (c := c) (m := ccwM) (S := wSet 1) (w := (D.w (fwd c 1))) fullShare) $$ Hl
  icases Hl with ⟨Hb, He⟩
  iapply (sendCw_spec defs D K 1 0 rfl 1 (by decide) 3 6 rfl rfl rfl rfl rfl rfl 0 0 (by decide) (by decide) 4 5 6 rfl rfl rfl _ Q) $$ [HO Ha Hn T3 T6]
  · isplitr; · iexact HR
    isplitl [HO]; · iexact HO
    isplitl [Ha]; · iexact Ha
    isplitl [Hn]; · iexact Hn
    isplitr; · iexact P10
    isplitl [T3]; · iexact T3
    isplitr; · iexact B3
    isplitl [T6]; · iexact T6
    iexact B6
  iintro ⟨HO, C3⟩
  iapply (sendCcw_spec defs D K 1 0 rfl ccwM (Memref.isWhole_whole _) fullShare.left 1 (by decide) 5 8 rfl rfl rfl rfl rfl rfl 0 0 (by decide) (by decide) 4 6 7 rfl rfl rfl _ Q) $$ [HO Hb Hm T5 T8]
  · isplitr; · iexact HR
    isplitl [HO]; · iexact HO
    isplitl [Hb]; · iexact Hb
    isplitl [Hm]; · iexact Hm
    isplitl [T5]; · iexact T5
    isplitr; · iexact B5
    isplitl [T8]; · iexact T8
    iexact B8
  iintro ⟨HO, C5⟩
  iapply (take_spec defs D K kvCw 1 (cw_back c 0) fullShare.left 7 _ Q) $$ [HO HF]
  · isplitr; · iexact HR
    isplitl [HO]; · iexact HO
    iexact HF
  iintro ⟨HO, HH, HS⟩
  iapply (kv_start defs kvCw 0 (bandsCw c 1) fullShare.left (D.kt c) (D.vt c) _ Q) $$ [HI0 HS]
  · isplitl [HI0]; · iexact HI0
    iexact HS
  iintro HF
  iapply (grp_spec defs D cwM 1 fullShare.right kvCw m12 (back c 1) (D.A1 c) _ Q) $$ [Hd HH HW]
  · isplitl [Hd]; · iexact Hd
    isplitl [HH]; · iexact HH
    iexact HW
  iintro ⟨Hd, HI1, HW⟩
  iapply (take_spec defs D K kvCcw 1 (next_fwd c) fullShare.right 7 _ Q) $$ [HO HG]
  · isplitr; · iexact HR
    isplitl [HO]; · iexact HO
    iexact HG
  iintro ⟨HO, HH, HS⟩
  iapply (kv_start defs kvCcw 0 (bandsCcw c 0) fullShare.right (D.kt c) (D.vt c) _ Q) $$ [HJ0 HS]
  · isplitl [HJ0]; · iexact HJ0
    iexact HS
  iintro HG
  iapply (grp_spec defs D ccwM 1 fullShare.right kvCcw m12 (fwd c 1) (D.A2 c) _ Q) $$ [He HH HW]
  · isplitl [He]; · iexact He
    isplitl [HH]; · iexact HH
    iexact HW
  iintro ⟨He, HJ1, HW⟩
  iapply (waitCw_spec defs D K 1 0 rfl 3 6 rfl rfl rfl rfl rfl rfl 0 0 (by decide) (by decide) 4 7 (by decide) (by decide) (sentCw D c 1 1) (gotCw D c 1 0) rfl rfl _ Q) $$ [HO C3 C6 A3 A6]
  · isplitr; · iexact HR
    isplitl [HO]; · iexact HO
    isplitl [C3]; · iexact C3
    isplitl [C6]; · iexact C6
    isplitl [A3]; · iexact A3
    iexact A6
  iintro ⟨HO, A3, P3, Ha, A6, P6, Hg⟩
  unfold sentCw gotCw
  icases Hg with ⟨Hr0, #B10⟩
  iapply (waitCcw_spec defs D K 1 0 rfl ccwM (Memref.isWhole_whole _) 5 8 rfl rfl rfl rfl rfl rfl 0 0 (by decide) (by decide) 4 7 (by decide) (by decide) (sentCcw D c 1 1) (gotCcw D c 1 0) rfl rfl _ Q) $$ [HO C5 C8 A5 A8]
  · isplitr; · iexact HR
    isplitl [HO]; · iexact HO
    isplitl [C5]; · iexact C5
    isplitl [C8]; · iexact C8
    isplitl [A5]; · iexact A5
    iexact A8
  iintro ⟨HO, A5, -, Hb, A8, -, Hl0⟩
  unfold sentCcw gotCcw
  ihave Ha := (part_join (c := c) (m := cwM) (S := wSet 1) (w := (D.w (back c 1))) fullShare) $$ [Ha Hd]
  · isplitl [Ha]; · iexact Ha
    iexact Hd
  ihave Hb := (part_join (c := c) (m := ccwM) (S := wSet 1) (w := (D.w (fwd c 1))) fullShare) $$ [Hb He]
  · isplitl [Hb]; · iexact Hb
    iexact He
  ihave Ha := part_room $$ Ha
  ihave Ha := (room_right c cwM 1) $$ Ha
  ihave P7 := (past_right c 7 1) $$ P7
  ihave Hpay : iprop(Room (right (left c)) cwM (wSet 1) ∗ Past (right (left c)) 7 1) $$ [Ha P7]
  · isplitl [Ha]; · iexact Ha
    iexact P7
  iapply (signal_spec defs D K (left c) 10 (sm := creditCwS) rfl rfl 1 false (by decide) (by decide) 5 7 8 rfl iprop(Room (right (left c)) cwM (wSet 1) ∗ Past (right (left c)) 7 1) rfl _ Q) $$ [HO T10 Hpay]
  · isplitr; · iexact HR
    isplitl [HO]; · iexact HO
    isplitl [T10]; · iexact T10
    isplitr; · iexact B10
    iexact Hpay
  iintro HO
  ihave Hb := part_room $$ Hb
  ihave Hb := (room_left c ccwM 1) $$ Hb
  ihave P9 := (past_left c 9 1) $$ P9
  ihave Hpay : iprop(Room (left (right c)) ccwM (wSet 1) ∗ Past (left (right c)) 9 1) $$ [Hb P9]
  · isplitl [Hb]; · iexact Hb
    iexact P9
  iapply (signal_spec defs D K (right c) 11 (sm := creditCcwS) rfl rfl 0 false (by decide) (by decide) 5 8 9 rfl iprop(Room (left (right c)) ccwM (wSet 1) ∗ Past (left (right c)) 9 1) rfl _ Q) $$ [HO T11 Hpay]
  · isplitr; · iexact HR
    isplitl [HO]; · iexact HO
    isplitl [T11]; · iexact T11
    isplitr; · iexact B11
    iexact Hpay
  iintro HO
  iapply Hk
  isplitl [HO]; · iexact HO
  isplitl [Hr0]; · iexact Hr0
  isplitl [Hl0]; · iexact Hl0
  isplitl [HI1]; · iexact HI1
  isplitl [HF]; · iexact HF
  isplitl [HG]; · iexact HG
  isplitl [HJ1]; · iexact HJ1
  isplitl [HW]; · iexact HW
  isplitl [A10]; · iexact A10
  isplitl [A3]; · iexact A3
  isplitl [P3]; · iexact P3
  isplitl [A6]; · iexact A6
  isplitl [P6]; · iexact P6
  isplitl [A5]; · iexact A5
  iexact A8

/-- Step 2. -/
theorem step2_spec (k : PUnit → BProg F α) (Q : α → sProp 𝕄) :
    iprop(Rec D K ∗ Due c 9 ∗ Part c cwM (wSet 0) fullShare (D.w (back c 2)) ∗ Part c ccwM (wSet 0) fullShare (D.w (fwd c 2))
        ∗ Idle kvCw 1 c ∗ Fly D kvCw 0 (bandsCw c 1) fullShare.left c ∗ Fly D kvCcw 0 (bandsCcw c 0) fullShare.right c
        ∗ Idle kvCcw 1 c ∗ Wk D m12 (D.A3 c) c ∗ Tok c 2 1 false ∗ Tok (right c) 7 1 false ∗ Tok c 4 1 false
        ∗ Tok (left c) 9 1 false ∗ Tok (left c) 10 2 false ∗ At c 10 1 ∗ At c 11 0 ∗ At c 2 1 ∗ Past c 2 1 ∗ At c 7 1 ∗ At c 4 1
        ∗ Past c 4 1 ∗ At c 9 1 ∗ Past c 6 1 ∗ Cred c 10 5 1 ∗ Cred c 11 5 1 ∗ Cred c 7 6 N ∗ Cred c 9 6 N)
      ⊢ iprop((iprop(Due c 12 ∗ Part c cwM (wSet 1) fullShare (D.w (back c 3)) ∗ Part c ccwM (wSet 1) fullShare (D.w (fwd c 3))
        ∗ Room c ccwM (wSet 0) ∗ Idle kvCw 0 c ∗ Fly D kvCw 1 (bandsCw c 2) fullShare.left c
        ∗ Fly D kvCcw 1 (bandsCcw c 1) fullShare.right c ∗ Idle kvCcw 0 c ∗ Wk D m12 (D.A5 c) c ∗ At c 10 2 ∗ At c 11 1 ∗ At c 2 2
        ∗ At c 7 2 ∗ At c 4 2 ∗ At c 9 2)
          -∗ Wp defs c (k ⟨⟩) Q) -∗ Wp defs c (step2 m12 c >>= k) Q) := by
  simp only [step2, bind_assoc]
  iintro ⟨#HR, HO, Hr, Hl, HI1, HF, HG, HJ1, HW, T2, T7, T4, T9, T10, A10, A11, A2, P2, A7, A4, P4, A9, P6, C10, C11, C7, C9⟩ Hk
  iapply (credit_spec defs D K 10 (sm := creditCwS) rfl rfl rfl 1 5 9 (by decide) (by decide) (by decide) iprop(Room (right c) cwM (wSet 1) ∗ Past (right c) 7 1) rfl _ Q) $$ [HO C10 A10]
  · isplitr; · iexact HR
    isplitl [HO]; · iexact HO
    isplitl [C10]; · iexact C10
    iexact A10
  iintro ⟨HO, A10, #P10, Hn, #B7⟩
  ihave Hr := (part_split (c := c) (m := cwM) (S := wSet 0) (w := (D.w (back c 2))) fullShare) $$ Hr
  icases Hr with ⟨Ha, Hd⟩
  ihave Hl := (part_split (c := c) (m := ccwM) (S := wSet 0) (w := (D.w (fwd c 2))) fullShare) $$ Hl
  icases Hl with ⟨Hb, He⟩
  iapply (sendCw_spec defs D K 0 1 rfl 2 (by decide) 2 7 rfl rfl rfl rfl rfl rfl 1 1 (by decide) (by decide) 6 9 10 rfl rfl rfl _ Q) $$ [HO Ha Hn T2 P2 T7]
  · isplitr; · iexact HR
    isplitl [HO]; · iexact HO
    isplitl [Ha]; · iexact Ha
    isplitl [Hn]; · iexact Hn
    isplitr; · iexact P10
    isplitl [T2]; · iexact T2
    isplitl [P2]; · iexact P2
    isplitl [T7]; · iexact T7
    iexact B7
  iintro ⟨HO, C2⟩
  iapply (credit_spec defs D K 11 (sm := creditCcwS) rfl rfl rfl 0 5 10 (by decide) (by decide) (by decide) iprop(Room (left c) ccwM (wSet 1) ∗ Past (left c) 9 1) rfl _ Q) $$ [HO C11 A11]
  · isplitr; · iexact HR
    isplitl [HO]; · iexact HO
    isplitl [C11]; · iexact C11
    iexact A11
  iintro ⟨HO, A11, -, Hm, #B9⟩
  iapply (sendCcw_spec defs D K 0 1 rfl ccwM (Memref.isWhole_whole _) fullShare.left 2 (by decide) 4 9 rfl rfl rfl rfl rfl rfl 1 1 (by decide) (by decide) 6 10 11 rfl rfl rfl _ Q) $$ [HO Hb Hm T4 P4 T9]
  · isplitr; · iexact HR
    isplitl [HO]; · iexact HO
    isplitl [Hb]; · iexact Hb
    isplitl [Hm]; · iexact Hm
    isplitl [T4]; · iexact T4
    isplitl [P4]; · iexact P4
    isplitl [T9]; · iexact T9
    iexact B9
  iintro ⟨HO, C4⟩
  iapply (take_spec defs D K kvCw 0 (cw_back c 1) fullShare.left 11 _ Q) $$ [HO HF]
  · isplitr; · iexact HR
    isplitl [HO]; · iexact HO
    iexact HF
  iintro ⟨HO, HH, HS⟩
  iapply (kv_start defs kvCw 1 (bandsCw c 2) fullShare.left (D.kt c) (D.vt c) _ Q) $$ [HI1 HS]
  · isplitl [HI1]; · iexact HI1
    iexact HS
  iintro HF
  iapply (grp_spec defs D cwM 0 fullShare.right kvCw m12 (back c 2) (D.A3 c) _ Q) $$ [Hd HH HW]
  · isplitl [Hd]; · iexact Hd
    isplitl [HH]; · iexact HH
    iexact HW
  iintro ⟨Hd, HI0, HW⟩
  iapply (take_spec defs D K kvCcw 0 (ccw_fwd c 0) fullShare.right 11 _ Q) $$ [HO HG]
  · isplitr; · iexact HR
    isplitl [HO]; · iexact HO
    iexact HG
  iintro ⟨HO, HH, HS⟩
  iapply (kv_start defs kvCcw 1 (bandsCcw c 1) fullShare.right (D.kt c) (D.vt c) _ Q) $$ [HJ1 HS]
  · isplitl [HJ1]; · iexact HJ1
    iexact HS
  iintro HG
  iapply (grp_spec defs D ccwM 0 fullShare.right kvCcw m12 (fwd c 2) (D.A4 c) _ Q) $$ [He HH HW]
  · isplitl [He]; · iexact He
    isplitl [HH]; · iexact HH
    iexact HW
  iintro ⟨He, HJ0, HW⟩
  iapply (waitCw_spec defs D K 0 1 rfl 2 7 rfl rfl rfl rfl rfl rfl 1 1 (by decide) (by decide) 6 11 (by decide) (by decide) (sentCw D c 2 0) (gotCw D c 2 1) rfl rfl _ Q) $$ [HO C2 C7 A2 A7]
  · isplitr; · iexact HR
    isplitl [HO]; · iexact HO
    isplitl [C2]; · iexact C2
    isplitl [C7]; · iexact C7
    isplitl [A2]; · iexact A2
    iexact A7
  iintro ⟨HO, A2, -, Ha, A7, -, Hg⟩
  unfold sentCw gotCw
  icases Hg with ⟨Hr1, #B10⟩
  iapply (waitCcw_spec defs D K 0 1 rfl ccwM (Memref.isWhole_whole _) 4 9 rfl rfl rfl rfl rfl rfl 1 1 (by decide) (by decide) 6 11 (by decide) (by decide) (sentCcw D c 2 0) (gotCcw D c 2 1) rfl rfl _ Q) $$ [HO C4 C9 A4 A9]
  · isplitr; · iexact HR
    isplitl [HO]; · iexact HO
    isplitl [C4]; · iexact C4
    isplitl [C9]; · iexact C9
    isplitl [A4]; · iexact A4
    iexact A9
  iintro ⟨HO, A4, -, Hb, A9, -, Hl1⟩
  unfold sentCcw gotCcw
  ihave Ha := (part_join (c := c) (m := cwM) (S := wSet 0) (w := (D.w (back c 2))) fullShare) $$ [Ha Hd]
  · isplitl [Ha]; · iexact Ha
    iexact Hd
  ihave Hb := (part_join (c := c) (m := ccwM) (S := wSet 0) (w := (D.w (fwd c 2))) fullShare) $$ [Hb He]
  · isplitl [Hb]; · iexact Hb
    iexact He
  ihave Hb := part_room $$ Hb
  ihave Ha := part_room $$ Ha
  ihave Ha := (room_right c cwM 0) $$ Ha
  ihave P6 := (past_right c 6 1) $$ P6
  ihave Hpay : iprop(Room (right (left c)) cwM (wSet 0) ∗ Past (right (left c)) 6 1) $$ [Ha P6]
  · isplitl [Ha]; · iexact Ha
    iexact P6
  iapply (signal_spec defs D K (left c) 10 (sm := creditCwS) rfl rfl 2 false (by decide) (by decide) 7 11 12 rfl iprop(Room (right (left c)) cwM (wSet 0) ∗ Past (right (left c)) 6 1) rfl _ Q) $$ [HO T10 Hpay]
  · isplitr; · iexact HR
    isplitl [HO]; · iexact HO
    isplitl [T10]; · iexact T10
    isplitr; · iexact B10
    iexact Hpay
  iintro HO
  iapply Hk
  isplitl [HO]; · iexact HO
  isplitl [Hr1]; · iexact Hr1
  isplitl [Hl1]; · iexact Hl1
  isplitl [Hb]; · iexact Hb
  isplitl [HI0]; · iexact HI0
  isplitl [HF]; · iexact HF
  isplitl [HG]; · iexact HG
  isplitl [HJ0]; · iexact HJ0
  isplitl [HW]; · iexact HW
  isplitl [A10]; · iexact A10
  isplitl [A11]; · iexact A11
  isplitl [A2]; · iexact A2
  isplitl [A7]; · iexact A7
  isplitl [A4]; · iexact A4
  iexact A9

/-- Step 3. -/
theorem step3_spec (k : PUnit → BProg F α) (Q : α → sProp 𝕄) :
    iprop(Rec D K ∗ Due c 12 ∗ Part c cwM (wSet 1) fullShare (D.w (back c 3)) ∗ Part c ccwM (wSet 1) fullShare (D.w (fwd c 3))
        ∗ Idle kvCw 0 c ∗ Fly D kvCw 1 (bandsCw c 2) fullShare.left c ∗ Fly D kvCcw 1 (bandsCcw c 1) fullShare.right c
        ∗ Wk D m12 (D.A5 c) c ∗ Tok c 3 1 false ∗ Tok (right c) 6 1 false ∗ At c 10 2 ∗ At c 3 1 ∗ Past c 3 1 ∗ At c 6 1
        ∗ Cred c 10 7 1 ∗ Cred c 6 8 N)
      ⊢ iprop((iprop(Due c 13 ∗ Part c cwM (wSet 0) fullShare (D.w (back c 4)) ∗ Room c cwM (wSet 1) ∗ Room c ccwM (wSet 1) ∗ Idle kvCw 1 c
        ∗ Fly D kvCw 0 (bandsCw c 3) fullShare.left c ∗ Idle kvCcw 1 c ∗ Src D fullShare.right c ∗ Wk D m12 (D.A7 c) c ∗ At c 10 3
        ∗ At c 3 2 ∗ At c 6 2)
          -∗ Wp defs c (k ⟨⟩) Q) -∗ Wp defs c (step3 m12 c >>= k) Q) := by
  simp only [step3, bind_assoc]
  iintro ⟨#HR, HO, Hr, Hl, HI0, HF, HG, HW, T3, T6, A10, A3, P3, A6, C10, C6⟩ Hk
  iapply (credit_spec defs D K 10 (sm := creditCwS) rfl rfl rfl 2 7 12 (by decide) (by decide) (by decide) iprop(Room (right c) cwM (wSet 0) ∗ Past (right c) 6 1) rfl _ Q) $$ [HO C10 A10]
  · isplitr; · iexact HR
    isplitl [HO]; · iexact HO
    isplitl [C10]; · iexact C10
    iexact A10
  iintro ⟨HO, A10, #P10, Hn, #B6⟩
  ihave Hr := (part_split (c := c) (m := cwM) (S := wSet 1) (w := (D.w (back c 3))) fullShare) $$ Hr
  icases Hr with ⟨Ha, Hd⟩
  iapply (sendCw_spec defs D K 1 0 rfl 3 (by decide) 3 6 rfl rfl rfl rfl rfl rfl 1 1 (by decide) (by decide) 8 12 13 rfl rfl rfl _ Q) $$ [HO Ha Hn T3 P3 T6]
  · isplitr; · iexact HR
    isplitl [HO]; · iexact HO
    isplitl [Ha]; · iexact Ha
    isplitl [Hn]; · iexact Hn
    isplitr; · iexact P10
    isplitl [T3]; · iexact T3
    isplitl [P3]; · iexact P3
    isplitl [T6]; · iexact T6
    iexact B6
  iintro ⟨HO, C3⟩
  iapply (take_spec defs D K kvCw 1 (cw_back c 2) fullShare.left 13 _ Q) $$ [HO HF]
  · isplitr; · iexact HR
    isplitl [HO]; · iexact HO
    iexact HF
  iintro ⟨HO, HH, HS⟩
  iapply (kv_start defs kvCw 0 (bandsCw c 3) fullShare.left (D.kt c) (D.vt c) _ Q) $$ [HI0 HS]
  · isplitl [HI0]; · iexact HI0
    iexact HS
  iintro HF
  iapply (grp_spec defs D cwM 1 fullShare.right kvCw m12 (back c 3) (D.A5 c) _ Q) $$ [Hd HH HW]
  · isplitl [Hd]; · iexact Hd
    isplitl [HH]; · iexact HH
    iexact HW
  iintro ⟨Hd, HI1, HW⟩
  iapply (take_spec defs D K kvCcw 1 (ccw_fwd c 1) fullShare.right 13 _ Q) $$ [HO HG]
  · isplitr; · iexact HR
    isplitl [HO]; · iexact HO
    iexact HG
  iintro ⟨HO, HH, HS2⟩
  iapply (grp_spec defs D ccwM 1 fullShare kvCcw m12 (fwd c 3) (D.A6 c) _ Q) $$ [Hl HH HW]
  · isplitl [Hl]; · iexact Hl
    isplitl [HH]; · iexact HH
    iexact HW
  iintro ⟨Hl, HJ1, HW⟩
  iapply (waitCw_spec defs D K 1 0 rfl 3 6 rfl rfl rfl rfl rfl rfl 1 1 (by decide) (by decide) 8 13 (by decide) (by decide) (sentCw D c 3 1) (gotCw D c 3 0) rfl rfl _ Q) $$ [HO C3 C6 A3 A6]
  · isplitr; · iexact HR
    isplitl [HO]; · iexact HO
    isplitl [C3]; · iexact C3
    isplitl [C6]; · iexact C6
    isplitl [A3]; · iexact A3
    iexact A6
  iintro ⟨HO, A3, -, Ha, A6, -, Hg⟩
  unfold sentCw gotCw
  icases Hg with ⟨Hr0, -⟩
  ihave Ha := (part_join (c := c) (m := cwM) (S := wSet 1) (w := (D.w (back c 3))) fullShare) $$ [Ha Hd]
  · isplitl [Ha]; · iexact Ha
    iexact Hd
  ihave Ha := part_room $$ Ha
  ihave Hl := part_room $$ Hl
  iapply Hk
  isplitl [HO]; · iexact HO
  isplitl [Hr0]; · iexact Hr0
  isplitl [Ha]; · iexact Ha
  isplitl [Hl]; · iexact Hl
  isplitl [HI1]; · iexact HI1
  isplitl [HF]; · iexact HF
  isplitl [HJ1]; · iexact HJ1
  isplitl [HS2]; · iexact HS2
  isplitl [HW]; · iexact HW
  isplitl [A10]; · iexact A10
  isplitl [A3]; · iexact A3
  iexact A6

/-- Step 4 and the end. -/
theorem step4_spec (k : PUnit → BProg F α) (Q : α → sProp 𝕄) :
    iprop(Rec D K ∗ Near c ∗ Due c 13 ∗ Part c cwM (wSet 0) fullShare (D.w (back c 4)) ∗ Fly D kvCw 0 (bandsCw c 3) fullShare.left c
        ∗ Wk D m12 (D.A7 c) c ∗ Room c out Finset.univ ∗ Tok (left c) 1 0 false ∗ Tok (right c) 1 0 true ∗ Cred c 1 20 2
        ∗ At c 1 0)
      ⊢ iprop((iprop(Due c 15 ∗ Part c cwM (wSet 0) fullShare (D.w (back c 4)) ∗ Idle kvCw 0 c ∗ Src D fullShare.left c ∗ Wk D m12 (D.A8 c) c
        ∗ Part c out Finset.univ fullShare (outOf (D.A8 c)) ∗ At c 1 1)
          -∗ Wp defs c (k ⟨⟩) Q) -∗ Wp defs c (step4 m12 out c >>= k) Q) := by
  simp only [step4, bind_assoc]
  iintro ⟨#HR, #HN, HO, Hr, HF, HW, Hout, T1, T1r, C1, A1⟩ Hk
  ihave #B1 := (near_left c 1) $$ HN
  ihave #B1r := (near_right c 1) $$ HN
  iapply (take_spec defs D K kvCw 0 (cw_back c 3) fullShare.left 13 _ Q) $$ [HO HF]
  · isplitr; · iexact HR
    isplitl [HO]; · iexact HO
    iexact HF
  iintro ⟨HO, HH, HS⟩
  iapply (grp_spec defs D cwM 0 fullShare kvCw m12 (back c 4) (D.A7 c) _ Q) $$ [Hr HH HW]
  · isplitl [Hr]; · iexact Hr
    isplitl [HH]; · iexact HH
    iexact HW
  iintro ⟨Hr, HI0, HW⟩
  unfold Wk Work
  icases HW with ⟨W1, W2, W3, W4⟩
  iapply (bandOut_spec defs out (D.next c (back c 4) (D.A7 c)) _ Q) $$ [W3 Hout]
  · isplitl [W3]; · iexact W3
    iexact Hout
  iintro ⟨W3, Hout⟩
  ihave #Hpay := (nothing_paid D K (left c) false) $$ HR
  iapply (signal_spec defs D K (left c) 1 (sm := exitS) rfl rfl 0 false (by decide) (by decide) 20 13 14 rfl (pay D (left c) 1 0 false) rfl _ Q) $$ [HO T1 Hpay]
  · isplitr; · iexact HR
    isplitl [HO]; · iexact HO
    isplitl [T1]; · iexact T1
    isplitr; · iexact B1
    iexact Hpay
  iintro HO
  ihave #Hpay2 := (nothing_paid D K (right c) true) $$ HR
  iapply (signal_spec defs D K (right c) 1 (sm := exitS) rfl rfl 0 true (by decide) (by decide) 20 14 15 rfl (pay D (right c) 1 0 true) rfl _ Q) $$ [HO T1r Hpay2]
  · isplitr; · iexact HR
    isplitl [HO]; · iexact HO
    isplitl [T1r]; · iexact T1r
    isplitr; · iexact B1r
    iexact Hpay2
  iintro HO
  iapply (wait_spec defs D K 1 (sm := exitS) rfl 0 20 15 2#32 2 rfl (by decide) rfl (by decide) (by decide) _ Q) $$ [HO C1 A1]
  · isplitr; · iexact HR
    isplitl [HO]; · iexact HO
    isplitl [C1]; · iexact C1
    iexact A1
  iintro ⟨HO, A1, -, -⟩
  iapply Hk
  isplitl [HO]; · iexact HO
  isplitl [Hr]; · iexact Hr
  isplitl [HI0]; · iexact HI0
  isplitl [HS]; · iexact HS
  isplitl [W1 W2 W3 W4]
  · isplitl [W1]; · iexact W1
    isplitl [W2]; · iexact W2
    isplitl [W3]; · iexact W3
    iexact W4
  isplitl [Hout]; · iexact Hout
  iexact A1

end Cert.KernelIdeal.Body
-- ==== Proof.Body.lean ====
/-
The whole body, from what a device starts with to what it ends with.
-/
module

public import proofs.«01_k».proof.Proof.Steps

@[expose] public section

noncomputable section

namespace Cert.KernelIdeal.Body

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F] [Named F]

local notation "𝕄" => MM F

variable (defs : Defs nD τ sig (Elt F) Λ₀) (D : Data F) (K : Dev nD × Fin 12 → ℕ) (c : Dev nD)

/-! ## What a device starts with -/

/-- Whose cell a payment goes to. -/
inductive Side | own | before | after
  deriving DecidableEq

def Side.dev (c : Dev nD) : Side → Dev nD
  | .own => c
  | .before => left c
  | .after => right c

/-- The payments a device makes: whose cell, which, in which round, from which side. -/
def payments : List (Side × Fin 12 × ℕ × Bool) :=
  [(.before, 0, 0, false), (.after, 0, 0, true),
   (.own, 2, 0, false), (.after, 7, 0, false), (.own, 4, 0, false), (.before, 9, 0, false), (.before, 10, 0, false),
   (.own, 3, 0, false), (.after, 6, 0, false), (.own, 5, 0, false), (.before, 8, 0, false), (.before, 10, 1, false), (.after, 11, 0, false),
   (.own, 2, 1, false), (.after, 7, 1, false), (.own, 4, 1, false), (.before, 9, 1, false), (.before, 10, 2, false),
   (.own, 3, 1, false), (.after, 6, 1, false),
   (.before, 1, 0, false), (.after, 1, 0, true)]

/-- The tokens for them. -/
def Toks : sProp 𝕄 := bigSepL payments fun p => Tok (p.1.dev c) p.2.1 p.2.2.1 p.2.2.2

/-- What a device waits for: which cell, at which height, how much. -/
def awaits : List (Fin 12 × ℕ × ℕ) :=
  [(0, 1, 2), (7, 2, N), (9, 2, N), (10, 3, 1), (6, 4, N), (8, 4, N), (10, 5, 1), (11, 5, 1), (7, 6, N), (9, 6, N), (10, 7, 1), (6, 8, N), (1, 20, 2)]

/-- The credit to wait with. -/
def Creds : sProp 𝕄 := bigSepL awaits fun p => Cred c p.1 p.2.1 p.2.2

/-- Its places, on all its cells. -/
def Ats (r : Fin 12 → ℕ) : sProp 𝕄 := bigSepL (List.finRange 12) fun i => At c i (r i)

/-- The slots for weights, the working arrays. -/
def Rings : sProp 𝕄 := iprop((Room c cwM (wSet 0) ∗ Room c cwM (wSet 1)) ∗ Room c ccwM (wSet 0) ∗ Room c ccwM (wSet 1))
def Arrays : sProp 𝕄 := iprop(Room c xpM Finset.univ ∗ Room c accM Finset.univ ∗ Room c qM Finset.univ ∗ Room c ctxM Finset.univ)
/-- The slots for keys and values. -/
def Idles : sProp 𝕄 := iprop((Idle kvCw 0 c ∗ Idle kvCw 1 c) ∗ Idle kvCcw 0 c ∗ Idle kvCcw 1 c)

variable (x wq wo : Memref sig .tc .vmem S1024x1024 .bf16) (m12 : Memref sig .tc .vmem S640x704 .f32) (out : Memref sig .tc .vmem S1x1024x1024 .f32)

/-- The staged inputs. -/
def Staged : sProp 𝕄 := iprop(Part c x Finset.univ fullShare (D.x c) ∗ Part c wq Finset.univ fullShare (D.wq c)
  ∗ Part c wo Finset.univ fullShare (D.wo c) ∗ Part c m12 Finset.univ fullShare (D.b c))

theorem toks_eq : Toks c = (iprop(Tok (left c) 0 0 false ∗ Tok (right c) 0 0 true ∗ Tok c 2 0 false ∗ Tok (right c) 7 0 false ∗ Tok c 4 0 false
        ∗ Tok (left c) 9 0 false ∗ Tok (left c) 10 0 false ∗ Tok c 3 0 false ∗ Tok (right c) 6 0 false ∗ Tok c 5 0 false
        ∗ Tok (left c) 8 0 false ∗ Tok (left c) 10 1 false ∗ Tok (right c) 11 0 false ∗ Tok c 2 1 false ∗ Tok (right c) 7 1 false
        ∗ Tok c 4 1 false ∗ Tok (left c) 9 1 false ∗ Tok (left c) 10 2 false ∗ Tok c 3 1 false ∗ Tok (right c) 6 1 false
        ∗ Tok (left c) 1 0 false ∗ Tok (right c) 1 0 true) : sProp 𝕄) := rfl

theorem creds_eq : Creds c = (iprop(Cred c 0 1 2 ∗ Cred c 7 2 N ∗ Cred c 9 2 N ∗ Cred c 10 3 1 ∗ Cred c 6 4 N ∗ Cred c 8 4 N ∗ Cred c 10 5 1 ∗ Cred c 11 5 1
        ∗ Cred c 7 6 N ∗ Cred c 9 6 N ∗ Cred c 10 7 1 ∗ Cred c 6 8 N ∗ Cred c 1 20 2) : sProp 𝕄) := rfl

theorem ats_eq (r : Fin 12 → ℕ) : Ats c r = (iprop(At c 0 (r 0) ∗ At c 1 (r 1) ∗ At c 2 (r 2) ∗ At c 3 (r 3) ∗ At c 4 (r 4) ∗ At c 5 (r 5) ∗ At c 6 (r 6) ∗ At c 7 (r 7)
        ∗ At c 8 (r 8) ∗ At c 9 (r 9) ∗ At c 10 (r 10) ∗ At c 11 (r 11)) : sProp 𝕄) := rfl

theorem src_split : Src D fullShare c ⊢ iprop(Src D fullShare.left c ∗ Src D fullShare.right c) := by
  unfold Src kvSource
  have h1 : ((c : Thread nD τ).loc main_v8 ↦{fullShare} D.kt c : sProp 𝕄) ⊢ iprop(((c : Thread nD τ).loc main_v8 ↦{fullShare.left} D.kt c : sProp 𝕄) ∗ ((c : Thread nD τ).loc main_v8 ↦{fullShare.right} D.kt c : sProp 𝕄)) :=
    (pointsTo_share (PosShare.mem_left_op_right fullShare)).1
  have h2 : ((c : Thread nD τ).loc main_v9 ↦{fullShare} D.vt c : sProp 𝕄) ⊢ iprop(((c : Thread nD τ).loc main_v9 ↦{fullShare.left} D.vt c : sProp 𝕄) ∗ ((c : Thread nD τ).loc main_v9 ↦{fullShare.right} D.vt c : sProp 𝕄)) :=
    (pointsTo_share (PosShare.mem_left_op_right fullShare)).1
  iintro ⟨H1, H2⟩
  ihave H1 := h1 $$ H1
  ihave H2 := h2 $$ H2
  icases H1 with ⟨K1, K2⟩
  icases H2 with ⟨V1, V2⟩
  isplitl [K1 V1]
  · isplitl [K1]; · iexact K1
    iexact V1
  isplitl [K2]; · iexact K2
  iexact V2

theorem src_join : iprop(Src D fullShare.left c ∗ Src D fullShare.right c) ⊢ Src D fullShare c := by
  unfold Src kvSource
  have h1 : iprop(((c : Thread nD τ).loc main_v8 ↦{fullShare.left} D.kt c : sProp 𝕄) ∗ ((c : Thread nD τ).loc main_v8 ↦{fullShare.right} D.kt c : sProp 𝕄)) ⊢ ((c : Thread nD τ).loc main_v8 ↦{fullShare} D.kt c : sProp 𝕄) :=
    (pointsTo_share (PosShare.mem_left_op_right fullShare)).2
  have h2 : iprop(((c : Thread nD τ).loc main_v9 ↦{fullShare.left} D.vt c : sProp 𝕄) ∗ ((c : Thread nD τ).loc main_v9 ↦{fullShare.right} D.vt c : sProp 𝕄)) ⊢ ((c : Thread nD τ).loc main_v9 ↦{fullShare} D.vt c : sProp 𝕄) :=
    (pointsTo_share (PosShare.mem_left_op_right fullShare)).2
  iintro ⟨⟨K1, V1⟩, K2, V2⟩
  isplitl [K1 K2]
  · iapply h1
    isplitl [K1]; · iexact K1
    iexact K2
  iapply h2
  isplitl [V1]; · iexact V1
  iexact V2

theorem bind_pure_unit {p : BProg F PUnit} : (p >>= fun _ => pure ⟨⟩) = p := bind_pure p

/-- A device's counters, all at zero. -/
def Zeros : sProp 𝕄 := bigSep Finset.univ fun i : Fin 12 => semVal (cell c i) 0

theorem ats_univ (r : Fin 12 → ℕ) : Ats c r = (bigSep Finset.univ fun i : Fin 12 => At c i (r i) : sProp 𝕄) :=
  (bigSep_univ_eq_bigSepL (List.finRange 12) (by decide) (by decide) _).symm

/-- Once every round is over, the counters come back. -/
theorem ats_close : iprop(Rec D K ∗ Ats c rounds) ⊢ (|={Set.univ}=> Zeros c : sProp 𝕄) := by
  have h : ∀ i ∈ (Finset.univ : Finset (Fin 12)), iprop(Rec D K ∗ At c i (rounds i)) ⊢ (|={Set.univ}=> semVal (cell c i) 0 : sProp 𝕄) := fun i _ => by
    iintro ⟨#HR, HA⟩
    ihave #HI := (rec_inv D c i K) $$ HR
    iapply (Rounds.cell_close ER (ringRd D) (Set.mem_univ (K (c, i))) id (fun r hr => duties_later D c i r hr))
    isplitr; · iexact HI
    iexact HA
  rw [ats_univ]
  unfold Zeros
  refine BIBase.Entails.trans ?_ (bigSep_fupd _ _)
  refine BIBase.Entails.trans ?_ (bigSep_mono h)
  rw [bigSep_sep']
  exact BIClass.sep_mono (BI.bigSep_of_persistent Finset.univ (Rec D K)) (Entails.refl _)

theorem wp_over (Q : PUnit → sProp 𝕄) : iprop(|={Set.univ}=> Q ⟨⟩) ⊢ Wp defs c (pure ⟨⟩ : BProg F PUnit) Q := by
  unfold Wp
  rw [Prog.pure_eq_ret, wp_ret]

theorem body_spec (Q : PUnit → sProp 𝕄) :
    iprop(Rec D K ∗ begunAt c ∗ Due c 0 ∗ Staged D c x wq wo m12 ∗ Room c out Finset.univ ∗ Rings c ∗ Arrays c ∗ Idles c ∗ Src D fullShare c
        ∗ Toks c ∗ Creds c ∗ Ats c (fun _ => 0))
      ⊢ iprop((iprop(Due c 15 ∗ Staged D c x wq wo m12 ∗ Part c out Finset.univ fullShare (outOf (D.A8 c)) ∗ Rings c ∗ Arrays c ∗ Idles c
          ∗ Src D fullShare c ∗ Zeros c) -∗ Q ⟨⟩) -∗ Wp defs c (body x wq wo m12 out) Q) := by
  have ep : body (F := F) x wq wo m12 out = (.op .deviceId fun d => begin x wq wo d >>= fun _ => step0 m12 d >>= fun _ => step1 m12 d >>= fun _ =>
      step2 m12 d >>= fun _ => step3 m12 d >>= fun _ => step4 m12 out d >>= fun _ => pure ⟨⟩) := by
    simp only [body, Prog.bind_lift, bind_pure_unit]
  rw [ep]
  simp only [wp_deviceId]
  rw [toks_eq, creds_eq, ats_eq]
  unfold Staged Rings Arrays Idles
  iintro ⟨#HR, #HB, HO, ⟨Hx, Hq, Ho, Hb⟩, Hout, ⟨⟨Hr0, Hr1⟩, Hl0, Hl1⟩, ⟨Hxp, Hacc, HqM, Hctx⟩, ⟨⟨HI0, HI1⟩, HJ0, HJ1⟩, HS,
    ⟨Tbl, Tbr, T2, T7, T4, T9, T10, T3, T6, T5, T8, T10b, T11, T2b, T7b, T4b, T9b, T10c, T3b, T6b, Tel, Ter⟩,
    ⟨C0, C7, C9, C10, C6, C8, C10b, C11, C7b, C9b, C10c, C6b, C1⟩,
    ⟨A0, A1, A2, A3, A4, A5, A6, A7, A8, A9, A10, A11⟩⟩ Hk
  ihave HS := (src_split D c) $$ HS
  icases HS with ⟨HS1, HS2⟩
  iapply (begin_spec defs D K c x wq wo _ Q) $$ [HO Hx Hq Ho HI0 HS1 Hr0 Hr1 Hl0 Hl1 Hacc Hxp Tbl Tbr C0 A0]
  · isplitr; · iexact HR
    isplitr; · iexact HB
    isplitl [HO]; · iexact HO
    isplitl [Hx]; · iexact Hx
    isplitl [Hq]; · iexact Hq
    isplitl [Ho]; · iexact Ho
    isplitl [HI0]; · iexact HI0
    isplitl [HS1]; · iexact HS1
    isplitl [Hr0]; · iexact Hr0
    isplitl [Hr1]; · iexact Hr1
    isplitl [Hl0]; · iexact Hl0
    isplitl [Hl1]; · iexact Hl1
    isplitl [Hacc]; · iexact Hacc
    isplitl [Hxp]; · iexact Hxp
    isplitl [Tbl]; · iexact Tbl
    isplitl [Tbr]; · iexact Tbr
    isplitl [C0]; · iexact C0
    iexact A0
  iintro ⟨HO, Hx, Hq, Ho, HF, Hr0, Hacc, Hxp, Hn1, Hm0, Hm1, A0, #HN⟩
  ihave HW : Wk D m12 acc0 c $$ [Hxp Hb Hacc HqM Hctx]
  · unfold Wk Work
    isplitl [Hxp]; · iexact Hxp
    isplitl [Hb]; · iexact Hb
    isplitl [Hacc]; · iexact Hacc
    isplitl [HqM]; · iexact HqM
    iexact Hctx
  iapply (step0_spec defs D K c m12 _ Q) $$ [HO Hr0 Hn1 Hm1 HF HI1 HJ1 HS2 HW T2 T7 T4 T9 T10 A2 A7 A4 A9 C7 C9]
  · isplitr; · iexact HR
    isplitr; · iexact HN
    isplitl [HO]; · iexact HO
    isplitl [Hr0]; · iexact Hr0
    isplitl [Hn1]; · iexact Hn1
    isplitl [Hm1]; · iexact Hm1
    isplitl [HF]; · iexact HF
    isplitl [HI1]; · iexact HI1
    isplitl [HJ1]; · iexact HJ1
    isplitl [HS2]; · iexact HS2
    isplitl [HW]; · iexact HW
    isplitl [T2]; · iexact T2
    isplitl [T7]; · iexact T7
    isplitl [T4]; · iexact T4
    isplitl [T9]; · iexact T9
    isplitl [T10]; · iexact T10
    isplitl [A2]; · iexact A2
    isplitl [A7]; · iexact A7
    isplitl [A4]; · iexact A4
    isplitl [A9]; · iexact A9
    isplitl [C7]; · iexact C7
    iexact C9
  iintro ⟨HO, Hr1, Hl1, HI0, HF, HG, HW, A2, P2, A7, P7, A4, P4, A9, P9⟩
  iapply (step1_spec defs D K c m12 _ Q) $$ [HO Hr1 Hl1 Hm0 HI0 HF HG HJ0 HW T3 T6 T5 T8 T10b T11 A10 A3 A6 A5 A8 P7 P9 C10 C6 C8]
  · isplitr; · iexact HR
    isplitr; · iexact HN
    isplitl [HO]; · iexact HO
    isplitl [Hr1]; · iexact Hr1
    isplitl [Hl1]; · iexact Hl1
    isplitl [Hm0]; · iexact Hm0
    isplitl [HI0]; · iexact HI0
    isplitl [HF]; · iexact HF
    isplitl [HG]; · iexact HG
    isplitl [HJ0]; · iexact HJ0
    isplitl [HW]; · iexact HW
    isplitl [T3]; · iexact T3
    isplitl [T6]; · iexact T6
    isplitl [T5]; · iexact T5
    isplitl [T8]; · iexact T8
    isplitl [T10b]; · iexact T10b
    isplitl [T11]; · iexact T11
    isplitl [A10]; · iexact A10
    isplitl [A3]; · iexact A3
    isplitl [A6]; · iexact A6
    isplitl [A5]; · iexact A5
    isplitl [A8]; · iexact A8
    isplitl [P7]; · iexact P7
    isplitl [P9]; · iexact P9
    isplitl [C10]; · iexact C10
    isplitl [C6]; · iexact C6
    iexact C8
  iintro ⟨HO, Hr0, Hl0, HI1, HF, HG, HJ1, HW, A10, A3, P3, A6, P6, A5, A8⟩
  iapply (step2_spec defs D K c m12 _ Q) $$ [HO Hr0 Hl0 HI1 HF HG HJ1 HW T2b T7b T4b T9b T10c A10 A11 A2 P2 A7 A4 P4 A9 P6 C10b C11 C7b C9b]
  · isplitr; · iexact HR
    isplitl [HO]; · iexact HO
    isplitl [Hr0]; · iexact Hr0
    isplitl [Hl0]; · iexact Hl0
    isplitl [HI1]; · iexact HI1
    isplitl [HF]; · iexact HF
    isplitl [HG]; · iexact HG
    isplitl [HJ1]; · iexact HJ1
    isplitl [HW]; · iexact HW
    isplitl [T2b]; · iexact T2b
    isplitl [T7b]; · iexact T7b
    isplitl [T4b]; · iexact T4b
    isplitl [T9b]; · iexact T9b
    isplitl [T10c]; · iexact T10c
    isplitl [A10]; · iexact A10
    isplitl [A11]; · iexact A11
    isplitl [A2]; · iexact A2
    isplitl [P2]; · iexact P2
    isplitl [A7]; · iexact A7
    isplitl [A4]; · iexact A4
    isplitl [P4]; · iexact P4
    isplitl [A9]; · iexact A9
    isplitl [P6]; · iexact P6
    isplitl [C10b]; · iexact C10b
    isplitl [C11]; · iexact C11
    isplitl [C7b]; · iexact C7b
    iexact C9b
  iintro ⟨HO, Hr1, Hl1, Hl0, HI0, HF, HG, HJ0, HW, A10, A11, A2, A7, A4, A9⟩
  iapply (step3_spec defs D K c m12 _ Q) $$ [HO Hr1 Hl1 HI0 HF HG HW T3b T6b A10 A3 P3 A6 C10c C6b]
  · isplitr; · iexact HR
    isplitl [HO]; · iexact HO
    isplitl [Hr1]; · iexact Hr1
    isplitl [Hl1]; · iexact Hl1
    isplitl [HI0]; · iexact HI0
    isplitl [HF]; · iexact HF
    isplitl [HG]; · iexact HG
    isplitl [HW]; · iexact HW
    isplitl [T3b]; · iexact T3b
    isplitl [T6b]; · iexact T6b
    isplitl [A10]; · iexact A10
    isplitl [A3]; · iexact A3
    isplitl [P3]; · iexact P3
    isplitl [A6]; · iexact A6
    isplitl [C10c]; · iexact C10c
    iexact C6b
  iintro ⟨HO, Hr0, Hr1, Hl1, HI1, HF, HJ1, HS2, HW, A10, A3, A6⟩
  iapply (step4_spec defs D K c m12 out _ Q) $$ [HO Hr0 HF HW Hout Tel Ter C1 A1]
  · isplitr; · iexact HR
    isplitr; · iexact HN
    isplitl [HO]; · iexact HO
    isplitl [Hr0]; · iexact Hr0
    isplitl [HF]; · iexact HF
    isplitl [HW]; · iexact HW
    isplitl [Hout]; · iexact Hout
    isplitl [Tel]; · iexact Tel
    isplitl [Ter]; · iexact Ter
    isplitl [C1]; · iexact C1
    iexact A1
  iintro ⟨HO, Hr0, HI0, HS1, HW, Hout, A1⟩
  ihave Hr0 := part_room $$ Hr0
  unfold Wk Work
  icases HW with ⟨Hxp, Hb, Hacc, HqM, Hctx⟩
  ihave Hxp := part_room $$ Hxp
  ihave Hacc := part_room $$ Hacc
  ihave HS := (src_join D c) $$ [HS1 HS2]
  · isplitl [HS1]; · iexact HS1
    iexact HS2
  ihave HA : Ats c rounds $$ [A0 A1 A2 A3 A4 A5 A6 A7 A8 A9 A10 A11]
  · rw [ats_eq]
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  iapply (wp_over defs c Q)
  imod (ats_close D K c) $$ [HA] with HZ
  · isplitr; · iexact HR
    iexact HA
  imodintro
  iapply Hk
  isplitl [HO]; · iexact HO
  isplitl [Hx Hq Ho Hb]
  · isplitl [Hx]; · iexact Hx
    isplitl [Hq]; · iexact Hq
    isplitl [Ho]; · iexact Ho
    iexact Hb
  isplitl [Hout]; · iexact Hout
  isplitl [Hr0 Hr1 Hl0 Hl1]
  · isplitl [Hr0 Hr1]
    · isplitl [Hr0]; · iexact Hr0
      iexact Hr1
    isplitl [Hl0]; · iexact Hl0
    iexact Hl1
  isplitl [Hxp Hacc HqM Hctx]
  · isplitl [Hxp]; · iexact Hxp
    isplitl [Hacc]; · iexact Hacc
    isplitl [HqM]; · iexact HqM
    iexact Hctx
  isplitl [HI0 HI1 HJ0 HJ1]
  · isplitl [HI0 HI1]
    · isplitl [HI0]; · iexact HI0
      iexact HI1
    isplitl [HJ0]; · iexact HJ0
    iexact HJ1
  isplitl [HS]; · iexact HS
  iexact HZ

end Cert.KernelIdeal.Body
-- ==== Proof.Region.lean ====
/-
The region's own buffers and semaphores, sorted into what the body starts with.
-/
module

public import proofs.«01_k».proof.Proof.Body
public import proofs.«01_k».proof.Proof.Gen.KernelIdeal.Launch

@[expose] public section

noncomputable section

namespace Cert.KernelIdeal.Body

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F] [Named F]

local notation "𝕄" => MM F

variable (c : Dev nD)

/-! ## Slots of a buffer -/

theorem two (Φ : Fin 2 → sProp 𝕄) : bigSep Finset.univ Φ = iprop(Φ 0 ∗ Φ 1) := BI.bigSep_fin_two Φ
theorem sum_eq {α β : Type} [Fintype α] [Fintype β] (Φ : α ⊕ β → sProp 𝕄) :
    bigSep Finset.univ Φ = iprop((bigSep Finset.univ fun a => Φ (.inl a)) ∗ bigSep Finset.univ fun b => Φ (.inr b)) := BI.bigSep_univ_sum Φ

theorem slots_disjoint {s : Shape} {A : Fin 2 → Finset s.Idx} (hd : Disjoint (A 0) (A 1)) :
    ∀ t ∈ (Finset.univ : Finset (Fin 2)), ∀ t' ∈ (Finset.univ : Finset (Fin 2)), t ≠ t' → Disjoint (A t) (A t') := by
  intro t _ t' _ h
  fin_cases t <;> fin_cases t' <;> first | exact absurd rfl h | exact hd | exact hd.symm

section Slots

variable {sp : Space} {s : Shape} {e : EltTy} (m : Memref sig .tc sp s e) (A : Fin 2 → Finset s.Idx)

theorem room_split (hd : Disjoint (A 0) (A 1)) (hu : ∀ x, x ∈ A 0 ∨ x ∈ A 1) :
    Room (F := F) c m Finset.univ ⊢ iprop(Room c m (A 0) ∗ Room c m (A 1)) := by
  have hS : (Finset.univ : Finset (Fin 2)).biUnion A = Finset.univ := by
    ext x
    simp only [Finset.mem_biUnion, Finset.mem_univ, true_and, iff_true]
    rcases hu x with h | h
    exacts [⟨0, h⟩, ⟨1, h⟩]
  refine BIBase.Entails.trans (Q := iprop(∃ w, Part c m Finset.univ fullShare w)) (Entails.of_eq rfl) ?_
  iintro ⟨%w, H⟩
  have h := part_biUnion (c := c) (m := m) (q := fullShare) (w := w) Finset.univ A (slots_disjoint hd) hS
  rw [two] at h
  ihave H := h $$ H
  icases H with ⟨H0, H1⟩
  ihave H0 := part_room $$ H0
  ihave H1 := part_room $$ H1
  isplitl [H0]; · iexact H0
  iexact H1

theorem room_join (hd : Disjoint (A 0) (A 1)) (hu : ∀ x, x ∈ A 0 ∨ x ∈ A 1) :
    iprop(Room c m (A 0) ∗ Room c m (A 1)) ⊢ Room (F := F) c m Finset.univ := by
  have hS : (Finset.univ : Finset (Fin 2)).biUnion A = Finset.univ := by
    ext x
    simp only [Finset.mem_biUnion, Finset.mem_univ, true_and, iff_true]
    rcases hu x with h | h
    exacts [⟨0, h⟩, ⟨1, h⟩]
  have h0 : Room (F := F) c m (A 0) ⊢ iprop(∃ b₀ : m.view.ty.Contents (Elt F), ⌜True⌝ ∗ Room c m (A 0)) := by
    unfold Room Part
    iintro ⟨%w, %f, %hf, H⟩
    iexists f
    isplitr; · ipureintro; trivial
    iexists w
    iexists f
    isplitr; · ipureintro; exact hf
    iexact H
  iintro ⟨H0, H1⟩
  ihave H0 := h0 $$ H0
  icases H0 with ⟨%b₀, -, H0⟩
  iapply (room_biUnion_join (c := c) (m := m) Finset.univ A (slots_disjoint hd) hS b₀)
  rw [two]
  isplitl [H0]; · iexact H0
  iexact H1

end Slots

theorem wSet_cover (x : S2x2048x1024.Idx) : x ∈ wSet 0 ∨ x ∈ wSet 1 := by
  have h : (x 0).val < 2 := (x 0).isLt
  rw [mem_wSet, mem_wSet]
  show (x 0).val = 0 ∨ (x 0).val = 1
  omega
theorem wSet_disjoint : Disjoint (wSet 0) (wSet 1) := by
  rw [Finset.disjoint_left]
  intro x h0 h1
  rw [mem_wSet] at h0 h1
  exact absurd (h0.symm.trans h1) (by decide)
theorem slotSet_cover {n : Nat} (x : (Sn n).Idx) : x ∈ slotSet n 0 ∨ x ∈ slotSet n 1 := by
  have h : (x 0).val < 2 := (x 0).isLt
  rw [mem_slotSet, mem_slotSet]
  show (x 0).val = 0 ∨ (x 0).val = 1
  omega
theorem slotSet_disjoint {n : Nat} : Disjoint (slotSet n 0) (slotSet n 1) := by
  rw [Finset.disjoint_left]
  intro x h0 h1
  rw [mem_slotSet] at h0 h1
  exact absurd (h0.symm.trans h1) (by decide)

/-- A buffer at some contents. -/
def Any (b : Ref sig .tc) : sProp 𝕄 := iprop(∃ f : Buf (Elt F) ((c : Thread nD τ).loc b), ((c : Thread nD τ).loc b) ↦{fullShare} f)

theorem any_room (b : Ref sig .tc) : Any (F := F) c b ⊢ Room c (Memref.whole b) Finset.univ := by
  unfold Any
  iintro ⟨%f, H⟩
  unfold Room
  iexists f
  iapply (part_whole (c := c) b f fullShare)
  iexact H

theorem room_any (b : Ref sig .tc) : Room (F := F) c (Memref.whole b) Finset.univ ⊢ Any c b := by
  unfold Any Room
  iintro ⟨%f, H⟩
  iexists f
  iapply (whole_part (c := c) b f fullShare)
  iexact H

/-! ## Semaphores -/

/-- The copies of one group into one slot: the keys' and the values' for the first range, then for the other two. -/
abbrev KvIx : Type := (Fin 6 ⊕ Fin 6) ⊕ (Fin 11 ⊕ Fin 11)

/-- Their semaphores. -/
def kvOsem (Z : Kv) (slot : Fin 2) : KvIx → SemLoc sig
  | .inl (.inl i) => .dma ((Z.zk0 slot).sem i)
  | .inl (.inr i) => .dma ((Z.zv0 slot).sem i)
  | .inr (.inl i) => .dma ((Z.zk12 slot).sem i)
  | .inr (.inr i) => .dma ((Z.zv12 slot).sem i)

/-- The semaphores the region has for itself: the cells but the barrier, and the copies'. -/
abbrev OwnIx : Type := Fin 11 ⊕ ((KvIx ⊕ KvIx) ⊕ (KvIx ⊕ KvIx))

def osem : OwnIx → SemLoc sig
  | .inl i => csem i.succ
  | .inr (.inl (.inl j)) => kvOsem kvCw 0 j
  | .inr (.inl (.inr j)) => kvOsem kvCw 1 j
  | .inr (.inr (.inl j)) => kvOsem kvCcw 0 j
  | .inr (.inr (.inr j)) => kvOsem kvCcw 1 j

/-- A slot's semaphores at zero. -/
def kvZeros (Z : Kv) (slot : Fin 2) : sProp 𝕄 :=
  iprop(((Z.zk0 slot).sems c ∗ (Z.zv0 slot).sems c) ∗ (Z.zk12 slot).sems c ∗ (Z.zv12 slot).sems c)

theorem kvZeros_eq (Z : Kv) (slot : Fin 2) :
    (bigSep Finset.univ fun j => (semVal ((c : Thread nD τ), kvOsem Z slot j) 0 : sProp 𝕄)) = kvZeros c Z slot := by
  rw [sum_eq, sum_eq, sum_eq]
  rfl

/-- The cells but the barrier at zero. -/
def lateZeros : sProp 𝕄 := bigSep Finset.univ fun i : Fin 11 => semVal (cell c i.succ) 0

/-- All the slots' semaphores at zero. -/
def kvAllZeros : sProp 𝕄 := iprop((kvZeros c kvCw 0 ∗ kvZeros c kvCw 1) ∗ kvZeros c kvCcw 0 ∗ kvZeros c kvCcw 1)

theorem ownSems_eq : (Pipeline.ownSems0 osem c : sProp 𝕄) = iprop(lateZeros c ∗ kvAllZeros c) := by
  unfold Pipeline.ownSems0
  rw [sum_eq, sum_eq (α := KvIx ⊕ KvIx), sum_eq (α := KvIx), sum_eq (α := KvIx)]
  show iprop(lateZeros c ∗ ((bigSep Finset.univ fun j => (semVal ((c : Thread nD τ), kvOsem kvCw 0 j) 0 : sProp 𝕄))
      ∗ (bigSep Finset.univ fun j => (semVal ((c : Thread nD τ), kvOsem kvCw 1 j) 0 : sProp 𝕄)))
    ∗ ((bigSep Finset.univ fun j => (semVal ((c : Thread nD τ), kvOsem kvCcw 0 j) 0 : sProp 𝕄))
      ∗ (bigSep Finset.univ fun j => (semVal ((c : Thread nD τ), kvOsem kvCcw 1 j) 0 : sProp 𝕄)))) = _
  rw [kvZeros_eq, kvZeros_eq, kvZeros_eq, kvZeros_eq]
  rfl

theorem fin_succ {n : Nat} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]
  rfl

theorem zeros_eq : Zeros c = (iprop(semVal (cell c 0) 0 ∗ lateZeros c) : sProp 𝕄) := fin_succ _

set_option synthInstance.maxSize 1000 in
instance : DecidableEq OwnIx := inferInstance

set_option maxRecDepth 100000 in
theorem osem_inj : Function.Injective osem := by
  have h : ∀ a : OwnIx, ∀ b : OwnIx, osem a = osem b → a = b := by decide +kernel
  exact fun a b e => h a b e

set_option maxRecDepth 100000 in
theorem ownFacts : Pipeline.OwnSemFacts spec0 osem where
  isScoped := by decide +kernel
  inj := osem_inj
  disj := by decide +kernel

/-! ## The slots for keys and values -/

/-- The four slots of one slot number. -/
def kvRooms (Z : Kv) (slot : Fin 2) : sProp 𝕄 :=
  iprop((Room c Z.k0 (slotSet 6 slot) ∗ Room c Z.v0 (slotSet 6 slot)) ∗ Room c Z.k12 (slotSet 11 slot) ∗ Room c Z.v12 (slotSet 11 slot))

theorem idle_intro (Z : Kv) (slot : Fin 2) : iprop(kvRooms c Z slot ∗ kvZeros c Z slot) ⊢ (Idle Z slot c : sProp 𝕄) := by
  unfold kvRooms kvZeros Idle kvIdle Quarter.idle
  iintro ⟨⟨⟨R1, R2⟩, R3, R4⟩, ⟨S1, S2⟩, S3, S4⟩
  isplitl [R1 S1]
  · isplitl [R1]; · iexact R1
    iexact S1
  isplitl [R2 S2]
  · isplitl [R2]; · iexact R2
    iexact S2
  isplitl [R3 S3]
  · isplitl [R3]; · iexact R3
    iexact S3
  isplitl [R4]; · iexact R4
  iexact S4

theorem idle_elim (Z : Kv) (slot : Fin 2) : (Idle Z slot c : sProp 𝕄) ⊢ iprop(kvRooms c Z slot ∗ kvZeros c Z slot) := by
  unfold kvRooms kvZeros Idle kvIdle Quarter.idle
  iintro ⟨⟨R1, S1⟩, ⟨R2, S2⟩, ⟨R3, S3⟩, R4, S4⟩
  isplitl [R1 R2 R3 R4]
  · isplitl [R1 R2]
    · isplitl [R1]; · iexact R1
      iexact R2
    isplitl [R3]; · iexact R3
    iexact R4
  isplitl [S1 S2]
  · isplitl [S1]; · iexact S1
    iexact S2
  isplitl [S3]; · iexact S3
  iexact S4

/-- One direction's four arrays. -/
def kvAny (Z : Kv) : sProp 𝕄 :=
  iprop(Room c Z.k0 Finset.univ ∗ Room c Z.k12 Finset.univ ∗ Room c Z.v0 Finset.univ ∗ Room c Z.v12 Finset.univ)

theorem kv_rooms (Z : Kv) : kvAny c Z ⊢ (iprop(kvRooms c Z 0 ∗ kvRooms c Z 1) : sProp 𝕄) := by
  unfold kvAny kvRooms
  iintro ⟨K0, K1, V0, V1⟩
  ihave K0 := (room_split c Z.k0 (slotSet 6) slotSet_disjoint (slotSet_cover (n := 6))) $$ K0
  ihave K1 := (room_split c Z.k12 (slotSet 11) slotSet_disjoint (slotSet_cover (n := 11))) $$ K1
  ihave V0 := (room_split c Z.v0 (slotSet 6) slotSet_disjoint (slotSet_cover (n := 6))) $$ V0
  ihave V1 := (room_split c Z.v12 (slotSet 11) slotSet_disjoint (slotSet_cover (n := 11))) $$ V1
  icases K0 with ⟨K0, K0'⟩
  icases K1 with ⟨K1, K1'⟩
  icases V0 with ⟨V0, V0'⟩
  icases V1 with ⟨V1, V1'⟩
  isplitl [K0 K1 V0 V1]
  · isplitl [K0 V0]
    · isplitl [K0]; · iexact K0
      iexact V0
    isplitl [K1]; · iexact K1
    iexact V1
  isplitl [K0' V0']
  · isplitl [K0']; · iexact K0'
    iexact V0'
  isplitl [K1']; · iexact K1'
  iexact V1'

theorem rooms_kv (Z : Kv) : (iprop(kvRooms c Z 0 ∗ kvRooms c Z 1) : sProp 𝕄) ⊢ kvAny c Z := by
  unfold kvAny kvRooms
  iintro ⟨⟨⟨K0, V0⟩, K1, V1⟩, ⟨K0', V0'⟩, K1', V1'⟩
  isplitl [K0 K0']
  · iapply (room_join c Z.k0 (slotSet 6) slotSet_disjoint (slotSet_cover (n := 6)))
    isplitl [K0]; · iexact K0
    iexact K0'
  isplitl [K1 K1']
  · iapply (room_join c Z.k12 (slotSet 11) slotSet_disjoint (slotSet_cover (n := 11)))
    isplitl [K1]; · iexact K1
    iexact K1'
  isplitl [V0 V0']
  · iapply (room_join c Z.v0 (slotSet 6) slotSet_disjoint (slotSet_cover (n := 6)))
    isplitl [V0]; · iexact V0
    iexact V0'
  iapply (room_join c Z.v12 (slotSet 11) slotSet_disjoint (slotSet_cover (n := 11)))
  isplitl [V1]; · iexact V1
  iexact V1'

/-! ## All the region's buffers -/

theorem any4 (b0 b1 b2 b3 : Ref sig .tc) : iprop(Any (F := F) c b0 ∗ Any c b1 ∗ Any c b2 ∗ Any c b3)
    ⊢ iprop(Room c (Memref.whole b0) Finset.univ ∗ Room c (Memref.whole b1) Finset.univ ∗ Room c (Memref.whole b2) Finset.univ ∗ Room c (Memref.whole b3) Finset.univ) :=
  BIClass.sep_mono (any_room c b0) (BIClass.sep_mono (any_room c b1) (BIClass.sep_mono (any_room c b2) (any_room c b3)))

theorem room4 (b0 b1 b2 b3 : Ref sig .tc) : iprop(Room (F := F) c (Memref.whole b0) Finset.univ ∗ Room c (Memref.whole b1) Finset.univ
      ∗ Room c (Memref.whole b2) Finset.univ ∗ Room c (Memref.whole b3) Finset.univ)
    ⊢ iprop(Any c b0 ∗ Any c b1 ∗ Any c b2 ∗ Any c b3) :=
  BIClass.sep_mono (room_any c b0) (BIClass.sep_mono (room_any c b1) (BIClass.sep_mono (room_any c b2) (room_any c b3)))

theorem rest_eq : (Pipeline.scopedRest (Val := Elt F) spec0 c : sProp 𝕄)
    = iprop(Any c cc0_scratch0 ∗ Any c cc0_scratch1 ∗ Any c cc0_scratch2 ∗ Any c cc0_scratch3 ∗ Any c cc0_scratch4 ∗ Any c cc0_scratch5
      ∗ Any c cc0_scratch6 ∗ Any c cc0_scratch7 ∗ Any c cc0_scratch8 ∗ Any c cc0_scratch9
      ∗ Any c cc0_scratch10 ∗ Any c cc0_scratch11 ∗ Any c cc0_scratch12 ∗ Any c cc0_scratch13) := scopedRest0_eq c

theorem region_open : iprop(Pipeline.scopedRest (Val := Elt F) spec0 c ∗ kvAllZeros c) ⊢ (iprop(Rings c ∗ Arrays c ∗ Idles c) : sProp 𝕄) := by
  rw [rest_eq]
  unfold kvAllZeros Rings Arrays Idles
  iintro ⟨⟨B0, B1, B2, B3, B4, B5, B6, B7, B8, B9, B10, B11, B12, B13⟩, ⟨Z0, Z1⟩, Y0, Y1⟩
  isplitl [B0 B1]
  · ihave B0 := (any_room c cc0_scratch0) $$ B0
    ihave B1 := (any_room c cc0_scratch1) $$ B1
    isplitl [B0]
    · iapply (room_split c cwM wSet wSet_disjoint wSet_cover)
      iexact B0
    · iapply (room_split c ccwM wSet wSet_disjoint wSet_cover)
      iexact B1
  isplitl [B2 B3 B4 B5]
  · iapply (any4 c cc0_scratch2 cc0_scratch3 cc0_scratch4 cc0_scratch5)
    isplitl [B2]; · iexact B2
    isplitl [B3]; · iexact B3
    isplitl [B4]; · iexact B4
    iexact B5
  isplitl [B6 B7 B8 B9 Z0 Z1]
  · ihave H := (BIBase.Entails.trans (any4 c cc0_scratch6 cc0_scratch7 cc0_scratch8 cc0_scratch9) (kv_rooms c kvCw)) $$ [B6 B7 B8 B9]
    · isplitl [B6]; · iexact B6
      isplitl [B7]; · iexact B7
      isplitl [B8]; · iexact B8
      iexact B9
    icases H with ⟨R0, R1⟩
    isplitl [R0 Z0]
    · iapply (idle_intro c kvCw 0)
      isplitl [R0]; · iexact R0
      iexact Z0
    iapply (idle_intro c kvCw 1)
    isplitl [R1]; · iexact R1
    iexact Z1
  ihave H := (BIBase.Entails.trans (any4 c cc0_scratch10 cc0_scratch11 cc0_scratch12 cc0_scratch13) (kv_rooms c kvCcw)) $$ [B10 B11 B12 B13]
  · isplitl [B10]; · iexact B10
    isplitl [B11]; · iexact B11
    isplitl [B12]; · iexact B12
    iexact B13
  icases H with ⟨R0, R1⟩
  isplitl [R0 Y0]
  · iapply (idle_intro c kvCcw 0)
    isplitl [R0]; · iexact R0
    iexact Y0
  iapply (idle_intro c kvCcw 1)
  isplitl [R1]; · iexact R1
  iexact Y1

theorem region_close : (iprop(Rings c ∗ Arrays c ∗ Idles c) : sProp 𝕄) ⊢ iprop(Pipeline.scopedRest (Val := Elt F) spec0 c ∗ kvAllZeros c) := by
  rw [rest_eq]
  unfold kvAllZeros Rings Arrays Idles
  iintro ⟨⟨B0, B1⟩, BA, ⟨I0, I1⟩, J0, J1⟩
  ihave B0 := (room_join c cwM wSet wSet_disjoint wSet_cover) $$ B0
  ihave B1 := (room_join c ccwM wSet wSet_disjoint wSet_cover) $$ B1
  ihave BA := (room4 c cc0_scratch2 cc0_scratch3 cc0_scratch4 cc0_scratch5) $$ [BA]
  · iexact BA
  icases BA with ⟨B2, B3, B4, B5⟩
  ihave I0 := (idle_elim c kvCw 0) $$ I0
  ihave I1 := (idle_elim c kvCw 1) $$ I1
  ihave J0 := (idle_elim c kvCcw 0) $$ J0
  ihave J1 := (idle_elim c kvCcw 1) $$ J1
  icases I0 with ⟨R0, Z0⟩
  icases I1 with ⟨R1, Z1⟩
  icases J0 with ⟨Q0, Y0⟩
  icases J1 with ⟨Q1, Y1⟩
  ihave R := (BIBase.Entails.trans (rooms_kv c kvCw) (room4 c cc0_scratch6 cc0_scratch7 cc0_scratch8 cc0_scratch9)) $$ [R0 R1]
  · isplitl [R0]; · iexact R0
    iexact R1
  icases R with ⟨B6, B7, B8, B9⟩
  ihave Q := (BIBase.Entails.trans (rooms_kv c kvCcw) (room4 c cc0_scratch10 cc0_scratch11 cc0_scratch12 cc0_scratch13)) $$ [Q0 Q1]
  · isplitl [Q0]; · iexact Q0
    iexact Q1
  icases Q with ⟨B10, B11, B12, B13⟩
  isplitr [Z0 Z1 Y0 Y1]
  · isplitl [B0]; · iapply (room_any c cc0_scratch0); iexact B0
    isplitl [B1]; · iapply (room_any c cc0_scratch1); iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    iexact B13
  isplitl [Z0 Z1]
  · isplitl [Z0]; · iexact Z0
    iexact Z1
  isplitl [Y0]; · iexact Y0
  iexact Y1

end Cert.KernelIdeal.Body
-- ==== Proof.Fund.lean ====
/-
What the launch hands out: the cells, the tokens of the payments, the credit to wait with.
-/
module

public import proofs.«01_k».proof.Proof.Region

@[expose] public section

noncomputable section

namespace Cert.KernelIdeal.Body

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F] [Named F]

local notation "𝕄" => MM F

/-! ## The cells and the tokens -/

def barEmb : Dev nD ↪ GSem nD τ sig := ⟨fun c => cell c 0, fun _ _ h => congrArg (fun g : GSem nD τ sig => g.1.1) h⟩
def lateEmb : Dev nD × Fin 11 ↪ GSem nD τ sig :=
  ⟨fun ci => cell ci.1 ci.2.succ, fun _ _ h => Prod.ext (congrArg (fun g : GSem nD τ sig => g.1.1) h)
    (Fin.succ_injective _ (csem_inj (congrArg Prod.snd h)))⟩

/-- The barriers, which the launch begins; the other cells, which their owners begin inside the region. -/
abbrev barCells : Finset (GSem nD τ sig) := Finset.univ.map barEmb
abbrev lateCells : Finset (GSem nD τ sig) := Finset.univ.map lateEmb

theorem cells_disjoint : Disjoint barCells lateCells := by
  rw [Finset.disjoint_left]
  rintro g h₁ h₂
  obtain ⟨c, -, rfl⟩ := Finset.mem_map.mp h₁
  obtain ⟨ci, -, h⟩ := Finset.mem_map.mp h₂
  exact absurd (csem_inj (show csem ci.2.succ = csem 0 from congrArg Prod.snd h)) (Fin.succ_ne_zero _)

theorem cell_mem (c : Dev nD) (i : Fin 12) : cell c i ∈ (barCells ∪ lateCells : Finset (GSem nD τ sig)) := by
  rcases Fin.eq_zero_or_eq_succ i with rfl | ⟨j, rfl⟩
  · exact Finset.mem_union_left _ (Finset.mem_map_of_mem barEmb (Finset.mem_univ c))
  · exact Finset.mem_union_right _ (Finset.mem_map_of_mem lateEmb (Finset.mem_univ (c, j)))

theorem side_inj : ∀ s : Side, Function.Injective fun c => s.dev c
  | .own => fun _ _ h => h
  | .before => ring.injective
  | .after => ring.symm.injective

/-- Payment `k`. -/
def payment (k : Fin 22) : Side × Fin 12 × ℕ × Bool := payments.get (k.cast rfl)

theorem payment_inj (a b : Fin 22) (h : (payment a).2 = (payment b).2) : a = b := by
  have H : ∀ a b : Fin 22, (payment a).2 = (payment b).2 → a = b := by decide +kernel
  exact H a b h

/-- The token of payment `k`, made by device `c`. -/
def tokAt (ck : Dev nD × Fin 22) : GSem nD τ sig × ℕ × Bool :=
  (cell ((payment ck.2).1.dev ck.1) (payment ck.2).2.1, (payment ck.2).2.2.1, (payment ck.2).2.2.2)

theorem tokAt_inj : Function.Injective tokAt := by
  rintro ⟨c, k⟩ ⟨c', k'⟩ h
  have hi := csem_inj (congrArg (fun t : GSem nD τ sig × ℕ × Bool => t.1.2) h)
  have hr := congrArg (fun t : GSem nD τ sig × ℕ × Bool => t.2) h
  obtain rfl : k = k' := payment_inj k k' (Prod.ext hi hr)
  exact Prod.ext (side_inj (payment k).1 (congrArg (fun t : GSem nD τ sig × ℕ × Bool => t.1.1.1) h)) rfl

def allToks : Finset (GSem nD τ sig × ℕ × Bool) := Finset.univ.map ⟨tokAt, tokAt_inj⟩

theorem toks_deal : bigSep allToks (fun x => (dutyTok ER x.1 x.2.1 x.2.2 : sProp 𝕄)) = bigSep Finset.univ fun c : Dev nD => Toks c := by
  unfold allToks
  rw [bigSep_map, bigSep_univ_prod]
  refine bigSep_congr fun c _ => ?_
  rw [bigSep_univ_eq_bigSepL (List.finRange 22) (by decide) (by decide)]
  rfl

/-! ## Credit -/

/-- What a list of dues comes to at one cell and height. -/
theorem owe_apply (l : List (GSem nD τ sig × ℕ × ℕ)) (g : GSem nD τ sig) (u : ℕ) :
    owe l g u = (l.map fun x => if g = x.1 ∧ u = x.2.1 then x.2.2 else 0).sum := by
  induction l with
  | nil => rfl
  | cons x l ih =>
    unfold owe
    rw [Pi.add_apply, Finsupp.add_apply, tallyAt_apply, ih, List.map_cons, List.sum_cons, Nat.add_comm]

/-- The dues of a device, by side. -/
def duesBy : List (Side × Fin 12 × ℕ × ℕ) :=
  [(.before, 0, 1, 1), (.after, 0, 1, 1), (.after, 7, 2, N), (.before, 9, 2, N), (.before, 10, 3, 1),
   (.after, 6, 4, N), (.before, 8, 4, N), (.before, 10, 5, 1), (.after, 11, 5, 1), (.after, 7, 6, N), (.before, 9, 6, N), (.before, 10, 7, 1),
   (.after, 6, 8, N), (.before, 1, 20, 1), (.after, 1, 20, 1)]

theorem dues_by (d : Dev nD) : dues d = duesBy.map fun x => (cell (x.1.dev d) x.2.1, x.2.2.1, x.2.2.2) := rfl

/-- `n` units at height `ι` of cell `j`, asked about cell `i` at height `u`. -/
def unitAt (i : Fin 12) (u : ℕ) (j : Fin 12) (ι n : ℕ) : ℕ := if i = j ∧ u = ι then n else 0

theorem unitAt_add (i : Fin 12) (u : ℕ) (j : Fin 12) (ι a b : ℕ) : unitAt i u j ι (a + b) = unitAt i u j ι a + unitAt i u j ι b := by
  unfold unitAt; split <;> rfl

theorem side_sum (s : Side) (c : Dev nD) (i j : Fin 12) (u ι n : ℕ) :
    (∑ d : Dev nD, if cell c i = cell (s.dev d) j ∧ u = ι then n else 0) = unitAt i u j ι n := by
  have hs : ∃ d₀, s.dev d₀ = c := by
    cases s
    exacts [⟨c, rfl⟩, ⟨right c, left_right c⟩, ⟨left c, right_left c⟩]
  obtain ⟨d₀, h₀⟩ := hs
  unfold unitAt
  rw [Finset.sum_eq_single d₀]
  · rw [h₀]
    by_cases h : i = j ∧ u = ι
    · rw [if_pos h, if_pos ⟨by rw [h.1], h.2⟩]
    · rw [if_neg h, if_neg fun h' => h ⟨csem_inj (congrArg Prod.snd h'.1), h'.2⟩]
  · intro d _ hd
    rw [if_neg]
    rintro ⟨h, -⟩
    exact hd (side_inj s ((congrArg (fun g : GSem nD τ sig => g.1.1) h).symm.trans h₀.symm))
  · exact fun h => absurd (Finset.mem_univ _) h

theorem list_sum (l : List (Side × Fin 12 × ℕ × ℕ)) (c : Dev nD) (i : Fin 12) (u : ℕ) :
    (∑ d : Dev nD, owe (l.map fun x => (cell (x.1.dev d) x.2.1, x.2.2.1, x.2.2.2)) (cell c i) u)
      = (l.map fun x => unitAt i u x.2.1 x.2.2.1 x.2.2.2).sum := by
  induction l with
  | nil => simp [owe]
  | cons x l ih =>
    rw [List.map_cons, List.sum_cons, ← ih, ← side_sum x.1 c i x.2.1 u x.2.2.1 x.2.2.2, ← Finset.sum_add_distrib]
    refine Finset.sum_congr rfl fun d _ => ?_
    rw [owe_apply, owe_apply]
    simp only [List.map_cons, List.sum_cons]

/-- What a device waits for on cell `i`. -/
def awaitsAt (c : Dev nD) (i : Fin 12) : List (GSem nD τ sig × ℕ × ℕ) :=
  (awaits.filter fun p => p.1 = i).map fun p => (cell c p.1, p.2.1, p.2.2)

theorem filter_sum (l : List (Fin 12 × ℕ × ℕ)) (c : Dev nD) (i : Fin 12) (u : ℕ) :
    owe ((l.filter fun p => p.1 = i).map fun p => (cell c p.1, p.2.1, p.2.2)) (cell c i) u
      = (l.map fun p => unitAt i u p.1 p.2.1 p.2.2).sum := by
  induction l with
  | nil => rfl
  | cons x l ih =>
    rw [List.map_cons, List.sum_cons, ← ih]
    by_cases h : x.1 = i
    · rw [List.filter_cons_of_pos (by simpa using h), owe_apply, owe_apply]
      simp only [List.map_cons, List.sum_cons]
      refine congrArg (· + _) ?_
      unfold unitAt
      by_cases hu : u = x.2.1
      · rw [if_pos ⟨by rw [h], hu⟩, if_pos ⟨h.symm, hu⟩]
      · rw [if_neg fun h' => hu h'.2, if_neg fun h' => hu h'.2]
    · rw [List.filter_cons_of_neg (by simpa using h)]
      unfold unitAt
      rw [if_neg fun h' => h h'.1.symm, Nat.zero_add]

theorem same_sum (i : Fin 12) (u : ℕ) :
    (duesBy.map fun x => unitAt i u x.2.1 x.2.2.1 x.2.2.2).sum = (awaits.map fun p => unitAt i u p.1 p.2.1 p.2.2).sum := by
  have h0 := unitAt_add i u 0 1 1 1
  have h1 := unitAt_add i u 1 20 1 1
  unfold duesBy awaits
  simp only [List.map_cons, List.map_nil, List.sum_cons, List.sum_nil]
  rw [show (2 : ℕ) = 1 + 1 from rfl] at *
  rw [h0, h1]
  omega

/-- What device `c` owes at the start. -/
def O₀ (c : Dev nD) : CellTallies nD τ sig ℕ := owe (dues c)

theorem owe_other (l : List (Fin 12 × ℕ × ℕ)) (c : Dev nD) (i : Fin 12) (g : GSem nD τ sig) (h : g ≠ cell c i) :
    owe ((l.filter fun p => p.1 = i).map fun p => (cell c p.1, p.2.1, p.2.2)) g = 0 := by
  refine Finsupp.ext fun u => ?_
  by_contra hne
  obtain ⟨x, hx, e, -⟩ := owe_pos (Nat.pos_of_ne_zero hne)
  obtain ⟨p, hp, rfl⟩ := List.mem_map.mp hx
  have hi : p.1 = i := by simpa using (List.mem_filter.mp hp).2
  exact h (e.symm.trans (by rw [← hi]))

/-- The launch credit of a cell is what its owner waits for there. -/
theorem launch_cell (c : Dev nD) (i : Fin 12) :
    tallyOn (cell c i) (launchCredit (Pipeline.owing O₀) 0 (cell c i)) = owe (awaitsAt c i) := by
  funext g
  by_cases h : g = cell c i
  · subst h
    rw [tallyOn_self]
    refine Finsupp.ext fun u => ?_
    rw [Pipeline.launchCredit_owing]
    have e : ∀ d : Dev nD, O₀ d (cell c i) u = owe (duesBy.map fun x => (cell (x.1.dev d) x.2.1, x.2.2.1, x.2.2.2)) (cell c i) u := fun d => rfl
    rw [Finset.sum_congr rfl fun d _ => e d, list_sum, same_sum]
    exact (filter_sum awaits c i u).symm
  · rw [tallyOn_ne h]
    exact (owe_other awaits c i g h).symm

/-- Credit for a list is credit for each. -/
theorem cred_list (l : List (GSem nD τ sig × ℕ × ℕ)) : (cred (owe l) : sProp 𝕄) ⊢ bigSepL l fun x => cred (tallyAt x.1 x.2.1 x.2.2) := by
  induction l with
  | nil =>
    show (cred (0 : CellTallies nD τ sig ℕ) : sProp 𝕄) ⊢ _
    rw [cred_zero]; exact Entails.refl _
  | cons x l ih =>
    have e : (bigSepL (x :: l) fun x => (cred (tallyAt x.1 x.2.1 x.2.2) : sProp 𝕄)) = iprop(cred (tallyAt x.1 x.2.1 x.2.2) ∗ bigSepL l fun x => cred (tallyAt x.1 x.2.1 x.2.2)) := bigSepL_cons ..
    rw [e]
    refine BIBase.Entails.trans (cred_add (owe l) (tallyAt x.1 x.2.1 x.2.2)).1 ?_
    iintro ⟨H, H'⟩
    isplitl [H']; · iexact H'
    iapply ih
    iexact H

theorem creds_start (c : Dev nD) : (Pipeline.launchCred O₀ c : sProp 𝕄) ⊢ Creds c := by
  have h : (Pipeline.launchCred O₀ c : sProp 𝕄) ⊢ bigSep (Finset.univ.map ⟨csem, csem_inj⟩)
      fun sm : SemLoc sig => cred (tallyOn ((c : Thread nD τ), sm) (launchCredit (Pipeline.owing O₀) 0 ((c : Thread nD τ), sm))) := by
    unfold Pipeline.launchCred
    exact BI.bigSep_subset (Finset.subset_univ _)
  refine BIBase.Entails.trans h ?_
  rw [bigSep_map]
  have h2 : (bigSep Finset.univ fun i : Fin 12 => (cred (tallyOn (cell c i) (launchCredit (Pipeline.owing O₀) 0 (cell c i))) : sProp 𝕄))
      ⊢ bigSep Finset.univ fun i : Fin 12 => bigSepL (awaitsAt c i) fun x => cred (tallyAt x.1 x.2.1 x.2.2) :=
    bigSep_mono fun i _ => by rw [launch_cell]; exact cred_list _
  refine BIBase.Entails.trans h2 ?_
  rw [bigSep_univ_eq_bigSepL (List.finRange 12) (by decide) (by decide)]
  have e : (bigSepL (List.finRange 12) fun i => bigSepL (awaitsAt c i) fun x => (cred (tallyAt x.1 x.2.1 x.2.2) : sProp 𝕄))
      = iprop(Cred c 0 1 2 ∗ Cred c 1 20 2 ∗ emp ∗ emp ∗ emp ∗ emp ∗ (Cred c 6 4 N ∗ Cred c 6 8 N) ∗ (Cred c 7 2 N ∗ Cred c 7 6 N)
        ∗ Cred c 8 4 N ∗ (Cred c 9 2 N ∗ Cred c 9 6 N) ∗ (Cred c 10 3 1 ∗ Cred c 10 5 1 ∗ Cred c 10 7 1) ∗ Cred c 11 5 1) := rfl
  rw [e, creds_eq]
  iintro ⟨A0, A1, -, -, -, -, ⟨A6, B6⟩, ⟨A7, B7⟩, A8, ⟨A9, B9⟩, ⟨A10, B10, C10⟩, A11⟩
  isplitl [A0]; · iexact A0
  isplitl [A7]; · iexact A7
  isplitl [A9]; · iexact A9
  isplitl [A10]; · iexact A10
  isplitl [A6]; · iexact A6
  isplitl [A8]; · iexact A8
  isplitl [B10]; · iexact B10
  isplitl [A11]; · iexact A11
  isplitl [B7]; · iexact B7
  isplitl [B9]; · iexact B9
  isplitl [C10]; · iexact C10
  isplitl [B6]; · iexact B6
  iexact A1

end Cert.KernelIdeal.Body
-- ==== Proof.BodyEq.lean ====
/-
The pieces of the body that only its text needs: the halves of the ring copies' waits, the words by which a device names its neighbours,
and the body written as these pieces.
-/
module

public import proofs.«01_k».proof.Proof.Prog

@[expose] public section

noncomputable section
namespace Cert.KernelIdeal.Body
open Idealize.ShloMosaic Idealize.SL.Sem Cert.KernelIdeal Cert.KernelIdeal.Gen
variable {F : FTy → Type} [FloatOps F] [Named F]

/-- The halves of a ring copy's wait. -/
def ringSent (a : Memref sig .tc .vmem S2x2048x1024 .bf16) (ha : a.IsWhole) (s : Fin 2)
    (b : Memref sig .tc .vmem S2x2048x1024 .bf16) (hb : b.IsWhole) (t : Fin 2) (send : DmaSem sig) : BProg F PUnit :=
  .op (.waitDma2 send (slotM b t) (slotM a s) (slotM_exact b hb t) (slotM_exact a ha s)) .ret
def ringGot (a : Memref sig .tc .vmem S2x2048x1024 .bf16) (ha : a.IsWhole) (s : Fin 2)
    (b : Memref sig .tc .vmem S2x2048x1024 .bf16) (hb : b.IsWhole) (t : Fin 2) (recv : DmaSem sig) : BProg F PUnit :=
  .op (.waitDma2 recv (slotM a s) (slotM b t) (slotM_exact a ha s) (slotM_exact b hb t)) .ret
def leftCw (s : Fin 2) : BProg F PUnit :=
  ringSent cwM (Memref.isWhole_whole _) s cwM (Memref.isWhole_whole _) (1 - s) (sem2 cc0_scratch14 s)
def cameCw (s : Fin 2) : BProg F PUnit :=
  ringGot cwM (Memref.isWhole_whole _) s cwM (Memref.isWhole_whole _) (1 - s) (sem2 cc0_scratch15 (1 - s))

/-- A word's residue modulo 8, as the printed text computes it. -/
def wrapWord (a : BitVec 32) : BitVec 32 :=
  let m : BitVec 32 := Scalar.select (Scalar.cmpi .eq (8#32 : BitVec 32) 0#32) 1#32 8#32
  let r : BitVec 32 := Scalar.remsi a m
  Scalar.select (Scalar.andi (Scalar.xori (Scalar.cmpi .slt r 0#32) (Scalar.cmpi .slt m 0#32)) (Scalar.cmpi .ne r 0#32)) (Scalar.addi r m) r

/-- The device and the words of places on the ring its text carries along. -/
def words (d : Dev nD) : Σ' (_ : Dev nD) (_ : BitVec 32) (_ : BitVec 32) (_ : BitVec 32), BitVec 32 :=
  let w : BitVec 32 := Scalar.remsi (Scalar.divsi (Dev.word d) 1#32) 8#32
  ⟨d, w, wrapWord (Scalar.subi w 1#32), wrapWord (Scalar.addi w 1#32), wrapWord (Scalar.subi (Scalar.subi w 1#32) 1#32)⟩

section
variable (x wq wo : Memref sig .tc .vmem S1024x1024 .bf16) (m12 : Memref sig .tc .vmem S640x704 .f32) (out : Memref sig .tc .vmem S1x1024x1024 .f32)

/-- The body cut where its printed parts are cut, first stretch. -/
def cut1 : BProg F (Σ' (_ : Dev nD) (_ : BitVec 32) (_ : BitVec 32) (_ : BitVec 32), BitVec 32) := do
  let d ← Prog.lift .deviceId
  begin x wq wo d
  Prog.lift (sendCw d 0)
  Prog.lift (sendCcw d cwM (Memref.isWhole_whole _) 0)
  waitAll (copies kvCw 0 (bandsOwn d))
  startAll (copies kvCw 1 (bandsCw d 0))
  startAll (copies kvCcw 1 (bandsNext d))
  let w ← groupHead cwM 0
  (do heads kvCw 0 m12; groupTail w; waitCw 0)
  waitCcw cwM (Memref.isWhole_whole _) 0
  semSignalWord (left d) creditCwS 1#32
  semWaitWord creditCwS 1#32
  Prog.lift (sendCw d 1)
  Prog.lift (sendCcw d ccwM (Memref.isWhole_whole _) 1)
  waitAll (copies kvCw 1 (bandsCw d 0))
  startAll ((copies kvCw 0 (bandsCw d 1)).take 31)
  pure (words d)

/-- Second stretch. -/
def cut2 (d : Dev nD) : BProg F PUnit := do
  startAll ((copies kvCw 0 (bandsCw d 1)).drop 31)
  let w ← groupHead cwM 1
  (do heads kvCw 1 m12; groupTail w; waitAll ((copies kvCcw 1 (bandsNext d)).take 2))
  waitAll ((copies kvCcw 1 (bandsNext d)).drop 2)
  startAll (copies kvCcw 0 (bandsCcw d 0))
  let w ← groupHead ccwM 1
  (do heads kvCcw 1 m12; groupTail w; leftCw 1)
  cameCw 1
  waitCcw ccwM (Memref.isWhole_whole _) 1
  semSignalWord (left d) creditCwS 1#32
  semSignalWord (right d) creditCcwS 1#32
  semWaitWord creditCwS 1#32
  Prog.lift (sendCw d 0)
  semWaitWord creditCcwS 1#32
  Prog.lift (sendCcw d ccwM (Memref.isWhole_whole _) 0)
  waitAll (copies kvCw 0 (bandsCw d 1))
  startAll (copies kvCw 1 (bandsCw d 2))
  let w ← groupHead cwM 0
  (do heads kvCw 0 m12; groupTail w; waitAll ((copies kvCcw 0 (bandsCcw d 0)).take 1))
  waitAll ((copies kvCcw 0 (bandsCcw d 0)).drop 1)
  startAll (copies kvCcw 1 (bandsCcw d 1))
  let w ← groupHead ccwM 0
  (do heads kvCcw 0 m12; groupTail w; leftCw 0)
  cameCw 0
  waitCcw ccwM (Memref.isWhole_whole _) 0
  semSignalWord (left d) creditCwS 1#32
  semWaitWord creditCwS 1#32
  Prog.lift (sendCw d 1)
  waitAll ((copies kvCw 1 (bandsCw d 2)).take 2)

/-- Third stretch. -/
def cut3 (d : Dev nD) : BProg F PUnit := do
  waitAll ((copies kvCw 1 (bandsCw d 2)).drop 2)
  startAll (copies kvCw 0 (bandsCw d 3))
  let w ← groupHead cwM 1
  (do heads kvCw 1 m12; groupTail w; waitAll ((copies kvCcw 1 (bandsCcw d 1)).take 2))
  waitAll ((copies kvCcw 1 (bandsCcw d 1)).drop 2)
  let w ← groupHead ccwM 1
  let a ← (do
    heads kvCcw 1 m12
    let acc ← Prog.lift (loadSq accM)
    let ctx ← Prog.lift (loadSq ctxM)
    pure (addf acc (matmul dot_S1024x1024_S1024x1024_S1024x1024_1_0_0_1_n_n none ctx
      (shapeCast S1024x1024 w shapeCasts_S1x1024x1024_S1024x1024 : FVec F S1024x1024 .bf16) (constant S1024x1024 .f32 0x00000000#32)) : FVec F S1024x1024 .f32))
  let _ ← Prog.lift (loadSq accM)
  Prog.lift (storeAcc (shapeCast S1024x1024 a shapeCasts_S1024x1024_S1024x1024))
  waitCw 1
  waitAll (copies kvCw 0 (bandsCw d 3))
  let w ← groupHead cwM 0
  (do heads kvCw 0 m12; groupTail w; seqAll ((List.ofFn (bandOut out)).take 4))
  seqAll ((List.ofFn (bandOut out)).drop 4)
  semSignalWord (left d) exitS 1#32
  semSignalWord (right d) exitS 1#32
  semWaitWord exitS 2#32

end

set_option maxRecDepth 100000 in
set_option maxHeartbeats 4000000 in
theorem cut_eq (x wq wo : Memref sig .tc .vmem S1024x1024 .bf16) (hx : x.IsWhole) (hwq : wq.IsWhole) (hwo : wo.IsWhole)
    (m12 : Memref sig .tc .vmem S640x704 .f32) (hm12 : m12.IsWhole) (out : Memref sig .tc .vmem S1x1024x1024 .f32) (hout : out.IsWhole) :
    cc0__body x hx wq hwq kt (Memref.isWhole_whole _) vt (Memref.isWhole_whole _) wo hwo m12 hm12 out hout (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scoped0
      = ((cut1 x wq wo m12 : BProg F _) >>= fun p => cut2 m12 p.1 >>= fun _ => cut3 m12 out p.1) := by
  rfl

theorem startAll_cut {α : Type} (n : Nat) (l : List Copy) (k : PUnit → BProg F α) :
    (startAll (l.take n) >>= fun _ => startAll (l.drop n) >>= k) = startAll l >>= k := by
  induction l generalizing n with
  | nil => cases n <;> rfl
  | cons c l ih => cases n with
    | zero => rfl
    | succ n => exact congrArg (Prog.op c.start) (funext fun _ => ih n)

theorem waitAll_cut {α : Type} (n : Nat) (l : List Copy) (k : PUnit → BProg F α) :
    (waitAll (l.take n) >>= fun _ => waitAll (l.drop n) >>= k) = waitAll l >>= k := by
  induction l generalizing n with
  | nil => cases n <;> rfl
  | cons c l ih => cases n with
    | zero => rfl
    | succ n => exact congrArg (Prog.op c.await) (funext fun _ => ih n)

theorem seqAll_cut {α : Type} (n : Nat) (l : List (BProg F PUnit)) (k : PUnit → BProg F α) :
    (seqAll (l.take n) >>= fun _ => seqAll (l.drop n) >>= k) = seqAll l >>= k := by
  induction l generalizing n with
  | nil => cases n <;> rfl
  | cons c l ih => cases n with
    | zero => rfl
    | succ n =>
      simp only [List.take_succ_cons, List.drop_succ_cons, seqAll, bind_assoc, ih]

theorem waitCw_cut {α : Type} (s : Fin 2) (k : PUnit → BProg F α) :
    (leftCw s >>= fun _ => cameCw s >>= k) = waitCw s >>= k := Eq.trans rfl rfl

theorem words_fst (d : Dev nD) : (words d).1 = d := Eq.trans rfl rfl

set_option maxRecDepth 100000 in
set_option maxHeartbeats 4000000 in
theorem cut_body (x wq wo : Memref sig .tc .vmem S1024x1024 .bf16) (m12 : Memref sig .tc .vmem S640x704 .f32) (out : Memref sig .tc .vmem S1x1024x1024 .f32) :
    ((cut1 x wq wo m12 : BProg F _) >>= fun p => cut2 m12 p.1 >>= fun _ => cut3 m12 out p.1) = body x wq wo m12 out := by
  simp only [cut1, cut2, cut3, body, step0, step1, step2, step3, step4, group, groupTail, accOf, bind_assoc, pure_bind,
    startAll_cut, waitAll_cut, seqAll_cut, waitCw_cut, words_fst]

/-- The printed body is the one written here. -/
theorem body_eq (x wq wo : Memref sig .tc .vmem S1024x1024 .bf16) (hx : x.IsWhole) (hwq : wq.IsWhole) (hwo : wo.IsWhole)
    (m12 : Memref sig .tc .vmem S640x704 .f32) (hm12 : m12.IsWhole) (out : Memref sig .tc .vmem S1x1024x1024 .f32) (hout : out.IsWhole) :
    cc0__body x hx wq hwq kt (Memref.isWhole_whole _) vt (Memref.isWhole_whole _) wo hwo m12 hm12 out hout (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scoped0
      = body (F := F) x wq wo m12 out :=
  (cut_eq x wq wo hx hwq hwo m12 hm12 out hout).trans (cut_body x wq wo m12 out)

end Cert.KernelIdeal.Body
-- ==== Proof.Dats.lean ====
/-
What memory gives the body, the pipeline's record of the region, the body's obligation.
-/
module

public import proofs.«01_k».proof.Proof.Fund
public import proofs.«01_k».proof.Proof.BodyEq
public import proofs.«01_k».proof.Proof.Gen.KernelIdeal.Regions
public import proofs.«01_k».proof.Proof.Gen.KernelIdeal.Points
public import Idealize.ShloMosaic.Lib.Pipeline.RegionTalk

@[expose] public section

noncomputable section

namespace Cert.KernelIdeal.Body

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F] [Named F]

local notation "𝕄" => MM F

variable (m : (ℓ : Loc nD τ sig) → Buf (Elt F) ℓ)

/-- What the windows fetch and the two arrays left in place hold. -/
def dataOf : Data F where
  x c := (win0_0.blk t0_0).view.read (Elt F) (V4 m c main_v5)
  wq c := (win0_1.blk t0_0).view.read (Elt F) (V4 m c main_arg1)
  wo c := (win0_2.blk t0_0).view.read (Elt F) (V4 m c main_arg4)
  b c := (win0_3.blk t0_0).view.read (Elt F) (V4 m c main_v12)
  kt c := V4 m c main_v8
  vt c := V4 m c main_v9

/-- What the launch deals to a device; what it has once its own cells are begun. -/
def Dealt (c : Dev nD) : sProp 𝕄 :=
  iprop((∃ K, Rec (dataOf m) K ∗ At c 0 0 ∗ (bigSep Finset.univ fun i : Fin 11 => openTok ER (cell c i.succ)) ∗ Toks c) ∗ Creds c)
def Ready (c : Dev nD) : sProp 𝕄 :=
  iprop((∃ K, Rec (dataOf m) K ∗ begunAt c ∗ Ats c (fun _ => 0) ∗ Toks c) ∗ Creds c)

/-- The region's own holdings, and those of the arrays left in place. -/
def Kept (c : Dev nD) : sProp 𝕄 := iprop(Rings (F := F) c ∗ Arrays c ∗ Idles c ∗ Src (dataOf m) fullShare c)

/-- What the body leaves in a staging buffer. -/
def leaves (c : Dev nD) (w : Fin cfg0.W) (t : Fin cfg0.N) : (cfg0.win w).block.Idx → Elt F (cfg0.win w).elt :=
  match w with
  | ⟨0, _⟩ => (dataOf m).x c
  | ⟨1, _⟩ => (dataOf m).wq c
  | ⟨2, _⟩ => (dataOf m).wo c
  | ⟨3, _⟩ => (dataOf m).b c
  | ⟨4, _⟩ => outOf ((dataOf m).A8 c)

def pdats (_ : Fin 1) (c : Dev nD) : Pipeline.Dat τ (Elt F) ℕ ℕ UU ℕ cfg0 c where
  A w := V4 m c (Proc.devRef .tc (Pipeline.arrRef spec0 w))
  after w t := leaves m c w t
  Φ t := if t.val = 0 then iprop(Ready m c ∗ Kept m c ∗ ∃ r, prngReg c r) else iprop(Zeros c ∗ Kept m c ∗ ∃ r, prngReg c r)
  q _ := fullShare
  owed t := if t.val = 0 then O₀ c else 0
  recorded _ := Set.univ

theorem part_owns {ρ : Space} {s : Shape} {e : EltTy} (c : Dev nD) (M : Memref sig .tc ρ s e) (w : s.Idx → Elt F e) :
    (owns (c : Thread nD τ) M fullShare w : sProp 𝕄) = Part c M Finset.univ fullShare w := by
  unfold owns Part
  refine congrArg _ (funext fun f => ?_)
  rw [View.setOn_univ, show (∀ x ∈ Finset.univ, M.view.read (Elt F) f x = w x) = (M.view.read (Elt F) f = w) from
    propext ⟨fun h => funext fun x => h x (Finset.mem_univ _), fun h x _ => congrFun h x⟩]

theorem owesAt_intro (c : Dev nD) (t : Fin (cfg0.N + 1)) (l : List (GSem nD τ sig × ℕ × ℕ)) (h : (pdats m 0 c).owed t = owe l) :
    Owes c l ⊢ ((pdats m 0 c).owesAt 0 t : sProp 𝕄) := by
  unfold Pipeline.Dat.owesAt Pipeline.owesWithin Owes
  rw [h]
  iintro ⟨%W, HO⟩
  iexists W
  isplitr
  · ipureintro; exact fun _ _ => Or.inl trivial
  iexact HO

theorem owesAt_elim (c : Dev nD) (t : Fin (cfg0.N + 1)) (l : List (GSem nD τ sig × ℕ × ℕ)) (h : (pdats m 0 c).owed t = owe l) :
    ((pdats m 0 c).owesAt 0 t : sProp 𝕄) ⊢ Owes c l := by
  unfold Pipeline.Dat.owesAt Pipeline.owesWithin Owes
  rw [h]
  iintro ⟨%W, -, HO⟩
  iexists W
  iexact HO

theorem before_eq (c : Dev nD) (w : Fin cfg0.W) (hw : w ≠ 4) (d : (cfg0.win w).block.Idx → Elt F (cfg0.win w).elt) :
    (pdats m 0 c).before w t0_0 d = leaves m c w t0_0 := by
  unfold Pipeline.Dat.before
  match w with
  | ⟨0, _⟩ => rw [if_pos (fetch0_0 t0_0)]; rfl
  | ⟨1, _⟩ => rw [if_pos (fetch0_1 t0_0)]; rfl
  | ⟨2, _⟩ => rw [if_pos (fetch0_2 t0_0)]; rfl
  | ⟨3, _⟩ => rw [if_pos (fetch0_3 t0_0)]; rfl
  | ⟨4, _⟩ => exact absurd rfl hw

set_option maxRecDepth 100000 in
theorem body_obligation (c : Dev nD) : Pipeline.BodyObligation (pdats (F := F) m 0 c) (defs₀ (F := F)) 𝒱₀ 0 Set.univ := fun t => by
  rw [fin_N0 t]
  rw [bigSep_W0, bigSep_W0]
  simp only [part_owns]
  rw [show (pdats m 0 c).Φ t0_0.castSucc = iprop(Ready m c ∗ Kept m c ∗ ∃ r, prngReg c r) from rfl,
    show (pdats m 0 c).Φ t0_0.succ = iprop(Zeros c ∗ Kept m c ∗ ∃ r, prngReg c r) from rfl]
  show _ ⊢ wp _ (wpE (defs₀ (F := F)) 𝒱₀ c none) Set.univ (bodyAt0 t0_0) _
  unfold bodyAt0
  refine BIBase.Entails.trans ?_ (Entails.of_eq (congrArg (fun p => wp _ (wpE (defs₀ (F := F)) 𝒱₀ c none) Set.univ p _) (body_eq (F := F) (st0_0 t0_0) (st0_1 t0_0) (st0_2 t0_0) (hstage0_0 0) (hstage0_1 0) (hstage0_2 0) (st0_3 t0_0) (hstage0_3 0) (st0_4 t0_0) (hstage0_4 0)).symm))
  unfold Ready Kept
  iintro ⟨⟨⟨⟨%K, #HR, #Hb, HA, HT⟩, HC⟩, ⟨H1, H2, H3, H4⟩, Hp⟩, HO, ⟨%d0, S0⟩, ⟨%d1, S1⟩, ⟨%d2, S2⟩, ⟨%d3, S3⟩, ⟨%d4, S4⟩⟩
  iapply (body_spec (defs₀ (F := F)) (dataOf m) K c (st0_0 t0_0) (st0_1 t0_0) (st0_2 t0_0) (st0_3 t0_0) (st0_4 t0_0) _) $$ [HA HT HC H1 H2 H3 H4 HO S0 S1 S2 S3 S4]
  · isplitr; · iexact HR
    isplitr; · iexact Hb
    isplitl [HO]
    · unfold Due
      ihave HO := (owesAt_elim m c t0_0.castSucc ((dues c).drop 0) rfl) $$ HO
      iexact HO
    isplitl [S0 S1 S2 S3]
    · unfold Staged
      isplitl [S0]; · ihave S0 := (Entails.of_eq (congrArg (fun w => Part c (st0_0 t0_0) Finset.univ fullShare w) (before_eq m c 0 (by decide) d0))) $$ S0; iexact S0
      isplitl [S1]; · ihave S1 := (Entails.of_eq (congrArg (fun w => Part c (st0_1 t0_0) Finset.univ fullShare w) (before_eq m c 1 (by decide) d1))) $$ S1; iexact S1
      isplitl [S2]; · ihave S2 := (Entails.of_eq (congrArg (fun w => Part c (st0_2 t0_0) Finset.univ fullShare w) (before_eq m c 2 (by decide) d2))) $$ S2; iexact S2
      ihave S3 := (Entails.of_eq (congrArg (fun w => Part c (st0_3 t0_0) Finset.univ fullShare w) (before_eq m c 3 (by decide) d3))) $$ S3; iexact S3
    isplitl [S4]
    · unfold Room; iexists _; iexact S4
    isplitl [H1]; · iexact H1
    isplitl [H2]; · iexact H2
    isplitl [H3]; · iexact H3
    isplitl [H4]; · iexact H4
    isplitl [HT]; · iexact HT
    isplitl [HC]; · iexact HC
    iexact HA
  unfold Staged
  iintro ⟨HO, ⟨S0, S1, S2, S3⟩, S4, H1, H2, H3, H4, HZ⟩
  isplitl [HZ H1 H2 H3 H4 Hp]
  · isplitl [HZ]; · iexact HZ
    isplitl [H1 H2 H3 H4]
    · isplitl [H1]; · iexact H1
      isplitl [H2]; · iexact H2
      isplitl [H3]; · iexact H3
      iexact H4
    iexact Hp
  isplitl [HO]
  · unfold Due
    ihave HO := (owesAt_intro m c t0_0.succ ((dues c).drop 15) rfl) $$ HO
    iexact HO
  isplitl [S0]; · iexact S0
  isplitl [S1]; · iexact S1
  isplitl [S2]; · iexact S2
  isplitl [S3]; · iexact S3
  iexact S4

end Cert.KernelIdeal.Body
-- ==== Proof.Talk.lean ====
/-
The region as an item of the program: what it opens with, what it closes with, what it leaves in memory.
-/
module

public import proofs.«01_k».proof.Proof.Dats
public import Idealize.ShloMosaic.Lib.Pipeline.ValueKit
public import Idealize.ShloMosaic.Harness.Basic

@[expose] public section

noncomputable section

namespace Cert.KernelIdeal.Body

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F] [Named F]

local notation "𝕄" => MM F

variable (m : (ℓ : Loc nD τ sig) → Buf (Elt F) ℓ)

/-- The contents of a device's arrays after the region: the result written, all else as before. -/
abbrev Wend (c : Dev nD) : Valuation τ sig (Elt F) := Function.update (V4 m c) main_v13 (outOf ((dataOf m).A8 c))

/-- The two arrays the body addresses itself. -/
abbrev ktVt : Finset (DevRef τ sig) := {Proc.devRef .tc main_v8, Proc.devRef .tc main_v9}

theorem held_ktVt (c : Dev nD) (W : Valuation τ sig (Elt F)) :
    (StableHlo.held (c.tc : Thread nD τ) ktVt W : sProp 𝕄) = kvSource fullShare (W main_v8) (W main_v9) c := by
  unfold StableHlo.held ktVt
  rw [bigSep_insert (by decide), bigSep_singleton]
  rfl

theorem wend_of (c : Dev nD) (r : Ref sig .tc) (h : r ≠ main_v13) : Wend m c r = V4 m c r :=
  Function.update_of_ne (StableHlo.devRef_ne_of_ne h) _ _

/-! ## Opening -/

theorem ats_start (c : Dev nD) (K : Dev nD × Fin 12 → ℕ) :
    iprop(Rec (dataOf m) K ∗ At c 0 0 ∗ (bigSep Finset.univ fun i : Fin 11 => openTok ER (cell c i.succ)) ∗ lateZeros c)
      ⊢ (|={Set.univ}=> iprop(begunAt c ∗ Ats c fun _ => 0) : sProp 𝕄) := by
  have hone : ∀ i ∈ (Finset.univ : Finset (Fin 11)), iprop(Rec (dataOf m) K ∗ (openTok ER (cell c i.succ) ∗ semVal (cell c i.succ) 0))
      ⊢ (|={Set.univ}=> iprop(Past c i.succ 0 ∗ At c i.succ 0) : sProp 𝕄) := fun i _ => by
    iintro ⟨#HR, HT, HZ⟩
    imod (Rounds.cell_open ER (ringRd (dataOf m)) (g := cell c i.succ) (Set.mem_univ (K (c, i.succ)))) $$ [HT HZ] with ⟨HA, #HP⟩
    · isplitr; · iapply (rec_inv (dataOf m) c i.succ K); iexact HR
      isplitl [HT] <;> iassumption
    imodintro
    isplitr; · iexact HP
    iexact HA
  have hall : iprop(Rec (dataOf m) K ∗ (bigSep Finset.univ fun i : Fin 11 => iprop(openTok ER (cell c i.succ) ∗ semVal (cell c i.succ) 0)))
      ⊢ (|={Set.univ}=> iprop((bigSep Finset.univ fun i : Fin 11 => Past c i.succ 0) ∗ bigSep Finset.univ fun i : Fin 11 => At c i.succ 0) : sProp 𝕄) :=
    ((bigSep_with_persistent hone).trans (bigSep_fupd _ _)).trans (by rw [bigSep_sep'])
  have hB : begunAt (F := F) c = iprop(Past c 0 0 ∗ bigSep Finset.univ fun i : Fin 11 => Past c i.succ 0) := fin_succ _
  have hA : Ats (F := F) c (fun _ => 0) = iprop(At c 0 0 ∗ bigSep Finset.univ fun i : Fin 11 => At c i.succ 0) := (ats_univ c _).trans (fin_succ _)
  have hG : begun (F := F) ⊢ Past c 0 0 := by unfold begun; exact bigSep_elim (Finset.mem_univ c)
  iintro ⟨#HR, HA, HT, HZ⟩
  unfold lateZeros
  ihave H := Smoke.bigSep_pair $$ [HT HZ]
  · isplitl [HT] <;> iassumption
  imod hall $$ [H] with ⟨#HP, HL⟩
  · isplitr; · iexact HR
    iexact H
  imodintro
  isplitr
  · iapply (Entails.of_eq hB.symm)
    isplitr
    · unfold Rec
      icases HR with ⟨-, #HG, -⟩
      iapply hG; iexact HG
    iexact HP
  iapply (Entails.of_eq hA.symm)
  isplitl [HA]; · iexact HA
  iexact HL

def Opened (c : Dev nD) : sProp 𝕄 := iprop(Ready m c ∗ kvAllZeros c)

theorem opening (c : Dev nD) : iprop(Dealt m c ∗ Pipeline.ownSems0 osem c ∗ levAts L lv) ⊢ (|={Set.univ}=> Opened m c : sProp 𝕄) := by
  rw [ownSems_eq]
  unfold Dealt Opened Ready
  iintro ⟨⟨⟨%K, #HR, HA, HO, HT⟩, HC⟩, ⟨HL, HK⟩, -⟩
  imod (ats_start m c K) $$ [HA HO HL] with ⟨#HB, HA⟩
  · isplitr; · iexact HR
    isplitl [HA]; · iexact HA
    isplitl [HO] <;> iassumption
  imodintro
  isplitr [HK]
  · isplitr [HC]
    · iexists K
      isplitr; · iexact HR
      isplitr; · iexact HB
      isplitl [HA] <;> iassumption
    iexact HC
  iexact HK

/-! ## In and out -/

theorem going_in (c : Dev nD) :
    iprop(Pipeline.scopedRest spec0 c ∗ (∃ r, prngReg c r) ∗ StableHlo.held (c.tc : Thread nD τ) ktVt (V4 m c) ∗ Opened m c)
      ⊢ (pdats m 0 c).Φ 0 := by
  rw [show (pdats m 0 c).Φ 0 = iprop(Ready m c ∗ Kept m c ∗ ∃ r, prngReg c r) from rfl, held_ktVt]
  unfold Opened Kept
  iintro ⟨Hs, Hp, HS, HR, HK⟩
  ihave H := (region_open c) $$ [Hs HK]
  · isplitl [Hs] <;> iassumption
  icases H with ⟨H1, H2, H3⟩
  isplitl [HR]; · iexact HR
  isplitr [Hp]
  · isplitl [H1]; · iexact H1
    isplitl [H2]; · iexact H2
    isplitl [H3]; · iexact H3
    iexact HS
  iexact Hp

theorem coming_out (c : Dev nD) : (pdats m 0 c).Φ (Fin.last cfg0.N)
    ⊢ iprop(Pipeline.scopedRest spec0 c ∗ (∃ r, prngReg c r) ∗ StableHlo.held (c.tc : Thread nD τ) ktVt (Wend m c) ∗ Pipeline.ownSems0 osem c
        ∗ semVal (cell c 0) 0) := by
  rw [show (pdats m 0 c).Φ (Fin.last cfg0.N) = iprop(Zeros c ∗ Kept m c ∗ ∃ r, prngReg c r) from rfl, held_ktVt,
    wend_of m c main_v8 (by decide), wend_of m c main_v9 (by decide), ownSems_eq, zeros_eq]
  unfold Kept
  iintro ⟨⟨HB, HL⟩, ⟨H1, H2, H3, HS⟩, Hp⟩
  ihave H := (region_close c) $$ [H1 H2 H3]
  · isplitl [H1]; · iexact H1
    isplitl [H2] <;> iassumption
  icases H with ⟨Hs, HK⟩
  isplitl [Hs]; · iexact Hs
  isplitl [Hp]; · iexact Hp
  isplitl [HS]; · iexact HS
  isplitl [HL HK]
  · isplitl [HL] <;> iassumption
  iexact HB

/-! ## What the windows' arrays hold in the end -/

theorem result_eq (c : Dev nD) : (pdats m 0 c).arrAt 4 cfg0.N = outOf ((dataOf m).A8 c) := by
  refine Pipeline.Dat.arrAt_eq_of_after_last (pdats m 0 c) 4 t0_0 (by decide +kernel) _ fun j => ?_
  rfl

theorem arrays_end (c : Dev nD) (w : Fin cfg0.W) : (pdats m 0 c).arrAt w cfg0.N = Wend m c (Proc.devRef .tc (Pipeline.arrRef spec0 w)) := by
  match w with
  | ⟨0, _⟩ => exact ((pdats m 0 c).arrAt_in 0 rfl _).trans (wend_of m c main_v5 (by decide)).symm
  | ⟨1, _⟩ => exact ((pdats m 0 c).arrAt_in 1 rfl _).trans (wend_of m c main_arg1 (by decide)).symm
  | ⟨2, _⟩ => exact ((pdats m 0 c).arrAt_in 2 rfl _).trans (wend_of m c main_arg4 (by decide)).symm
  | ⟨3, _⟩ => exact ((pdats m 0 c).arrAt_in 3 rfl _).trans (wend_of m c main_v12 (by decide)).symm
  | ⟨4, _⟩ => exact (result_eq m c).trans (Function.update_self (f := V4 m c) (Proc.devRef .tc main_v13) _).symm

theorem dues_cut (c : Dev nD) (t : Fin (cfg0.N + 1)) (g : GSem nD τ sig) (i : ℕ) (h : 0 < (pdats (F := F) m 0 c).owed t g i) :
    i ∈ L g ∧ 0 < lv g i := by
  rw [show (pdats (F := F) m 0 c).owed t = if t.val = 0 then O₀ c else 0 from rfl] at h
  split at h
  · obtain ⟨x, hx, rfl, rfl⟩ := owe_pos h
    obtain ⟨h1, h2, h3⟩ := dues_low c 0 x hx
    exact ⟨by unfold L; rw [if_pos h1]; exact Finset.mem_range.mpr h3, h2⟩
  · exact absurd h (Nat.lt_irrefl 0)

set_option backward.isDefEq.respectTransparency.types false in
/-- The region. -/
def region : Pipeline.RegionSeg (pcfgs (F := F)) adm (pdats m) 0 defs₀ 𝒱₀ L lv 0 :=
  Pipeline.RegionSeg.ofTalk (pcfgs (F := F)) adm (pdats m) 0 defs₀ 𝒱₀ L lv 0 osem ownFacts
    ktVt (Pipeline.ucRefs τ sig \ Pipeline.arrRefs (τ := τ) spec0) (by decide) launch0.toP rfl (fun c => (body_obligation m c).loose)
    (fun _ => 0) O₀ (fun c => (show (pdats m 0 c).owed 0 = O₀ c from rfl).trans (zero_add _).symm) (fun _ => rfl) (fun _ => rfl)
    (fun c w => by unfold Pipeline.Dat.share; split <;> rfl)
    (V4 m) (Wend m) (fun c b hb => Function.update_of_ne (fun h => by subst h; revert hb; decide) _ _)
    (Dealt m) (fun c => semVal (cell c 0) 0) (Opened m) (fun c => semVal (cell c 0) 0) (opening m) (going_in m) (coming_out m)
    (fun c => by iintro H; imodintro; iexact H)
    (fun _ => 0)
    ⟨fun c w s => Finset.mem_range.mpr (by decide), fun c w s => le_refl 0, fun c t g i h => dues_cut m c t g i h⟩
    (fun _ => iprop(emp))
    (fun _ _ => rfl) (fun c w => arrays_end m c w)

end Cert.KernelIdeal.Body
-- ==== Proof.Launch.lean ====
/-
The launch, and the run of the whole program: where it ends and with what.
-/
module

public import proofs.«01_k».proof.Proof.Talk

@[expose] public section

noncomputable section

namespace Cert.KernelIdeal.Body

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F] [Named F]

local notation "𝕄" => MM F

variable (m : (ℓ : Loc nD τ sig) → Buf (Elt F) ℓ) (ρ : Dev nD → PrngReg)

/-! ## The launch -/

/-- What the launch makes: the region's staging cells, the cells of the ring. -/
def u₀ : UU :=
  (initOf (Pipeline.cells (Pipeline.pin (pcfgs (F := F)) adm) cellOf_inj) (Pipeline.launchToks (Pipeline.pin (pcfgs (F := F)) adm) cellOf_inj),
    (launchOf barCells lateCells allToks, 1))

/-- The ring's part of it, kept by one device until all are dealt. -/
def ringLaunch : sProp 𝕄 := BI.own (ER (launchOf barCells lateCells allToks))
def parked (c : Dev nD) : sProp 𝕄 := if c = 0 then ringLaunch else iprop(emp)

theorem parked_all : bigSep Finset.univ (parked (F := F)) = ringLaunch := by
  rw [bigSep_univ_at _ 0, bigSep_congr (s := Finset.univ.erase 0) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- Of a pair of launch elements the first. -/
theorem own_fst (a : UB) (b : Counters) : BI.own ((embR : Emb (UB × Counters) 𝕄) (a, b)) ⊢ (BI.own (ER a) : sProp 𝕄) := by
  have h : BI.own ((embR : Emb (UB × Counters) 𝕄) (a, b)) ⊢ (iprop(BI.own (ER a) ∗ BI.own (((UEmb.inr.trans UEmb.inr).trans uEmb : UEmb Counters 𝕄) b)) : sProp 𝕄) :=
    own_pair_emb (embR : Emb (UB × Counters) 𝕄) a b
  iintro H
  ihave H := h $$ H
  icases H with ⟨H, -⟩
  iexact H

theorem launch_split : (ownU (u₀ (F := F)) : sProp 𝕄) ⊢ |={Set.univ}=> iprop(BI.own (EP (initOf (Pipeline.cells (Pipeline.pin (pcfgs (F := F)) adm) cellOf_inj) (Pipeline.launchToks (Pipeline.pin (pcfgs (F := F)) adm) cellOf_inj))) ∗ bigSep Finset.univ parked) := by
  rw [parked_all]
  unfold u₀ ringLaunch
  iintro Hu
  ihave H := (ownU_pair _ _) $$ Hu
  icases H with ⟨HP, HX⟩
  ihave H := (own_fst (launchOf barCells lateCells allToks) 1) $$ HX
  imodintro
  isplitl [HP]; · iexact HP
  iexact H

theorem bar_only : ∀ sm : SemLoc sig, sm.isScoped .tc = false → sm = .reg barrierS := by decide

theorem unscoped_sems (c : Dev nD) : (unscopedSems0 c : sProp 𝕄) = semVal (cell c 0) 0 := by
  unfold unscopedSems0
  rw [show (Finset.univ.filter fun sm : SemLoc sig => ¬ sm.isScoped .tc) = {SemLoc.reg barrierS} from by decide, BI.bigSep_singleton]
  rfl

/-- The records, under one naming of the cells. -/
def ledger (κ : GSem nD τ sig → ℕ) : sProp 𝕄 :=
  iprop((bigSep (barCells ∪ lateCells) fun g => cellInv ER (ringRd (dataOf m)) (κ g) g) ∗ (bigSep barCells fun g => reached ER g 0) ∗ levAts L lv)

instance ledger_persistent (κ : GSem nD τ sig → ℕ) : BI.Persistent (ledger m κ) := by unfold ledger; infer_instance

theorem ledger_rec (κ : GSem nD τ sig → ℕ) : ledger m κ ⊢ Rec (dataOf m) fun ci => κ (cell ci.1 ci.2) := by
  unfold ledger Rec
  iintro ⟨#HI, #HB, #HL⟩
  isplitr
  · unfold invs
    have h : (bigSep (barCells ∪ lateCells) fun g => (cellInv ER (ringRd (dataOf m)) (κ g) g : sProp 𝕄))
        ⊢ bigSep Finset.univ fun ci : Dev nD × Fin 12 => cellInv ER (ringRd (dataOf m)) (κ (cell ci.1 ci.2)) (cell ci.1 ci.2) :=
      (BI.bigSep_of_persistent Finset.univ _).trans (bigSep_mono fun ci _ => bigSep_elim (cell_mem ci.1 ci.2))
    iapply h; iexact HI
  isplitr
  · unfold begun
    iapply (Entails.of_eq (bigSep_map (s := Finset.univ) barEmb (Φ := fun g : GSem nD τ sig => (reached ER g 0 : sProp 𝕄)))) $$ HB
  iexact HL

/-- What stays with a device. -/
def share (c : Dev nD) : sProp 𝕄 :=
  iprop(At c 0 0 ∗ (bigSep Finset.univ fun i : Fin 11 => openTok ER (cell c i.succ)) ∗ Toks c)
/-- What it has besides the ring. -/
def stock (c : Dev nD) : sProp 𝕄 :=
  iprop(Creds c ∗ owes (c : Thread nD τ) (O₀ c) ∅ ∗ ∃ r, prngReg c r)

/-- A device before the region, after it. -/
def around : Fin 2 → Dev nD → sProp 𝕄
  | 0, c => iprop(Dealt m c ∗ (∃ W, owes (c : Thread nD τ) (O₀ c) W) ∗ ∃ r, prngReg c r)
  | 1, c => iprop(semVal (cell c 0) 0 ∗ ∃ W, owes (c : Thread nD τ) (0 : CellTallies nD τ sig ℕ) W)

theorem around_intro (κ : GSem nD τ sig → ℕ) (c : Dev nD) : iprop(ledger m κ ∗ (share c ∗ stock c)) ⊢ around m 0 c := by
  unfold share stock
  show _ ⊢ iprop(Dealt m c ∗ (∃ W, owes (c : Thread nD τ) (O₀ c) W) ∗ ∃ r, prngReg c r)
  unfold Dealt
  iintro ⟨#HR, ⟨HA, HT, HK⟩, HC, HO, Hp⟩
  isplitr [HO Hp]
  · isplitr [HC]
    · iexists fun ci => κ (cell ci.1 ci.2)
      isplitr; · iapply (ledger_rec m κ); iexact HR
      isplitl [HA]; · iexact HA
      isplitl [HT] <;> iassumption
    iexact HC
  isplitl [HO]
  · iexists ∅; iexact HO
  iexact Hp

theorem dealing :
    iprop((bigSep Finset.univ fun c : Dev nD => iprop(unscopedSems0 c ∗ owes (c : Thread nD τ) (O₀ c) ∅ ∗ Pipeline.launchCred O₀ c ∗ prngReg c (ρ c) ∗ parked c)) ∗ levAts L lv)
      ⊢ (|={Set.univ}=> bigSep Finset.univ (around m 0) : sProp 𝕄) := by
  have hone : ∀ c ∈ (Finset.univ : Finset (Dev nD)), iprop(unscopedSems0 c ∗ owes (c : Thread nD τ) (O₀ c) ∅ ∗ Pipeline.launchCred O₀ c ∗ prngReg c (ρ c) ∗ parked c)
      ⊢ (iprop(stock c ∗ (semVal (cell c 0) 0 ∗ parked c)) : sProp 𝕄) := fun c _ => by
    rw [unscoped_sems]
    unfold stock
    iintro ⟨Hs, HO, HC, Hp, HG⟩
    isplitr [Hs HG]
    · isplitl [HC]; · iapply (creds_start c) $$ HC
      isplitl [HO]; · iexact HO
      iexists (ρ c); iexact Hp
    isplitl [Hs] <;> iassumption
  have hv : bigSep Finset.univ (fun c : Dev nD => (semVal (cell c 0) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => At c 0 0) :=
    Entails.of_eq (bigSep_map (s := Finset.univ) barEmb (Φ := fun g : GSem nD τ sig => (atPos ER g 0 ∅ 0 : sProp 𝕄)))
  have hopen : bigSep lateCells (fun g => (openTok ER g : sProp 𝕄))
      ⊢ bigSep Finset.univ (fun c : Dev nD => bigSep Finset.univ fun i : Fin 11 => openTok ER (cell c i.succ)) :=
    Entails.of_eq (by rw [bigSep_map, bigSep_univ_prod]; rfl)
  have hall : (bigSep Finset.univ fun c : Dev nD => iprop(unscopedSems0 c ∗ owes (c : Thread nD τ) (O₀ c) ∅ ∗ Pipeline.launchCred O₀ c ∗ prngReg c (ρ c) ∗ parked c))
      ⊢ (bigSep Finset.univ fun c : Dev nD => iprop(stock c ∗ (semVal (cell c 0) 0 ∗ parked c)) : sProp 𝕄) := bigSep_mono hone
  iintro ⟨H, #HL⟩
  ihave H := hall $$ H
  ihave H := Smoke.bigSep_unpair $$ H; icases H with ⟨HB, H⟩
  ihave H := Smoke.bigSep_unpair $$ H; icases H with ⟨Hv, HG⟩
  ihave Hu := (Entails.of_eq (parked_all (F := F))) $$ HG
  unfold ringLaunch
  imod (Rounds.fund_launch ER (ringRd (dataOf m)) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := ledger m κ) (Φ := fun c => iprop(share c ∗ stock c)) fun c _ => around_intro m κ c)
  isplitr
  · unfold ledger
    isplitr; · iexact Hinv
    isplitr; · iexact Hr
    iexact HL
  iapply Smoke.bigSep_pair
  isplitr [HB]
  · unfold share
    iapply Smoke.bigSep_pair; isplitl [Hat]; · iapply hat $$ Hat
    iapply Smoke.bigSep_pair; isplitl [Hopen]; · iapply hopen $$ Hopen
    iapply (Entails.of_eq (toks_deal (F := F))) $$ Htok
  · iexact HB

/-! ## Before and after the region -/

theorem pre_region (c : Dev nD) : iprop(StableHlo.held (c : Thread nD τ) (Pipeline.ucRefs τ sig) (V4 m c) ∗ around m 0 c) ⊢ (region m).pre c := by
  show _ ⊢ iprop(StableHlo.held (c.tc : Thread nD τ) (Pipeline.arrRefs (τ := τ) spec0) (V4 m c) ∗ (∃ r, prngReg c r)
    ∗ (StableHlo.held (c.tc : Thread nD τ) (Pipeline.ucRefs τ sig \ Pipeline.arrRefs (τ := τ) spec0) (V4 m c) ∗ emp)
    ∗ Dealt m c ∗ ∃ Wd, owes (c : Thread nD τ) (0 + O₀ c) Wd)
  rw [StableHlo.held_sub_split (c.tc : Thread nD τ) (show Pipeline.arrRefs (τ := τ) spec0 ⊆ Pipeline.ucRefs τ sig by decide) (V4 m c), zero_add]
  show iprop(_ ∗ Dealt m c ∗ (∃ W, owes (c : Thread nD τ) (O₀ c) W) ∗ ∃ r, prngReg c r) ⊢ _
  iintro ⟨⟨Ha, Hr⟩, HD, HO, Hp⟩
  isplitl [Ha]; · iexact Ha
  isplitl [Hp]; · iexact Hp
  isplitl [Hr]
  · isplitl [Hr]; · iexact Hr
    iempintro
  isplitl [HD]; · iexact HD
  iexact HO

theorem post_region (c : Dev nD) : (region m).post c
    ⊢ iprop((StableHlo.held (c : Thread nD τ) (Pipeline.ucRefs τ sig) (Wend m c) ∗ semVal (cell c 0) 0)
        ∗ ∃ W, owes (c : Thread nD τ) (0 : CellTallies nD τ sig ℕ) W) := by
  show iprop(StableHlo.held (c.tc : Thread nD τ) (Pipeline.arrRefs (τ := τ) spec0) (Wend m c) ∗ (∃ r, prngReg c r)
    ∗ (StableHlo.held (c.tc : Thread nD τ) (Pipeline.ucRefs τ sig \ Pipeline.arrRefs (τ := τ) spec0) (Wend m c) ∗ emp)
    ∗ semVal (cell c 0) 0 ∗ ∃ Wd, owes (c : Thread nD τ) (0 : CellTallies nD τ sig ℕ) Wd) ⊢ _
  rw [StableHlo.held_sub_split (c.tc : Thread nD τ) (show Pipeline.arrRefs (τ := τ) spec0 ⊆ Pipeline.ucRefs τ sig by decide) (Wend m c)]
  iintro ⟨Ha, -, ⟨Hr, -⟩, Hb, HO⟩
  isplitr [HO]
  · isplitl [Ha Hr]
    · isplitl [Ha] <;> iassumption
    iexact Hb
  iexact HO

/-! ## The run -/

/-- An argument ends as it began. -/
theorem arg_end (c : Dev nD) (r : Ref sig .tc) (h : r ∉ main_v13 :: (hostOps0_W ++ hostOps0_1_W ++ hostOps0_2_W ++ hostOps0_3_W)) :
    Wend m c r = m ((c : Thread nD τ).loc r) := by
  simp only [List.mem_cons, List.mem_append, not_or] at h
  obtain ⟨h, ⟨⟨h0, h1⟩, h2⟩, h3⟩ := h
  exact (wend_of m c r h).trans <| (V4_of m c r (by simpa using h3)).trans <| (V3_of m c r (by simpa using h2)).trans <|
    (V2_of m c r (by simpa using h1)).trans <| (V1_of m c r (by simpa using h0)).trans rfl

/-- The final state: the result as computed, the arguments as at the start. -/
def Ended (c : Dev nD) (s : MemSt nD τ sig (Elt F)) : Prop :=
  s.mem ((c.tc : Thread nD τ).loc main_v13) = outOf ((dataOf m).A8 c)
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

set_option backward.isDefEq.respectTransparency.types false in
/-- Every run ends, with every device's result computed, its arguments unchanged, every counter at zero. -/
theorem run_main : θ_run defs (onTc (τ := τ) (main (F := F))) ⟨m, fun _ => 0, ρ⟩
    (fun r => (∀ c : Dev nD, Ended m c r.2) ∧ r.2.sem = fun _ => 0) := by
  refine Pipeline.θ_run_regions_kit_dev_sems (pcfgs (F := F)) adm (pdats m) 0 cellOf_inj EP defs₀ 𝒱₀ L lv m ρ main
    (segs m 𝒱₀ L lv (around m) 0 (pdats m) (region m))
    (fun c Q => by
      rewrite [main_chain c, Pipeline.Seg.run_eq_chain,
        show (segs m 𝒱₀ L lv (around m) 0 (pdats m) (region m) c).map Pipeline.Seg.prog = [
          StableHlo.seq (hostOps0 c),
          StableHlo.seq hostOps0_1,
          StableHlo.seq hostOps0_2,
          StableHlo.seq hostOps0_3,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne parked u₀ launch_split
    (T₀ := fun c => iprop(StableHlo.held (c : Thread nD τ) (Pipeline.ucRefs τ sig) (V0 m c) ∗ around m 0 c))
    (Tₙ := fun c => iprop(StableHlo.held (c : Thread nD τ) (Pipeline.ucRefs τ sig) (Wend m c) ∗ semVal (cell c 0) 0))
    (hch := fun c => ⟨.rfl, .rfl, .rfl, .rfl, pre_region m c, post_region m c⟩)
    (hinit := ?_) (QY := fun c s => Ended m c s ∧ s.sem (cell c 0) = 0)
    (hfin := fun c s' => ?_) (hQ := fun s h hs => ⟨fun c => (h c).1, sem_eq_zero hs fun c sm hsm => by
        obtain rfl := bar_only sm hsm
        exact (h c).2⟩)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ parked c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ parked c))
            : sProp 𝕄) := by
      rw [← bigSep_sep']
      exact bigSep_mono fun c _ => by rw [← Pipeline.unscopedBufs_held (Ix := ℕ) (Name := ℕ) (U := UU) (Lvl := ℕ) c (V0 m c)]; exact BI.Entails.refl _
    iintro ⟨H, Hla⟩
    ihave H' := hsplit $$ H
    icases H' with ⟨Hh, Hr⟩
    imod (dealing m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (Wend m c) s') $$ [Hh HSI]
    · isplitl [Hh] <;> iassumption
    icases Hr with ⟨%h, HSI⟩
    imodintro
    isplitr
    · ipureintro
      have hr : ∀ r : Ref sig .tc, r.isScoped = false → s'.mem.mem ((c.tc : Thread nD τ).loc r) = Wend m c r := fun r hr =>
        h (Proc.devRef .tc r) (Finset.mem_filter.mpr ⟨StableHlo.devRef_mem_tcRefs r, fun h' => Bool.false_ne_true (hr.symm.trans h')⟩)
      exact ⟨⟨(hr main_v13 (by decide)).trans (Function.update_self (f := V4 m c) (Proc.devRef .tc main_v13) _),
        (hr main_arg0 (by decide)).trans (arg_end m c main_arg0 (by decide)), (hr main_arg1 (by decide)).trans (arg_end m c main_arg1 (by decide)),
        (hr main_arg2 (by decide)).trans (arg_end m c main_arg2 (by decide)), (hr main_arg3 (by decide)).trans (arg_end m c main_arg3 (by decide)),
        (hr main_arg4 (by decide)).trans (arg_end m c main_arg4 (by decide))⟩, by simpa using hb⟩
    · iexact HSI

end Cert.KernelIdeal.Body
-- ==== Proof.Frames.lean ====
/-
The claims that speak of no value: the program ends quiet with its arguments unchanged, at either instance; so does the reference;
the named constant is the literal it stands for.
-/
module

public import proofs.«01_k».proof.Defs
public import proofs.«01_k».proof.Proof.Launch
public import proofs.«01_k».proof.Proof.Gen.ReferenceIdeal.Run
public import Idealize.ShloMosaic.PureOps.IdealRules
public import Idealize.ShloMosaic.Lib.RunHasEnd

@[expose] public section

noncomputable section

namespace Cert.Proof

open Idealize.ShloMosaic Idealize.SL.Sem Idealize.ShloMosaic.TcCoe

section

attribute [local instance] Cert.KernelIdeal.Gen.facts Cert.ReferenceIdeal.Gen.facts

theorem frame_ideal : Cert.quiescent_KernelIdeal := fun m ρ _ =>
  (θ_run Cert.KernelIdeal.defs _ _).mono (fun _ h => ⟨fun c => (h.1 c).2, h.2⟩) (Cert.KernelIdeal.Body.run_main (F := Ideal) m ρ)

theorem frame_ideal_pre [Cert.Pre_finite_KernelIdeal.Facts] : Cert.quiescent_KernelIdeal_pre_finite_KernelIdeal := fun m ρ _ => frame_ideal m ρ trivial

theorem preserves : Cert.preserves_Kernel_KernelIdeal := IdealRules.named_const.statement Cert.KernelIdeal.κ "mask" .f32 0xCE6E6B28#32 ⊥ rfl

open Cert.ReferenceIdeal Cert.ReferenceIdeal.Value in
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩) (run m ρ)

theorem frame_reference_pre [Cert.Pre_finite_ReferenceIdeal.Facts] : Cert.quiescent_ReferenceIdeal_pre_finite_ReferenceIdeal := fun m ρ _ => frame_reference m ρ trivial

end

end Cert.Proof
-- ==== Proof.FrameBits.lean ====
/-
The kernel as printed is the kernel of the ideal text with its named constant read as the literal: its run is the same run.
-/
module

public import proofs.«01_k».proof.Defs
public import proofs.«01_k».proof.Proof.Launch
public import proofs.«01_k».proof.Proof.Gen.Kernel

@[expose] public section

noncomputable section

namespace Cert.Proof

open Idealize.ShloMosaic Idealize.SL.Sem Idealize.ShloMosaic.TcCoe

/-- A named constant read as the literal it names. -/
local instance litNamed : Named Bits where
  named _ _ {φ} bits := FloatOps.ofBits φ bits

section

attribute [local instance] Cert.Kernel.Gen.facts Cert.KernelIdeal.Gen.facts

set_option maxRecDepth 100000 in
theorem bodies_eq : Cert.Kernel.defs₀ (F := Bits) = Cert.KernelIdeal.defs₀ (F := Bits) := by
  funext p
  cases p with
  | tc =>
    funext ℓ a
    match ℓ, a with
    | ⟨0, _⟩, a => rfl
  | scScalar _ => rfl
  | scVector _ _ => rfl

set_option maxRecDepth 100000 in
theorem defs_eq : Cert.Kernel.defs (F := Bits) = Cert.KernelIdeal.defs (F := Bits) :=
  congrArg (Pipeline.defs (Cert.KernelIdeal.pcfgs (F := Bits))) bodies_eq

set_option maxRecDepth 100000 in
theorem main_eq : Cert.Kernel.main (F := Bits) = Cert.KernelIdeal.main (F := Bits) := rfl

set_option maxRecDepth 100000 in
theorem frame_kernel : Cert.quiescent_Kernel := by
  intro m ρ _
  have h := Cert.KernelIdeal.Body.run_main (F := Bits) m ρ
  rw [← defs_eq, ← main_eq] at h
  exact (θ_run Cert.Kernel.defs _ _).mono (fun _ h => ⟨fun c => (h.1 c).2, h.2⟩) h

end

end Cert.Proof
-- ==== Proof.Finite.lean ====
/-
What the precondition says: the activations, the query weights and the keys are real numbers.
-/
module

public import proofs.«01_k».proof.Pre_finite_KernelIdeal
public import proofs.«01_k».proof.Pre_finite_ReferenceIdeal
public import Idealize.ShloMosaic.Lib.Pointwise
public import Idealize.ShloMosaic.Lib.ReduceAll
public import Idealize.ShloMosaic.PureOps.Ideal.Laws

@[expose] public section

noncomputable section

namespace Cert.Finite

open Idealize.ShloMosaic

/-- The two predicates' side conditions. -/
theorem facts_kernel : Cert.Pre_finite_KernelIdeal.Facts where
  bitsLt_bf16_f32 := by decide
  bcast_S_S1x1024x1024 := by decide
  reducesTo_S1x1024x1024_S_d0_1_2 := by decide
  h_S_ := by decide
  bcast_S_S1024x1024 := by decide
  reducesTo_S1024x1024_S_d0_1 := by decide
  bcast_S_S8x1024x64x128 := by decide
  reducesTo_S8x1024x64x128_S_d0_1_2_3 := by decide

theorem facts_reference : Cert.Pre_finite_ReferenceIdeal.Facts where
  bitsLt_bf16_f32 := by decide
  bcast_S_S8x1024x1024 := by decide
  reducesTo_S8x1024x1024_S_d0_1_2 := by decide
  h_S_ := by decide
  bcast_S_S1024x8192 := by decide
  reducesTo_S1024x8192_S_d0_1 := by decide
  bcast_S_S8x1024x64x128 := by decide
  reducesTo_S8x1024x64x128_S_d0_1_2_3 := by decide

/-- A number less itself is nothing just when it is real. -/
theorem real_of_sub (x : EReal) (h : Ideal.cmp .oeq (x - x) 0 = 1#1) : ∃ r : ℝ, x = (r : EReal) := by
  induction x with
  | bot => simp [Ideal.cmp] at h
  | coe r => exact ⟨r, rfl⟩
  | top => simp [Ideal.cmp] at h

open Cert.Pre_finite_KernelIdeal in
theorem finite_real [Cert.Pre_finite_KernelIdeal.Facts] (x : FVec Ideal S1x1024x1024 .bf16) (wq : FVec Ideal S1024x1024 .bf16)
    (k v : FVec Ideal S8x1024x64x128 .bf16) (wo : FVec Ideal S1024x1024 .bf16) (h : fn x wq k v wo = fun _ => 1#1) :
    (∀ i, ∃ r : ℝ, (x i : EReal) = (r : EReal)) ∧ (∀ i, ∃ r : ℝ, (wq i : EReal) = (r : EReal)) ∧ (∀ i, ∃ r : ℝ, (k i : EReal) = (r : EReal)) := by
  have : Subsingleton S_.Idx := ⟨fun a b => funext fun i => i.elim0⟩
  have h := congrFun h (Shape.Idx.first Facts.h_S_)
  dsimp only [fn] at h
  obtain ⟨h, hk⟩ := IntOp.andi_eq_one.mp h
  obtain ⟨hx, hw⟩ := IntOp.andi_eq_one.mp h
  refine ⟨fun i => ?_, fun i => ?_, fun i => ?_⟩
  · have e := Host.reduce_andi_all _ _ _ _ _ hx i
    pointwise [] at e
    exact real_of_sub _ e
  · have e := Host.reduce_andi_all _ _ _ _ _ hw i
    pointwise [] at e
    exact real_of_sub _ e
  · have e := Host.reduce_andi_all _ _ _ _ _ hk i
    pointwise [] at e
    exact real_of_sub _ e

end Cert.Finite
-- ==== Proof.HostVals.lean ====
/-
What the host operations before the kernel leave in the arrays it is called on, over the extended reals.
-/
module

public import proofs.«01_k».proof.Proof.Dats
public import Idealize.ShloMosaic.Lib.Pointwise
public import Idealize.ShloMosaic.Lib.DynamicIndex
public import Idealize.ShloMosaic.Lib.Pipeline.ValueKit

@[expose] public section

noncomputable section

namespace Cert.KernelIdeal.Body

open Idealize.ShloMosaic hiding ix1 ix2 ix3 ix4
open Idealize.SL.Sem Cert.KernelIdeal Cert.KernelIdeal.Gen
open Idealize.ShloMosaic.TcCoe
open Idealize.ShloMosaic.ValueIdx

variable (m : (ℓ : Loc nD τ sig) → Buf (Elt Ideal) ℓ) (c : Dev nD)

/-- The device's number, as the host computes it. -/
theorem word_v4 : (V1 m c main_v4 : S_.Idx → BitVec 32) = constantI S_ 32 (BitVec.ofNat 32 c.val) := by
  show StableHlo.after (hostOps0 c) (V0 m c) (Proc.devRef .tc main_v4) = _
  after_results
  funext i
  have h : ∀ c : Dev nD, IntOp.remui .host (IntOp.divui .host (Dev.word c) 1#32) 8#32 = BitVec.ofNat 32 c.val := fun c => by
    unfold IntOp.remui IntOp.divui
    rw [if_neg (by decide), if_neg (by decide)]
    exact (by decide : ∀ c : Dev nD, Dev.word c / 1#32 % 8#32 = BitVec.ofNat 32 c.val) c
  exact h c

/-- The block of an array at the device's number. -/
theorem slice_word (K : S8x1024x64x128.Idx → EReal) (st : Fin 4 → Int) (h : S8x1024x64x128.Slices (fun _ => 0) S1x1024x64x128)
    (hw : ∀ i, st i = ((![c.val, 0, 0, 0] : Fin 4 → ℕ) i : Int)) (hc : S1x1024x64x128.ShapeCasts S1024x64x128) (j : Fin 1024) (e : Fin 64) (d : Fin 128) :
    shapeCast S1024x64x128 (Host.dynamicSlice S1x1024x64x128 K st h) hc (ix3 j e d) = K (ix4 ⟨c.val, c.isLt⟩ j e d) := by
  rw [Host.dynamicSlice_eq_extractStridedSlice S1x1024x64x128 K _ (![c.val, 0, 0, 0] : Fin 4 → ℕ) h
    (by refine ⟨rfl, fun a => ?_⟩; fin_cases c <;> fin_cases a <;> decide) hw]
  pointwise []
  refine congrArg K ?_
  funext a
  fin_cases a <;> refine Fin.ext ?_ <;> simp

theorem v6_eq (j : Fin 1024) (e : Fin 64) (d : Fin 128) :
    (V2 m c main_v6 : S1024x64x128.Idx → EReal) (ix3 j e d) = m ((c : Thread nD τ).loc main_arg2) (ix4 ⟨c.val, c.isLt⟩ j e d) := by
  have h4 := word_v4 m c
  show StableHlo.after hostOps0_1 (V1 m c) (Proc.devRef .tc main_v6) (ix3 j e d) = _
  rw [show m ((c : Thread nD τ).loc main_arg2) = V1 m c main_arg2 from (V1_of m c main_arg2 (by decide)).symm]
  generalize V1 m c = W at h4 ⊢
  after_results
  show (shapeCast S1024x64x128 (Host.dynamicSlice S1x1024x64x128 (W main_arg2) _ sliceFits_S8x1024x64x128_S1x1024x64x128)
    shapeCasts_S1x1024x64x128_S1024x64x128) (ix3 j e d) = _
  refine slice_word c (W main_arg2) _ sliceFits_S8x1024x64x128_S1x1024x64x128 (fun i => ?_) _ j e d
  fin_cases i
  · show BitVec.toInt ((cast rfl ((_ : Valuation τ sig (Elt Ideal)) (Proc.devRef .tc main_call0_v2)) : S_.Idx → BitVec 32) (Shape.Idx.first h_S_)) = (c.val : Int)
    after_results_simp
    rw [h4]
    exact toInt_wrap_ofNat c.val (by have := c.isLt; change c.val < 8 at this; omega)
  · show BitVec.toInt ((cast rfl ((_ : Valuation τ sig (Elt Ideal)) (Proc.devRef .tc main_call0_c_1)) : S_.Idx → BitVec 32) (Shape.Idx.first h_S_)) = 0
    after_results_simp
    rfl
  · show BitVec.toInt ((cast rfl ((_ : Valuation τ sig (Elt Ideal)) (Proc.devRef .tc main_call0_c_2)) : S_.Idx → BitVec 32) (Shape.Idx.first h_S_)) = 0
    after_results_simp
    rfl
  · show BitVec.toInt ((cast rfl ((_ : Valuation τ sig (Elt Ideal)) (Proc.devRef .tc main_call0_c_3)) : S_.Idx → BitVec 32) (Shape.Idx.first h_S_)) = 0
    after_results_simp
    rfl

theorem v7_eq (j : Fin 1024) (e : Fin 64) (d : Fin 128) :
    (V3 m c main_v7 : S1024x64x128.Idx → EReal) (ix3 j e d) = m ((c : Thread nD τ).loc main_arg3) (ix4 ⟨c.val, c.isLt⟩ j e d) := by
  have h4 : (V2 m c main_v4 : S_.Idx → BitVec 32) = constantI S_ 32 (BitVec.ofNat 32 c.val) := (V2_of m c main_v4 (by decide)).trans (word_v4 m c)
  show StableHlo.after hostOps0_2 (V2 m c) (Proc.devRef .tc main_v7) (ix3 j e d) = _
  rw [show m ((c : Thread nD τ).loc main_arg3) = V2 m c main_arg3 from (((V2_of m c main_arg3 (by decide)).trans (V1_of m c main_arg3 (by decide)))).symm]
  generalize V2 m c = W at h4 ⊢
  after_results
  show (shapeCast S1024x64x128 (Host.dynamicSlice S1x1024x64x128 (W main_arg3) _ sliceFits_S8x1024x64x128_S1x1024x64x128)
    shapeCasts_S1x1024x64x128_S1024x64x128) (ix3 j e d) = _
  refine slice_word c (W main_arg3) _ sliceFits_S8x1024x64x128_S1x1024x64x128 (fun i => ?_) _ j e d
  fin_cases i
  · show BitVec.toInt ((cast rfl ((_ : Valuation τ sig (Elt Ideal)) (Proc.devRef .tc main_call1_v2)) : S_.Idx → BitVec 32) (Shape.Idx.first h_S_)) = (c.val : Int)
    after_results_simp
    rw [h4]
    exact toInt_wrap_ofNat c.val (by have := c.isLt; change c.val < 8 at this; omega)
  · show BitVec.toInt ((cast rfl ((_ : Valuation τ sig (Elt Ideal)) (Proc.devRef .tc main_call1_c_1)) : S_.Idx → BitVec 32) (Shape.Idx.first h_S_)) = 0
    after_results_simp
    rfl
  · show BitVec.toInt ((cast rfl ((_ : Valuation τ sig (Elt Ideal)) (Proc.devRef .tc main_call1_c_2)) : S_.Idx → BitVec 32) (Shape.Idx.first h_S_)) = 0
    after_results_simp
    rfl
  · show BitVec.toInt ((cast rfl ((_ : Valuation τ sig (Elt Ideal)) (Proc.devRef .tc main_call1_c_3)) : S_.Idx → BitVec 32) (Shape.Idx.first h_S_)) = 0
    after_results_simp
    rfl

theorem v8_eq (h : Fin 64) (j : Fin 1024) (d : Fin 128) :
    (V4 m c main_v8 : S64x1024x128.Idx → EReal) (ix3 h j d) = (V3 m c main_v6 : S1024x64x128.Idx → EReal) (ix3 j h d) := by
  show StableHlo.after hostOps0_3 (V3 m c) (Proc.devRef .tc main_v8) (ix3 h j d) = _
  after_results
  pointwise []

theorem v9_eq (h : Fin 64) (j : Fin 1024) (d : Fin 128) :
    (V4 m c main_v9 : S64x1024x128.Idx → EReal) (ix3 h j d) = (V3 m c main_v7 : S1024x64x128.Idx → EReal) (ix3 j h d) := by
  show StableHlo.after hostOps0_3 (V3 m c) (Proc.devRef .tc main_v9) (ix3 h j d) = _
  after_results
  pointwise []

theorem v5_eq (i k : Fin 1024) :
    (V4 m c main_v5 : S1024x1024.Idx → EReal) (ix2 i k) = m ((c : Thread nD τ).loc main_arg0) (ix3 0 i k) := by
  rw [V4_of m c main_v5 (by decide), V3_of m c main_v5 (by decide), V2_of m c main_v5 (by decide)]
  show StableHlo.after (hostOps0 c) (V0 m c) (Proc.devRef .tc main_v5) (ix2 i k) = _
  after_results
  pointwise []
  rfl

/-- The mask: one word of the table for a pair of bands. -/
theorem v12_eq (p : Fin 640) (j : Fin 704) :
    (V4 m c main_v12 : S640x704.Idx → EReal) (ix2 p j)
      = Ideal.ofBits .f32 (lit0 (S10x11.rowMajor (ix2 ⟨p.val / 64, by omega⟩ ⟨j.val / 64, by omega⟩))) := by
  have e0 : (V3 m c main_cst : S10x11.Idx → EReal) = fun i => Ideal.ofBits .f32 (lit0 (S10x11.rowMajor i)) := by
    rw [V3_of m c main_cst (by decide), V2_of m c main_cst (by decide)]
    show StableHlo.after (hostOps0 c) (V0 m c) (Proc.devRef .tc main_cst) = _
    after_results
    rfl
  show StableHlo.after hostOps0_3 (V3 m c) (Proc.devRef .tc main_v12) (ix2 p j) = _
  generalize V3 m c = W at e0 ⊢
  after_results
  pointwise []
  exact congrFun e0 _

/-! ## The arrays the kernel is called on -/

theorem data_x (i k : Fin 1024) : (dataOf m).x c (ix2 i k) = m ((c : Thread nD τ).loc main_arg0) (ix3 0 i k) := by
  refine Eq.trans ?_ (v5_eq m c i k)
  show (win0_0.blk t0_0).view.read (Elt Ideal) (V4 m c main_v5) (ix2 i k) = _
  generalize V4 m c main_v5 = A
  blk_ext []
  · rw [show win0_0.index t0_0 0 = 0 from by decide, Nat.zero_mul, Nat.zero_add]
  · rw [show win0_0.index t0_0 1 = 0 from by decide, Nat.zero_mul, Nat.zero_add]

theorem data_kt (h : Fin 64) (j : Fin 1024) (d : Fin 128) :
    (dataOf m).kt c (ix3 h j d) = m ((c : Thread nD τ).loc main_arg2) (ix4 ⟨c.val, c.isLt⟩ j h d) :=
  (v8_eq m c h j d).trans ((congrFun (V3_of m c main_v6 (by decide)) _).trans (v6_eq m c j h d))

theorem data_vt (h : Fin 64) (j : Fin 1024) (d : Fin 128) :
    (dataOf m).vt c (ix3 h j d) = m ((c : Thread nD τ).loc main_arg3) (ix4 ⟨c.val, c.isLt⟩ j h d) :=
  (v9_eq m c h j d).trans (v7_eq m c j h d)

theorem data_wq (k l : Fin 1024) : (dataOf m).wq c (ix2 k l) = m ((c : Thread nD τ).loc main_arg1) (ix2 k l) := by
  refine Eq.trans ?_ (congrFun ((V4_of m c main_arg1 (by decide)).trans <| (V3_of m c main_arg1 (by decide)).trans <|
    (V2_of m c main_arg1 (by decide)).trans <| V1_of m c main_arg1 (by decide)) _)
  show (win0_1.blk t0_0).view.read (Elt Ideal) (V4 m c main_arg1) (ix2 k l) = _
  generalize V4 m c main_arg1 = A
  blk_ext []
  · rw [show win0_1.index t0_0 0 = 0 from by decide, Nat.zero_mul, Nat.zero_add]
  · rw [show win0_1.index t0_0 1 = 0 from by decide, Nat.zero_mul, Nat.zero_add]

theorem data_wo (l n : Fin 1024) : (dataOf m).wo c (ix2 l n) = m ((c : Thread nD τ).loc main_arg4) (ix2 l n) := by
  refine Eq.trans ?_ (congrFun ((V4_of m c main_arg4 (by decide)).trans <| (V3_of m c main_arg4 (by decide)).trans <|
    (V2_of m c main_arg4 (by decide)).trans <| V1_of m c main_arg4 (by decide)) _)
  show (win0_2.blk t0_0).view.read (Elt Ideal) (V4 m c main_arg4) (ix2 l n) = _
  generalize V4 m c main_arg4 = A
  blk_ext []
  · rw [show win0_2.index t0_0 0 = 0 from by decide, Nat.zero_mul, Nat.zero_add]
  · rw [show win0_2.index t0_0 1 = 0 from by decide, Nat.zero_mul, Nat.zero_add]

theorem data_b (p : Fin 640) (j : Fin 704) : (dataOf m).b c (ix2 p j)
    = Ideal.ofBits .f32 (lit0 (S10x11.rowMajor (ix2 ⟨p.val / 64, by omega⟩ ⟨j.val / 64, by omega⟩))) := by
  refine Eq.trans ?_ (v12_eq m c p j)
  show (win0_3.blk t0_0).view.read (Elt Ideal) (V4 m c main_v12) (ix2 p j) = _
  generalize V4 m c main_v12 = A
  blk_ext []
  · rw [show win0_3.index t0_0 0 = 0 from by decide, Nat.zero_mul, Nat.zero_add]
  · rw [show win0_3.index t0_0 1 = 0 from by decide, Nat.zero_mul, Nat.zero_add]

end Cert.KernelIdeal.Body
-- ==== Proof.ValKernel.lean ====
/-
What the kernel's arithmetic is over the extended reals, read at an index.
-/
module

public import proofs.«01_k».proof.Proof.Group
public import Idealize.ShloMosaic.Lib.Pointwise

@[expose] public section

noncomputable section

namespace Cert.KernelIdeal.Body

open Idealize.ShloMosaic hiding ix2 ix3 ix4
open Idealize.SL.Sem Cert.KernelIdeal Cert.KernelIdeal.Gen
open Idealize.ShloMosaic.TcCoe
open Idealize.ShloMosaic.ValueIdx

/-- The scale of the scores, as the literal reads. -/
def scl : EReal := Ideal.ofBits .f32 0x3DB504F3#32

theorem qOf_apply (X W : S1024x1024.Idx → Elt Ideal .bf16) (i e : Fin 1024) :
    qOf (F := Ideal) X (lift1 W) (ix2 i e) = ∑ k : Fin 1024, (X (ix2 i k) : EReal) * W (ix2 k e) := by
  pointwise [qOf, lift1]
  rfl

theorem accOf_apply (A : S1024x1024.Idx → Elt Ideal .f32) (C W : S1024x1024.Idx → Elt Ideal .bf16) (i e : Fin 1024) :
    accOf (F := Ideal) A C (lift1 W) (ix2 i e) = (A (ix2 i e) : EReal) + ∑ k : Fin 1024, (C (ix2 i k) : EReal) * W (ix2 k e) := by
  pointwise [accOf, lift1]
  rfl

theorem ctx0Of_apply (k v : Vec Ideal S1x1x384x128 .bf16) (q : Vec Ideal S384x128 .bf16) (p : Fin 384) (d : Fin 128) :
    ctx0Of (F := Ideal) k v q (ix2 p d)
      = (∑ j : Fin 384, Ideal.exp ((∑ e : Fin 128, (q (ix2 p e) : EReal) * k (ix4 0 0 j e)) * scl) * v (ix4 0 0 j d))
        * Ideal.div 1 (∑ j : Fin 384, Ideal.exp ((∑ e : Fin 128, (q (ix2 p e) : EReal) * k (ix4 0 0 j e)) * scl)) := by
  pointwise [ctx0Of, scl]
  rfl

theorem ctx12Of_apply (k v : Vec Ideal S1x1x704x128 .bf16) (b : Vec Ideal S640x704 .f32) (q : Vec Ideal S640x128 .bf16) (p : Fin 640) (d : Fin 128) :
    ctx12Of (F := Ideal) k v b q (ix2 p d)
      = (∑ j : Fin 704, Ideal.exp ((∑ e : Fin 128, (q (ix2 p e) : EReal) * k (ix4 0 0 j e)) * scl + (b (ix2 p j) : EReal) * ⊥) * v (ix4 0 0 j d))
        * Ideal.div 1 (∑ j : Fin 704, Ideal.exp ((∑ e : Fin 128, (q (ix2 p e) : EReal) * k (ix4 0 0 j e)) * scl + (b (ix2 p j) : EReal) * ⊥)) := by
  pointwise [ctx12Of, scl]
  rfl

end Cert.KernelIdeal.Body
-- ==== Proof.RefTerm.lean ====
/-
The reference's result as a term of its arguments, named step by step.
-/
module

public import proofs.«01_k».proof.Proof.Gen.ReferenceIdeal.Run
public import Idealize.ShloMosaic.Lib.Pointwise

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The band of each row. -/
def bandW : IVec S1024 32 :=
  let w : IVec S_ 32 := id (constantI S_ 32 64#32)
  let b : IVec S1024 32 := broadcastInDim S1024 ![] bcast_S_S1024 w
  let q : IVec S1024 32 := Host.divsi (iotaInDim S1024 32 0) b
  select (andi (cmpi .ne (signi (iotaInDim S1024 32 0)) (broadcastInDim S1024 ![] bcast_S_S1024 (signi w)))
    (cmpi .ne (Host.remsi (iotaInDim S1024 32 0) b) (broadcastInDim S1024 ![] bcast_S_S1024 (constantI S_ 32 0#32))))
    (subi q (broadcastInDim S1024 ![] bcast_S_S1024 (constantI S_ 32 1#32))) q

/-- The divisor three, and the remainder of the bands' sum by it. -/
def three : IVec S_ 32 :=
  let t : IVec S_ 32 := id (constantI S_ 32 3#32)
  select (cmpi .eq t (constantI S_ 32 0#32)) (constantI S_ 32 1#32) t

def rowBand : IVec S1024x1024 32 := broadcastInDim S1024x1024 ![0, 1] bcast_S1024x1_S1024x1024_0_1 (broadcastInDim S1024x1 ![0] bcast_S1024_S1024x1_0 bandW)
def colBand1 : IVec S1x1024 32 := broadcastInDim S1x1024 ![1] bcast_S1024_S1x1024_1 bandW
def colBand : IVec S1024x1024 32 := broadcastInDim S1024x1024 ![0, 1] bcast_S1x1024_S1024x1024_0_1 colBand1
def remW : IVec S1024x1024 32 := Host.remsi (addi rowBand colBand) (broadcastInDim S1024x1024 ![] bcast_S_S1024x1024 three)
def zeroW : IVec S1024x1024 32 := broadcastInDim S1024x1024 ![] bcast_S_S1024x1024 (constantI S_ 32 0#32)

/-- The mask, as the reference computes it. -/
def maskW : IVec S1024x1024 1 :=
  ori (ori (cmpi .eq rowBand colBand) (broadcastInDim S1024x1024 ![0, 1] bcast_S1x1024_S1024x1024_0_1
      (cmpi .eq colBand1 (broadcastInDim S1x1024 ![] bcast_S_S1x1024 (constantI S_ 32 0#32)))))
    (cmpi .eq (select (andi (cmpi .ne (cmpi .slt remW zeroW) (broadcastInDim S1024x1024 ![] bcast_S_S1024x1024 (cmpi .slt three (constantI S_ 32 0#32))))
      (cmpi .ne remW zeroW)) (addi remW (broadcastInDim S1024x1024 ![] bcast_S_S1024x1024 three)) remW) zeroW)

/-- Which rows keep anything. -/
def keepW : IVec S1x1x1024x1 1 :=
  broadcastInDim S1x1x1024x1 ![2] bcast_S1024_S1x1x1024x1_2 (Host.reduce IntOp.ori maskW (constantI S_ 1 0#1) reducesTo_S1024x1024_S1024_d1 h_S_)

variable (X : Vec F S8x1024x1024 .bf16) (Wq : Vec F S1024x8192 .bf16) (K V : Vec F S8x1024x64x128 .bf16) (Wo : Vec F S8192x1024 .bf16)

/-- The scores before the mask. -/
def rawW : FVec F S8x64x1024x1024 .f32 :=
  mulf (extf .f32 (truncf .bf16 (Host.dotGeneral dot_S8x1024x64x128_S8x1024x64x128_S8x64x1024x1024_3_3_1_1_02_02 none
    (shapeCast _ (truncf .bf16 (Host.dotGeneral dot_S8x1024x1024_S1024x8192_S8x1024x8192_2_0_01_1_n_n none X Wq : FVec F S8x1024x8192 .f32) bitsLt_bf16_f32
      : FVec F S8x1024x8192 .bf16) shapeCasts_S8x1024x8192_S8x1024x64x128 : FVec F S8x1024x64x128 .bf16) K : FVec F S8x64x1024x1024 .f32) bitsLt_bf16_f32) bitsLt_bf16_f32)
    (broadcastInDim S8x64x1024x1024 ![] bcast_S_S8x64x1024x1024 (constant S_ .f32 0x3DB504F3#32))

/-- The scores under the mask. -/
def scoreW : FVec F S8x64x1024x1024 .f32 :=
  select (broadcastInDim S8x64x1024x1024 ![0, 1, 2, 3] bcast_S1x1x1024x1024_S8x64x1024x1024_0_1_2_3
    (broadcastInDim S1x1x1024x1024 ![2, 3] bcast_S1024x1024_S1x1x1024x1024_2_3 maskW)) (rawW X Wq K)
    (broadcastInDim S8x64x1024x1024 ![] bcast_S_S8x64x1024x1024 (id (constant S_ .f32 0xFF800000#32)))

/-- Their exponentials, the row's largest score taken off. -/
def expW : FVec F S8x64x1024x1024 .f32 :=
  Host.exp (subf (scoreW X Wq K) (broadcastInDim S8x64x1024x1024 ![0, 1, 2, 3] bcast_S8x64x1024x1_S8x64x1024x1024_0_1_2_3
    (broadcastInDim S8x64x1024x1 ![0, 1, 2] bcast_S8x64x1024_S8x64x1024x1_0_1_2
      (Host.reduce FloatOps.maximumf (scoreW X Wq K) (constant S_ .f32 0xFF800000#32) reducesTo_S8x64x1024x1024_S8x64x1024_d3 h_S_))))

/-- The weights. -/
def weightW : FVec F S8x64x1024x1024 .f32 :=
  select (broadcastInDim S8x64x1024x1024 ![0, 1, 2, 3] bcast_S1x1x1024x1_S8x64x1024x1024_0_1_2_3 keepW)
    (Host.divf (expW X Wq K) (broadcastInDim S8x64x1024x1024 ![0, 1, 2, 3] bcast_S8x64x1024x1_S8x64x1024x1024_0_1_2_3
      (select (broadcastInDim S8x64x1024x1 ![0, 1, 2, 3] bcast_S1x1x1024x1_S8x64x1024x1_0_1_2_3 keepW)
        (broadcastInDim S8x64x1024x1 ![0, 1, 2] bcast_S8x64x1024_S8x64x1024x1_0_1_2
          (Host.reduceAdd (expW X Wq K) (constant S_ .f32 0x00000000#32) reducesTo_S8x64x1024x1024_S8x64x1024_d3 h_S_))
        (broadcastInDim S8x64x1024x1 ![] bcast_S_S8x64x1024x1 (id (constant S_ .f32 0x3F800000#32))))))
    (broadcastInDim S8x64x1024x1024 ![] bcast_S_S8x64x1024x1024 (id (constant S_ .f32 0x00000000#32)))

/-- The attention, heads joined. -/
def ctxW : FVec F S8x1024x8192 .f32 :=
  shapeCast _ (transpose S8x1024x64x128 [0, 3, 1, 2] (Host.dotGeneral dot_S8x1024x64x128_S8x64x1024x1024_S8x64x128x1024_1_3_3_2_02_01 none
    (extf .f32 V bitsLt_bf16_f32) (weightW X Wq K) : FVec F S8x64x128x1024 .f32) transposes_S8x64x128x1024_S8x1024x64x128_0_3_1_2 : FVec F S8x1024x64x128 .f32)
    shapeCasts_S8x1024x64x128_S8x1024x8192

/-- The result. -/
def outW : FVec F S8x1024x1024 .f32 :=
  Host.dotGeneral dot_S8x1024x8192_S8192x1024_S8x1024x1024_2_0_01_1_n_n none (ctxW X Wq K V) (extf .f32 Wo bitsLt_bf16_f32)

set_option maxRecDepth 8192 in
theorem res_eq (m : (ℓ : Loc nD τ sig) → Buf (Elt F) ℓ) (c : Dev nD) :
    res_main_v49 m c = outW (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold res_main_v49
  rfl

end Cert.ReferenceIdeal.Value
-- ==== Proof.ValRef.lean ====
/-
The reference over the extended reals, read at an index.
-/
module

public import proofs.«01_k».proof.Proof.RefTerm

@[expose] public section

noncomputable section

namespace Cert.ReferenceIdeal.Value

open Idealize.ShloMosaic hiding ix1 ix2 ix3 ix4
open Cert.ReferenceIdeal Cert.ReferenceIdeal.Gen Idealize.ShloMosaic.TcCoe Idealize.SL.Sem Idealize.ShloMosaic.StableHlo
open Idealize.ShloMosaic.ValueIdx

variable (X : Vec Ideal S8x1024x1024 .bf16) (Wq : Vec Ideal S1024x8192 .bf16) (K V : Vec Ideal S8x1024x64x128 .bf16) (Wo : Vec Ideal S8192x1024 .bf16)

theorem outW_apply (b : Fin 8) (i n : Fin 1024) :
    outW (F := Ideal) X Wq K V Wo (ix3 b i n) = ∑ e : Fin 8192, (ctxW (F := Ideal) X Wq K V (ix3 b i e) : EReal) * Wo (ix2 e n) := by
  pointwise [outW]
  rfl

/-- A column of the joined heads. -/
def col (h : Fin 64) (d : Fin 128) : Fin 8192 := ⟨h.val * 128 + d.val, by have := h.isLt; have := d.isLt; omega⟩

theorem ctxW_apply (b : Fin 8) (i : Fin 1024) (h : Fin 64) (d : Fin 128) :
    ctxW (F := Ideal) X Wq K V (ix3 b i (col h d)) = ∑ j : Fin 1024, (V (ix4 b j h d) : EReal) * weightW (F := Ideal) X Wq K (ix4 b h i j) := by
  have h1 : (⟨(col h d).val / 128, by have := (col h d).isLt; omega⟩ : Fin 64) = h := Fin.ext (by show (h.val * 128 + d.val) / 128 = h.val; have := d.isLt; omega)
  have h2 : (⟨(col h d).val % 128, Nat.mod_lt _ (by decide)⟩ : Fin 128) = d := Fin.ext (by show (h.val * 128 + d.val) % 128 = d.val; have := d.isLt; omega)
  pointwise [ctxW]
  refine Finset.sum_congr rfl fun j _ => congrArg₂ (· * ·) (congrArg V (funext fun a => ?_)) (congrArg (weightW (F := Ideal) X Wq K) (funext fun a => ?_))
  · match a with
    | ⟨0, _⟩ => rfl
    | ⟨1, _⟩ => rfl
    | ⟨2, _⟩ => exact h1
    | ⟨3, _⟩ => exact h2
  · match a with
    | ⟨0, _⟩ => rfl
    | ⟨1, _⟩ => exact h1
    | ⟨2, _⟩ => rfl
    | ⟨3, _⟩ => rfl

theorem rawW_apply (b : Fin 8) (h : Fin 64) (i j : Fin 1024) :
    rawW (F := Ideal) X Wq K (ix4 b h i j)
      = (∑ d : Fin 128, (∑ k : Fin 1024, (X (ix3 b i k) : EReal) * Wq (ix2 k (col h d))) * K (ix4 b j h d)) * Ideal.ofBits .f32 0x3DB504F3#32 := by
  pointwise [rawW]
  rfl

theorem scoreW_apply (b : Fin 8) (h : Fin 64) (i j : Fin 1024) :
    scoreW (F := Ideal) X Wq K (ix4 b h i j) = Scalar.select (maskW (ix2 i j)) (rawW (F := Ideal) X Wq K (ix4 b h i j)) (Ideal.ofBits .f32 0xFF800000#32) := by
  pointwise [scoreW]
  rfl

theorem expW_apply (b : Fin 8) (h : Fin 64) (i j : Fin 1024) :
    expW (F := Ideal) X Wq K (ix4 b h i j)
      = Ideal.exp (scoreW (F := Ideal) X Wq K (ix4 b h i j)
        - Finset.fold max (Ideal.ofBits .f32 0xFF800000#32) (fun x => (scoreW (F := Ideal) X Wq K (ix4 b h i x) : EReal)) Finset.univ) := by
  pointwise [expW]
  rfl

theorem weightW_apply (b : Fin 8) (h : Fin 64) (i j : Fin 1024) (hk : keepW (ix4 0 0 i 0) = 1#1) :
    weightW (F := Ideal) X Wq K (ix4 b h i j)
      = Ideal.div (expW (F := Ideal) X Wq K (ix4 b h i j)) (∑ x : Fin 1024, (expW (F := Ideal) X Wq K (ix4 b h i x) : EReal)) := by
  pointwise [weightW]
  have hk' : keepW (Idealize.ShloMosaic.ix4 0 0 (ix4 b h i j 2) 0) = 1#1 := hk
  rw [hk']
  rfl

/-! ## The mask -/

theorem bandW_apply (i : Fin 1024) : bandW (ix1 i) = BitVec.ofNat 32 (i.val / 64) := by
  pointwise [bandW]
  revert i
  decide +kernel

/-- The mask, band by band. -/
def okW (a b : Fin 16) : BitVec 1 :=
  if a = b ∨ b.val = 0 ∨ (a.val + b.val) % 3 = 0 then 1#1 else 0#1

/-- The band of a row. -/
def bandOf (i : Fin 1024) : Fin 16 := ⟨i.val / 64, by have := i.isLt; omega⟩

theorem maskW_apply (i j : Fin 1024) : maskW (ix2 i j) = okW (bandOf i) (bandOf j) := by
  have h1 : bandW (Idealize.ShloMosaic.ix1 (ix2 i j 0)) = BitVec.ofNat 32 (bandOf i).val := bandW_apply i
  have h2 : bandW (Idealize.ShloMosaic.ix1 (ix2 i j 1)) = BitVec.ofNat 32 (bandOf j).val := bandW_apply j
  pointwise [maskW, rowBand, colBand, colBand1, remW, zeroW, three]
  rw [h1, h2]
  generalize bandOf i = a
  generalize bandOf j = b
  revert a b
  decide +kernel

theorem fold_ori {ι : Type} [DecidableEq ι] (s : Finset ι) (f : ι → BitVec 1) (i : ι) (hi : i ∈ s) (h : f i = 1#1) :
    Finset.fold IntOp.ori (0#1) f s = 1#1 := by
  rw [← Finset.insert_erase hi, Finset.fold_insert (Finset.notMem_erase _ _), h]
  generalize Finset.fold IntOp.ori (0#1) f (s.erase i) = x
  revert x
  decide

theorem keepW_apply (i : Fin 1024) : keepW (ix4 0 0 i 0) = 1#1 := by
  pointwise [keepW]
  refine fold_ori _ _ 0 (Finset.mem_univ _) ?_
  refine (maskW_apply i 0).trans ?_
  generalize bandOf i = a
  revert a
  decide

end Cert.ReferenceIdeal.Value
-- ==== Proof.Softmax.lean ====
/-
One row of the attention over the extended reals: the masked softmax that takes the largest score off and divides, and the sum over the
columns that are looked at, divided at the end.
-/
module

public import Idealize.ShloMosaic.PureOps.Ideal
public import Idealize.ShloMosaic.Lib.IdealHost

@[expose] public section

noncomputable section

namespace Cert.Row

open Idealize.ShloMosaic

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum times a real that is not negative. -/
theorem sum_mul_coe {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

variable {n : Nat} (M : Fin n → Prop) [DecidablePred M] (s : Fin n → ℝ)

/-- The sum of the exponentials of the scores that count. -/
def Z : ℝ := ∑ j, if M j then Real.exp (s j) else 0

theorem Z_pos (h : ∃ j, M j) : 0 < Z M s := by
  obtain ⟨j, hj⟩ := h
  refine Finset.sum_pos' (fun i _ => ?_) ⟨j, Finset.mem_univ _, ?_⟩
  · split
    · exact (Real.exp_pos _).le
    · exact le_rfl
  · rw [if_pos hj]; exact Real.exp_pos _

/-- The score of a column, `⊥` where it does not count. -/
def score (j : Fin n) : EReal := if M j then (s j : EReal) else ⊥

/-- The largest score is a real. -/
theorem max_real (h : ∃ j, M j) : ∃ μ : ℝ, Finset.fold max (⊥ : EReal) (score M s) Finset.univ = (μ : EReal) := by
  obtain ⟨j, hj⟩ := h
  have hb : (s j : EReal) ≤ Finset.fold max (⊥ : EReal) (score M s) Finset.univ :=
    (Finset.le_fold_max _).mpr (.inr ⟨j, Finset.mem_univ _, by unfold score; rw [if_pos hj]⟩)
  have ht : Finset.fold max (⊥ : EReal) (score M s) Finset.univ < ⊤ :=
    (Finset.fold_max_lt _).mpr ⟨bot_lt_top, fun i _ => by
      unfold score
      split
      · exact EReal.coe_lt_top _
      · exact bot_lt_top⟩
  refine ⟨_, (EReal.coe_toReal ht.ne ?_).symm⟩
  intro hbot
  rw [hbot] at hb
  exact absurd (le_bot_iff.mp hb) (EReal.coe_ne_bot _)

/-- The weight of a column. -/
def weight (j : Fin n) : ℝ := if M j then Real.exp (s j) / Z M s else 0

/-- What the largest score is does not matter. -/
theorem weight_eq (h : ∃ j, M j) (μ : ℝ) (j : Fin n) :
    Ideal.div (Ideal.exp (score M s j - (μ : EReal))) (∑ x, Ideal.exp (score M s x - (μ : EReal))) = (weight M s j : EReal) := by
  have he : ∀ x, Ideal.exp (score M s x - (μ : EReal)) = (((if M x then Real.exp (s x) else 0) * Real.exp (-μ) : ℝ) : EReal) := by
    intro x
    unfold score
    by_cases hx : M x
    · rw [if_pos hx, if_pos hx, ← EReal.coe_sub, Ideal.exp_coe, sub_eq_add_neg, Real.exp_add]
    · rw [if_neg hx, if_neg hx, zero_mul, EReal.bot_sub, Ideal.exp_bot, EReal.coe_zero]
  have hs : (∑ x, Ideal.exp (score M s x - (μ : EReal))) = ((Z M s * Real.exp (-μ) : ℝ) : EReal) := by
    rw [Finset.sum_congr rfl fun x _ => he x, ← coe_sum, ← Finset.sum_mul]
    rfl
  have hz := Z_pos M s h
  have hz' : Z M s * Real.exp (-μ) ≠ 0 := (mul_pos hz (Real.exp_pos _)).ne'
  rw [he, hs, Ideal.div_coe hz', ← EReal.coe_mul]
  unfold weight
  by_cases hx : M j
  · rw [if_pos hx, if_pos hx]
    refine congrArg _ ?_
    have := hz.ne'
    have := (Real.exp_pos (-μ)).ne'
    field_simp
  · rw [if_neg hx, if_neg hx, zero_mul, zero_mul]

/-- The sum over the columns a kernel looks at, divided at the end. -/
theorem row_eq {k : Nat} (h : ∃ j, M j) (at' : Fin k → Fin n) (hi : Function.Injective at') (hc : ∀ j, M j → ∃ x, at' x = j)
    (E : Fin k → EReal) (hE : ∀ x, E x = ((if M (at' x) then Real.exp (s (at' x)) else 0 : ℝ) : EReal)) (V : Fin n → EReal) :
    (∑ x, E x * V (at' x)) * Ideal.div 1 (∑ x, E x) = ∑ j, (weight M s j : EReal) * V j := by
  have hz := Z_pos M s h
  have hsum : ∀ g : Fin n → EReal, (∀ j, ¬ M j → g j = 0) → ∑ x, g (at' x) = ∑ j, g j := by
    intro g hg
    rw [← Finset.sum_image (f := g) (s := Finset.univ) (g := at') (fun a _ b _ hab => hi hab)]
    refine Finset.sum_subset (Finset.subset_univ _) fun j _ hj => hg j fun hM => hj ?_
    obtain ⟨x, hx⟩ := hc j hM
    exact Finset.mem_image.mpr ⟨x, Finset.mem_univ _, hx⟩
  have hZ : ∑ x, E x = (Z M s : EReal) := by
    rw [Finset.sum_congr rfl fun x _ => hE x, hsum (fun j => ((if M j then Real.exp (s j) else 0 : ℝ) : EReal)) (fun j hj => by rw [if_neg hj]; rfl),
      ← coe_sum]
    rfl
  rw [hZ, Ideal.div_coe hz.ne', one_mul, sum_mul_coe _ _ _ (one_div_pos.mpr hz).le]
  rw [Finset.sum_congr rfl fun x _ => by rw [hE x], hsum (fun j => ((if M j then Real.exp (s j) else 0 : ℝ) : EReal) * V j * ((1 / Z M s : ℝ) : EReal))
    (fun j hj => by rw [if_neg hj, EReal.coe_zero, zero_mul, zero_mul])]
  refine Finset.sum_congr rfl fun j _ => ?_
  rw [mul_right_comm, ← EReal.coe_mul]
  refine congrArg (fun r : ℝ => (r : EReal) * V j) ?_
  unfold weight
  split
  · rw [mul_one_div]
  · rw [zero_mul]

end Cert.Row
-- ==== Proof.RefRow.lean ====
/-
The reference's attention, row by row, in real numbers.
-/
module

public import proofs.«01_k».proof.Proof.ValRef
public import proofs.«01_k».proof.Proof.Softmax

@[expose] public section

noncomputable section

namespace Cert.ReferenceIdeal.Value

open Idealize.ShloMosaic hiding ix1 ix2 ix3 ix4
open Idealize.SL.Sem Cert.ReferenceIdeal
open Idealize.ShloMosaic.ValueIdx

/-- The word of −∞. -/
theorem low_eq : Ideal.ofBits .f32 0xFF800000#32 = (⊥ : EReal) := by
  simp [Ideal.ofBits, Ideal.ieee]

/-- The scale is a real number. -/
theorem scl_real : ∃ r : ℝ, Ideal.ofBits .f32 0x3DB504F3#32 = (r : EReal) := by
  simp [Ideal.ofBits, Ideal.ieee, -EReal.coe_mul]

/-- Every element is a real number. -/
def AllReal {ι : Type} (x : ι → EReal) : Prop := ∀ i, ∃ r : ℝ, x i = (r : EReal)

theorem sum_real {ι : Type} [Fintype ι] (f : ι → EReal) (h : AllReal f) : ∃ r : ℝ, ∑ i, f i = (r : EReal) := by
  choose g hg using h
  exact ⟨∑ i, g i, by rw [Cert.Row.coe_sum]; exact Finset.sum_congr rfl fun i _ => hg i⟩

theorem mul_real {a b : EReal} (ha : ∃ r : ℝ, a = (r : EReal)) (hb : ∃ r : ℝ, b = (r : EReal)) : ∃ r : ℝ, a * b = (r : EReal) := by
  obtain ⟨a, rfl⟩ := ha
  obtain ⟨b, rfl⟩ := hb
  exact ⟨a * b, (EReal.coe_mul a b).symm⟩

variable (X : S8x1024x1024.Idx → EReal) (Wq : S1024x8192.Idx → EReal) (K V : S8x1024x64x128.Idx → EReal)

/-- The scaled product of row `i` of the queries with row `j` of the keys. -/
def dot (b : Fin 8) (h : Fin 64) (i j : Fin 1024) : EReal :=
  (∑ d : Fin 128, (∑ k : Fin 1024, X (ix3 b i k) * Wq (ix2 k (col h d))) * K (ix4 b j h d)) * Ideal.ofBits .f32 0x3DB504F3#32

variable {X Wq K} in
theorem dot_real (hX : AllReal X) (hW : AllReal Wq) (hK : AllReal K) (b : Fin 8) (h : Fin 64) (i j : Fin 1024) :
    ∃ r : ℝ, dot X Wq K b h i j = (r : EReal) :=
  mul_real (sum_real _ fun _ => mul_real (sum_real _ fun _ => mul_real (hX _) (hW _)) (hK _)) scl_real

/-- Row `i` sees row `j`. -/
def Sees (i j : Fin 1024) : Prop := okW (bandOf i) (bandOf j) = 1#1

instance (i : Fin 1024) : DecidablePred (Sees i) := fun _ => inferInstanceAs (Decidable (_ = _))

theorem sees_some (i : Fin 1024) : ∃ j, Sees i j := ⟨0, by unfold Sees okW bandOf; simp⟩

theorem score_row (b : Fin 8) (h : Fin 64) (i : Fin 1024) (s : Fin 1024 → ℝ) (hs : ∀ j, dot X Wq K b h i j = (s j : EReal)) (j : Fin 1024) :
    scoreW (F := Ideal) X Wq K (ix4 b h i j) = Cert.Row.score (Sees i) s j := by
  rw [scoreW_apply, rawW_apply, maskW_apply, low_eq]
  unfold Scalar.select Cert.Row.score Sees
  rw [← hs j]
  rfl

theorem weight_row (b : Fin 8) (h : Fin 64) (i : Fin 1024) (s : Fin 1024 → ℝ) (hs : ∀ j, dot X Wq K b h i j = (s j : EReal)) (j : Fin 1024) :
    weightW (F := Ideal) X Wq K (ix4 b h i j) = (Cert.Row.weight (Sees i) s j : EReal) := by
  obtain ⟨μ, hμ⟩ := Cert.Row.max_real (Sees i) s (sees_some i)
  have he : ∀ x, expW (F := Ideal) X Wq K (ix4 b h i x) = Ideal.exp (Cert.Row.score (Sees i) s x - μ) := fun x => by
    rw [expW_apply, low_eq, score_row X Wq K b h i s hs, funext (score_row X Wq K b h i s hs), hμ]
  rw [weightW_apply _ _ _ _ _ _ _ (keepW_apply i), he, funext he]
  exact Cert.Row.weight_eq _ _ (sees_some i) μ j

/-- A head's attention at a row. -/
theorem ctx_row (b : Fin 8) (h : Fin 64) (i : Fin 1024) (d : Fin 128) (s : Fin 1024 → ℝ) (hs : ∀ j, dot X Wq K b h i j = (s j : EReal)) :
    ctxW (F := Ideal) X Wq K V (ix3 b i (col h d)) = ∑ j : Fin 1024, (Cert.Row.weight (Sees i) s j : EReal) * V (ix4 b j h d) := by
  rw [ctxW_apply]
  exact Finset.sum_congr rfl fun j _ => by rw [weight_row X Wq K b h i s hs, mul_comm]

end Cert.ReferenceIdeal.Value
-- ==== Proof.KernelRow.lean ====
/-
The kernel's attention is the reference's: one head at one row, whatever the kind of row.
-/
module

public import proofs.«01_k».proof.Proof.ValKernel
public import proofs.«01_k».proof.Proof.RefRow
public import proofs.«01_k».proof.Proof.Steps

@[expose] public section

noncomputable section

namespace Cert.KernelIdeal.Body

open Idealize.ShloMosaic hiding ix1 ix2 ix3 ix4
open Idealize.SL.Sem Cert.KernelIdeal Cert.KernelIdeal.Gen
open Idealize.ShloMosaic.TcCoe
open Idealize.ShloMosaic.ValueIdx
open Cert.ReferenceIdeal.Value (col dot Sees okW bandOf ctxW AllReal dot_real ctx_row sees_some)

/-! ## Bands -/

/-- The row the `x`-th row of a list of bands is. -/
def place {n : Nat} (band : Fin n → Fin 16) (x : Fin (64 * n)) : Fin 1024 :=
  ⟨64 * (band ⟨x.val / 64, by omega⟩).val + x.val % 64, by have := (band ⟨x.val / 64, by omega⟩).isLt; omega⟩

theorem place_inj {n : Nat} (band : Fin n → Fin 16) (h : Function.Injective band) : Function.Injective (place band) := by
  intro x y e
  have e := congrArg Fin.val e
  unfold place at e
  dsimp only at e
  have hb : band ⟨x.val / 64, by omega⟩ = band ⟨y.val / 64, by omega⟩ := Fin.ext (by omega)
  have := congrArg Fin.val (h hb)
  dsimp only at this
  exact Fin.ext (by omega)

theorem place_band {n : Nat} (band : Fin n → Fin 16) (x : Fin (64 * n)) : bandOf (place band x) = band ⟨x.val / 64, by omega⟩ := by
  unfold bandOf place
  refine Fin.ext ?_
  dsimp only
  omega

theorem place_onto {n : Nat} (band : Fin n → Fin 16) (j : Fin 1024) (h : ∃ a, band a = bandOf j) : ∃ x, place band x = j := by
  obtain ⟨a, ha⟩ := h
  have ha := congrArg Fin.val ha
  unfold bandOf at ha
  dsimp only at ha
  refine ⟨⟨64 * a.val + j.val % 64, by have := a.isLt; omega⟩, Fin.ext ?_⟩
  unfold place
  dsimp only
  have e : (⟨(64 * a.val + j.val % 64) / 64, by have := a.isLt; omega⟩ : Fin n) = a := Fin.ext (by dsimp only; omega)
  rw [e]
  omega

theorem band0_inj : Function.Injective band0 := by unfold Function.Injective; decide
theorem band12_inj : Function.Injective band12 := by unfold Function.Injective; decide

/-- The first six bands of rows see just the bands they are given. -/
theorem band0_sees : ∀ a : Fin 16, a.val < 6 → ∀ k, okW (bandPerm a) (band0 k) = 1#1 := by decide +kernel
theorem band0_all : ∀ a : Fin 16, a.val < 6 → ∀ w, okW (bandPerm a) w = 1#1 → ∃ k, band0 k = w := by decide +kernel
/-- The others see some of those they are given. -/
theorem band12_all : ∀ a : Fin 16, 6 ≤ a.val → ∀ w, okW (bandPerm a) w = 1#1 → ∃ k, band12 k = w := by decide +kernel
/-- The table says which. -/
theorem table_eq : ∀ (a : Fin 10) (k : Fin 11), lit0 ⟨11 * a.val + k.val, by omega⟩
    = if okW (bandPerm ⟨6 + a.val, by omega⟩) (band12 k) = 1#1 then 0#32 else 0x3F800000#32 := by decide +kernel

theorem rowMajor_table (a : Fin 10) (k : Fin 11) : S10x11.rowMajor (ix2 a k) = (⟨11 * a.val + k.val, by omega⟩ : Fin 110) := by
  refine Fin.ext ((Shape.rowMajor_val_two _).trans ?_)
  show a.val * 11 + k.val = 11 * a.val + k.val
  omega

/-- The row that row `p` of the rearranged queries is. -/
def rowOf (p : Fin 1024) : Fin 1024 := place bandPerm p

/-! ## The data -/

/-- What the devices' arrays hold. -/
structure Holds (D : Data Ideal) (X : Cert.ReferenceIdeal.S8x1024x1024.Idx → EReal) (Wq : Cert.ReferenceIdeal.S1024x8192.Idx → EReal)
    (K V : S8x1024x64x128.Idx → EReal) (Wo : Cert.ReferenceIdeal.S8192x1024.Idx → EReal) : Prop where
  x (c : Fin 8) (i k : Fin 1024) : D.x c (ix2 i k) = X (ix3 c i k)
  wq (g : Fin 8) (k l : Fin 1024) : D.wq g (ix2 k l) = Wq (ix2 k ⟨1024 * g.val + l.val, by omega⟩)
  wo (g : Fin 8) (l n : Fin 1024) : D.wo g (ix2 l n) = Wo (ix2 ⟨1024 * g.val + l.val, by omega⟩ n)
  kt (c : Fin 8) (h : Fin 64) (j : Fin 1024) (d : Fin 128) : D.kt c (ix3 h j d) = K (ix4 c j h d)
  vt (c : Fin 8) (h : Fin 64) (j : Fin 1024) (d : Fin 128) : D.vt c (ix3 h j d) = V (ix4 c j h d)
  b (c : Fin 8) (p : Fin 640) (j : Fin 704) : D.b c (ix2 p j)
    = Ideal.ofBits .f32 (lit0 (S10x11.rowMajor (ix2 ⟨p.val / 64, by omega⟩ ⟨j.val / 64, by omega⟩)))

variable {D : Data Ideal} {X : Cert.ReferenceIdeal.S8x1024x1024.Idx → EReal} {Wq : Cert.ReferenceIdeal.S1024x8192.Idx → EReal}
  {K V : S8x1024x64x128.Idx → EReal} {Wo : Cert.ReferenceIdeal.S8192x1024.Idx → EReal} (H : Holds D X Wq K V Wo)
  (c g : Fin 8)

/-- The head `t` of group `g`. -/
def headOf (g t : Fin 8) : Fin 64 := ⟨8 * g.val + t.val, by omega⟩

include H in
/-- The queries. -/
theorem q_eq (p : Fin 1024) (t : Fin 8) (e : Fin 128) :
    qOf (F := Ideal) (xpOf (D.x c)) (lift1 (D.wq g)) (ix2 p ⟨128 * t.val + e.val, by omega⟩)
      = ∑ k : Fin 1024, X (ix3 c (rowOf p) k) * Wq (ix2 k (col (headOf g t) e)) := by
  rw [qOf_apply]
  refine Finset.sum_congr rfl fun k _ => ?_
  refine congrArg₂ (· * ·) (H.x c (rowOf p) k) ((H.wq g k _).trans (congrArg (fun z => Wq (ix2 k z)) (Fin.ext ?_)))
  show 1024 * g.val + (128 * t.val + e.val) = (8 * g.val + t.val) * 128 + e.val
  omega

include H in
theorem k_eq {n : Nat} (band : Fin n → Fin 16) (t : Fin 8) (x : Fin (64 * n)) (e : Fin 128) :
    headK (F := Ideal) n band (D.kt c) g t (ix4 0 0 x e) = K (ix4 c (place band x) (headOf g t) e) :=
  H.kt c (headOf g t) (place band x) e

include H in
theorem v_eq {n : Nat} (band : Fin n → Fin 16) (t : Fin 8) (x : Fin (64 * n)) (e : Fin 128) :
    headK (F := Ideal) n band (D.vt c) g t (ix4 0 0 x e) = V (ix4 c (place band x) (headOf g t) e) :=
  H.vt c (headOf g t) (place band x) e

/-! ## A head at a row -/

include H in
theorem row0 (hX : AllReal X) (hW : AllReal Wq) (hK : AllReal K) (p : Fin 384) (t : Fin 8) (d : Fin 128) :
    att0 (F := Ideal) (D.kt c) (D.vt c) g (qOf (xpOf (D.x c)) (lift1 (D.wq g))) t (ix2 p d)
      = ctxW (F := Ideal) X Wq K V (ix3 c (rowOf ⟨p.val, by omega⟩) (col (headOf g t) d)) := by
  choose s hs using fun j => dot_real hX hW hK c (headOf g t) (rowOf ⟨p.val, by omega⟩) j
  rw [ctx_row X Wq K V c (headOf g t) _ d s hs]
  unfold att0
  rw [ctx0Of_apply]
  have hb : bandOf (rowOf ⟨p.val, by omega⟩) = bandPerm ⟨p.val / 64, by omega⟩ := place_band bandPerm _
  have hE : ∀ x : Fin 384, (∑ e : Fin 128, (qRows0 (F := Ideal) (qOf (xpOf (D.x c)) (lift1 (D.wq g))) t (ix2 p e) : EReal)
      * headK 6 band0 (D.kt c) g t (ix4 0 0 x e)) * scl = (s (place band0 x) : EReal) := fun x => by
    rw [← hs (place band0 x)]
    unfold dot
    refine congrArg (· * scl) (Finset.sum_congr rfl fun e _ => ?_)
    exact congrArg₂ (· * ·) (q_eq H c g ⟨p.val, by omega⟩ t e) (k_eq H c g band0 t x e)
  refine Eq.trans ?_ (Cert.Row.row_eq (Sees (rowOf ⟨p.val, by omega⟩)) s (sees_some _) (place band0) (place_inj _ band0_inj)
    (fun j hj => place_onto band0 j (band0_all ⟨p.val / 64, by omega⟩ (by dsimp only; omega) (bandOf j) (by rw [← hb]; exact hj)))
    (fun x => Ideal.exp (s (place band0 x) : EReal)) (fun x => ?_) (fun j => V (ix4 c j (headOf g t) d)))
  · simp only [hE, v_eq H c g band0 t]
  · rw [if_pos, Ideal.exp_coe]
    unfold Sees
    rw [hb, place_band]
    exact band0_sees _ (by dsimp only; omega) _

include H in
theorem row1 (hX : AllReal X) (hW : AllReal Wq) (hK : AllReal K) (p : Fin 640) (t : Fin 8) (d : Fin 128) :
    att1 (F := Ideal) (D.kt c) (D.vt c) g (D.b c) (qOf (xpOf (D.x c)) (lift1 (D.wq g))) t (ix2 p d)
      = ctxW (F := Ideal) X Wq K V (ix3 c (rowOf ⟨384 + p.val, by omega⟩) (col (headOf g t) d)) := by
  choose s hs using fun j => dot_real hX hW hK c (headOf g t) (rowOf ⟨384 + p.val, by omega⟩) j
  rw [ctx_row X Wq K V c (headOf g t) _ d s hs]
  unfold att1
  rw [ctx12Of_apply]
  have hb : bandOf (rowOf ⟨384 + p.val, by omega⟩) = bandPerm ⟨6 + p.val / 64, by omega⟩ :=
    (place_band bandPerm _).trans (congrArg bandPerm (Fin.ext (by dsimp only; omega)))
  have hE : ∀ x : Fin 704, (∑ e : Fin 128, (qRows1 (F := Ideal) (qOf (xpOf (D.x c)) (lift1 (D.wq g))) t (ix2 p e) : EReal)
      * headK 11 band12 (D.kt c) g t (ix4 0 0 x e)) * scl = (s (place band12 x) : EReal) := fun x => by
    rw [← hs (place band12 x)]
    unfold dot
    refine congrArg (· * scl) (Finset.sum_congr rfl fun e _ => ?_)
    exact congrArg₂ (· * ·) (q_eq H c g ⟨384 + p.val, by omega⟩ t e) (k_eq H c g band12 t x e)
  refine Eq.trans ?_ (Cert.Row.row_eq (Sees (rowOf ⟨384 + p.val, by omega⟩)) s (sees_some _) (place band12) (place_inj _ band12_inj)
    (fun j hj => place_onto band12 j (band12_all ⟨6 + p.val / 64, by omega⟩ (by dsimp only; omega) (bandOf j) (by rw [← hb]; exact hj)))
    (fun x => Ideal.exp ((s (place band12 x) : EReal) + (D.b c (ix2 p x) : EReal) * ⊥)) (fun x => ?_) (fun j => V (ix4 c j (headOf g t) d)))
  · simp only [hE, v_eq H c g band12 t]
  · have hx : Sees (rowOf ⟨384 + p.val, by omega⟩) (place band12 x)
        ↔ okW (bandPerm ⟨6 + p.val / 64, by omega⟩) (band12 ⟨x.val / 64, by omega⟩) = 1#1 := by
      unfold Sees
      rw [hb, place_band]
    rw [H.b, rowMajor_table, table_eq]
    by_cases hk : okW (bandPerm ⟨6 + p.val / 64, by omega⟩) (band12 ⟨x.val / 64, by omega⟩) = 1#1
    · rw [if_pos hk, if_pos (hx.mpr hk), show Ideal.ofBits .f32 0#32 = (0 : EReal) from Ideal.ofBits_zero _, zero_mul, add_zero, Ideal.exp_coe]
    · rw [if_neg hk, if_neg (fun h => hk (hx.mp h)), show Ideal.ofBits .f32 0x3F800000#32 = (1 : EReal) from Ideal.ofBits_one_f32,
        one_mul, EReal.add_bot, Ideal.exp_bot]
      rfl

include H in
/-- All heads of a group. -/
theorem ctx_eq (hX : AllReal X) (hW : AllReal Wq) (hK : AllReal K) (p l : Fin 1024) :
    ctxAll (F := Ideal) (D.kt c) (D.vt c) g (D.b c) (qOf (xpOf (D.x c)) (lift1 (D.wq g))) (ix2 p l)
      = ctxW (F := Ideal) X Wq K V (ix3 c (rowOf p) ⟨1024 * g.val + l.val, by omega⟩) := by
  have hl : col (headOf g ⟨l.val / 128, by omega⟩) ⟨l.val % 128, by omega⟩ = ⟨1024 * g.val + l.val, by omega⟩ := Fin.ext (by
    show (8 * g.val + l.val / 128) * 128 + l.val % 128 = 1024 * g.val + l.val
    omega)
  rw [← hl]
  by_cases hp : p.val < 384
  · rw [ctxAll_row0 (D.kt c) (D.vt c) g (D.b c) _ (ix2 p l) ⟨l.val / 128, by omega⟩ (ix2 ⟨p.val, hp⟩ ⟨l.val % 128, by omega⟩) rfl
      (by show l.val = 128 * (l.val / 128) + l.val % 128; omega)]
    exact row0 H c g hX hW hK ⟨p.val, hp⟩ _ _
  · rw [ctxAll_row1 (D.kt c) (D.vt c) g (D.b c) _ (ix2 p l) ⟨l.val / 128, by omega⟩ (ix2 ⟨p.val - 384, by omega⟩ ⟨l.val % 128, by omega⟩)
      (by show p.val = 384 + (p.val - 384); omega) (by show l.val = 128 * (l.val / 128) + l.val % 128; omega)]
    have e := row1 H c g hX hW hK ⟨p.val - 384, by omega⟩ ⟨l.val / 128, by omega⟩ ⟨l.val % 128, by omega⟩
    rw [show (⟨384 + (p.val - 384), by omega⟩ : Fin 1024) = p from Fin.ext (by dsimp only; omega)] at e
    exact e

end Cert.KernelIdeal.Body
-- ==== Proof.KernelSum.lean ====
/-
The eight groups of heads, added one after the other, are the product over all heads: the kernel's rows are the reference's.
-/
module

public import proofs.«01_k».proof.Proof.KernelRow

@[expose] public section

noncomputable section

namespace Cert.KernelIdeal.Body

open Idealize.ShloMosaic hiding ix1 ix2 ix3 ix4
open Idealize.SL.Sem Cert.KernelIdeal Cert.KernelIdeal.Gen
open Idealize.ShloMosaic.TcCoe
open Idealize.ShloMosaic.ValueIdx
open Cert.ReferenceIdeal.Value (ctxW AllReal outW outW_apply)

/-- Eight terms in the order in which the rings bring them to device `c`. -/
theorem ring_sum (f : Fin 8 → EReal) (c : Fin 8) :
    0 + f (back c 0) + f (back c 1) + f (fwd c 1) + f (back c 2) + f (fwd c 2) + f (back c 3) + f (fwd c 3) + f (back c 4) = ∑ g, f g := by
  let σ : Fin 8 → Fin 8 := ![back c 0, back c 1, fwd c 1, back c 2, fwd c 2, back c 3, fwd c 3, back c 4]
  have hσ : Function.Injective σ := (by unfold Function.Injective; decide +kernel : ∀ c : Fin 8, Function.Injective
    (![back c 0, back c 1, fwd c 1, back c 2, fwd c 2, back c 3, fwd c 3, back c 4] : Fin 8 → Fin 8)) c
  rw [← Equiv.sum_comp (Equiv.ofBijective σ (Finite.injective_iff_bijective.mp hσ)) f, Fin.sum_univ_eight, zero_add]
  rfl

/-- A sum over all columns, group by group. -/
theorem group_sum (f : Fin 8192 → EReal) : ∑ e, f e = ∑ g : Fin 8, ∑ l : Fin 1024, f ⟨1024 * g.val + l.val, by omega⟩ := by
  rw [← Equiv.sum_comp (finProdFinEquiv (m := 8) (n := 1024)) f, Fintype.sum_prod_type]
  refine Finset.sum_congr rfl fun g _ => Finset.sum_congr rfl fun l _ => congrArg f (Fin.ext ?_)
  show l.val + 1024 * g.val = 1024 * g.val + l.val
  omega

variable {D : Data Ideal} {X : Cert.ReferenceIdeal.S8x1024x1024.Idx → EReal} {Wq : Cert.ReferenceIdeal.S1024x8192.Idx → EReal}
  {K V : S8x1024x64x128.Idx → EReal} {Wo : Cert.ReferenceIdeal.S8192x1024.Idx → EReal} (H : Holds D X Wq K V Wo)
  (c : Fin 8)

/-- A group's part of the result. -/
def part (X : Cert.ReferenceIdeal.S8x1024x1024.Idx → EReal) (Wq : Cert.ReferenceIdeal.S1024x8192.Idx → EReal)
    (K V : S8x1024x64x128.Idx → EReal) (Wo : Cert.ReferenceIdeal.S8192x1024.Idx → EReal) (c : Fin 8) (i n : Fin 1024) (g : Fin 8) : EReal :=
  ∑ l : Fin 1024, ctxW (F := Ideal) X Wq K V (ix3 c i ⟨1024 * g.val + l.val, by omega⟩) * Wo (ix2 ⟨1024 * g.val + l.val, by omega⟩ n)

include H in
theorem next_eq (hX : AllReal X) (hW : AllReal Wq) (hK : AllReal K) (g : Fin 8) (A : S1024x1024.Idx → Elt Ideal .f32) (p n : Fin 1024) :
    D.next c g A (ix2 p n) = (A (ix2 p n) : EReal) + part X Wq K V Wo c (rowOf p) n g := by
  unfold Data.next accNext
  rw [accOf_apply]
  refine congrArg (_ + ·) (Finset.sum_congr rfl fun l _ => ?_)
  exact congrArg₂ (· * ·) (ctx_eq H c g hX hW hK p l) (H.wo g l n)

include H in
/-- The last sum is the reference's row. -/
theorem last_eq (hX : AllReal X) (hW : AllReal Wq) (hK : AllReal K) (p n : Fin 1024) :
    D.A8 c (ix2 p n) = outW (F := Ideal) X Wq K V Wo (ix3 c (rowOf p) n) := by
  rw [outW_apply, group_sum]
  refine Eq.trans ?_ (ring_sum (part X Wq K V Wo c (rowOf p) n) c)
  unfold Data.A8 Data.A7 Data.A6 Data.A5 Data.A4 Data.A3 Data.A2 Data.A1
  simp only [next_eq H c hX hW hK]
  rw [show acc0 (F := Ideal) (ix2 p n) = (0 : EReal) by pointwise [acc0]]

include H in
/-- The kernel's result at a row in its place. -/
theorem out_eq (hX : AllReal X) (hW : AllReal Wq) (hK : AllReal K) (i n : Fin 1024) :
    outOf (F := Ideal) (D.A8 c) (ix3 0 i n) = outW (F := Ideal) X Wq K V Wo (ix3 c i n) := by
  refine (last_eq H c hX hW hK (place bandInv i) n).trans (congrArg (fun r => outW (F := Ideal) X Wq K V Wo (ix3 c r n)) ?_)
  have e : (⟨(place bandInv i).val / 64, by omega⟩ : Fin 16) = bandInv ⟨i.val / 64, by omega⟩ := place_band bandInv i
  refine Fin.ext ?_
  show 64 * (bandPerm ⟨(place bandInv i).val / 64, by omega⟩).val + (place bandInv i).val % 64 = i.val
  rw [e, bandPerm_inv]
  unfold place
  dsimp only
  omega

end Cert.KernelIdeal.Body
-- ==== Proof.Algebraic.lean ====
/-
The value claim: over the extended reals every device's result is its block of the reference's, where the activations, the query
weights and the keys are finite.
-/
module

public import proofs.«01_k».proof.Proof.Frames
public import proofs.«01_k».proof.Proof.HostVals
public import proofs.«01_k».proof.Proof.KernelSum
public import proofs.«01_k».proof.Proof.Finite
public import Idealize.ShloMosaic.Lib.Layout

@[expose] public section

noncomputable section

namespace Cert.Proof

open Idealize.ShloMosaic hiding ix1 ix2 ix3 ix4 eq_ix2 eq_ix3
open Idealize.SL.Sem Idealize.ShloMosaic.TcCoe
open Idealize.ShloMosaic.ValueIdx
open Cert.KernelIdeal.Body (dataOf Holds data_x data_wq data_wo data_kt data_vt data_b out_eq outOf run_main)
open Cert.ReferenceIdeal.Value (AllReal outW res_eq res_main_v49)

attribute [local instance] Cert.KernelIdeal.Gen.facts Cert.ReferenceIdeal.Gen.facts

/-- A block of a stack of eight is one of the stack. -/
theorem block_stack (v : (⟨3, ![8, 1024, 1024]⟩ : Shape).Idx → EReal) (c : Fin 8) (i k : Fin 1024) :
    (Layout.block ⟨3, ![1, 1024, 1024]⟩ ⟨3, ![8, 1024, 1024]⟩ 0 8 c v) (ix3 0 i k) = v (ix3 c i k) := by
  rw [Layout.block_apply]
  refine congrArg v ?_
  funext a
  fin_cases a <;> refine Fin.ext ?_
  · show c.val * 1 + 0 = c.val
    omega
  · rfl
  · rfl

/-- A block of columns, an eighth of them. -/
theorem block_cols (v : (⟨2, ![1024, 8192]⟩ : Shape).Idx → EReal) (c : Fin 8) (k l : Fin 1024) :
    (Layout.block ⟨2, ![1024, 1024]⟩ ⟨2, ![1024, 8192]⟩ 1 8 c v) (ix2 k l) = v (ix2 k ⟨1024 * c.val + l.val, by omega⟩) := by
  rw [Layout.block_apply]
  refine congrArg v ?_
  funext a
  fin_cases a <;> refine Fin.ext ?_
  · rfl
  · show c.val * 1024 + l.val = 1024 * c.val + l.val
    omega

/-- A block of rows, an eighth of them. -/
theorem block_rows (v : (⟨2, ![8192, 1024]⟩ : Shape).Idx → EReal) (c : Fin 8) (l n : Fin 1024) :
    (Layout.block ⟨2, ![1024, 1024]⟩ ⟨2, ![8192, 1024]⟩ 0 8 c v) (ix2 l n) = v (ix2 ⟨1024 * c.val + l.val, by omega⟩ n) := by
  rw [Layout.block_apply]
  refine congrArg v ?_
  funext a
  fin_cases a <;> refine Fin.ext ?_
  · show c.val * 1024 + l.val = 1024 * c.val + l.val
    omega
  · rfl

/-- An array that is at each place what the stack is at the device's own layer is the device's block. -/
theorem stack_ext (f : (⟨3, ![1, 1024, 1024]⟩ : Shape).Idx → EReal) (v : (⟨3, ![8, 1024, 1024]⟩ : Shape).Idx → EReal) (c : Fin 8)
    (h : ∀ i k : Fin 1024, f (ix3 0 i k) = v (ix3 c i k)) : f = Layout.block ⟨3, ![1, 1024, 1024]⟩ ⟨3, ![8, 1024, 1024]⟩ 0 8 c v := by
  funext x
  obtain ⟨a, i, k, rfl⟩ : ∃ (a : Fin 1) (i k : Fin 1024), x = ix3 a i k := ⟨x 0, x 1, x 2, eq_ix3 x⟩
  rw [show a = 0 from Subsingleton.elim _ _, block_stack]
  exact h i k

/-- An array whose blocks are real is real. -/
theorem real_stack (v : (⟨3, ![8, 1024, 1024]⟩ : Shape).Idx → EReal)
    (h : ∀ (c : Fin 8) i, ∃ r : ℝ, (Layout.block ⟨3, ![1, 1024, 1024]⟩ ⟨3, ![8, 1024, 1024]⟩ 0 8 c v) i = (r : EReal)) : AllReal v := fun x => by
  obtain ⟨c, i, k, rfl⟩ : ∃ (c : Fin 8) (i k : Fin 1024), x = ix3 c i k := ⟨x 0, x 1, x 2, eq_ix3 x⟩
  rw [← block_stack v]
  exact h c _

/-- The same where the blocks are of columns. -/
theorem real_cols (v : (⟨2, ![1024, 8192]⟩ : Shape).Idx → EReal)
    (h : ∀ (c : Fin 8) i, ∃ r : ℝ, (Layout.block ⟨2, ![1024, 1024]⟩ ⟨2, ![1024, 8192]⟩ 1 8 c v) i = (r : EReal)) : AllReal v := fun x => by
  obtain ⟨k, e, rfl⟩ : ∃ (k : Fin 1024) (e : Fin 8192), x = ix2 k e := ⟨x 0, x 1, eq_ix2 x⟩
  rw [show e = (⟨1024 * (⟨e.val / 1024, by omega⟩ : Fin 8).val + (⟨e.val % 1024, by omega⟩ : Fin 1024).val, by dsimp only; omega⟩ : Fin 8192) from
    Fin.ext (by dsimp only; omega), ← block_cols v]
  exact h _ _

theorem algebraic [Cert.Pre_finite_KernelIdeal.Facts] : Cert.algebraic_KernelIdeal_ReferenceIdeal_pre_finite_KernelIdeal := by
  intro m ρ m' ρ' hpre hin
  have H : Holds (dataOf m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c i k => (data_x m c i k).trans ((congrFun (hin c).1 _).trans (block_stack _ c i k))
      wq := fun g k l => (data_wq m g k l).trans ((congrFun (hin g).2.1 _).trans (block_cols _ g k l))
      wo := fun g l n => (data_wo m g l n).trans ((congrFun (hin g).2.2.2.2 _).trans (block_rows _ g l n))
      kt := fun c h j d => (data_kt m c h j d).trans (congrFun (hin c).2.2.1 _)
      vt := fun c h j d => (data_vt m c h j d).trans (congrFun (hin c).2.2.2.1 _)
      b := fun c p j => data_b m c p j }
  have hr := fun c => Cert.Finite.finite_real _ _ _ _ _ (hpre c)
  have hX : AllReal (m' (((0 : Dev Cert.ReferenceIdeal.nD).tc : Thread Cert.ReferenceIdeal.nD Cert.ReferenceIdeal.τ).loc Cert.ReferenceIdeal.main_arg0)) :=
    real_stack _ fun c i => by
      rw [← (hin c).1]
      exact (hr c).1 i
  have hW : AllReal (m' (((0 : Dev Cert.ReferenceIdeal.nD).tc : Thread Cert.ReferenceIdeal.nD Cert.ReferenceIdeal.τ).loc Cert.ReferenceIdeal.main_arg1)) :=
    real_cols _ fun c i => by
      rw [← (hin c).2.1]
      exact (hr c).2.1 i
  have hK : AllReal (m' (((0 : Dev Cert.ReferenceIdeal.nD).tc : Thread Cert.ReferenceIdeal.nD Cert.ReferenceIdeal.τ).loc Cert.ReferenceIdeal.main_arg2)) := fun i => by
    obtain ⟨r, e⟩ := (hr 0).2.2 i
    rw [(hin 0).2.2.1] at e
    exact ⟨r, e⟩
  refine ⟨res_main_v49 m' 0, (θ_run Cert.KernelIdeal.defs _ _).mono (fun r h c => ⟨((h.1 c).1).trans ?_, (h.1 c).2⟩) (run_main (F := Ideal) m ρ),
    (θ_run Cert.ReferenceIdeal.defs _ _).mono (fun r h => h 0) (Cert.ReferenceIdeal.Value.run m' ρ')⟩
  refine stack_ext _ _ c fun i k => ?_
  rw [res_eq]
  exact out_eq H c hX hW hK i k

end Cert.Proof
-- ==== Proof.lean ====
/-
The certificate put together: the witnesses of the programs' stated facts, the claims that speak of no value (`FrameBits` for the kernel
over machine words, `Frames` for the others), the rewrite that names the mask, and the equality of kernel and reference over the extended
reals (`Algebraic`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.FrameBits
public import proofs.«01_k».proof.Proof.Finite
public import proofs.«01_k».proof.Proof.Algebraic

@[expose] public section

noncomputable section

namespace Cert.Proof

/-- Every claim of the certificate holds. -/
theorem claim : Cert.Claim :=
  ⟨Cert.Kernel.Gen.facts, Cert.KernelIdeal.Gen.facts, Cert.ReferenceIdeal.Gen.facts, Cert.Finite.facts_kernel, Cert.Finite.facts_reference,
    frame_kernel, frame_ideal, @frame_ideal_pre Cert.Finite.facts_kernel, frame_reference, @frame_reference_pre Cert.Finite.facts_reference,
    preserves, @algebraic Cert.Finite.facts_kernel⟩

end Cert.Proof

end
